-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15)
      ∧ r.2.mem ((c.tc : Thread Cert.Kernel8.nD Cert.Kernel8.τ).loc Cert.Kernel8.main_arg16) = m ((c.tc : Thread Cert.Kernel8.nD Cert.Kernel8.τ).loc Cert.Kernel8.main_arg16)
      ∧ r.2.mem ((c.tc : Thread Cert.Kernel8.nD Cert.Kernel8.τ).loc Cert.Kernel8.main_arg17) = m ((c.tc : Thread Cert.Kernel8.nD Cert.Kernel8.τ).loc Cert.Kernel8.main_arg17)
      ∧ r.2.mem ((c.tc : Thread Cert.Kernel8.nD Cert.Kernel8.τ).loc Cert.Kernel8.main_arg18) = m ((c.tc : Thread Cert.Kernel8.nD Cert.Kernel8.τ).loc Cert.Kernel8.main_arg18)
      ∧ r.2.mem ((c.tc : Thread Cert.Kernel8.nD Cert.Kernel8.τ).loc Cert.Kernel8.main_arg19) = m ((c.tc : Thread Cert.Kernel8.nD Cert.Kernel8.τ).loc Cert.Kernel8.main_arg19)
      ∧ r.2.mem ((c.tc : Thread Cert.Kernel8.nD Cert.Kernel8.τ).loc Cert.Kernel8.main_arg20) = m ((c.tc : Thread Cert.Kernel8.nD Cert.Kernel8.τ).loc Cert.Kernel8.main_arg20)
      ∧ r.2.mem ((c.tc : Thread Cert.Kernel8.nD Cert.Kernel8.τ).loc Cert.Kernel8.main_arg21) = m ((c.tc : Thread Cert.Kernel8.nD Cert.Kernel8.τ).loc Cert.Kernel8.main_arg21)
      ∧ r.2.mem ((c.tc : Thread Cert.Kernel8.nD Cert.Kernel8.τ).loc Cert.Kernel8.main_arg22) = m ((c.tc : Thread Cert.Kernel8.nD Cert.Kernel8.τ).loc Cert.Kernel8.main_arg22)
      ∧ r.2.mem ((c.tc : Thread Cert.Kernel8.nD Cert.Kernel8.τ).loc Cert.Kernel8.main_arg23) = m ((c.tc : Thread Cert.Kernel8.nD Cert.Kernel8.τ).loc Cert.Kernel8.main_arg23)
      ∧ r.2.mem ((c.tc : Thread Cert.Kernel8.nD Cert.Kernel8.τ).loc Cert.Kernel8.main_arg24) = m ((c.tc : Thread Cert.Kernel8.nD Cert.Kernel8.τ).loc Cert.Kernel8.main_arg24)
      ∧ r.2.mem ((c.tc : Thread Cert.Kernel8.nD Cert.Kernel8.τ).loc Cert.Kernel8.main_arg25) = m ((c.tc : Thread Cert.Kernel8.nD Cert.Kernel8.τ).loc Cert.Kernel8.main_arg25)
      ∧ r.2.mem ((c.tc : Thread Cert.Kernel8.nD Cert.Kernel8.τ).loc Cert.Kernel8.main_arg26) = m ((c.tc : Thread Cert.Kernel8.nD Cert.Kernel8.τ).loc Cert.Kernel8.main_arg26)
      ∧ r.2.mem ((c.tc : Thread Cert.Kernel8.nD Cert.Kernel8.τ).loc Cert.Kernel8.main_arg27) = m ((c.tc : Thread Cert.Kernel8.nD Cert.Kernel8.τ).loc Cert.Kernel8.main_arg27)
      ∧ r.2.mem ((c.tc : Thread Cert.Kernel8.nD Cert.Kernel8.τ).loc Cert.Kernel8.main_arg28) = m ((c.tc : Thread Cert.Kernel8.nD Cert.Kernel8.τ).loc Cert.Kernel8.main_arg28)
      ∧ r.2.mem ((c.tc : Thread Cert.Kernel8.nD Cert.Kernel8.τ).loc Cert.Kernel8.main_arg29) = m ((c.tc : Thread Cert.Kernel8.nD Cert.Kernel8.τ).loc Cert.Kernel8.main_arg29)
      ∧ r.2.mem ((c.tc : Thread Cert.Kernel8.nD Cert.Kernel8.τ).loc Cert.Kernel8.main_arg30) = m ((c.tc : Thread Cert.Kernel8.nD Cert.Kernel8.τ).loc Cert.Kernel8.main_arg30)
      ∧ r.2.mem ((c.tc : Thread Cert.Kernel8.nD Cert.Kernel8.τ).loc Cert.Kernel8.main_arg31) = m ((c.tc : Thread Cert.Kernel8.nD Cert.Kernel8.τ).loc Cert.Kernel8.main_arg31)
      ∧ r.2.mem ((c.tc : Thread Cert.Kernel8.nD Cert.Kernel8.τ).loc Cert.Kernel8.main_arg32) = m ((c.tc : Thread Cert.Kernel8.nD Cert.Kernel8.τ).loc Cert.Kernel8.main_arg32)
      ∧ r.2.mem ((c.tc : Thread Cert.Kernel8.nD Cert.Kernel8.τ).loc Cert.Kernel8.main_arg33) = m ((c.tc : Thread Cert.Kernel8.nD Cert.Kernel8.τ).loc Cert.Kernel8.main_arg33)
      ∧ r.2.mem ((c.tc : Thread Cert.Kernel8.nD Cert.Kernel8.τ).loc Cert.Kernel8.main_arg34) = m ((c.tc : Thread Cert.Kernel8.nD Cert.Kernel8.τ).loc Cert.Kernel8.main_arg34)
      ∧ r.2.mem ((c.tc : Thread Cert.Kernel8.nD Cert.Kernel8.τ).loc Cert.Kernel8.main_arg35) = m ((c.tc : Thread Cert.Kernel8.nD Cert.Kernel8.τ).loc Cert.Kernel8.main_arg35)
      ∧ r.2.mem ((c.tc : Thread Cert.Kernel8.nD Cert.Kernel8.τ).loc Cert.Kernel8.main_arg36) = m ((c.tc : Thread Cert.Kernel8.nD Cert.Kernel8.τ).loc Cert.Kernel8.main_arg36)
      ∧ r.2.mem ((c.tc : Thread Cert.Kernel8.nD Cert.Kernel8.τ).loc Cert.Kernel8.main_arg37) = m ((c.tc : Thread Cert.Kernel8.nD Cert.Kernel8.τ).loc Cert.Kernel8.main_arg37)
      ∧ r.2.mem ((c.tc : Thread Cert.Kernel8.nD Cert.Kernel8.τ).loc Cert.Kernel8.main_arg38) = m ((c.tc : Thread Cert.Kernel8.nD Cert.Kernel8.τ).loc Cert.Kernel8.main_arg38)
      ∧ r.2.mem ((c.tc : Thread Cert.Kernel8.nD Cert.Kernel8.τ).loc Cert.Kernel8.main_arg39) = m ((c.tc : Thread Cert.Kernel8.nD Cert.Kernel8.τ).loc Cert.Kernel8.main_arg39)
      ∧ r.2.mem ((c.tc : Thread Cert.Kernel8.nD Cert.Kernel8.τ).loc Cert.Kernel8.main_arg40) = m ((c.tc : Thread Cert.Kernel8.nD Cert.Kernel8.τ).loc Cert.Kernel8.main_arg40)
      ∧ r.2.mem ((c.tc : Thread Cert.Kernel8.nD Cert.Kernel8.τ).loc Cert.Kernel8.main_arg41) = m ((c.tc : Thread Cert.Kernel8.nD Cert.Kernel8.τ).loc Cert.Kernel8.main_arg41)
      ∧ r.2.mem ((c.tc : Thread Cert.Kernel8.nD Cert.Kernel8.τ).loc Cert.Kernel8.main_arg42) = m ((c.tc : Thread Cert.Kernel8.nD Cert.Kernel8.τ).loc Cert.Kernel8.main_arg42)
      ∧ r.2.mem ((c.tc : Thread Cert.Kernel8.nD Cert.Kernel8.τ).loc Cert.Kernel8.main_arg43) = m ((c.tc : Thread Cert.Kernel8.nD Cert.Kernel8.τ).loc Cert.Kernel8.main_arg43)
      ∧ r.2.mem ((c.tc : Thread Cert.Kernel8.nD Cert.Kernel8.τ).loc Cert.Kernel8.main_arg44) = m ((c.tc : Thread Cert.Kernel8.nD Cert.Kernel8.τ).loc Cert.Kernel8.main_arg44))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
      ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
      ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17)
      ∧ r.2.mem ((c.tc : Thread Cert.Kernel8Ideal.nD Cert.Kernel8Ideal.τ).loc Cert.Kernel8Ideal.main_arg18) = m ((c.tc : Thread Cert.Kernel8Ideal.nD Cert.Kernel8Ideal.τ).loc Cert.Kernel8Ideal.main_arg18)
      ∧ r.2.mem ((c.tc : Thread Cert.Kernel8Ideal.nD Cert.Kernel8Ideal.τ).loc Cert.Kernel8Ideal.main_arg19) = m ((c.tc : Thread Cert.Kernel8Ideal.nD Cert.Kernel8Ideal.τ).loc Cert.Kernel8Ideal.main_arg19)
      ∧ r.2.mem ((c.tc : Thread Cert.Kernel8Ideal.nD Cert.Kernel8Ideal.τ).loc Cert.Kernel8Ideal.main_arg20) = m ((c.tc : Thread Cert.Kernel8Ideal.nD Cert.Kernel8Ideal.τ).loc Cert.Kernel8Ideal.main_arg20)
      ∧ r.2.mem ((c.tc : Thread Cert.Kernel8Ideal.nD Cert.Kernel8Ideal.τ).loc Cert.Kernel8Ideal.main_arg21) = m ((c.tc : Thread Cert.Kernel8Ideal.nD Cert.Kernel8Ideal.τ).loc Cert.Kernel8Ideal.main_arg21)
      ∧ r.2.mem ((c.tc : Thread Cert.Kernel8Ideal.nD Cert.Kernel8Ideal.τ).loc Cert.Kernel8Ideal.main_arg22) = m ((c.tc : Thread Cert.Kernel8Ideal.nD Cert.Kernel8Ideal.τ).loc Cert.Kernel8Ideal.main_arg22)
      ∧ r.2.mem ((c.tc : Thread Cert.Kernel8Ideal.nD Cert.Kernel8Ideal.τ).loc Cert.Kernel8Ideal.main_arg23) = m ((c.tc : Thread Cert.Kernel8Ideal.nD Cert.Kernel8Ideal.τ).loc Cert.Kernel8Ideal.main_arg23)
      ∧ r.2.mem ((c.tc : Thread Cert.Kernel8Ideal.nD Cert.Kernel8Ideal.τ).loc Cert.Kernel8Ideal.main_arg24) = m ((c.tc : Thread Cert.Kernel8Ideal.nD Cert.Kernel8Ideal.τ).loc Cert.Kernel8Ideal.main_arg24)
      ∧ r.2.mem ((c.tc : Thread Cert.Kernel8Ideal.nD Cert.Kernel8Ideal.τ).loc Cert.Kernel8Ideal.main_arg25) = m ((c.tc : Thread Cert.Kernel8Ideal.nD Cert.Kernel8Ideal.τ).loc Cert.Kernel8Ideal.main_arg25)
      ∧ r.2.mem ((c.tc : Thread Cert.Kernel8Ideal.nD Cert.Kernel8Ideal.τ).loc Cert.Kernel8Ideal.main_arg26) = m ((c.tc : Thread Cert.Kernel8Ideal.nD Cert.Kernel8Ideal.τ).loc Cert.Kernel8Ideal.main_arg26)
      ∧ r.2.mem ((c.tc : Thread Cert.Kernel8Ideal.nD Cert.Kernel8Ideal.τ).loc Cert.Kernel8Ideal.main_arg27) = m ((c.tc : Thread Cert.Kernel8Ideal.nD Cert.Kernel8Ideal.τ).loc Cert.Kernel8Ideal.main_arg27)
      ∧ r.2.mem ((c.tc : Thread Cert.Kernel8Ideal.nD Cert.Kernel8Ideal.τ).loc Cert.Kernel8Ideal.main_arg28) = m ((c.tc : Thread Cert.Kernel8Ideal.nD Cert.Kernel8Ideal.τ).loc Cert.Kernel8Ideal.main_arg28)
      ∧ r.2.mem ((c.tc : Thread Cert.Kernel8Ideal.nD Cert.Kernel8Ideal.τ).loc Cert.Kernel8Ideal.main_arg29) = m ((c.tc : Thread Cert.Kernel8Ideal.nD Cert.Kernel8Ideal.τ).loc Cert.Kernel8Ideal.main_arg29)
      ∧ r.2.mem ((c.tc : Thread Cert.Kernel8Ideal.nD Cert.Kernel8Ideal.τ).loc Cert.Kernel8Ideal.main_arg30) = m ((c.tc : Thread Cert.Kernel8Ideal.nD Cert.Kernel8Ideal.τ).loc Cert.Kernel8Ideal.main_arg30)
      ∧ r.2.mem ((c.tc : Thread Cert.Kernel8Ideal.nD Cert.Kernel8Ideal.τ).loc Cert.Kernel8Ideal.main_arg31) = m ((c.tc : Thread Cert.Kernel8Ideal.nD Cert.Kernel8Ideal.τ).loc Cert.Kernel8Ideal.main_arg31)
      ∧ r.2.mem ((c.tc : Thread Cert.Kernel8Ideal.nD Cert.Kernel8Ideal.τ).loc Cert.Kernel8Ideal.main_arg32) = m ((c.tc : Thread Cert.Kernel8Ideal.nD Cert.Kernel8Ideal.τ).loc Cert.Kernel8Ideal.main_arg32)
      ∧ r.2.mem ((c.tc : Thread Cert.Kernel8Ideal.nD Cert.Kernel8Ideal.τ).loc Cert.Kernel8Ideal.main_arg33) = m ((c.tc : Thread Cert.Kernel8Ideal.nD Cert.Kernel8Ideal.τ).loc Cert.Kernel8Ideal.main_arg33)
      ∧ r.2.mem ((c.tc : Thread Cert.Kernel8Ideal.nD Cert.Kernel8Ideal.τ).loc Cert.Kernel8Ideal.main_arg34) = m ((c.tc : Thread Cert.Kernel8Ideal.nD Cert.Kernel8Ideal.τ).loc Cert.Kernel8Ideal.main_arg34)
      ∧ r.2.mem ((c.tc : Thread Cert.Kernel8Ideal.nD Cert.Kernel8Ideal.τ).loc Cert.Kernel8Ideal.main_arg35) = m ((c.tc : Thread Cert.Kernel8Ideal.nD Cert.Kernel8Ideal.τ).loc Cert.Kernel8Ideal.main_arg35)
      ∧ r.2.mem ((c.tc : Thread Cert.Kernel8Ideal.nD Cert.Kernel8Ideal.τ).loc Cert.Kernel8Ideal.main_arg36) = m ((c.tc : Thread Cert.Kernel8Ideal.nD Cert.Kernel8Ideal.τ).loc Cert.Kernel8Ideal.main_arg36)
      ∧ r.2.mem ((c.tc : Thread Cert.Kernel8Ideal.nD Cert.Kernel8Ideal.τ).loc Cert.Kernel8Ideal.main_arg37) = m ((c.tc : Thread Cert.Kernel8Ideal.nD Cert.Kernel8Ideal.τ).loc Cert.Kernel8Ideal.main_arg37)
      ∧ r.2.mem ((c.tc : Thread Cert.Kernel8Ideal.nD Cert.Kernel8Ideal.τ).loc Cert.Kernel8Ideal.main_arg38) = m ((c.tc : Thread Cert.Kernel8Ideal.nD Cert.Kernel8Ideal.τ).loc Cert.Kernel8Ideal.main_arg38)
      ∧ r.2.mem ((c.tc : Thread Cert.Kernel8Ideal.nD Cert.Kernel8Ideal.τ).loc Cert.Kernel8Ideal.main_arg39) = m ((c.tc : Thread Cert.Kernel8Ideal.nD Cert.Kernel8Ideal.τ).loc Cert.Kernel8Ideal.main_arg39)
      ∧ r.2.mem ((c.tc : Thread Cert.Kernel8Ideal.nD Cert.Kernel8Ideal.τ).loc Cert.Kernel8Ideal.main_arg40) = m ((c.tc : Thread Cert.Kernel8Ideal.nD Cert.Kernel8Ideal.τ).loc Cert.Kernel8Ideal.main_arg40)
      ∧ r.2.mem ((c.tc : Thread Cert.Kernel8Ideal.nD Cert.Kernel8Ideal.τ).loc Cert.Kernel8Ideal.main_arg41) = m ((c.tc : Thread Cert.Kernel8Ideal.nD Cert.Kernel8Ideal.τ).loc Cert.Kernel8Ideal.main_arg41)
      ∧ r.2.mem ((c.tc : Thread Cert.Kernel8Ideal.nD Cert.Kernel8Ideal.τ).loc Cert.Kernel8Ideal.main_arg42) = m ((c.tc : Thread Cert.Kernel8Ideal.nD Cert.Kernel8Ideal.τ).loc Cert.Kernel8Ideal.main_arg42)
      ∧ r.2.mem ((c.tc : Thread Cert.Kernel8Ideal.nD Cert.Kernel8Ideal.τ).loc Cert.Kernel8Ideal.main_arg43) = m ((c.tc : Thread Cert.Kernel8Ideal.nD Cert.Kernel8Ideal.τ).loc Cert.Kernel8Ideal.main_arg43)
      ∧ r.2.mem ((c.tc : Thread Cert.Kernel8Ideal.nD Cert.Kernel8Ideal.τ).loc Cert.Kernel8Ideal.main_arg44) = m ((c.tc : Thread Cert.Kernel8Ideal.nD Cert.Kernel8Ideal.τ).loc Cert.Kernel8Ideal.main_arg44))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15)
      ∧ r.2.mem ((c.tc : Thread Cert.Reference8Ideal.nD Cert.Reference8Ideal.τ).loc Cert.Reference8Ideal.main_arg16) = m ((c.tc : Thread Cert.Reference8Ideal.nD Cert.Reference8Ideal.τ).loc Cert.Reference8Ideal.main_arg16)
      ∧ r.2.mem ((c.tc : Thread Cert.Reference8Ideal.nD Cert.Reference8Ideal.τ).loc Cert.Reference8Ideal.main_arg17) = m ((c.tc : Thread Cert.Reference8Ideal.nD Cert.Reference8Ideal.τ).loc Cert.Reference8Ideal.main_arg17)
      ∧ r.2.mem ((c.tc : Thread Cert.Reference8Ideal.nD Cert.Reference8Ideal.τ).loc Cert.Reference8Ideal.main_arg18) = m ((c.tc : Thread Cert.Reference8Ideal.nD Cert.Reference8Ideal.τ).loc Cert.Reference8Ideal.main_arg18)
      ∧ r.2.mem ((c.tc : Thread Cert.Reference8Ideal.nD Cert.Reference8Ideal.τ).loc Cert.Reference8Ideal.main_arg19) = m ((c.tc : Thread Cert.Reference8Ideal.nD Cert.Reference8Ideal.τ).loc Cert.Reference8Ideal.main_arg19)
      ∧ r.2.mem ((c.tc : Thread Cert.Reference8Ideal.nD Cert.Reference8Ideal.τ).loc Cert.Reference8Ideal.main_arg20) = m ((c.tc : Thread Cert.Reference8Ideal.nD Cert.Reference8Ideal.τ).loc Cert.Reference8Ideal.main_arg20)
      ∧ r.2.mem ((c.tc : Thread Cert.Reference8Ideal.nD Cert.Reference8Ideal.τ).loc Cert.Reference8Ideal.main_arg21) = m ((c.tc : Thread Cert.Reference8Ideal.nD Cert.Reference8Ideal.τ).loc Cert.Reference8Ideal.main_arg21)
      ∧ r.2.mem ((c.tc : Thread Cert.Reference8Ideal.nD Cert.Reference8Ideal.τ).loc Cert.Reference8Ideal.main_arg22) = m ((c.tc : Thread Cert.Reference8Ideal.nD Cert.Reference8Ideal.τ).loc Cert.Reference8Ideal.main_arg22)
      ∧ r.2.mem ((c.tc : Thread Cert.Reference8Ideal.nD Cert.Reference8Ideal.τ).loc Cert.Reference8Ideal.main_arg23) = m ((c.tc : Thread Cert.Reference8Ideal.nD Cert.Reference8Ideal.τ).loc Cert.Reference8Ideal.main_arg23)
      ∧ r.2.mem ((c.tc : Thread Cert.Reference8Ideal.nD Cert.Reference8Ideal.τ).loc Cert.Reference8Ideal.main_arg24) = m ((c.tc : Thread Cert.Reference8Ideal.nD Cert.Reference8Ideal.τ).loc Cert.Reference8Ideal.main_arg24)
      ∧ r.2.mem ((c.tc : Thread Cert.Reference8Ideal.nD Cert.Reference8Ideal.τ).loc Cert.Reference8Ideal.main_arg25) = m ((c.tc : Thread Cert.Reference8Ideal.nD Cert.Reference8Ideal.τ).loc Cert.Reference8Ideal.main_arg25)
      ∧ r.2.mem ((c.tc : Thread Cert.Reference8Ideal.nD Cert.Reference8Ideal.τ).loc Cert.Reference8Ideal.main_arg26) = m ((c.tc : Thread Cert.Reference8Ideal.nD Cert.Reference8Ideal.τ).loc Cert.Reference8Ideal.main_arg26)
      ∧ r.2.mem ((c.tc : Thread Cert.Reference8Ideal.nD Cert.Reference8Ideal.τ).loc Cert.Reference8Ideal.main_arg27) = m ((c.tc : Thread Cert.Reference8Ideal.nD Cert.Reference8Ideal.τ).loc Cert.Reference8Ideal.main_arg27)
      ∧ r.2.mem ((c.tc : Thread Cert.Reference8Ideal.nD Cert.Reference8Ideal.τ).loc Cert.Reference8Ideal.main_arg28) = m ((c.tc : Thread Cert.Reference8Ideal.nD Cert.Reference8Ideal.τ).loc Cert.Reference8Ideal.main_arg28)
      ∧ r.2.mem ((c.tc : Thread Cert.Reference8Ideal.nD Cert.Reference8Ideal.τ).loc Cert.Reference8Ideal.main_arg29) = m ((c.tc : Thread Cert.Reference8Ideal.nD Cert.Reference8Ideal.τ).loc Cert.Reference8Ideal.main_arg29)
      ∧ r.2.mem ((c.tc : Thread Cert.Reference8Ideal.nD Cert.Reference8Ideal.τ).loc Cert.Reference8Ideal.main_arg30) = m ((c.tc : Thread Cert.Reference8Ideal.nD Cert.Reference8Ideal.τ).loc Cert.Reference8Ideal.main_arg30)
      ∧ r.2.mem ((c.tc : Thread Cert.Reference8Ideal.nD Cert.Reference8Ideal.τ).loc Cert.Reference8Ideal.main_arg31) = m ((c.tc : Thread Cert.Reference8Ideal.nD Cert.Reference8Ideal.τ).loc Cert.Reference8Ideal.main_arg31)
      ∧ r.2.mem ((c.tc : Thread Cert.Reference8Ideal.nD Cert.Reference8Ideal.τ).loc Cert.Reference8Ideal.main_arg32) = m ((c.tc : Thread Cert.Reference8Ideal.nD Cert.Reference8Ideal.τ).loc Cert.Reference8Ideal.main_arg32)
      ∧ r.2.mem ((c.tc : Thread Cert.Reference8Ideal.nD Cert.Reference8Ideal.τ).loc Cert.Reference8Ideal.main_arg33) = m ((c.tc : Thread Cert.Reference8Ideal.nD Cert.Reference8Ideal.τ).loc Cert.Reference8Ideal.main_arg33)
      ∧ r.2.mem ((c.tc : Thread Cert.Reference8Ideal.nD Cert.Reference8Ideal.τ).loc Cert.Reference8Ideal.main_arg34) = m ((c.tc : Thread Cert.Reference8Ideal.nD Cert.Reference8Ideal.τ).loc Cert.Reference8Ideal.main_arg34)
      ∧ r.2.mem ((c.tc : Thread Cert.Reference8Ideal.nD Cert.Reference8Ideal.τ).loc Cert.Reference8Ideal.main_arg35) = m ((c.tc : Thread Cert.Reference8Ideal.nD Cert.Reference8Ideal.τ).loc Cert.Reference8Ideal.main_arg35)
      ∧ r.2.mem ((c.tc : Thread Cert.Reference8Ideal.nD Cert.Reference8Ideal.τ).loc Cert.Reference8Ideal.main_arg36) = m ((c.tc : Thread Cert.Reference8Ideal.nD Cert.Reference8Ideal.τ).loc Cert.Reference8Ideal.main_arg36)
      ∧ r.2.mem ((c.tc : Thread Cert.Reference8Ideal.nD Cert.Reference8Ideal.τ).loc Cert.Reference8Ideal.main_arg37) = m ((c.tc : Thread Cert.Reference8Ideal.nD Cert.Reference8Ideal.τ).loc Cert.Reference8Ideal.main_arg37)
      ∧ r.2.mem ((c.tc : Thread Cert.Reference8Ideal.nD Cert.Reference8Ideal.τ).loc Cert.Reference8Ideal.main_arg38) = m ((c.tc : Thread Cert.Reference8Ideal.nD Cert.Reference8Ideal.τ).loc Cert.Reference8Ideal.main_arg38)
      ∧ r.2.mem ((c.tc : Thread Cert.Reference8Ideal.nD Cert.Reference8Ideal.τ).loc Cert.Reference8Ideal.main_arg39) = m ((c.tc : Thread Cert.Reference8Ideal.nD Cert.Reference8Ideal.τ).loc Cert.Reference8Ideal.main_arg39)
      ∧ r.2.mem ((c.tc : Thread Cert.Reference8Ideal.nD Cert.Reference8Ideal.τ).loc Cert.Reference8Ideal.main_arg40) = m ((c.tc : Thread Cert.Reference8Ideal.nD Cert.Reference8Ideal.τ).loc Cert.Reference8Ideal.main_arg40)
      ∧ r.2.mem ((c.tc : Thread Cert.Reference8Ideal.nD Cert.Reference8Ideal.τ).loc Cert.Reference8Ideal.main_arg41) = m ((c.tc : Thread Cert.Reference8Ideal.nD Cert.Reference8Ideal.τ).loc Cert.Reference8Ideal.main_arg41)
      ∧ r.2.mem ((c.tc : Thread Cert.Reference8Ideal.nD Cert.Reference8Ideal.τ).loc Cert.Reference8Ideal.main_arg42) = m ((c.tc : Thread Cert.Reference8Ideal.nD Cert.Reference8Ideal.τ).loc Cert.Reference8Ideal.main_arg42)
      ∧ r.2.mem ((c.tc : Thread Cert.Reference8Ideal.nD Cert.Reference8Ideal.τ).loc Cert.Reference8Ideal.main_arg43) = m ((c.tc : Thread Cert.Reference8Ideal.nD Cert.Reference8Ideal.τ).loc Cert.Reference8Ideal.main_arg43)
      ∧ r.2.mem ((c.tc : Thread Cert.Reference8Ideal.nD Cert.Reference8Ideal.τ).loc Cert.Reference8Ideal.main_arg44) = m ((c.tc : Thread Cert.Reference8Ideal.nD Cert.Reference8Ideal.τ).loc Cert.Reference8Ideal.main_arg44))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "chunk_dec3" .f32 0x3F474682#32 ((10436900611138725869172867285320967420499386398293333045633692797639857278619179096472846825397665828940838712011497657616843071082257665693759918212890625 / 13407807929942597099574024998205846127479365820592393377723561443721764030073546976801874298166903427690031858186486050853753882811946569946433649006084096 : ℝ) : EReal)
  ∧ IdealRules.named_const.Statement Cert.Kernel2Ideal.κ "chunk_dec2" .f32 0x3F1AF7A1#32 ((439985273984774139364885786774155225074372621425249766976946157772109425125407741241214744259687760072793219732307971501512893104906241 / 726838724295606890549323807888004534353641360687318060281490199180639288113397923326191050713763565560762521606266177933534601628614656 : ℝ) : EReal)
  ∧ IdealRules.named_const.Statement Cert.Kernel2Ideal.κ "chunk_dec1" .f32 0x3EBADF84#32 ((14381201289858923833733732277241427911251598557516928831287151963615866190845260542210496569296551598609485715599361 / 39402006196394479212279040100143613805079739270465446667948293404245721771497210611414266254884915640806627990306816 : ℝ) : EReal)
  ∧ IdealRules.named_const.Statement Cert.Kernel2Ideal.κ "chunk_dec0" .f32 0x3E063AE5#32 ((279993793990258235750468749959300213014699042596341116563305503247751586492770004816505534904321 / 2135987035920910082395021706169552114602704522356652769947041607822219725780640550022962086936576 : ℝ) : EReal)

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)) (v3 : (c : Dev Cert.Kernel3Ideal.nD) → Buf (Elt Ideal) ((c.tc : Thread Cert.Kernel3Ideal.nD Cert.Kernel3Ideal.τ).loc Cert.Kernel3Ideal.main_v15_3)) (v4 : (c : Dev Cert.Kernel3Ideal.nD) → Buf (Elt Ideal) ((c.tc : Thread Cert.Kernel3Ideal.nD Cert.Kernel3Ideal.τ).loc Cert.Kernel3Ideal.main_v15_4)) (v5 : (c : Dev Cert.Kernel3Ideal.nD) → Buf (Elt Ideal) ((c.tc : Thread Cert.Kernel3Ideal.nD Cert.Kernel3Ideal.τ).loc Cert.Kernel3Ideal.main_v15_5)) (v6 : (c : Dev Cert.Kernel3Ideal.nD) → Buf (Elt Ideal) ((c.tc : Thread Cert.Kernel3Ideal.nD Cert.Kernel3Ideal.τ).loc Cert.Kernel3Ideal.main_v15_6)) (v7 : (c : Dev Cert.Kernel3Ideal.nD) → Buf (Elt Ideal) ((c.tc : Thread Cert.Kernel3Ideal.nD Cert.Kernel3Ideal.τ).loc Cert.Kernel3Ideal.main_v15_7)) (v8 : (c : Dev Cert.Kernel3Ideal.nD) → Buf (Elt Ideal) ((c.tc : Thread Cert.Kernel3Ideal.nD Cert.Kernel3Ideal.τ).loc Cert.Kernel3Ideal.main_v15_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_v15_3) = v3 c
          ∧ r.2.mem ((c.tc : Thread Cert.Kernel3Ideal.nD Cert.Kernel3Ideal.τ).loc Cert.Kernel3Ideal.main_v15_4) = v4 c
          ∧ r.2.mem ((c.tc : Thread Cert.Kernel3Ideal.nD Cert.Kernel3Ideal.τ).loc Cert.Kernel3Ideal.main_v15_5) = v5 c
          ∧ r.2.mem ((c.tc : Thread Cert.Kernel3Ideal.nD Cert.Kernel3Ideal.τ).loc Cert.Kernel3Ideal.main_v15_6) = v6 c
          ∧ r.2.mem ((c.tc : Thread Cert.Kernel3Ideal.nD Cert.Kernel3Ideal.τ).loc Cert.Kernel3Ideal.main_v15_7) = v7 c
          ∧ r.2.mem ((c.tc : Thread Cert.Kernel3Ideal.nD Cert.Kernel3Ideal.τ).loc Cert.Kernel3Ideal.main_v15_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v76) = v0 c
          ∧ r.2.mem ((c.tc : Thread Cert.Reference3Ideal.nD Cert.Reference3Ideal.τ).loc Cert.Reference3Ideal.main_v77) = v1 c
          ∧ r.2.mem ((c.tc : Thread Cert.Reference3Ideal.nD Cert.Reference3Ideal.τ).loc Cert.Reference3Ideal.main_v78) = v2 c
          ∧ r.2.mem ((c.tc : Thread Cert.Reference3Ideal.nD Cert.Reference3Ideal.τ).loc Cert.Reference3Ideal.main_v79) = v3 c
          ∧ r.2.mem ((c.tc : Thread Cert.Reference3Ideal.nD Cert.Reference3Ideal.τ).loc Cert.Reference3Ideal.main_v80) = v4 c
          ∧ r.2.mem ((c.tc : Thread Cert.Reference3Ideal.nD Cert.Reference3Ideal.τ).loc Cert.Reference3Ideal.main_v81) = v5 c
          ∧ r.2.mem ((c.tc : Thread Cert.Reference3Ideal.nD Cert.Reference3Ideal.τ).loc Cert.Reference3Ideal.main_v83) = v6 c
          ∧ r.2.mem ((c.tc : Thread Cert.Reference3Ideal.nD Cert.Reference3Ideal.τ).loc Cert.Reference3Ideal.main_v84) = v7 c
          ∧ r.2.mem ((c.tc : Thread Cert.Reference3Ideal.nD Cert.Reference3Ideal.τ).loc Cert.Reference3Ideal.main_v85) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)) (v3 : (c : Dev Cert.Kernel4Ideal.nD) → Buf (Elt Ideal) ((c.tc : Thread Cert.Kernel4Ideal.nD Cert.Kernel4Ideal.τ).loc Cert.Kernel4Ideal.main_v6_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_v6_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_v35) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v7) = v2 c
          ∧ r.2.mem ((c.tc : Thread Cert.Reference5Ideal.nD Cert.Reference5Ideal.τ).loc Cert.Reference5Ideal.main_v13) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_v6) = v1 c
          ∧ r.2.mem ((c.tc : Thread Cert.Reference7Ideal.nD Cert.Reference7Ideal.τ).loc Cert.Reference7Ideal.main_v12) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)
      ∧ m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)
      ∧ m' ((c.tc : Thread Cert.Reference8Ideal.nD Cert.Reference8Ideal.τ).loc Cert.Reference8Ideal.main_arg16) = m ((c.tc : Thread Cert.Kernel8Ideal.nD Cert.Kernel8Ideal.τ).loc Cert.Kernel8Ideal.main_arg16)
      ∧ m' ((c.tc : Thread Cert.Reference8Ideal.nD Cert.Reference8Ideal.τ).loc Cert.Reference8Ideal.main_arg17) = m ((c.tc : Thread Cert.Kernel8Ideal.nD Cert.Kernel8Ideal.τ).loc Cert.Kernel8Ideal.main_arg17)
      ∧ m' ((c.tc : Thread Cert.Reference8Ideal.nD Cert.Reference8Ideal.τ).loc Cert.Reference8Ideal.main_arg18) = m ((c.tc : Thread Cert.Kernel8Ideal.nD Cert.Kernel8Ideal.τ).loc Cert.Kernel8Ideal.main_arg18)
      ∧ m' ((c.tc : Thread Cert.Reference8Ideal.nD Cert.Reference8Ideal.τ).loc Cert.Reference8Ideal.main_arg19) = m ((c.tc : Thread Cert.Kernel8Ideal.nD Cert.Kernel8Ideal.τ).loc Cert.Kernel8Ideal.main_arg19)
      ∧ m' ((c.tc : Thread Cert.Reference8Ideal.nD Cert.Reference8Ideal.τ).loc Cert.Reference8Ideal.main_arg20) = m ((c.tc : Thread Cert.Kernel8Ideal.nD Cert.Kernel8Ideal.τ).loc Cert.Kernel8Ideal.main_arg20)
      ∧ m' ((c.tc : Thread Cert.Reference8Ideal.nD Cert.Reference8Ideal.τ).loc Cert.Reference8Ideal.main_arg21) = m ((c.tc : Thread Cert.Kernel8Ideal.nD Cert.Kernel8Ideal.τ).loc Cert.Kernel8Ideal.main_arg21)
      ∧ m' ((c.tc : Thread Cert.Reference8Ideal.nD Cert.Reference8Ideal.τ).loc Cert.Reference8Ideal.main_arg22) = m ((c.tc : Thread Cert.Kernel8Ideal.nD Cert.Kernel8Ideal.τ).loc Cert.Kernel8Ideal.main_arg22)
      ∧ m' ((c.tc : Thread Cert.Reference8Ideal.nD Cert.Reference8Ideal.τ).loc Cert.Reference8Ideal.main_arg23) = m ((c.tc : Thread Cert.Kernel8Ideal.nD Cert.Kernel8Ideal.τ).loc Cert.Kernel8Ideal.main_arg23)
      ∧ m' ((c.tc : Thread Cert.Reference8Ideal.nD Cert.Reference8Ideal.τ).loc Cert.Reference8Ideal.main_arg24) = m ((c.tc : Thread Cert.Kernel8Ideal.nD Cert.Kernel8Ideal.τ).loc Cert.Kernel8Ideal.main_arg24)
      ∧ m' ((c.tc : Thread Cert.Reference8Ideal.nD Cert.Reference8Ideal.τ).loc Cert.Reference8Ideal.main_arg25) = m ((c.tc : Thread Cert.Kernel8Ideal.nD Cert.Kernel8Ideal.τ).loc Cert.Kernel8Ideal.main_arg25)
      ∧ m' ((c.tc : Thread Cert.Reference8Ideal.nD Cert.Reference8Ideal.τ).loc Cert.Reference8Ideal.main_arg26) = m ((c.tc : Thread Cert.Kernel8Ideal.nD Cert.Kernel8Ideal.τ).loc Cert.Kernel8Ideal.main_arg26)
      ∧ m' ((c.tc : Thread Cert.Reference8Ideal.nD Cert.Reference8Ideal.τ).loc Cert.Reference8Ideal.main_arg27) = m ((c.tc : Thread Cert.Kernel8Ideal.nD Cert.Kernel8Ideal.τ).loc Cert.Kernel8Ideal.main_arg27)
      ∧ m' ((c.tc : Thread Cert.Reference8Ideal.nD Cert.Reference8Ideal.τ).loc Cert.Reference8Ideal.main_arg28) = m ((c.tc : Thread Cert.Kernel8Ideal.nD Cert.Kernel8Ideal.τ).loc Cert.Kernel8Ideal.main_arg28)
      ∧ m' ((c.tc : Thread Cert.Reference8Ideal.nD Cert.Reference8Ideal.τ).loc Cert.Reference8Ideal.main_arg29) = m ((c.tc : Thread Cert.Kernel8Ideal.nD Cert.Kernel8Ideal.τ).loc Cert.Kernel8Ideal.main_arg29)
      ∧ m' ((c.tc : Thread Cert.Reference8Ideal.nD Cert.Reference8Ideal.τ).loc Cert.Reference8Ideal.main_arg30) = m ((c.tc : Thread Cert.Kernel8Ideal.nD Cert.Kernel8Ideal.τ).loc Cert.Kernel8Ideal.main_arg30)
      ∧ m' ((c.tc : Thread Cert.Reference8Ideal.nD Cert.Reference8Ideal.τ).loc Cert.Reference8Ideal.main_arg31) = m ((c.tc : Thread Cert.Kernel8Ideal.nD Cert.Kernel8Ideal.τ).loc Cert.Kernel8Ideal.main_arg31)
      ∧ m' ((c.tc : Thread Cert.Reference8Ideal.nD Cert.Reference8Ideal.τ).loc Cert.Reference8Ideal.main_arg32) = m ((c.tc : Thread Cert.Kernel8Ideal.nD Cert.Kernel8Ideal.τ).loc Cert.Kernel8Ideal.main_arg32)
      ∧ m' ((c.tc : Thread Cert.Reference8Ideal.nD Cert.Reference8Ideal.τ).loc Cert.Reference8Ideal.main_arg33) = m ((c.tc : Thread Cert.Kernel8Ideal.nD Cert.Kernel8Ideal.τ).loc Cert.Kernel8Ideal.main_arg33)
      ∧ m' ((c.tc : Thread Cert.Reference8Ideal.nD Cert.Reference8Ideal.τ).loc Cert.Reference8Ideal.main_arg34) = m ((c.tc : Thread Cert.Kernel8Ideal.nD Cert.Kernel8Ideal.τ).loc Cert.Kernel8Ideal.main_arg34)
      ∧ m' ((c.tc : Thread Cert.Reference8Ideal.nD Cert.Reference8Ideal.τ).loc Cert.Reference8Ideal.main_arg35) = m ((c.tc : Thread Cert.Kernel8Ideal.nD Cert.Kernel8Ideal.τ).loc Cert.Kernel8Ideal.main_arg35)
      ∧ m' ((c.tc : Thread Cert.Reference8Ideal.nD Cert.Reference8Ideal.τ).loc Cert.Reference8Ideal.main_arg36) = m ((c.tc : Thread Cert.Kernel8Ideal.nD Cert.Kernel8Ideal.τ).loc Cert.Kernel8Ideal.main_arg36)
      ∧ m' ((c.tc : Thread Cert.Reference8Ideal.nD Cert.Reference8Ideal.τ).loc Cert.Reference8Ideal.main_arg37) = m ((c.tc : Thread Cert.Kernel8Ideal.nD Cert.Kernel8Ideal.τ).loc Cert.Kernel8Ideal.main_arg37)
      ∧ m' ((c.tc : Thread Cert.Reference8Ideal.nD Cert.Reference8Ideal.τ).loc Cert.Reference8Ideal.main_arg38) = m ((c.tc : Thread Cert.Kernel8Ideal.nD Cert.Kernel8Ideal.τ).loc Cert.Kernel8Ideal.main_arg38)
      ∧ m' ((c.tc : Thread Cert.Reference8Ideal.nD Cert.Reference8Ideal.τ).loc Cert.Reference8Ideal.main_arg39) = m ((c.tc : Thread Cert.Kernel8Ideal.nD Cert.Kernel8Ideal.τ).loc Cert.Kernel8Ideal.main_arg39)
      ∧ m' ((c.tc : Thread Cert.Reference8Ideal.nD Cert.Reference8Ideal.τ).loc Cert.Reference8Ideal.main_arg40) = m ((c.tc : Thread Cert.Kernel8Ideal.nD Cert.Kernel8Ideal.τ).loc Cert.Kernel8Ideal.main_arg40)
      ∧ m' ((c.tc : Thread Cert.Reference8Ideal.nD Cert.Reference8Ideal.τ).loc Cert.Reference8Ideal.main_arg41) = m ((c.tc : Thread Cert.Kernel8Ideal.nD Cert.Kernel8Ideal.τ).loc Cert.Kernel8Ideal.main_arg41)
      ∧ m' ((c.tc : Thread Cert.Reference8Ideal.nD Cert.Reference8Ideal.τ).loc Cert.Reference8Ideal.main_arg42) = m ((c.tc : Thread Cert.Kernel8Ideal.nD Cert.Kernel8Ideal.τ).loc Cert.Kernel8Ideal.main_arg42)
      ∧ m' ((c.tc : Thread Cert.Reference8Ideal.nD Cert.Reference8Ideal.τ).loc Cert.Reference8Ideal.main_arg43) = m ((c.tc : Thread Cert.Kernel8Ideal.nD Cert.Kernel8Ideal.τ).loc Cert.Kernel8Ideal.main_arg43)
      ∧ m' ((c.tc : Thread Cert.Reference8Ideal.nD Cert.Reference8Ideal.τ).loc Cert.Reference8Ideal.main_arg44) = m ((c.tc : Thread Cert.Kernel8Ideal.nD Cert.Kernel8Ideal.τ).loc Cert.Kernel8Ideal.main_arg44)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)) (v4 : (c : Dev Cert.Kernel8Ideal.nD) → Buf (Elt Ideal) ((c.tc : Thread Cert.Kernel8Ideal.nD Cert.Kernel8Ideal.τ).loc Cert.Kernel8Ideal.main_v1_4)) (v5 : (c : Dev Cert.Kernel8Ideal.nD) → Buf (Elt Ideal) ((c.tc : Thread Cert.Kernel8Ideal.nD Cert.Kernel8Ideal.τ).loc Cert.Kernel8Ideal.main_v1_5)) (v6 : (c : Dev Cert.Kernel8Ideal.nD) → Buf (Elt Ideal) ((c.tc : Thread Cert.Kernel8Ideal.nD Cert.Kernel8Ideal.τ).loc Cert.Kernel8Ideal.main_v1_6)) (v7 : (c : Dev Cert.Kernel8Ideal.nD) → Buf (Elt Ideal) ((c.tc : Thread Cert.Kernel8Ideal.nD Cert.Kernel8Ideal.τ).loc Cert.Kernel8Ideal.main_v1_7)) (v8 : (c : Dev Cert.Kernel8Ideal.nD) → Buf (Elt Ideal) ((c.tc : Thread Cert.Kernel8Ideal.nD Cert.Kernel8Ideal.τ).loc Cert.Kernel8Ideal.main_v1_8)) (v9 : (c : Dev Cert.Kernel8Ideal.nD) → Buf (Elt Ideal) ((c.tc : Thread Cert.Kernel8Ideal.nD Cert.Kernel8Ideal.τ).loc Cert.Kernel8Ideal.main_v1_9)) (v10 : (c : Dev Cert.Kernel8Ideal.nD) → Buf (Elt Ideal) ((c.tc : Thread Cert.Kernel8Ideal.nD Cert.Kernel8Ideal.τ).loc Cert.Kernel8Ideal.main_v1_10)) (v11 : (c : Dev Cert.Kernel8Ideal.nD) → Buf (Elt Ideal) ((c.tc : Thread Cert.Kernel8Ideal.nD Cert.Kernel8Ideal.τ).loc Cert.Kernel8Ideal.main_v1_11)) (v12 : (c : Dev Cert.Kernel8Ideal.nD) → Buf (Elt Ideal) ((c.tc : Thread Cert.Kernel8Ideal.nD Cert.Kernel8Ideal.τ).loc Cert.Kernel8Ideal.main_v1_12)) (v13 : (c : Dev Cert.Kernel8Ideal.nD) → Buf (Elt Ideal) ((c.tc : Thread Cert.Kernel8Ideal.nD Cert.Kernel8Ideal.τ).loc Cert.Kernel8Ideal.main_v1_13)) (v14 : (c : Dev Cert.Kernel8Ideal.nD) → Buf (Elt Ideal) ((c.tc : Thread Cert.Kernel8Ideal.nD Cert.Kernel8Ideal.τ).loc Cert.Kernel8Ideal.main_v1_14)) (v15 : (c : Dev Cert.Kernel8Ideal.nD) → Buf (Elt Ideal) ((c.tc : Thread Cert.Kernel8Ideal.nD Cert.Kernel8Ideal.τ).loc Cert.Kernel8Ideal.main_v1_15)) (v16 : (c : Dev Cert.Kernel8Ideal.nD) → Buf (Elt Ideal) ((c.tc : Thread Cert.Kernel8Ideal.nD Cert.Kernel8Ideal.τ).loc Cert.Kernel8Ideal.main_v1_16)) (v17 : (c : Dev Cert.Kernel8Ideal.nD) → Buf (Elt Ideal) ((c.tc : Thread Cert.Kernel8Ideal.nD Cert.Kernel8Ideal.τ).loc Cert.Kernel8Ideal.main_v1_17)) (v18 : (c : Dev Cert.Kernel8Ideal.nD) → Buf (Elt Ideal) ((c.tc : Thread Cert.Kernel8Ideal.nD Cert.Kernel8Ideal.τ).loc Cert.Kernel8Ideal.main_v1_18)) (v19 : (c : Dev Cert.Kernel8Ideal.nD) → Buf (Elt Ideal) ((c.tc : Thread Cert.Kernel8Ideal.nD Cert.Kernel8Ideal.τ).loc Cert.Kernel8Ideal.main_v1_19)) (v20 : (c : Dev Cert.Kernel8Ideal.nD) → Buf (Elt Ideal) ((c.tc : Thread Cert.Kernel8Ideal.nD Cert.Kernel8Ideal.τ).loc Cert.Kernel8Ideal.main_v1_20)) (v21 : (c : Dev Cert.Kernel8Ideal.nD) → Buf (Elt Ideal) ((c.tc : Thread Cert.Kernel8Ideal.nD Cert.Kernel8Ideal.τ).loc Cert.Kernel8Ideal.main_v1_21)) (v22 : (c : Dev Cert.Kernel8Ideal.nD) → Buf (Elt Ideal) ((c.tc : Thread Cert.Kernel8Ideal.nD Cert.Kernel8Ideal.τ).loc Cert.Kernel8Ideal.main_v1_22)) (v23 : (c : Dev Cert.Kernel8Ideal.nD) → Buf (Elt Ideal) ((c.tc : Thread Cert.Kernel8Ideal.nD Cert.Kernel8Ideal.τ).loc Cert.Kernel8Ideal.main_v1_23)) (v24 : (c : Dev Cert.Kernel8Ideal.nD) → Buf (Elt Ideal) ((c.tc : Thread Cert.Kernel8Ideal.nD Cert.Kernel8Ideal.τ).loc Cert.Kernel8Ideal.main_v1_24)) (v25 : (c : Dev Cert.Kernel8Ideal.nD) → Buf (Elt Ideal) ((c.tc : Thread Cert.Kernel8Ideal.nD Cert.Kernel8Ideal.τ).loc Cert.Kernel8Ideal.main_v1_25)) (v26 : (c : Dev Cert.Kernel8Ideal.nD) → Buf (Elt Ideal) ((c.tc : Thread Cert.Kernel8Ideal.nD Cert.Kernel8Ideal.τ).loc Cert.Kernel8Ideal.main_v1_26)) (v27 : (c : Dev Cert.Kernel8Ideal.nD) → Buf (Elt Ideal) ((c.tc : Thread Cert.Kernel8Ideal.nD Cert.Kernel8Ideal.τ).loc Cert.Kernel8Ideal.main_v1_27)) (v28 : (c : Dev Cert.Kernel8Ideal.nD) → Buf (Elt Ideal) ((c.tc : Thread Cert.Kernel8Ideal.nD Cert.Kernel8Ideal.τ).loc Cert.Kernel8Ideal.main_v1_28)) (v29 : (c : Dev Cert.Kernel8Ideal.nD) → Buf (Elt Ideal) ((c.tc : Thread Cert.Kernel8Ideal.nD Cert.Kernel8Ideal.τ).loc Cert.Kernel8Ideal.main_v1_29)) (v30 : (c : Dev Cert.Kernel8Ideal.nD) → Buf (Elt Ideal) ((c.tc : Thread Cert.Kernel8Ideal.nD Cert.Kernel8Ideal.τ).loc Cert.Kernel8Ideal.main_v1_30)) (v31 : (c : Dev Cert.Kernel8Ideal.nD) → Buf (Elt Ideal) ((c.tc : Thread Cert.Kernel8Ideal.nD Cert.Kernel8Ideal.τ).loc Cert.Kernel8Ideal.main_v1_31)) (v32 : (c : Dev Cert.Kernel8Ideal.nD) → Buf (Elt Ideal) ((c.tc : Thread Cert.Kernel8Ideal.nD Cert.Kernel8Ideal.τ).loc Cert.Kernel8Ideal.main_v1_32)) (v33 : (c : Dev Cert.Kernel8Ideal.nD) → Buf (Elt Ideal) ((c.tc : Thread Cert.Kernel8Ideal.nD Cert.Kernel8Ideal.τ).loc Cert.Kernel8Ideal.main_v1_33)) (v34 : (c : Dev Cert.Kernel8Ideal.nD) → Buf (Elt Ideal) ((c.tc : Thread Cert.Kernel8Ideal.nD Cert.Kernel8Ideal.τ).loc Cert.Kernel8Ideal.main_v1_34)) (v35 : (c : Dev Cert.Kernel8Ideal.nD) → Buf (Elt Ideal) ((c.tc : Thread Cert.Kernel8Ideal.nD Cert.Kernel8Ideal.τ).loc Cert.Kernel8Ideal.main_v1_35)) (v36 : (c : Dev Cert.Kernel8Ideal.nD) → Buf (Elt Ideal) ((c.tc : Thread Cert.Kernel8Ideal.nD Cert.Kernel8Ideal.τ).loc Cert.Kernel8Ideal.main_v1_36)) (v37 : (c : Dev Cert.Kernel8Ideal.nD) → Buf (Elt Ideal) ((c.tc : Thread Cert.Kernel8Ideal.nD Cert.Kernel8Ideal.τ).loc Cert.Kernel8Ideal.main_v1_37)) (v38 : (c : Dev Cert.Kernel8Ideal.nD) → Buf (Elt Ideal) ((c.tc : Thread Cert.Kernel8Ideal.nD Cert.Kernel8Ideal.τ).loc Cert.Kernel8Ideal.main_v1_38)) (v39 : (c : Dev Cert.Kernel8Ideal.nD) → Buf (Elt Ideal) ((c.tc : Thread Cert.Kernel8Ideal.nD Cert.Kernel8Ideal.τ).loc Cert.Kernel8Ideal.main_v1_39)) (v40 : (c : Dev Cert.Kernel8Ideal.nD) → Buf (Elt Ideal) ((c.tc : Thread Cert.Kernel8Ideal.nD Cert.Kernel8Ideal.τ).loc Cert.Kernel8Ideal.main_v1_40)) (v41 : (c : Dev Cert.Kernel8Ideal.nD) → Buf (Elt Ideal) ((c.tc : Thread Cert.Kernel8Ideal.nD Cert.Kernel8Ideal.τ).loc Cert.Kernel8Ideal.main_v1_41)) (v42 : (c : Dev Cert.Kernel8Ideal.nD) → Buf (Elt Ideal) ((c.tc : Thread Cert.Kernel8Ideal.nD Cert.Kernel8Ideal.τ).loc Cert.Kernel8Ideal.main_v1_42)) (v43 : (c : Dev Cert.Kernel8Ideal.nD) → Buf (Elt Ideal) ((c.tc : Thread Cert.Kernel8Ideal.nD Cert.Kernel8Ideal.τ).loc Cert.Kernel8Ideal.main_v1_43)) (v44 : (c : Dev Cert.Kernel8Ideal.nD) → Buf (Elt Ideal) ((c.tc : Thread Cert.Kernel8Ideal.nD Cert.Kernel8Ideal.τ).loc Cert.Kernel8Ideal.main_v1_44)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_v1_4) = v4 c
          ∧ r.2.mem ((c.tc : Thread Cert.Kernel8Ideal.nD Cert.Kernel8Ideal.τ).loc Cert.Kernel8Ideal.main_v1_5) = v5 c
          ∧ r.2.mem ((c.tc : Thread Cert.Kernel8Ideal.nD Cert.Kernel8Ideal.τ).loc Cert.Kernel8Ideal.main_v1_6) = v6 c
          ∧ r.2.mem ((c.tc : Thread Cert.Kernel8Ideal.nD Cert.Kernel8Ideal.τ).loc Cert.Kernel8Ideal.main_v1_7) = v7 c
          ∧ r.2.mem ((c.tc : Thread Cert.Kernel8Ideal.nD Cert.Kernel8Ideal.τ).loc Cert.Kernel8Ideal.main_v1_8) = v8 c
          ∧ r.2.mem ((c.tc : Thread Cert.Kernel8Ideal.nD Cert.Kernel8Ideal.τ).loc Cert.Kernel8Ideal.main_v1_9) = v9 c
          ∧ r.2.mem ((c.tc : Thread Cert.Kernel8Ideal.nD Cert.Kernel8Ideal.τ).loc Cert.Kernel8Ideal.main_v1_10) = v10 c
          ∧ r.2.mem ((c.tc : Thread Cert.Kernel8Ideal.nD Cert.Kernel8Ideal.τ).loc Cert.Kernel8Ideal.main_v1_11) = v11 c
          ∧ r.2.mem ((c.tc : Thread Cert.Kernel8Ideal.nD Cert.Kernel8Ideal.τ).loc Cert.Kernel8Ideal.main_v1_12) = v12 c
          ∧ r.2.mem ((c.tc : Thread Cert.Kernel8Ideal.nD Cert.Kernel8Ideal.τ).loc Cert.Kernel8Ideal.main_v1_13) = v13 c
          ∧ r.2.mem ((c.tc : Thread Cert.Kernel8Ideal.nD Cert.Kernel8Ideal.τ).loc Cert.Kernel8Ideal.main_v1_14) = v14 c
          ∧ r.2.mem ((c.tc : Thread Cert.Kernel8Ideal.nD Cert.Kernel8Ideal.τ).loc Cert.Kernel8Ideal.main_v1_15) = v15 c
          ∧ r.2.mem ((c.tc : Thread Cert.Kernel8Ideal.nD Cert.Kernel8Ideal.τ).loc Cert.Kernel8Ideal.main_v1_16) = v16 c
          ∧ r.2.mem ((c.tc : Thread Cert.Kernel8Ideal.nD Cert.Kernel8Ideal.τ).loc Cert.Kernel8Ideal.main_v1_17) = v17 c
          ∧ r.2.mem ((c.tc : Thread Cert.Kernel8Ideal.nD Cert.Kernel8Ideal.τ).loc Cert.Kernel8Ideal.main_v1_18) = v18 c
          ∧ r.2.mem ((c.tc : Thread Cert.Kernel8Ideal.nD Cert.Kernel8Ideal.τ).loc Cert.Kernel8Ideal.main_v1_19) = v19 c
          ∧ r.2.mem ((c.tc : Thread Cert.Kernel8Ideal.nD Cert.Kernel8Ideal.τ).loc Cert.Kernel8Ideal.main_v1_20) = v20 c
          ∧ r.2.mem ((c.tc : Thread Cert.Kernel8Ideal.nD Cert.Kernel8Ideal.τ).loc Cert.Kernel8Ideal.main_v1_21) = v21 c
          ∧ r.2.mem ((c.tc : Thread Cert.Kernel8Ideal.nD Cert.Kernel8Ideal.τ).loc Cert.Kernel8Ideal.main_v1_22) = v22 c
          ∧ r.2.mem ((c.tc : Thread Cert.Kernel8Ideal.nD Cert.Kernel8Ideal.τ).loc Cert.Kernel8Ideal.main_v1_23) = v23 c
          ∧ r.2.mem ((c.tc : Thread Cert.Kernel8Ideal.nD Cert.Kernel8Ideal.τ).loc Cert.Kernel8Ideal.main_v1_24) = v24 c
          ∧ r.2.mem ((c.tc : Thread Cert.Kernel8Ideal.nD Cert.Kernel8Ideal.τ).loc Cert.Kernel8Ideal.main_v1_25) = v25 c
          ∧ r.2.mem ((c.tc : Thread Cert.Kernel8Ideal.nD Cert.Kernel8Ideal.τ).loc Cert.Kernel8Ideal.main_v1_26) = v26 c
          ∧ r.2.mem ((c.tc : Thread Cert.Kernel8Ideal.nD Cert.Kernel8Ideal.τ).loc Cert.Kernel8Ideal.main_v1_27) = v27 c
          ∧ r.2.mem ((c.tc : Thread Cert.Kernel8Ideal.nD Cert.Kernel8Ideal.τ).loc Cert.Kernel8Ideal.main_v1_28) = v28 c
          ∧ r.2.mem ((c.tc : Thread Cert.Kernel8Ideal.nD Cert.Kernel8Ideal.τ).loc Cert.Kernel8Ideal.main_v1_29) = v29 c
          ∧ r.2.mem ((c.tc : Thread Cert.Kernel8Ideal.nD Cert.Kernel8Ideal.τ).loc Cert.Kernel8Ideal.main_v1_30) = v30 c
          ∧ r.2.mem ((c.tc : Thread Cert.Kernel8Ideal.nD Cert.Kernel8Ideal.τ).loc Cert.Kernel8Ideal.main_v1_31) = v31 c
          ∧ r.2.mem ((c.tc : Thread Cert.Kernel8Ideal.nD Cert.Kernel8Ideal.τ).loc Cert.Kernel8Ideal.main_v1_32) = v32 c
          ∧ r.2.mem ((c.tc : Thread Cert.Kernel8Ideal.nD Cert.Kernel8Ideal.τ).loc Cert.Kernel8Ideal.main_v1_33) = v33 c
          ∧ r.2.mem ((c.tc : Thread Cert.Kernel8Ideal.nD Cert.Kernel8Ideal.τ).loc Cert.Kernel8Ideal.main_v1_34) = v34 c
          ∧ r.2.mem ((c.tc : Thread Cert.Kernel8Ideal.nD Cert.Kernel8Ideal.τ).loc Cert.Kernel8Ideal.main_v1_35) = v35 c
          ∧ r.2.mem ((c.tc : Thread Cert.Kernel8Ideal.nD Cert.Kernel8Ideal.τ).loc Cert.Kernel8Ideal.main_v1_36) = v36 c
          ∧ r.2.mem ((c.tc : Thread Cert.Kernel8Ideal.nD Cert.Kernel8Ideal.τ).loc Cert.Kernel8Ideal.main_v1_37) = v37 c
          ∧ r.2.mem ((c.tc : Thread Cert.Kernel8Ideal.nD Cert.Kernel8Ideal.τ).loc Cert.Kernel8Ideal.main_v1_38) = v38 c
          ∧ r.2.mem ((c.tc : Thread Cert.Kernel8Ideal.nD Cert.Kernel8Ideal.τ).loc Cert.Kernel8Ideal.main_v1_39) = v39 c
          ∧ r.2.mem ((c.tc : Thread Cert.Kernel8Ideal.nD Cert.Kernel8Ideal.τ).loc Cert.Kernel8Ideal.main_v1_40) = v40 c
          ∧ r.2.mem ((c.tc : Thread Cert.Kernel8Ideal.nD Cert.Kernel8Ideal.τ).loc Cert.Kernel8Ideal.main_v1_41) = v41 c
          ∧ r.2.mem ((c.tc : Thread Cert.Kernel8Ideal.nD Cert.Kernel8Ideal.τ).loc Cert.Kernel8Ideal.main_v1_42) = v42 c
          ∧ r.2.mem ((c.tc : Thread Cert.Kernel8Ideal.nD Cert.Kernel8Ideal.τ).loc Cert.Kernel8Ideal.main_v1_43) = v43 c
          ∧ r.2.mem ((c.tc : Thread Cert.Kernel8Ideal.nD Cert.Kernel8Ideal.τ).loc Cert.Kernel8Ideal.main_v1_44) = v44 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
          ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
          ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
          ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17)
          ∧ r.2.mem ((c.tc : Thread Cert.Kernel8Ideal.nD Cert.Kernel8Ideal.τ).loc Cert.Kernel8Ideal.main_arg18) = m ((c.tc : Thread Cert.Kernel8Ideal.nD Cert.Kernel8Ideal.τ).loc Cert.Kernel8Ideal.main_arg18)
          ∧ r.2.mem ((c.tc : Thread Cert.Kernel8Ideal.nD Cert.Kernel8Ideal.τ).loc Cert.Kernel8Ideal.main_arg19) = m ((c.tc : Thread Cert.Kernel8Ideal.nD Cert.Kernel8Ideal.τ).loc Cert.Kernel8Ideal.main_arg19)
          ∧ r.2.mem ((c.tc : Thread Cert.Kernel8Ideal.nD Cert.Kernel8Ideal.τ).loc Cert.Kernel8Ideal.main_arg20) = m ((c.tc : Thread Cert.Kernel8Ideal.nD Cert.Kernel8Ideal.τ).loc Cert.Kernel8Ideal.main_arg20)
          ∧ r.2.mem ((c.tc : Thread Cert.Kernel8Ideal.nD Cert.Kernel8Ideal.τ).loc Cert.Kernel8Ideal.main_arg21) = m ((c.tc : Thread Cert.Kernel8Ideal.nD Cert.Kernel8Ideal.τ).loc Cert.Kernel8Ideal.main_arg21)
          ∧ r.2.mem ((c.tc : Thread Cert.Kernel8Ideal.nD Cert.Kernel8Ideal.τ).loc Cert.Kernel8Ideal.main_arg22) = m ((c.tc : Thread Cert.Kernel8Ideal.nD Cert.Kernel8Ideal.τ).loc Cert.Kernel8Ideal.main_arg22)
          ∧ r.2.mem ((c.tc : Thread Cert.Kernel8Ideal.nD Cert.Kernel8Ideal.τ).loc Cert.Kernel8Ideal.main_arg23) = m ((c.tc : Thread Cert.Kernel8Ideal.nD Cert.Kernel8Ideal.τ).loc Cert.Kernel8Ideal.main_arg23)
          ∧ r.2.mem ((c.tc : Thread Cert.Kernel8Ideal.nD Cert.Kernel8Ideal.τ).loc Cert.Kernel8Ideal.main_arg24) = m ((c.tc : Thread Cert.Kernel8Ideal.nD Cert.Kernel8Ideal.τ).loc Cert.Kernel8Ideal.main_arg24)
          ∧ r.2.mem ((c.tc : Thread Cert.Kernel8Ideal.nD Cert.Kernel8Ideal.τ).loc Cert.Kernel8Ideal.main_arg25) = m ((c.tc : Thread Cert.Kernel8Ideal.nD Cert.Kernel8Ideal.τ).loc Cert.Kernel8Ideal.main_arg25)
          ∧ r.2.mem ((c.tc : Thread Cert.Kernel8Ideal.nD Cert.Kernel8Ideal.τ).loc Cert.Kernel8Ideal.main_arg26) = m ((c.tc : Thread Cert.Kernel8Ideal.nD Cert.Kernel8Ideal.τ).loc Cert.Kernel8Ideal.main_arg26)
          ∧ r.2.mem ((c.tc : Thread Cert.Kernel8Ideal.nD Cert.Kernel8Ideal.τ).loc Cert.Kernel8Ideal.main_arg27) = m ((c.tc : Thread Cert.Kernel8Ideal.nD Cert.Kernel8Ideal.τ).loc Cert.Kernel8Ideal.main_arg27)
          ∧ r.2.mem ((c.tc : Thread Cert.Kernel8Ideal.nD Cert.Kernel8Ideal.τ).loc Cert.Kernel8Ideal.main_arg28) = m ((c.tc : Thread Cert.Kernel8Ideal.nD Cert.Kernel8Ideal.τ).loc Cert.Kernel8Ideal.main_arg28)
          ∧ r.2.mem ((c.tc : Thread Cert.Kernel8Ideal.nD Cert.Kernel8Ideal.τ).loc Cert.Kernel8Ideal.main_arg29) = m ((c.tc : Thread Cert.Kernel8Ideal.nD Cert.Kernel8Ideal.τ).loc Cert.Kernel8Ideal.main_arg29)
          ∧ r.2.mem ((c.tc : Thread Cert.Kernel8Ideal.nD Cert.Kernel8Ideal.τ).loc Cert.Kernel8Ideal.main_arg30) = m ((c.tc : Thread Cert.Kernel8Ideal.nD Cert.Kernel8Ideal.τ).loc Cert.Kernel8Ideal.main_arg30)
          ∧ r.2.mem ((c.tc : Thread Cert.Kernel8Ideal.nD Cert.Kernel8Ideal.τ).loc Cert.Kernel8Ideal.main_arg31) = m ((c.tc : Thread Cert.Kernel8Ideal.nD Cert.Kernel8Ideal.τ).loc Cert.Kernel8Ideal.main_arg31)
          ∧ r.2.mem ((c.tc : Thread Cert.Kernel8Ideal.nD Cert.Kernel8Ideal.τ).loc Cert.Kernel8Ideal.main_arg32) = m ((c.tc : Thread Cert.Kernel8Ideal.nD Cert.Kernel8Ideal.τ).loc Cert.Kernel8Ideal.main_arg32)
          ∧ r.2.mem ((c.tc : Thread Cert.Kernel8Ideal.nD Cert.Kernel8Ideal.τ).loc Cert.Kernel8Ideal.main_arg33) = m ((c.tc : Thread Cert.Kernel8Ideal.nD Cert.Kernel8Ideal.τ).loc Cert.Kernel8Ideal.main_arg33)
          ∧ r.2.mem ((c.tc : Thread Cert.Kernel8Ideal.nD Cert.Kernel8Ideal.τ).loc Cert.Kernel8Ideal.main_arg34) = m ((c.tc : Thread Cert.Kernel8Ideal.nD Cert.Kernel8Ideal.τ).loc Cert.Kernel8Ideal.main_arg34)
          ∧ r.2.mem ((c.tc : Thread Cert.Kernel8Ideal.nD Cert.Kernel8Ideal.τ).loc Cert.Kernel8Ideal.main_arg35) = m ((c.tc : Thread Cert.Kernel8Ideal.nD Cert.Kernel8Ideal.τ).loc Cert.Kernel8Ideal.main_arg35)
          ∧ r.2.mem ((c.tc : Thread Cert.Kernel8Ideal.nD Cert.Kernel8Ideal.τ).loc Cert.Kernel8Ideal.main_arg36) = m ((c.tc : Thread Cert.Kernel8Ideal.nD Cert.Kernel8Ideal.τ).loc Cert.Kernel8Ideal.main_arg36)
          ∧ r.2.mem ((c.tc : Thread Cert.Kernel8Ideal.nD Cert.Kernel8Ideal.τ).loc Cert.Kernel8Ideal.main_arg37) = m ((c.tc : Thread Cert.Kernel8Ideal.nD Cert.Kernel8Ideal.τ).loc Cert.Kernel8Ideal.main_arg37)
          ∧ r.2.mem ((c.tc : Thread Cert.Kernel8Ideal.nD Cert.Kernel8Ideal.τ).loc Cert.Kernel8Ideal.main_arg38) = m ((c.tc : Thread Cert.Kernel8Ideal.nD Cert.Kernel8Ideal.τ).loc Cert.Kernel8Ideal.main_arg38)
          ∧ r.2.mem ((c.tc : Thread Cert.Kernel8Ideal.nD Cert.Kernel8Ideal.τ).loc Cert.Kernel8Ideal.main_arg39) = m ((c.tc : Thread Cert.Kernel8Ideal.nD Cert.Kernel8Ideal.τ).loc Cert.Kernel8Ideal.main_arg39)
          ∧ r.2.mem ((c.tc : Thread Cert.Kernel8Ideal.nD Cert.Kernel8Ideal.τ).loc Cert.Kernel8Ideal.main_arg40) = m ((c.tc : Thread Cert.Kernel8Ideal.nD Cert.Kernel8Ideal.τ).loc Cert.Kernel8Ideal.main_arg40)
          ∧ r.2.mem ((c.tc : Thread Cert.Kernel8Ideal.nD Cert.Kernel8Ideal.τ).loc Cert.Kernel8Ideal.main_arg41) = m ((c.tc : Thread Cert.Kernel8Ideal.nD Cert.Kernel8Ideal.τ).loc Cert.Kernel8Ideal.main_arg41)
          ∧ r.2.mem ((c.tc : Thread Cert.Kernel8Ideal.nD Cert.Kernel8Ideal.τ).loc Cert.Kernel8Ideal.main_arg42) = m ((c.tc : Thread Cert.Kernel8Ideal.nD Cert.Kernel8Ideal.τ).loc Cert.Kernel8Ideal.main_arg42)
          ∧ r.2.mem ((c.tc : Thread Cert.Kernel8Ideal.nD Cert.Kernel8Ideal.τ).loc Cert.Kernel8Ideal.main_arg43) = m ((c.tc : Thread Cert.Kernel8Ideal.nD Cert.Kernel8Ideal.τ).loc Cert.Kernel8Ideal.main_arg43)
          ∧ r.2.mem ((c.tc : Thread Cert.Kernel8Ideal.nD Cert.Kernel8Ideal.τ).loc Cert.Kernel8Ideal.main_arg44) = m ((c.tc : Thread Cert.Kernel8Ideal.nD Cert.Kernel8Ideal.τ).loc Cert.Kernel8Ideal.main_arg44))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v5) = v2 c
          ∧ r.2.mem ((c.tc : Thread Cert.Reference8Ideal.nD Cert.Reference8Ideal.τ).loc Cert.Reference8Ideal.main_v11) = v3 c
          ∧ r.2.mem ((c.tc : Thread Cert.Reference8Ideal.nD Cert.Reference8Ideal.τ).loc Cert.Reference8Ideal.main_v25) = v4 c
          ∧ r.2.mem ((c.tc : Thread Cert.Reference8Ideal.nD Cert.Reference8Ideal.τ).loc Cert.Reference8Ideal.main_v49) = v5 c
          ∧ r.2.mem ((c.tc : Thread Cert.Reference8Ideal.nD Cert.Reference8Ideal.τ).loc Cert.Reference8Ideal.main_v30) = v6 c
          ∧ r.2.mem ((c.tc : Thread Cert.Reference8Ideal.nD Cert.Reference8Ideal.τ).loc Cert.Reference8Ideal.main_v36) = v7 c
          ∧ r.2.mem ((c.tc : Thread Cert.Reference8Ideal.nD Cert.Reference8Ideal.τ).loc Cert.Reference8Ideal.main_v50) = v8 c
          ∧ r.2.mem ((c.tc : Thread Cert.Reference8Ideal.nD Cert.Reference8Ideal.τ).loc Cert.Reference8Ideal.main_v74) = v9 c
          ∧ r.2.mem ((c.tc : Thread Cert.Reference8Ideal.nD Cert.Reference8Ideal.τ).loc Cert.Reference8Ideal.main_v55) = v10 c
          ∧ r.2.mem ((c.tc : Thread Cert.Reference8Ideal.nD Cert.Reference8Ideal.τ).loc Cert.Reference8Ideal.main_v61) = v11 c
          ∧ r.2.mem ((c.tc : Thread Cert.Reference8Ideal.nD Cert.Reference8Ideal.τ).loc Cert.Reference8Ideal.main_v75) = v12 c
          ∧ r.2.mem ((c.tc : Thread Cert.Reference8Ideal.nD Cert.Reference8Ideal.τ).loc Cert.Reference8Ideal.main_v99) = v13 c
          ∧ r.2.mem ((c.tc : Thread Cert.Reference8Ideal.nD Cert.Reference8Ideal.τ).loc Cert.Reference8Ideal.main_v80) = v14 c
          ∧ r.2.mem ((c.tc : Thread Cert.Reference8Ideal.nD Cert.Reference8Ideal.τ).loc Cert.Reference8Ideal.main_v86) = v15 c
          ∧ r.2.mem ((c.tc : Thread Cert.Reference8Ideal.nD Cert.Reference8Ideal.τ).loc Cert.Reference8Ideal.main_v100) = v16 c
          ∧ r.2.mem ((c.tc : Thread Cert.Reference8Ideal.nD Cert.Reference8Ideal.τ).loc Cert.Reference8Ideal.main_v124) = v17 c
          ∧ r.2.mem ((c.tc : Thread Cert.Reference8Ideal.nD Cert.Reference8Ideal.τ).loc Cert.Reference8Ideal.main_v105) = v18 c
          ∧ r.2.mem ((c.tc : Thread Cert.Reference8Ideal.nD Cert.Reference8Ideal.τ).loc Cert.Reference8Ideal.main_v111) = v19 c
          ∧ r.2.mem ((c.tc : Thread Cert.Reference8Ideal.nD Cert.Reference8Ideal.τ).loc Cert.Reference8Ideal.main_v125) = v20 c
          ∧ r.2.mem ((c.tc : Thread Cert.Reference8Ideal.nD Cert.Reference8Ideal.τ).loc Cert.Reference8Ideal.main_v149) = v21 c
          ∧ r.2.mem ((c.tc : Thread Cert.Reference8Ideal.nD Cert.Reference8Ideal.τ).loc Cert.Reference8Ideal.main_v130) = v22 c
          ∧ r.2.mem ((c.tc : Thread Cert.Reference8Ideal.nD Cert.Reference8Ideal.τ).loc Cert.Reference8Ideal.main_v136) = v23 c
          ∧ r.2.mem ((c.tc : Thread Cert.Reference8Ideal.nD Cert.Reference8Ideal.τ).loc Cert.Reference8Ideal.main_v150) = v24 c
          ∧ r.2.mem ((c.tc : Thread Cert.Reference8Ideal.nD Cert.Reference8Ideal.τ).loc Cert.Reference8Ideal.main_v174) = v25 c
          ∧ r.2.mem ((c.tc : Thread Cert.Reference8Ideal.nD Cert.Reference8Ideal.τ).loc Cert.Reference8Ideal.main_v155) = v26 c
          ∧ r.2.mem ((c.tc : Thread Cert.Reference8Ideal.nD Cert.Reference8Ideal.τ).loc Cert.Reference8Ideal.main_v161) = v27 c
          ∧ r.2.mem ((c.tc : Thread Cert.Reference8Ideal.nD Cert.Reference8Ideal.τ).loc Cert.Reference8Ideal.main_v176) = v28 c
          ∧ r.2.mem ((c.tc : Thread Cert.Reference8Ideal.nD Cert.Reference8Ideal.τ).loc Cert.Reference8Ideal.main_v200) = v29 c
          ∧ r.2.mem ((c.tc : Thread Cert.Reference8Ideal.nD Cert.Reference8Ideal.τ).loc Cert.Reference8Ideal.main_v181) = v30 c
          ∧ r.2.mem ((c.tc : Thread Cert.Reference8Ideal.nD Cert.Reference8Ideal.τ).loc Cert.Reference8Ideal.main_v187) = v31 c
          ∧ r.2.mem ((c.tc : Thread Cert.Reference8Ideal.nD Cert.Reference8Ideal.τ).loc Cert.Reference8Ideal.main_v201) = v32 c
          ∧ r.2.mem ((c.tc : Thread Cert.Reference8Ideal.nD Cert.Reference8Ideal.τ).loc Cert.Reference8Ideal.main_v225) = v33 c
          ∧ r.2.mem ((c.tc : Thread Cert.Reference8Ideal.nD Cert.Reference8Ideal.τ).loc Cert.Reference8Ideal.main_v206) = v34 c
          ∧ r.2.mem ((c.tc : Thread Cert.Reference8Ideal.nD Cert.Reference8Ideal.τ).loc Cert.Reference8Ideal.main_v212) = v35 c
          ∧ r.2.mem ((c.tc : Thread Cert.Reference8Ideal.nD Cert.Reference8Ideal.τ).loc Cert.Reference8Ideal.main_v226) = v36 c
          ∧ r.2.mem ((c.tc : Thread Cert.Reference8Ideal.nD Cert.Reference8Ideal.τ).loc Cert.Reference8Ideal.main_v250) = v37 c
          ∧ r.2.mem ((c.tc : Thread Cert.Reference8Ideal.nD Cert.Reference8Ideal.τ).loc Cert.Reference8Ideal.main_v231) = v38 c
          ∧ r.2.mem ((c.tc : Thread Cert.Reference8Ideal.nD Cert.Reference8Ideal.τ).loc Cert.Reference8Ideal.main_v237) = v39 c
          ∧ r.2.mem ((c.tc : Thread Cert.Reference8Ideal.nD Cert.Reference8Ideal.τ).loc Cert.Reference8Ideal.main_v251) = v40 c
          ∧ r.2.mem ((c.tc : Thread Cert.Reference8Ideal.nD Cert.Reference8Ideal.τ).loc Cert.Reference8Ideal.main_v275) = v41 c
          ∧ r.2.mem ((c.tc : Thread Cert.Reference8Ideal.nD Cert.Reference8Ideal.τ).loc Cert.Reference8Ideal.main_v256) = v42 c
          ∧ r.2.mem ((c.tc : Thread Cert.Reference8Ideal.nD Cert.Reference8Ideal.τ).loc Cert.Reference8Ideal.main_v262) = v43 c
          ∧ r.2.mem ((c.tc : Thread Cert.Reference8Ideal.nD Cert.Reference8Ideal.τ).loc Cert.Reference8Ideal.main_v276) = v44 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14)
          ∧ r.2.mem ((c.tc : Thread Cert.Reference8Ideal.nD Cert.Reference8Ideal.τ).loc Cert.Reference8Ideal.main_arg15) = m' ((c.tc : Thread Cert.Reference8Ideal.nD Cert.Reference8Ideal.τ).loc Cert.Reference8Ideal.main_arg15)
          ∧ r.2.mem ((c.tc : Thread Cert.Reference8Ideal.nD Cert.Reference8Ideal.τ).loc Cert.Reference8Ideal.main_arg16) = m' ((c.tc : Thread Cert.Reference8Ideal.nD Cert.Reference8Ideal.τ).loc Cert.Reference8Ideal.main_arg16)
          ∧ r.2.mem ((c.tc : Thread Cert.Reference8Ideal.nD Cert.Reference8Ideal.τ).loc Cert.Reference8Ideal.main_arg17) = m' ((c.tc : Thread Cert.Reference8Ideal.nD Cert.Reference8Ideal.τ).loc Cert.Reference8Ideal.main_arg17)
          ∧ r.2.mem ((c.tc : Thread Cert.Reference8Ideal.nD Cert.Reference8Ideal.τ).loc Cert.Reference8Ideal.main_arg18) = m' ((c.tc : Thread Cert.Reference8Ideal.nD Cert.Reference8Ideal.τ).loc Cert.Reference8Ideal.main_arg18)
          ∧ r.2.mem ((c.tc : Thread Cert.Reference8Ideal.nD Cert.Reference8Ideal.τ).loc Cert.Reference8Ideal.main_arg19) = m' ((c.tc : Thread Cert.Reference8Ideal.nD Cert.Reference8Ideal.τ).loc Cert.Reference8Ideal.main_arg19)
          ∧ r.2.mem ((c.tc : Thread Cert.Reference8Ideal.nD Cert.Reference8Ideal.τ).loc Cert.Reference8Ideal.main_arg20) = m' ((c.tc : Thread Cert.Reference8Ideal.nD Cert.Reference8Ideal.τ).loc Cert.Reference8Ideal.main_arg20)
          ∧ r.2.mem ((c.tc : Thread Cert.Reference8Ideal.nD Cert.Reference8Ideal.τ).loc Cert.Reference8Ideal.main_arg21) = m' ((c.tc : Thread Cert.Reference8Ideal.nD Cert.Reference8Ideal.τ).loc Cert.Reference8Ideal.main_arg21)
          ∧ r.2.mem ((c.tc : Thread Cert.Reference8Ideal.nD Cert.Reference8Ideal.τ).loc Cert.Reference8Ideal.main_arg22) = m' ((c.tc : Thread Cert.Reference8Ideal.nD Cert.Reference8Ideal.τ).loc Cert.Reference8Ideal.main_arg22)
          ∧ r.2.mem ((c.tc : Thread Cert.Reference8Ideal.nD Cert.Reference8Ideal.τ).loc Cert.Reference8Ideal.main_arg23) = m' ((c.tc : Thread Cert.Reference8Ideal.nD Cert.Reference8Ideal.τ).loc Cert.Reference8Ideal.main_arg23)
          ∧ r.2.mem ((c.tc : Thread Cert.Reference8Ideal.nD Cert.Reference8Ideal.τ).loc Cert.Reference8Ideal.main_arg24) = m' ((c.tc : Thread Cert.Reference8Ideal.nD Cert.Reference8Ideal.τ).loc Cert.Reference8Ideal.main_arg24)
          ∧ r.2.mem ((c.tc : Thread Cert.Reference8Ideal.nD Cert.Reference8Ideal.τ).loc Cert.Reference8Ideal.main_arg25) = m' ((c.tc : Thread Cert.Reference8Ideal.nD Cert.Reference8Ideal.τ).loc Cert.Reference8Ideal.main_arg25)
          ∧ r.2.mem ((c.tc : Thread Cert.Reference8Ideal.nD Cert.Reference8Ideal.τ).loc Cert.Reference8Ideal.main_arg26) = m' ((c.tc : Thread Cert.Reference8Ideal.nD Cert.Reference8Ideal.τ).loc Cert.Reference8Ideal.main_arg26)
          ∧ r.2.mem ((c.tc : Thread Cert.Reference8Ideal.nD Cert.Reference8Ideal.τ).loc Cert.Reference8Ideal.main_arg27) = m' ((c.tc : Thread Cert.Reference8Ideal.nD Cert.Reference8Ideal.τ).loc Cert.Reference8Ideal.main_arg27)
          ∧ r.2.mem ((c.tc : Thread Cert.Reference8Ideal.nD Cert.Reference8Ideal.τ).loc Cert.Reference8Ideal.main_arg28) = m' ((c.tc : Thread Cert.Reference8Ideal.nD Cert.Reference8Ideal.τ).loc Cert.Reference8Ideal.main_arg28)
          ∧ r.2.mem ((c.tc : Thread Cert.Reference8Ideal.nD Cert.Reference8Ideal.τ).loc Cert.Reference8Ideal.main_arg29) = m' ((c.tc : Thread Cert.Reference8Ideal.nD Cert.Reference8Ideal.τ).loc Cert.Reference8Ideal.main_arg29)
          ∧ r.2.mem ((c.tc : Thread Cert.Reference8Ideal.nD Cert.Reference8Ideal.τ).loc Cert.Reference8Ideal.main_arg30) = m' ((c.tc : Thread Cert.Reference8Ideal.nD Cert.Reference8Ideal.τ).loc Cert.Reference8Ideal.main_arg30)
          ∧ r.2.mem ((c.tc : Thread Cert.Reference8Ideal.nD Cert.Reference8Ideal.τ).loc Cert.Reference8Ideal.main_arg31) = m' ((c.tc : Thread Cert.Reference8Ideal.nD Cert.Reference8Ideal.τ).loc Cert.Reference8Ideal.main_arg31)
          ∧ r.2.mem ((c.tc : Thread Cert.Reference8Ideal.nD Cert.Reference8Ideal.τ).loc Cert.Reference8Ideal.main_arg32) = m' ((c.tc : Thread Cert.Reference8Ideal.nD Cert.Reference8Ideal.τ).loc Cert.Reference8Ideal.main_arg32)
          ∧ r.2.mem ((c.tc : Thread Cert.Reference8Ideal.nD Cert.Reference8Ideal.τ).loc Cert.Reference8Ideal.main_arg33) = m' ((c.tc : Thread Cert.Reference8Ideal.nD Cert.Reference8Ideal.τ).loc Cert.Reference8Ideal.main_arg33)
          ∧ r.2.mem ((c.tc : Thread Cert.Reference8Ideal.nD Cert.Reference8Ideal.τ).loc Cert.Reference8Ideal.main_arg34) = m' ((c.tc : Thread Cert.Reference8Ideal.nD Cert.Reference8Ideal.τ).loc Cert.Reference8Ideal.main_arg34)
          ∧ r.2.mem ((c.tc : Thread Cert.Reference8Ideal.nD Cert.Reference8Ideal.τ).loc Cert.Reference8Ideal.main_arg35) = m' ((c.tc : Thread Cert.Reference8Ideal.nD Cert.Reference8Ideal.τ).loc Cert.Reference8Ideal.main_arg35)
          ∧ r.2.mem ((c.tc : Thread Cert.Reference8Ideal.nD Cert.Reference8Ideal.τ).loc Cert.Reference8Ideal.main_arg36) = m' ((c.tc : Thread Cert.Reference8Ideal.nD Cert.Reference8Ideal.τ).loc Cert.Reference8Ideal.main_arg36)
          ∧ r.2.mem ((c.tc : Thread Cert.Reference8Ideal.nD Cert.Reference8Ideal.τ).loc Cert.Reference8Ideal.main_arg37) = m' ((c.tc : Thread Cert.Reference8Ideal.nD Cert.Reference8Ideal.τ).loc Cert.Reference8Ideal.main_arg37)
          ∧ r.2.mem ((c.tc : Thread Cert.Reference8Ideal.nD Cert.Reference8Ideal.τ).loc Cert.Reference8Ideal.main_arg38) = m' ((c.tc : Thread Cert.Reference8Ideal.nD Cert.Reference8Ideal.τ).loc Cert.Reference8Ideal.main_arg38)
          ∧ r.2.mem ((c.tc : Thread Cert.Reference8Ideal.nD Cert.Reference8Ideal.τ).loc Cert.Reference8Ideal.main_arg39) = m' ((c.tc : Thread Cert.Reference8Ideal.nD Cert.Reference8Ideal.τ).loc Cert.Reference8Ideal.main_arg39)
          ∧ r.2.mem ((c.tc : Thread Cert.Reference8Ideal.nD Cert.Reference8Ideal.τ).loc Cert.Reference8Ideal.main_arg40) = m' ((c.tc : Thread Cert.Reference8Ideal.nD Cert.Reference8Ideal.τ).loc Cert.Reference8Ideal.main_arg40)
          ∧ r.2.mem ((c.tc : Thread Cert.Reference8Ideal.nD Cert.Reference8Ideal.τ).loc Cert.Reference8Ideal.main_arg41) = m' ((c.tc : Thread Cert.Reference8Ideal.nD Cert.Reference8Ideal.τ).loc Cert.Reference8Ideal.main_arg41)
          ∧ r.2.mem ((c.tc : Thread Cert.Reference8Ideal.nD Cert.Reference8Ideal.τ).loc Cert.Reference8Ideal.main_arg42) = m' ((c.tc : Thread Cert.Reference8Ideal.nD Cert.Reference8Ideal.τ).loc Cert.Reference8Ideal.main_arg42)
          ∧ r.2.mem ((c.tc : Thread Cert.Reference8Ideal.nD Cert.Reference8Ideal.τ).loc Cert.Reference8Ideal.main_arg43) = m' ((c.tc : Thread Cert.Reference8Ideal.nD Cert.Reference8Ideal.τ).loc Cert.Reference8Ideal.main_arg43)
          ∧ r.2.mem ((c.tc : Thread Cert.Reference8Ideal.nD Cert.Reference8Ideal.τ).loc Cert.Reference8Ideal.main_arg44) = m' ((c.tc : Thread Cert.Reference8Ideal.nD Cert.Reference8Ideal.τ).loc Cert.Reference8Ideal.main_arg44))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S1x2048x1024 : Shape := ⟨3, ![1, 2048, 1024]⟩
abbrev S1x1024 : Shape := ⟨2, ![1, 1024]⟩
abbrev S2048x1024 : Shape := ⟨2, ![2048, 1024]⟩
abbrev S2048x512 : Shape := ⟨2, ![2048, 512]⟩
abbrev S2048x2176 : Shape := ⟨2, ![2048, 2176]⟩
abbrev S3712x1024 : Shape := ⟨2, ![3712, 1024]⟩
abbrev S4x464x1024 : Shape := ⟨3, ![4, 464, 1024]⟩
abbrev S1x256x1024 : Shape := ⟨3, ![1, 256, 1024]⟩
abbrev S256x1024 : Shape := ⟨2, ![256, 1024]⟩
abbrev S256x512 : Shape := ⟨2, ![256, 512]⟩
abbrev S256x2176 : Shape := ⟨2, ![256, 2176]⟩
abbrev S256 : Shape := ⟨1, ![256]⟩
abbrev S256x1 : Shape := ⟨2, ![256, 1]⟩
abbrev S1024x1024 : Shape := ⟨2, ![1024, 1024]⟩
abbrev S512x1024 : Shape := ⟨2, ![512, 1024]⟩
abbrev S2176x1024 : Shape := ⟨2, ![2176, 1024]⟩
abbrev S1024 : Shape := ⟨1, ![1024]⟩
abbrev S464x1024 : Shape := ⟨2, ![464, 1024]⟩
abbrev S1x464x1024 : Shape := ⟨3, ![1, 464, 1024]⟩

abbrev nBuf : Space → Nat
  | .hbm => 11
  | .vmem => 18
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S2048x1024, .f32⟩
  | .hbm, ⟨3, _⟩ => ⟨S2048x512, .f32⟩
  | .hbm, ⟨4, _⟩ => ⟨S2048x2176, .f32⟩
  | .hbm, ⟨5, _⟩ => ⟨S2048x1024, .f32⟩
  | .hbm, ⟨6, _⟩ => ⟨S3712x1024, .bf16⟩
  | .hbm, ⟨7, _⟩ => ⟨S1x2048x1024, .f32⟩
  | .hbm, ⟨8, _⟩ => ⟨S1x1024, .f32⟩
  | .hbm, ⟨9, _⟩ => ⟨S4x464x1024, .bf16⟩
  | .hbm, ⟨10, _⟩ => ⟨S4x464x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x512, .f32⟩
  | .local _ .vmem, ⟨6, _⟩ => ⟨S256x512, .f32⟩
  | .local _ .vmem, ⟨7, _⟩ => ⟨S256x2176, .f32⟩
  | .local _ .vmem, ⟨8, _⟩ => ⟨S256x2176, .f32⟩
  | .local _ .vmem, ⟨9, _⟩ => ⟨S256x1024, .f32⟩
  | .local _ .vmem, ⟨10, _⟩ => ⟨S256x1024, .f32⟩
  | .local _ .vmem, ⟨11, _⟩ => ⟨S3712x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x1024, .f32⟩
  | .local _ .vmem, ⟨15, _⟩ => ⟨S4x464x1024, .bf16⟩
  | .local _ .vmem, ⟨16, _⟩ => ⟨S4x464x1024, .bf16⟩
  | .local _ .vmem, ⟨17, _⟩ => ⟨S3712x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v85 : BitVec 1 := Scalar.cmpi .eq arg0 c7_i32
  let v86 : BitVec 32 := Scalar.extui v85
  let c0_i32_50 : BitVec 32 := 0#32
  let v87 : BitVec 1 := Scalar.cmpi .ne v86 c0_i32_50
  v87

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3712x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x464x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x464x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S1x2048x1024 : Shape := ⟨3, ![1, 2048, 1024]⟩
abbrev S1x1024 : Shape := ⟨2, ![1, 1024]⟩
abbrev S2048x1024 : Shape := ⟨2, ![2048, 1024]⟩
abbrev S2048x512 : Shape := ⟨2, ![2048, 512]⟩
abbrev S2048x2176 : Shape := ⟨2, ![2048, 2176]⟩
abbrev S3712x1024 : Shape := ⟨2, ![3712, 1024]⟩
abbrev S2048x3712 : Shape := ⟨2, ![2048, 3712]⟩
abbrev S1x2048x3712 : Shape := ⟨3, ![1, 2048, 3712]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024 : Shape := ⟨1, ![1024]⟩
abbrev S2048 : Shape := ⟨1, ![2048]⟩
abbrev S4x2x464x1024 : Shape := ⟨4, ![4, 2, 464, 1024]⟩
abbrev S4x1x464x1024 : Shape := ⟨4, ![4, 1, 464, 1024]⟩
abbrev S4x464x1024 : Shape := ⟨3, ![4, 464, 1024]⟩

abbrev nBuf : Space → Nat
  | .hbm => 69
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S2048x1024, .f32⟩
  | .hbm, ⟨3, _⟩ => ⟨S2048x512, .f32⟩
  | .hbm, ⟨4, _⟩ => ⟨S2048x2176, .f32⟩
  | .hbm, ⟨5, _⟩ => ⟨S2048x1024, .f32⟩
  | .hbm, ⟨6, _⟩ => ⟨S3712x1024, .bf16⟩
  | .hbm, ⟨7, _⟩ => ⟨S2048x3712, .f32⟩
  | .hbm, ⟨8, _⟩ => ⟨S1x2048x3712, .f32⟩
  | .hbm, ⟨9, _⟩ => ⟨S3712x1024, .f32⟩
  | .hbm, ⟨10, _⟩ => ⟨S1x2048x1024, .f32⟩
  | .hbm, ⟨11, _⟩ => ⟨S_, .f32⟩
  | .hbm, ⟨12, _⟩ => ⟨S1x2048, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x1, .f32⟩
  | .hbm, ⟨21, _⟩ => ⟨S1x2048x1, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S1x2048x1024, .f32⟩
  | .hbm, ⟨26, _⟩ => ⟨S1x2048x1024, .f32⟩
  | .hbm, ⟨27, _⟩ => ⟨S1x1x1024, .f32⟩
  | .hbm, ⟨28, _⟩ => ⟨S1x2048x1024, .f32⟩
  | .hbm, ⟨29, _⟩ => ⟨S1x2048x1024, .f32⟩
  | .hbm, ⟨30, _⟩ => ⟨S1x2048x3712, .f32⟩
  | .hbm, ⟨31, _⟩ => ⟨S1x2048x1024, .f32⟩
  | .hbm, ⟨32, _⟩ => ⟨S3712x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1x1024, .f32⟩
  | .hbm, ⟨37, _⟩ => ⟨S1x1x1024, .f32⟩
  | .hbm, ⟨38, _⟩ => ⟨S1x2048x1024, .f32⟩
  | .hbm, ⟨39, _⟩ => ⟨S1x2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S1x2048x1024, .f32⟩
  | .hbm, ⟨44, _⟩ => ⟨S_, .f32⟩
  | .hbm, ⟨45, _⟩ => ⟨S1x2048, .f32⟩
  | .hbm, ⟨46, _⟩ => ⟨S1x2048x1, .f32⟩
  | .hbm, ⟨47, _⟩ => ⟨S1x2048x1024, .f32⟩
  | .hbm, ⟨48, _⟩ => ⟨S1x2048x1024, .f32⟩
  | .hbm, ⟨49, _⟩ => ⟨S1x2048x1024, .f32⟩
  | .hbm, ⟨50, _⟩ => ⟨S1x2048x1, .f32⟩
  | .hbm, ⟨51, _⟩ => ⟨S_, .f32⟩
  | .hbm, ⟨52, _⟩ => ⟨S1x2048x1, .f32⟩
  | .hbm, ⟨53, _⟩ => ⟨S1x2048x1, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S1x2048x1024, .f32⟩
  | .hbm, ⟨58, _⟩ => ⟨S1x2048x1024, .f32⟩
  | .hbm, ⟨59, _⟩ => ⟨S1x2048x1024, .f32⟩
  | .hbm, ⟨60, _⟩ => ⟨S1x2048x1024, .f32⟩
  | .hbm, ⟨61, _⟩ => ⟨S1x2048x1024, .f32⟩
  | .hbm, ⟨62, _⟩ => ⟨S4x2x464x1024, .f32⟩
  | .hbm, ⟨63, _⟩ => ⟨S4x1x464x1024, .f32⟩
  | .hbm, ⟨64, _⟩ => ⟨S4x464x1024, .f32⟩
  | .hbm, ⟨65, _⟩ => ⟨S4x464x1024, .bf16⟩
  | .hbm, ⟨66, _⟩ => ⟨S4x1x464x1024, .f32⟩
  | .hbm, ⟨67, _⟩ => ⟨S4x464x1024, .f32⟩
  | .hbm, ⟨68, _⟩ => ⟨S4x464x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel2.lean ====
abbrev S2048x1536 : Shape := ⟨2, ![2048, 1536]⟩
abbrev S32x4x64x128 : Shape := ⟨4, ![32, 4, 64, 128]⟩
abbrev S2048x512 : Shape := ⟨2, ![2048, 512]⟩
abbrev S32x1x64x128 : Shape := ⟨4, ![32, 1, 64, 128]⟩
abbrev S32x64x128 : Shape := ⟨3, ![32, 64, 128]⟩
abbrev S_ : Shape := ⟨0, ![]⟩
abbrev S32x256x128 : Shape := ⟨3, ![32, 256, 128]⟩
abbrev S32x1x256x128 : Shape := ⟨4, ![32, 1, 256, 128]⟩
abbrev S32x4x256x128 : Shape := ⟨4, ![32, 4, 256, 128]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S4 : Shape := ⟨1, ![4]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S256 : Shape := ⟨1, ![256]⟩
abbrev S1x256 : Shape := ⟨2, ![1, 256]⟩
abbrev S4x256 : Shape := ⟨2, ![4, 256]⟩
abbrev S4x1x256 : Shape := ⟨3, ![4, 1, 256]⟩
abbrev S4x64x256 : Shape := ⟨3, ![4, 64, 256]⟩
abbrev S4x64x1 : Shape := ⟨3, ![4, 64, 1]⟩
abbrev S2048x1024 : Shape := ⟨2, ![2048, 1024]⟩
abbrev S512x1536 : Shape := ⟨2, ![512, 1536]⟩
abbrev S8x4x256x128 : Shape := ⟨4, ![8, 4, 256, 128]⟩
abbrev S512x512 : Shape := ⟨2, ![512, 512]⟩
abbrev S512x256 : Shape := ⟨2, ![512, 256]⟩
abbrev S512x1024 : Shape := ⟨2, ![512, 1024]⟩
abbrev S4x256x128 : Shape := ⟨3, ![4, 256, 128]⟩
abbrev S1x256x128 : Shape := ⟨3, ![1, 256, 128]⟩
abbrev S256x128 : Shape := ⟨2, ![256, 128]⟩
abbrev S64x128 : Shape := ⟨2, ![64, 128]⟩
abbrev S1x1x256x128 : Shape := ⟨4, ![1, 1, 256, 128]⟩
abbrev S64x256 : Shape := ⟨2, ![64, 256]⟩
abbrev S1x64x256 : Shape := ⟨3, ![1, 64, 256]⟩

abbrev nBuf : Space → Nat
  | .hbm => 132
  | .vmem => 17
  | .smem => 0
  | _ => 0

abbrev hbmTy0_0 (i : Nat) : BufTy := match i % 128 with
  | 0 => ⟨S2048x1536, .f32⟩
  | 1 => ⟨S32x4x64x128, .f32⟩
  | 2 => ⟨S2048x512, .f32⟩
  | 3 => ⟨S32x1x64x128, .f32⟩
  | 4 => ⟨S32x64x128, .f32⟩
  | 5 => ⟨S_, .i32⟩
  | 6 => ⟨S_, .f32⟩
  | 7 => ⟨S32x256x128, .f32⟩
  | 8 => ⟨S32x1x64x128, .f32⟩
  | 9 => ⟨S32x64x128, .f32⟩
  | 10 => ⟨S_, .i32⟩
  | 11 => ⟨S_, .f32⟩
  | 12 => ⟨S32x256x128, .f32⟩
  | 13 => ⟨S32x1x64x128, .f32⟩
  | 14 => ⟨S32x64x128, .f32⟩
  | 15 => ⟨S_, .i32⟩
  | 16 => ⟨S_, .f32⟩
  | 17 => ⟨S32x256x128, .f32⟩
  | 18 => ⟨S32x1x64x128, .f32⟩
  | 19 => ⟨S32x64x128, .f32⟩
  | 20 => ⟨S_, .i32⟩
  | 21 => ⟨S_, .f32⟩
  | 22 => ⟨S32x256x128, .f32⟩
  | 23 => ⟨S32x1x256x128, .f32⟩
  | 24 => ⟨S32x1x256x128, .f32⟩
  | 25 => ⟨S32x1x256x128, .f32⟩
  | 26 => ⟨S32x1x256x128, .f32⟩
  | 27 => ⟨S32x4x256x128, .f32⟩
  | 28 => ⟨S32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S32, .f32⟩
  | 37 => ⟨S2048, .f32⟩
  | 38 => ⟨S2048x1, .f32⟩
  | 39 => ⟨S1x32, .f32⟩
  | 40 => ⟨S2048x32, .f32⟩
  | 41 => ⟨S2048x32, .f32⟩
  | 42 => ⟨S2048x32, .f32⟩
  | 43 => ⟨S2048x32, .f32⟩
  | 44 => ⟨S2048x32, .f32⟩
  | 45 => ⟨S2048x64, .f32⟩
  | 46 => ⟨S2048x32, .f32⟩
  | 47 => ⟨S2048x64, .f32⟩
  | 48 => ⟨S1x2048x1x64, .f32⟩
  | 49 => ⟨S1x2048x4x64, .f32⟩
  | 50 => ⟨S2048x256, .f32⟩
  | 51 => ⟨S1x2048x1x64, .f32⟩
  | 52 => ⟨S1x2048x4x64, .f32⟩
  | 53 => ⟨S2048x256, .f32⟩
  | 54 => ⟨S4, .f32⟩
  | 55 => ⟨S_, .f32⟩
  | 56 => ⟨S4, .f32⟩
  | 57 => ⟨S4, .f32⟩
  | 58 => ⟨S_, .f32⟩
  | 59 => ⟨S4, .f32⟩
  | 60 => ⟨S4, .f32⟩
  | 61 => ⟨S4, .f32⟩
  | 62 => ⟨S_, .f32⟩
  | 63 => ⟨S4, .f32⟩
  | 64 => ⟨S4, .f32⟩
  | 65 => ⟨S4, .f32⟩
  | 66 => ⟨S64, .f32⟩
  | 67 => ⟨S4x1x1, .f32⟩
  | 68 => ⟨S64x1, .f32⟩
  | 69 => ⟨S1x64, .f32⟩
  | 70 => ⟨S64x64, .f32⟩
  | 71 => ⟨S64x64, .f32⟩
  | 72 => ⟨S64x64, .f32⟩
  | 73 => ⟨S64x64, .f32⟩
  | 74 => ⟨S1x64x64, .f32⟩
  | 75 => ⟨S4x64x64, .f32⟩
  | 76 => ⟨S4x64x64, .f32⟩
  | 77 => ⟨S4x64x64, .f32⟩
  | 78 => ⟨S4x64x64, .f32⟩
  | 79 => ⟨S4x1, .f32⟩
  | 80 => ⟨S1x64, .f32⟩
  | 81 => ⟨S_, .f32⟩
  | 82 => ⟨S1x64, .f32⟩
  | 83 => ⟨S1x64, .f32⟩
  | 84 => ⟨S4x64, .f32⟩
  | 85 => ⟨S4x64, .f32⟩
  | 86 => ⟨S4x64, .f32⟩
  | 87 => ⟨S4x64, .f32⟩
  | 88 => ⟨S4x1, .f32⟩
  | 89 => ⟨S1x64, .f32⟩
  | 90 => ⟨S_, .f32⟩
  | 91 => ⟨S1x64, .f32⟩
  | 92 => ⟨S1x64, .f32⟩
  | 93 => ⟨S4x64, .f32⟩
  | 94 => ⟨S4x64, .f32⟩
  | 95 => ⟨S4x64, .f32⟩
  | 96 => ⟨S4x64, .f32⟩
  | 97 => ⟨S256, .i32⟩
  | 98 => ⟨S_, .i32⟩
  | 99 => ⟨S_, .i32⟩
  | 100 => ⟨S256, .i32⟩
  | 101 => ⟨S256, .i32⟩
  | 102 => ⟨S256, .i32⟩
  | 103 => ⟨S_, .i32⟩
  | 104 => ⟨S256, .i32⟩
  | 105 => ⟨S256, .i1⟩
  | 106 => ⟨S256, .i32⟩
  | 107 => ⟨S256, .i32⟩
  | 108 => ⟨S_, .i32⟩
  | 109 => ⟨S256, .i32⟩
  | 110 => ⟨S256, .i1⟩
  | 111 => ⟨S256, .i1⟩
  | 112 => ⟨S_, .i32⟩
  | 113 => ⟨S256, .i32⟩
  | 114 => ⟨S256, .i32⟩
  | 115 => ⟨S256, .i32⟩
  | 116 => ⟨S1x256, .i32⟩
  | 117 => ⟨S4, .i32⟩
  | 118 => ⟨S4x1, .i32⟩
  | 119 => ⟨S4x256, .i32⟩
  | 120 => ⟨S4x256, .i32⟩
  | 121 => ⟨S4x256, .i1⟩
  | 122 => ⟨S4x256, .f32⟩
  | 123 => ⟨S4x1x256, .f32⟩
  | 124 => ⟨S4x64x256, .f32⟩
  | 125 => ⟨S4x64x1, .f32⟩
  | 126 => ⟨S4x64x256, .f32⟩
  | 127 => ⟨S4x64x256, .f32⟩
  | _ => ⟨S2048x1536, .f32⟩

abbrev hbmTy0_1 (i : Nat) : BufTy := match i % 128 with
  | 0 => ⟨S4x64x1, .f32⟩
  | 1 => ⟨S4x64x256, .f32⟩
  | 2 => ⟨S4x64x256, .f32⟩
  | 3 => ⟨S2048x1024, .f32⟩
  | _ => ⟨S2048x1536, .f32⟩

abbrev hbmTy (i : Nat) : BufTy := match i / 128 with
  | 0 => hbmTy0_0 i
  | 1 => hbmTy0_1 i
  | _ => ⟨S2048x1536, .f32⟩

abbrev bufTy : (tb : Table) → Fin (tcTables nBuf tb) → BufTy
  | .hbm, ⟨i, _⟩ => hbmTy i
  | .local _ .vmem, ⟨0, _⟩ => ⟨S512x1536, .f32⟩
  | .local _ .vmem, ⟨1, _⟩ => ⟨S512x1536, .f32⟩
  | .local _ .vmem, ⟨2, _⟩ => ⟨S8x4x256x128, .f32⟩
  | .local _ .vmem, ⟨3, _⟩ => ⟨S8x4x256x128, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S4x64x64, .f32⟩
  | .local _ .vmem, ⟨11, _⟩ => ⟨S4x64x256, .f32⟩
  | .local _ .vmem, ⟨12, _⟩ => ⟨S4x64x256, .f32⟩
  | .local _ .vmem, ⟨13, _⟩ => ⟨S4x64x256, .f32⟩
  | .local _ .vmem, ⟨14, _⟩ => ⟨S512x1024, .f32⟩
  | .local _ .vmem, ⟨15, _⟩ => ⟨S512x1024, .f32⟩
  | .local _ .vmem, ⟨16, _⟩ => ⟨S4x256x128, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call2_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_call3_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_7 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_8 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_c_9 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_call4_v5 : Ref sig .tc := ⟨.hbm, 104, rfl⟩
abbrev main_call4_v6 : Ref sig .tc := ⟨.hbm, 105, rfl⟩
abbrev main_call4_v7 : Ref sig .tc := ⟨.hbm, 106, rfl⟩
abbrev main_call4_v8 : Ref sig .tc := ⟨.hbm, 107, rfl⟩
abbrev main_call4_c : Ref sig .tc := ⟨.hbm, 108, rfl⟩
abbrev main_call4_v9 : Ref sig .tc := ⟨.hbm, 109, rfl⟩
abbrev main_call4_v10 : Ref sig .tc := ⟨.hbm, 110, rfl⟩
abbrev main_call4_v11 : Ref sig .tc := ⟨.hbm, 111, rfl⟩
abbrev main_call4_c_0 : Ref sig .tc := ⟨.hbm, 112, rfl⟩
abbrev main_call4_v12 : Ref sig .tc := ⟨.hbm, 113, rfl⟩
abbrev main_call4_v13 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_1 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_2 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel2Ideal.lean ====
variable {F : FTy → Type} [FloatOps F] [Named F]
def κ : String → Option EReal := fun
  | "chunk_dec0" => some ((279993793990258235750468749959300213014699042596341116563305503247751586492770004816505534904321 / 2135987035920910082395021706169552114602704522356652769947041607822219725780640550022962086936576 : ℝ) : EReal)
  | "chunk_dec1" => some ((14381201289858923833733732277241427911251598557516928831287151963615866190845260542210496569296551598609485715599361 / 39402006196394479212279040100143613805079739270465446667948293404245721771497210611414266254884915640806627990306816 : ℝ) : EReal)
  | "chunk_dec2" => some ((439985273984774139364885786774155225074372621425249766976946157772109425125407741241214744259687760072793219732307971501512893104906241 / 726838724295606890549323807888004534353641360687318060281490199180639288113397923326191050713763565560762521606266177933534601628614656 : ℝ) : EReal)
  | "chunk_dec3" => some ((10436900611138725869172867285320967420499386398293333045633692797639857278619179096472846825397665828940838712011497657616843071082257665693759918212890625 / 13407807929942597099574024998205846127479365820592393377723561443721764030073546976801874298166903427690031858186486050853753882811946569946433649006084096 : ℝ) : EReal)
  | _ => none
-- ==== Reference2Ideal.lean ====
abbrev S2048x1536 : Shape := ⟨2, ![2048, 1536]⟩
abbrev S32x4x64x128 : Shape := ⟨4, ![32, 4, 64, 128]⟩
abbrev S2048x512 : Shape := ⟨2, ![2048, 512]⟩
abbrev S2048x1024 : Shape := ⟨2, ![2048, 1024]⟩
abbrev S1x2048x1024 : Shape := ⟨3, ![1, 2048, 1024]⟩
abbrev S2048 : Shape := ⟨1, ![2048]⟩
abbrev S1x2048x256 : Shape := ⟨3, ![1, 2048, 256]⟩
abbrev S1x2048x4x64 : Shape := ⟨4, ![1, 2048, 4, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S1x2048x512 : Shape := ⟨3, ![1, 2048, 512]⟩
abbrev S1x32x64x4x64 : Shape := ⟨5, ![1, 32, 64, 4, 64]⟩
abbrev S1x32x64x4x128 : Shape := ⟨5, ![1, 32, 64, 4, 128]⟩
abbrev S32x1x4x64x128 : Shape := ⟨5, ![32, 1, 4, 64, 128]⟩
abbrev S4 : Shape := ⟨1, ![4]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S64x4 : Shape := ⟨2, ![64, 4]⟩
abbrev S1x4x1x1 : Shape := ⟨4, ![1, 4, 1, 1]⟩
abbrev S1x32x4x64x64 : Shape := ⟨5, ![1, 32, 4, 64, 64]⟩
abbrev S1x1x4x64x64 : Shape := ⟨5, ![1, 1, 4, 64, 64]⟩
abbrev S1x32x4x128x64 : Shape := ⟨5, ![1, 32, 4, 128, 64]⟩
abbrev S1x1x64x4x1 : Shape := ⟨5, ![1, 1, 64, 4, 1]⟩
abbrev S1x4x64x128 : Shape := ⟨4, ![1, 4, 64, 128]⟩
abbrev S1x1x4x64x128 : Shape := ⟨5, ![1, 1, 4, 64, 128]⟩
abbrev S32x1x4x128x64 : Shape := ⟨5, ![32, 1, 4, 128, 64]⟩
abbrev S32x1x4x64x64 : Shape := ⟨5, ![32, 1, 4, 64, 64]⟩

abbrev nBuf : Space → Nat
  | .hbm => 365
  | .vmem => 0
  | .smem => 0
  | _ => 0

abbrev hbmTy0_0 (i : Nat) : BufTy := match i % 128 with
  | 0 => ⟨S2048x1536, .f32⟩
  | 1 => ⟨S32x4x64x128, .f32⟩
  | 2 => ⟨S2048x512, .f32⟩
  | 3 => ⟨S2048x1024, .f32⟩
  | 4 => ⟨S1x2048x1024, .f32⟩
  | 5 => ⟨S2048, .i32⟩
  | 6 => ⟨S1x2048x256, .f32⟩
  | 7 => ⟨S1x2048x4x64, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S2048, .f32⟩
  | 18 => ⟨S2048x1, .f32⟩
  | 19 => ⟨S1x32, .f32⟩
  | 20 => ⟨S2048x32, .f32⟩
  | 21 => ⟨S2048x32, .f32⟩
  | 22 => ⟨S2048x32, .f32⟩
  | 23 => ⟨S2048x32, .f32⟩
  | 24 => ⟨S1x2048x1x32, .f32⟩
  | 25 => ⟨S2048x32, .f32⟩
  | 26 => ⟨S1x2048x1x32, .f32⟩
  | 27 => ⟨S1x2048x4x32, .f32⟩
  | 28 => ⟨S1x2048x4x32, .f32⟩
  | 29 => ⟨S1x2048x4x32, .f32⟩
  | 30 => ⟨S1x2048x4x32, .f32⟩
  | 31 => ⟨S1x2048x4x32, .f32⟩
  | 32 => ⟨S1x2048x4x32, .f32⟩
  | 33 => ⟨S1x2048x4x32, .f32⟩
  | 34 => ⟨S1x2048x4x32, .f32⟩
  | 35 => ⟨S1x2048x4x32, .f32⟩
  | 36 => ⟨S1x2048x4x32, .f32⟩
  | 37 => ⟨S1x2048x4x32, .f32⟩
  | 38 => ⟨S1x2048x4x32, .f32⟩
  | 39 => ⟨S1x2048x4x64, .f32⟩
  | 40 => ⟨S1x2048x256, .f32⟩
  | 41 => ⟨S1x2048x4x64, .f32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S32, .f32⟩
  | 51 => ⟨S2048, .f32⟩
  | 52 => ⟨S2048x1, .f32⟩
  | 53 => ⟨S1x32, .f32⟩
  | 54 => ⟨S2048x32, .f32⟩
  | 55 => ⟨S2048x32, .f32⟩
  | 56 => ⟨S2048x32, .f32⟩
  | 57 => ⟨S2048x32, .f32⟩
  | 58 => ⟨S1x2048x1x32, .f32⟩
  | 59 => ⟨S2048x32, .f32⟩
  | 60 => ⟨S1x2048x1x32, .f32⟩
  | 61 => ⟨S1x2048x4x32, .f32⟩
  | 62 => ⟨S1x2048x4x32, .f32⟩
  | 63 => ⟨S1x2048x4x32, .f32⟩
  | 64 => ⟨S1x2048x4x32, .f32⟩
  | 65 => ⟨S1x2048x4x32, .f32⟩
  | 66 => ⟨S1x2048x4x32, .f32⟩
  | 67 => ⟨S1x2048x4x32, .f32⟩
  | 68 => ⟨S1x2048x4x32, .f32⟩
  | 69 => ⟨S1x2048x4x32, .f32⟩
  | 70 => ⟨S1x2048x4x32, .f32⟩
  | 71 => ⟨S1x2048x4x32, .f32⟩
  | 72 => ⟨S1x2048x4x32, .f32⟩
  | 73 => ⟨S1x2048x4x64, .f32⟩
  | 74 => ⟨S_, .f32⟩
  | 75 => ⟨S1x2048x4x64, .f32⟩
  | 76 => ⟨S1x2048x4x64, .f32⟩
  | 77 => ⟨S1x2048x512, .f32⟩
  | 78 => ⟨S1x32x64x4x64, .f32⟩
  | 79 => ⟨S1x32x64x4x64, .f32⟩
  | 80 => ⟨S1x32x64x4x128, .f32⟩
  | 81 => ⟨S32x1x4x64x128, .f32⟩
  | 82 => ⟨S4, .f32⟩
  | 83 => ⟨S_, .f32⟩
  | 84 => ⟨S4, .f32⟩
  | 85 => ⟨S4, .f32⟩
  | 86 => ⟨S_, .f32⟩
  | 87 => ⟨S4, .f32⟩
  | 88 => ⟨S4, .f32⟩
  | 89 => ⟨S4, .f32⟩
  | 90 => ⟨S_, .f32⟩
  | 91 => ⟨S4, .f32⟩
  | 92 => ⟨S4, .f32⟩
  | 93 => ⟨S4, .f32⟩
  | 94 => ⟨S64, .f32⟩
  | 95 => ⟨S4x1x1, .f32⟩
  | 96 => ⟨S64x1, .f32⟩
  | 97 => ⟨S1x64, .f32⟩
  | 98 => ⟨S64x64, .f32⟩
  | 99 => ⟨S64x64, .f32⟩
  | 100 => ⟨S64x64, .f32⟩
  | 101 => ⟨S64x64, .f32⟩
  | 102 => ⟨S1x64x64, .f32⟩
  | 103 => ⟨S4x64x64, .f32⟩
  | 104 => ⟨S4x64x64, .f32⟩
  | 105 => ⟨S4x64x64, .f32⟩
  | 106 => ⟨S4x64x64, .f32⟩
  | 107 => ⟨S4x1, .f32⟩
  | 108 => ⟨S1x64, .f32⟩
  | 109 => ⟨S_, .f32⟩
  | 110 => ⟨S1x64, .f32⟩
  | 111 => ⟨S1x64, .f32⟩
  | 112 => ⟨S4x64, .f32⟩
  | 113 => ⟨S4x64, .f32⟩
  | 114 => ⟨S4x64, .f32⟩
  | 115 => ⟨S4x64, .f32⟩
  | 116 => ⟨S64x4, .f32⟩
  | 117 => ⟨S4x1, .f32⟩
  | 118 => ⟨S1x64, .f32⟩
  | 119 => ⟨S_, .f32⟩
  | 120 => ⟨S1x64, .f32⟩
  | 121 => ⟨S1x64, .f32⟩
  | 122 => ⟨S4x64, .f32⟩
  | 123 => ⟨S4x64, .f32⟩
  | 124 => ⟨S4x64, .f32⟩
  | 125 => ⟨S4x64, .f32⟩
  | 126 => ⟨S64x4, .f32⟩
  | 127 => ⟨S_, .f32⟩
  | _ => ⟨S2048x1536, .f32⟩

abbrev hbmTy0_1 (i : Nat) : BufTy := match i % 128 with
  | 0 => ⟨S4, .f32⟩
  | 1 => ⟨S4, .f32⟩
  | 2 => ⟨S4, .f32⟩
  | 3 => ⟨S1x4x1x1, .f32⟩
  | 4 => ⟨S1x32x4x64x64, .f32⟩
  | 5 => ⟨S1x1x4x64x64, .f32⟩
  | 6 => ⟨S1x32x4x64x64, .f32⟩
  | 7 => ⟨S1x32x4x64x64, .f32⟩
  | 8 => ⟨S1x32x4x128x64, .f32⟩
  | 9 => ⟨S1x32x64x4x128, .f32⟩
  | 10 => ⟨S1x1x64x4x1, .f32⟩
  | 11 => ⟨S1x32x64x4x64, .f32⟩
  | 12 => ⟨S1x32x64x4x64, .f32⟩
  | 13 => ⟨S1x32x4x128x64, .f32⟩
  | 14 => ⟨S1x32x64x4x128, .f32⟩
  | 15 => ⟨S1x32x64x4x128, .f32⟩
  | 16 => ⟨S1x2048x512, .f32⟩
  | 17 => ⟨S1x2048x512, .f32⟩
  | 18 => ⟨S1x32x64x4x128, .f32⟩
  | 19 => ⟨S1x32x4x128x64, .f32⟩
  | 20 => ⟨S1x32x4x64x64, .f32⟩
  | 21 => ⟨S1x32x64x4x64, .f32⟩
  | 22 => ⟨S1x32x4x128x64, .f32⟩
  | 23 => ⟨S32x1x4x64x128, .f32⟩
  | 24 => ⟨S1x32x64x4x64, .f32⟩
  | 25 => ⟨S1x32x64x4x64, .f32⟩
  | 26 => ⟨S1x32x4x128x64, .f32⟩
  | 27 => ⟨S1x32x4x64x64, .f32⟩
  | 28 => ⟨S1x32x4x128x64, .f32⟩
  | 29 => ⟨S1x32x64x4x128, .f32⟩
  | 30 => ⟨S1x32x4x64x64, .f32⟩
  | 31 => ⟨S1x32x4x64x64, .f32⟩
  | 32 => ⟨S1x32x4x64x64, .f32⟩
  | 33 => ⟨S1x32x64x4x64, .f32⟩
  | 34 => ⟨S1x32x4x64x64, .f32⟩
  | 35 => ⟨S1x32x64x4x64, .f32⟩
  | 36 => ⟨S1x32x64x4x64, .f32⟩
  | 37 => ⟨S4, .f32⟩
  | 38 => ⟨S_, .f32⟩
  | 39 => ⟨S4, .f32⟩
  | 40 => ⟨S4, .f32⟩
  | 41 => ⟨S_, .f32⟩
  | 42 => ⟨S4, .f32⟩
  | 43 => ⟨S4, .f32⟩
  | 44 => ⟨S4, .f32⟩
  | 45 => ⟨S_, .f32⟩
  | 46 => ⟨S4, .f32⟩
  | 47 => ⟨S4, .f32⟩
  | 48 => ⟨S4, .f32⟩
  | 49 => ⟨S64, .f32⟩
  | 50 => ⟨S4x1x1, .f32⟩
  | 51 => ⟨S64x1, .f32⟩
  | 52 => ⟨S1x64, .f32⟩
  | 53 => ⟨S64x64, .f32⟩
  | 54 => ⟨S64x64, .f32⟩
  | 55 => ⟨S64x64, .f32⟩
  | 56 => ⟨S64x64, .f32⟩
  | 57 => ⟨S1x64x64, .f32⟩
  | 58 => ⟨S4x64x64, .f32⟩
  | 59 => ⟨S4x64x64, .f32⟩
  | 60 => ⟨S4x64x64, .f32⟩
  | 61 => ⟨S4x64x64, .f32⟩
  | 62 => ⟨S4x1, .f32⟩
  | 63 => ⟨S1x64, .f32⟩
  | 64 => ⟨S_, .f32⟩
  | 65 => ⟨S1x64, .f32⟩
  | 66 => ⟨S1x64, .f32⟩
  | 67 => ⟨S4x64, .f32⟩
  | 68 => ⟨S4x64, .f32⟩
  | 69 => ⟨S4x64, .f32⟩
  | 70 => ⟨S4x64, .f32⟩
  | 71 => ⟨S64x4, .f32⟩
  | 72 => ⟨S4x1, .f32⟩
  | 73 => ⟨S1x64, .f32⟩
  | 74 => ⟨S_, .f32⟩
  | 75 => ⟨S1x64, .f32⟩
  | 76 => ⟨S1x64, .f32⟩
  | 77 => ⟨S4x64, .f32⟩
  | 78 => ⟨S4x64, .f32⟩
  | 79 => ⟨S4x64, .f32⟩
  | 80 => ⟨S4x64, .f32⟩
  | 81 => ⟨S64x4, .f32⟩
  | 82 => ⟨S_, .f32⟩
  | 83 => ⟨S4, .f32⟩
  | 84 => ⟨S4, .f32⟩
  | 85 => ⟨S4, .f32⟩
  | 86 => ⟨S1x4x1x1, .f32⟩
  | 87 => ⟨S_, .f32⟩
  | 88 => ⟨S1x4x64x128, .f32⟩
  | 89 => ⟨S_, .f32⟩
  | 90 => ⟨S1x4x64x128, .f32⟩
  | 91 => ⟨S_, .f32⟩
  | 92 => ⟨S32x1x4x64x128, .f32⟩
  | 93 => ⟨S_, .i32⟩
  | 94 => ⟨S32x1x4x64x128, .f32⟩
  | 95 => ⟨S1x4x1x1, .f32⟩
  | 96 => ⟨S_, .i32⟩
  | 97 => ⟨S1x4x64x128, .f32⟩
  | 98 => ⟨S32x1x4x64x128, .f32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S1x1x4x64x128, .f32⟩
  | 110 => ⟨S1x4x64x128, .f32⟩
  | 111 => ⟨S1x4x64x128, .f32⟩
  | 112 => ⟨S1x4x64x128, .f32⟩
  | 113 => ⟨S1x4x64x128, .f32⟩
  | 114 => ⟨S1x1x4x64x128, .f32⟩
  | 115 => ⟨S_, .i32⟩
  | 116 => ⟨S_, .i32⟩
  | 117 => ⟨S_, .i32⟩
  | 118 => ⟨S_, .i32⟩
  | 119 => ⟨S32x1x4x64x128, .f32⟩
  | 120 => ⟨S_, .i32⟩
  | 121 => ⟨S_, .i32⟩
  | 122 => ⟨S4, .f32⟩
  | 123 => ⟨S_, .f32⟩
  | 124 => ⟨S4, .f32⟩
  | 125 => ⟨S4, .f32⟩
  | 126 => ⟨S_, .f32⟩
  | 127 => ⟨S4, .f32⟩
  | _ => ⟨S2048x1536, .f32⟩

abbrev hbmTy0_2 (i : Nat) : BufTy := match i % 128 with
  | 0 => ⟨S4, .f32⟩
  | 1 => ⟨S4, .f32⟩
  | 2 => ⟨S_, .f32⟩
  | 3 => ⟨S4, .f32⟩
  | 4 => ⟨S4, .f32⟩
  | 5 => ⟨S4, .f32⟩
  | 6 => ⟨S64, .f32⟩
  | 7 => ⟨S4x1x1, .f32⟩
  | 8 => ⟨S64x1, .f32⟩
  | 9 => ⟨S1x64, .f32⟩
  | 10 => ⟨S64x64, .f32⟩
  | 11 => ⟨S64x64, .f32⟩
  | 12 => ⟨S64x64, .f32⟩
  | 13 => ⟨S64x64, .f32⟩
  | 14 => ⟨S1x64x64, .f32⟩
  | 15 => ⟨S4x64x64, .f32⟩
  | 16 => ⟨S4x64x64, .f32⟩
  | 17 => ⟨S4x64x64, .f32⟩
  | 18 => ⟨S4x64x64, .f32⟩
  | 19 => ⟨S4x1, .f32⟩
  | 20 => ⟨S1x64, .f32⟩
  | 21 => ⟨S_, .f32⟩
  | 22 => ⟨S1x64, .f32⟩
  | 23 => ⟨S1x64, .f32⟩
  | 24 => ⟨S4x64, .f32⟩
  | 25 => ⟨S4x64, .f32⟩
  | 26 => ⟨S4x64, .f32⟩
  | 27 => ⟨S4x64, .f32⟩
  | 28 => ⟨S64x4, .f32⟩
  | 29 => ⟨S4x1, .f32⟩
  | 30 => ⟨S1x64, .f32⟩
  | 31 => ⟨S_, .f32⟩
  | 32 => ⟨S1x64, .f32⟩
  | 33 => ⟨S1x64, .f32⟩
  | 34 => ⟨S4x64, .f32⟩
  | 35 => ⟨S4x64, .f32⟩
  | 36 => ⟨S4x64, .f32⟩
  | 37 => ⟨S4x64, .f32⟩
  | 38 => ⟨S64x4, .f32⟩
  | 39 => ⟨S_, .f32⟩
  | 40 => ⟨S4, .f32⟩
  | 41 => ⟨S4, .f32⟩
  | 42 => ⟨S4, .f32⟩
  | 43 => ⟨S1x4x1x1, .f32⟩
  | 44 => ⟨S1x1x64x4x1, .f32⟩
  | 45 => ⟨S1x32x64x4x64, .f32⟩
  | 46 => ⟨S1x32x64x4x64, .f32⟩
  | 47 => ⟨S32x1x4x64x128, .f32⟩
  | 48 => ⟨S32x1x4x128x64, .f32⟩
  | 49 => ⟨S1x32x64x4x128, .f32⟩
  | 50 => ⟨S32x1x4x64x64, .f32⟩
  | 51 => ⟨S1x32x64x4x64, .f32⟩
  | 52 => ⟨S1x32x64x4x64, .f32⟩
  | 53 => ⟨S1x32x64x4x64, .f32⟩
  | 54 => ⟨S1x32x64x4x64, .f32⟩
  | 55 => ⟨S1x32x64x4x128, .f32⟩
  | 56 => ⟨S1x2048x512, .f32⟩
  | 57 => ⟨S1x2048x4x64, .f32⟩
  | 58 => ⟨S1x2048x4x64, .f32⟩
  | 59 => ⟨S_, .f32⟩
  | 60 => ⟨S1x2048x1024, .f32⟩
  | 61 => ⟨S_, .f32⟩
  | 62 => ⟨S1x2048x4x64, .f32⟩
  | 63 => ⟨S1x2048x4x64, .f32⟩
  | 64 => ⟨S1x2048x4x32, .f32⟩
  | 65 => ⟨S1x2048x4x32, .f32⟩
  | 66 => ⟨S1x2048x4x32, .f32⟩
  | 67 => ⟨S1x2048x4x32, .f32⟩
  | 68 => ⟨S1x2048x4x32, .f32⟩
  | 69 => ⟨S1x2048x4x32, .f32⟩
  | 70 => ⟨S1x2048x4x32, .f32⟩
  | 71 => ⟨S1x2048x4x32, .f32⟩
  | 72 => ⟨S1x2048x4x32, .f32⟩
  | 73 => ⟨S1x2048x4x32, .f32⟩
  | 74 => ⟨S1x2048x4x32, .f32⟩
  | 75 => ⟨S1x2048x4x32, .f32⟩
  | 76 => ⟨S1x2048x4x32, .f32⟩
  | 77 => ⟨S_, .f32⟩
  | 78 => ⟨S1x2048x4x64, .f32⟩
  | 79 => ⟨S_, .f32⟩
  | 80 => ⟨S1x2048x4x64, .f32⟩
  | 81 => ⟨S1x2048x4x64, .f32⟩
  | 82 => ⟨S1x2048x256, .f32⟩
  | 83 => ⟨S_, .f32⟩
  | 84 => ⟨S1x2048x1024, .f32⟩
  | 85 => ⟨S1x2048x1024, .f32⟩
  | 86 => ⟨S1x2048x4x32, .f32⟩
  | 87 => ⟨S1x2048x4x32, .f32⟩
  | 88 => ⟨S1x2048x4x32, .f32⟩
  | 89 => ⟨S1x2048x4x32, .f32⟩
  | 90 => ⟨S1x2048x4x32, .f32⟩
  | 91 => ⟨S1x2048x4x32, .f32⟩
  | 92 => ⟨S1x2048x4x32, .f32⟩
  | 93 => ⟨S1x2048x4x32, .f32⟩
  | 94 => ⟨S1x2048x4x32, .f32⟩
  | 95 => ⟨S1x2048x4x32, .f32⟩
  | 96 => ⟨S1x2048x4x32, .f32⟩
  | 97 => ⟨S1x2048x4x32, .f32⟩
  | 98 => ⟨S1x2048x4x32, .f32⟩
  | 99 => ⟨S_, .f32⟩
  | 100 => ⟨S1x2048x4x64, .f32⟩
  | 101 => ⟨S_, .f32⟩
  | 102 => ⟨S1x2048x4x64, .f32⟩
  | 103 => ⟨S1x2048x4x64, .f32⟩
  | 104 => ⟨S1x2048x256, .f32⟩
  | 105 => ⟨S_, .f32⟩
  | 106 => ⟨S1x2048x1024, .f32⟩
  | 107 => ⟨S1x2048x1024, .f32⟩
  | 108 => ⟨S2048x1024, .f32⟩
  | _ => ⟨S2048x1536, .f32⟩

abbrev hbmTy (i : Nat) : BufTy := match i / 128 with
  | 0 => hbmTy0_0 i
  | 1 => hbmTy0_1 i
  | 2 => hbmTy0_2 i
  | _ => ⟨S2048x1536, .f32⟩

abbrev bufTy : (tb : Table) → Fin (tcTables nBuf tb) → BufTy
  | .hbm, ⟨i, _⟩ => hbmTy i
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_1 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_cst_3 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_cst_4 : Ref sig .tc := ⟨.hbm, 83, rfl⟩
abbrev main_v75 : Ref sig .tc := ⟨.hbm, 84, rfl⟩
abbrev main_v76 : Ref sig .tc := ⟨.hbm, 85, rfl⟩
abbrev main_cst_5 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_cst_6 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_cst_7 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_cst_8 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_cst_9 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_cst_10 : Ref sig .tc := ⟨.hbm, 166, rfl⟩
abbrev main_v152 : Ref sig .tc := ⟨.hbm, 167, rfl⟩
abbrev main_v153 : Ref sig .tc := ⟨.hbm, 168, rfl⟩
abbrev main_cst_11 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_cst_12 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_cst_13 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_cst_14 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_cst_15 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_cst_16 : Ref sig .tc := ⟨.hbm, 215, rfl⟩
abbrev main_v195 : Ref sig .tc := ⟨.hbm, 216, rfl⟩
abbrev main_cst_17 : Ref sig .tc := ⟨.hbm, 217, rfl⟩
abbrev main_v196 : Ref sig .tc := ⟨.hbm, 218, rfl⟩
abbrev main_cst_18 : Ref sig .tc := ⟨.hbm, 219, rfl⟩
abbrev main_v197 : Ref sig .tc := ⟨.hbm, 220, rfl⟩
abbrev main_c : Ref sig .tc := ⟨.hbm, 221, rfl⟩
abbrev main_v198_0 : Ref sig .tc := ⟨.hbm, 222, rfl⟩
abbrev main_v198_1 : Ref sig .tc := ⟨.hbm, 223, rfl⟩
abbrev main_v198_2 : Ref sig .tc := ⟨.hbm, 224, rfl⟩
abbrev main_v198_3 : Ref sig .tc := ⟨.hbm, 225, rfl⟩
abbrev main_v198_4 : Ref sig .tc := ⟨.hbm, 226, rfl⟩
abbrev main_while0c_c_37 : Ref sig .tc := ⟨.hbm, 227, rfl⟩
abbrev main_while0c_v300 : Ref sig .tc := ⟨.hbm, 228, rfl⟩
abbrev main_while0b_c_37 : Ref sig .tc := ⟨.hbm, 229, rfl⟩
abbrev main_while0b_v300 : Ref sig .tc := ⟨.hbm, 230, rfl⟩
abbrev main_while0b_c_38 : Ref sig .tc := ⟨.hbm, 231, rfl⟩
abbrev main_while0b_v301 : Ref sig .tc := ⟨.hbm, 232, rfl⟩
abbrev main_while0b_call0_c : Ref sig .tc := ⟨.hbm, 233, rfl⟩
abbrev main_while0b_call0_c_0 : Ref sig .tc := ⟨.hbm, 234, rfl⟩
abbrev main_while0b_call0_c_1 : Ref sig .tc := ⟨.hbm, 235, rfl⟩
abbrev main_while0b_call0_c_2 : Ref sig .tc := ⟨.hbm, 236, rfl⟩
abbrev main_while0b_call0_v0 : Ref sig .tc := ⟨.hbm, 237, rfl⟩
abbrev main_while0b_v302 : Ref sig .tc := ⟨.hbm, 238, rfl⟩
abbrev main_while0b_v303 : Ref sig .tc := ⟨.hbm, 239, rfl⟩
abbrev main_while0b_v304 : Ref sig .tc := ⟨.hbm, 240, rfl⟩
abbrev main_while0b_v305 : Ref sig .tc := ⟨.hbm, 241, rfl⟩
abbrev main_while0b_call1_v0 : Ref sig .tc := ⟨.hbm, 242, rfl⟩
abbrev main_while0b_call1_c : Ref sig .tc := ⟨.hbm, 243, rfl⟩
abbrev main_while0b_call1_c_0 : Ref sig .tc := ⟨.hbm, 244, rfl⟩
abbrev main_while0b_call1_c_1 : Ref sig .tc := ⟨.hbm, 245, rfl⟩
abbrev main_while0b_call1_c_2 : Ref sig .tc := ⟨.hbm, 246, rfl⟩
abbrev main_while0b_v306 : Ref sig .tc := ⟨.hbm, 247, rfl⟩
abbrev main_while0b_c_39 : Ref sig .tc := ⟨.hbm, 248, rfl⟩
abbrev main_while0b_v307 : Ref sig .tc := ⟨.hbm, 249, rfl⟩
abbrev main_v199 : Ref sig .tc := ⟨.hbm, 250, rfl⟩
abbrev main_cst_19 : Ref sig .tc := ⟨.hbm, 251, rfl⟩
abbrev main_v200 : Ref sig .tc := ⟨.hbm, 252, rfl⟩
abbrev main_v201 : Ref sig .tc := ⟨.hbm, 253, rfl⟩
abbrev main_cst_20 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_cst_21 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_cst_22 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_cst_23 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_cst_24 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_cst_25 : Ref sig .tc := ⟨.hbm, 315, rfl⟩
abbrev main_v258 : Ref sig .tc := ⟨.hbm, 316, rfl⟩
abbrev main_cst_26 : Ref sig .tc := ⟨.hbm, 317, rfl⟩
abbrev main_v259 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_cst_27 : Ref sig .tc := ⟨.hbm, 333, rfl⟩
abbrev main_v274 : Ref sig .tc := ⟨.hbm, 334, rfl⟩
abbrev main_cst_28 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_cst_29 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_v288 : Ref sig .tc := ⟨.hbm, 350, rfl⟩
abbrev main_v289 : Ref sig .tc := ⟨.hbm, 351, rfl⟩
abbrev main_v290 : Ref sig .tc := ⟨.hbm, 352, rfl⟩
abbrev main_v291 : Ref sig .tc := ⟨.hbm, 353, rfl⟩
abbrev main_v292 : Ref sig .tc := ⟨.hbm, 354, rfl⟩
abbrev main_cst_30 : Ref sig .tc := ⟨.hbm, 355, rfl⟩
abbrev main_v293 : Ref sig .tc := ⟨.hbm, 356, rfl⟩
abbrev main_cst_31 : Ref sig .tc := ⟨.hbm, 357, rfl⟩
abbrev main_v294 : Ref sig .tc := ⟨.hbm, 358, rfl⟩
abbrev main_v295 : Ref sig .tc := ⟨.hbm, 359, rfl⟩
abbrev main_v296 : Ref sig .tc := ⟨.hbm, 360, rfl⟩
abbrev main_cst_32 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩

abbrev nD : Nat := 1
abbrev τ : Topo := Topo.v7x

variable {F : FTy → Type} [FloatOps F]

abbrev main_while0_count : Scf.Loop 32 := ⟨0#32, 32#32, 1#32⟩
-- ==== Kernel3.lean ====
abbrev S1x2048x1024 : Shape := ⟨3, ![1, 2048, 1024]⟩
abbrev S1x1024 : Shape := ⟨2, ![1, 1024]⟩
abbrev S3712x1024 : Shape := ⟨2, ![3712, 1024]⟩
abbrev S1x2176 : Shape := ⟨2, ![1, 2176]⟩
abbrev S512x64 : Shape := ⟨2, ![512, 64]⟩
abbrev S1x512 : Shape := ⟨2, ![1, 512]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S256x128 : Shape := ⟨2, ![256, 128]⟩
abbrev S512x128 : Shape := ⟨2, ![512, 128]⟩
abbrev S2048x1536 : Shape := ⟨2, ![2048, 1536]⟩
abbrev S2048x2176 : Shape := ⟨2, ![2048, 2176]⟩
abbrev S2048x512 : Shape := ⟨2, ![2048, 512]⟩
abbrev S1x256x1024 : Shape := ⟨3, ![1, 256, 1024]⟩
abbrev S256x1536 : Shape := ⟨2, ![256, 1536]⟩
abbrev S256x2176 : Shape := ⟨2, ![256, 2176]⟩
abbrev S256x512 : Shape := ⟨2, ![256, 512]⟩
abbrev S8x2176 : Shape := ⟨2, ![8, 2176]⟩
abbrev S256x1024 : Shape := ⟨2, ![256, 1024]⟩
abbrev S256 : Shape := ⟨1, ![256]⟩
abbrev S256x1 : Shape := ⟨2, ![256, 1]⟩
abbrev S1536x1024 : Shape := ⟨2, ![1536, 1024]⟩
abbrev S2176x1024 : Shape := ⟨2, ![2176, 1024]⟩
abbrev S1024x128 : Shape := ⟨2, ![1024, 128]⟩
abbrev S1024x256 : Shape := ⟨2, ![1024, 256]⟩

abbrev nBuf : Space → Nat
  | .hbm => 54
  | .vmem => 31
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S3712x1024, .bf16⟩
  | .hbm, ⟨3, _⟩ => ⟨S1x2176, .f32⟩
  | .hbm, ⟨4, _⟩ => ⟨S512x64, .f32⟩
  | .hbm, ⟨5, _⟩ => ⟨S1x512, .f32⟩
  | .hbm, ⟨6, _⟩ => ⟨S512x64, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S128, .i32⟩
  | .hbm, ⟨11, _⟩ => ⟨S_, .i32⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S128, .i32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i1⟩
  | .hbm, ⟨24, _⟩ => ⟨S128, .i1⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S128x1, .i32⟩
  | .hbm, ⟨30, _⟩ => ⟨S1x128, .i32⟩
  | .hbm, ⟨31, _⟩ => ⟨S128x128, .i32⟩
  | .hbm, ⟨32, _⟩ => ⟨S128x128, .i32⟩
  | .hbm, ⟨33, _⟩ => ⟨S128x128, .i1⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S256x128, .f32⟩
  | .hbm, ⟨39, _⟩ => ⟨S_, .f32⟩
  | .hbm, ⟨40, _⟩ => ⟨S512x64, .f32⟩
  | .hbm, ⟨41, _⟩ => ⟨S512x128, .f32⟩
  | .hbm, ⟨42, _⟩ => ⟨S_, .f32⟩
  | .hbm, ⟨43, _⟩ => ⟨S512x64, .f32⟩
  | .hbm, ⟨44, _⟩ => ⟨S512x128, .f32⟩
  | .hbm, ⟨45, _⟩ => ⟨S2048x1536, .f32⟩
  | .hbm, ⟨46, _⟩ => ⟨S2048x2176, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S2048x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S3712x1024, .bf16⟩
  | .local _ .vmem, ⟨4, _⟩ => ⟨S1x2176, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S512x128, .f32⟩
  | .local _ .vmem, ⟨10, _⟩ => ⟨S512x128, .f32⟩
  | .local _ .vmem, ⟨11, _⟩ => ⟨S256x128, .f32⟩
  | .local _ .vmem, ⟨12, _⟩ => ⟨S256x1536, .f32⟩
  | .local _ .vmem, ⟨13, _⟩ => ⟨S256x1536, .f32⟩
  | .local _ .vmem, ⟨14, _⟩ => ⟨S256x2176, .f32⟩
  | .local _ .vmem, ⟨15, _⟩ => ⟨S256x2176, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S8x2176, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_0 : Ref sig .tc := ⟨.hbm, 39, rfl⟩
abbrev main_v11 : Ref sig .tc := ⟨.hbm, 40, rfl⟩
abbrev main_v12 : Ref sig .tc := ⟨.hbm, 41, rfl⟩
abbrev main_cst_1 : Ref sig .tc := ⟨.hbm, 42, rfl⟩
abbrev main_v13 : Ref sig .tc := ⟨.hbm, 43, rfl⟩
abbrev main_v14 : Ref sig .tc := ⟨.hbm, 44, rfl⟩
abbrev main_v15_0 : Ref sig .tc := ⟨.hbm, 45, rfl⟩
abbrev main_v15_1 : Ref sig .tc := ⟨.hbm, 46, rfl⟩
abbrev main_v15_2 : Ref sig .tc := ⟨.hbm, 47, rfl⟩
abbrev main_v15_3 : Ref sig .tc := ⟨.hbm, 48, rfl⟩
abbrev main_v15_4 : Ref sig .tc := ⟨.hbm, 49, rfl⟩
abbrev main_v15_5 : Ref sig .tc := ⟨.hbm, 50, rfl⟩
abbrev main_v15_6 : Ref sig .tc := ⟨.hbm, 51, rfl⟩
abbrev main_v15_7 : Ref sig .tc := ⟨.hbm, 52, rfl⟩
abbrev main_v15_8 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3712x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2176 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S1x2048x1024 : Shape := ⟨3, ![1, 2048, 1024]⟩
abbrev S1x1024 : Shape := ⟨2, ![1, 1024]⟩
abbrev S3712x1024 : Shape := ⟨2, ![3712, 1024]⟩
abbrev S1x2176 : Shape := ⟨2, ![1, 2176]⟩
abbrev S512x64 : Shape := ⟨2, ![512, 64]⟩
abbrev S1x512 : Shape := ⟨2, ![1, 512]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x3712 : Shape := ⟨2, ![1024, 3712]⟩
abbrev S1x2048x3712 : Shape := ⟨3, ![1, 2048, 3712]⟩
abbrev S1x2048x1536 : Shape := ⟨3, ![1, 2048, 1536]⟩
abbrev S1x2048x2176 : Shape := ⟨3, ![1, 2048, 2176]⟩
abbrev S1x2049x2176 : Shape := ⟨3, ![1, 2049, 2176]⟩
abbrev S1x1x2176 : Shape := ⟨3, ![1, 1, 2176]⟩
abbrev S1x2048x512 : Shape := ⟨3, ![1, 2048, 512]⟩
abbrev S1x2048x64 : Shape := ⟨3, ![1, 2048, 64]⟩
abbrev S64x512 : Shape := ⟨2, ![64, 512]⟩
abbrev S1x1x512 : Shape := ⟨3, ![1, 1, 512]⟩
abbrev S1x2048x8x64 : Shape := ⟨4, ![1, 2048, 8, 64]⟩
abbrev S1x2048x8 : Shape := ⟨3, ![1, 2048, 8]⟩
abbrev S1x2048x8x1 : Shape := ⟨4, ![1, 2048, 8, 1]⟩
abbrev S2048x1536 : Shape := ⟨2, ![2048, 1536]⟩
abbrev S2048x2176 : Shape := ⟨2, ![2048, 2176]⟩
abbrev S2048x512 : Shape := ⟨2, ![2048, 512]⟩

abbrev nBuf : Space → Nat
  | .hbm => 121
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S3712x1024, .bf16⟩
  | .hbm, ⟨3, _⟩ => ⟨S1x2176, .f32⟩
  | .hbm, ⟨4, _⟩ => ⟨S512x64, .f32⟩
  | .hbm, ⟨5, _⟩ => ⟨S1x512, .f32⟩
  | .hbm, ⟨6, _⟩ => ⟨S512x64, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x2048x1024, .f32⟩
  | .hbm, ⟨11, _⟩ => ⟨S_, .f32⟩
  | .hbm, ⟨12, _⟩ => ⟨S1x2048, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x1, .f32⟩
  | .hbm, ⟨21, _⟩ => ⟨S1x2048x1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S3712x1024, .f32⟩
  | .hbm, ⟨27, _⟩ => ⟨S1024x3712, .f32⟩
  | .hbm, ⟨28, _⟩ => ⟨S1x2048x3712, .f32⟩
  | .hbm, ⟨29, _⟩ => ⟨S1x2048x1536, .f32⟩
  | .hbm, ⟨30, _⟩ => ⟨S1x2048x2176, .f32⟩
  | .hbm, ⟨31, _⟩ => ⟨S_, .i32⟩
  | .hbm, ⟨32, _⟩ => ⟨S_, .f32⟩
  | .hbm, ⟨33, _⟩ => ⟨S1x2049x2176, .f32⟩
  | .hbm, ⟨34, _⟩ => ⟨S1x2048x2176, .f32⟩
  | .hbm, ⟨35, _⟩ => ⟨S1x2048x2176, .f32⟩
  | .hbm, ⟨36, _⟩ => ⟨S1x1x2176, .f32⟩
  | .hbm, ⟨37, _⟩ => ⟨S1x2048x2176, .f32⟩
  | .hbm, ⟨38, _⟩ => ⟨S1x2048x2176, .f32⟩
  | .hbm, ⟨39, _⟩ => ⟨S1x2048x2176, .f32⟩
  | .hbm, ⟨40, _⟩ => ⟨S1x2048x512, .f32⟩
  | .hbm, ⟨41, _⟩ => ⟨S1x2048x512, .f32⟩
  | .hbm, ⟨42, _⟩ => ⟨S1x2048x512, .f32⟩
  | .hbm, ⟨43, _⟩ => ⟨S1x2048x512, .f32⟩
  | .hbm, ⟨44, _⟩ => ⟨S1x2048x64, .f32⟩
  | .hbm, ⟨45, _⟩ => ⟨S1x2048x64, .f32⟩
  | .hbm, ⟨46, _⟩ => ⟨S1x2048x64, .f32⟩
  | .hbm, ⟨47, _⟩ => ⟨S64x512, .f32⟩
  | .hbm, ⟨48, _⟩ => ⟨S1x2048x512, .f32⟩
  | .hbm, ⟨49, _⟩ => ⟨S1x1x512, .f32⟩
  | .hbm, ⟨50, _⟩ => ⟨S1x2048x512, .f32⟩
  | .hbm, ⟨51, _⟩ => ⟨S1x2048x512, .f32⟩
  | .hbm, ⟨52, _⟩ => ⟨S1x2048x512, .f32⟩
  | .hbm, ⟨53, _⟩ => ⟨S_, .f32⟩
  | .hbm, ⟨54, _⟩ => ⟨S1x2048x512, .f32⟩
  | .hbm, ⟨55, _⟩ => ⟨S1x2048x512, .f32⟩
  | .hbm, ⟨56, _⟩ => ⟨S1x2048x512, .f32⟩
  | .hbm, ⟨57, _⟩ => ⟨S1x2048x512, .f32⟩
  | .hbm, ⟨58, _⟩ => ⟨S1x2048x512, .i1⟩
  | .hbm, ⟨59, _⟩ => ⟨S1x2048x512, .f32⟩
  | .hbm, ⟨60, _⟩ => ⟨S1x2048x512, .f32⟩
  | .hbm, ⟨61, _⟩ => ⟨S1x2048x512, .f32⟩
  | .hbm, ⟨62, _⟩ => ⟨S1x2048x512, .f32⟩
  | .hbm, ⟨63, _⟩ => ⟨S1x2048x512, .f32⟩
  | .hbm, ⟨64, _⟩ => ⟨S1x2048x512, .f32⟩
  | .hbm, ⟨65, _⟩ => ⟨S1x2048x512, .f32⟩
  | .hbm, ⟨66, _⟩ => ⟨S1x2048x512, .f32⟩
  | .hbm, ⟨67, _⟩ => ⟨S1x2048x512, .f32⟩
  | .hbm, ⟨68, _⟩ => ⟨S_, .f32⟩
  | .hbm, ⟨69, _⟩ => ⟨S1x2048x512, .f32⟩
  | .hbm, ⟨70, _⟩ => ⟨S1x2048x512, .f32⟩
  | .hbm, ⟨71, _⟩ => ⟨S1x2048x512, .f32⟩
  | .hbm, ⟨72, _⟩ => ⟨S1x2048x512, .f32⟩
  | .hbm, ⟨73, _⟩ => ⟨S1x2048x512, .f32⟩
  | .hbm, ⟨74, _⟩ => ⟨S64x512, .f32⟩
  | .hbm, ⟨75, _⟩ => ⟨S1x2048x512, .f32⟩
  | .hbm, ⟨76, _⟩ => ⟨S1x1x512, .f32⟩
  | .hbm, ⟨77, _⟩ => ⟨S1x2048x512, .f32⟩
  | .hbm, ⟨78, _⟩ => ⟨S1x2048x512, .f32⟩
  | .hbm, ⟨79, _⟩ => ⟨S1x2048x512, .f32⟩
  | .hbm, ⟨80, _⟩ => ⟨S1x2048x512, .f32⟩
  | .hbm, ⟨81, _⟩ => ⟨S_, .f32⟩
  | .hbm, ⟨82, _⟩ => ⟨S1x2048x512, .f32⟩
  | .hbm, ⟨83, _⟩ => ⟨S1x2048x512, .f32⟩
  | .hbm, ⟨84, _⟩ => ⟨S_, .f32⟩
  | .hbm, ⟨85, _⟩ => ⟨S1x2048x512, .f32⟩
  | .hbm, ⟨86, _⟩ => ⟨S1x2048x512, .f32⟩
  | .hbm, ⟨87, _⟩ => ⟨S1x1x512, .f32⟩
  | .hbm, ⟨88, _⟩ => ⟨S1x2048x512, .f32⟩
  | .hbm, ⟨89, _⟩ => ⟨S1x2048x512, .f32⟩
  | .hbm, ⟨90, _⟩ => ⟨S1x2048x8x64, .f32⟩
  | .hbm, ⟨91, _⟩ => ⟨S1x2048x8x64, .f32⟩
  | .hbm, ⟨92, _⟩ => ⟨S_, .f32⟩
  | .hbm, ⟨93, _⟩ => ⟨S1x2048x8, .f32⟩
  | .hbm, ⟨94, _⟩ => ⟨S1x2048x8x1, .f32⟩
  | .hbm, ⟨95, _⟩ => ⟨S1x2048x8x1, .f32⟩
  | .hbm, ⟨96, _⟩ => ⟨S_, .f32⟩
  | .hbm, ⟨97, _⟩ => ⟨S1x2048x8x1, .f32⟩
  | .hbm, ⟨98, _⟩ => ⟨S1x2048x8x1, .f32⟩
  | .hbm, ⟨99, _⟩ => ⟨S1x2048x8x64, .f32⟩
  | .hbm, ⟨100, _⟩ => ⟨S1x2048x8x64, .f32⟩
  | .hbm, ⟨101, _⟩ => ⟨S_, .f32⟩
  | .hbm, ⟨102, _⟩ => ⟨S1x2048x512, .f32⟩
  | .hbm, ⟨103, _⟩ => ⟨S1x2048x512, .f32⟩
  | .hbm, ⟨104, _⟩ => ⟨S1x1x512, .f32⟩
  | .hbm, ⟨105, _⟩ => ⟨S1x2048x512, .f32⟩
  | .hbm, ⟨106, _⟩ => ⟨S1x2048x512, .f32⟩
  | .hbm, ⟨107, _⟩ => ⟨S_, .f32⟩
  | .hbm, ⟨108, _⟩ => ⟨S1x2048x512, .f32⟩
  | .hbm, ⟨109, _⟩ => ⟨S1x2048x512, .f32⟩
  | .hbm, ⟨110, _⟩ => ⟨S1x2048x512, .f32⟩
  | .hbm, ⟨111, _⟩ => ⟨S2048x1536, .f32⟩
  | .hbm, ⟨112, _⟩ => ⟨S2048x2176, .f32⟩
  | .hbm, ⟨113, _⟩ => ⟨S2048x512, .f32⟩
  | .hbm, ⟨114, _⟩ => ⟨S2048x512, .f32⟩
  | .hbm, ⟨115, _⟩ => ⟨S2048x512, .f32⟩
  | .hbm, ⟨116, _⟩ => ⟨S2048x512, .f32⟩
  | .hbm, ⟨117, _⟩ => ⟨S1x2048x512, .f32⟩
  | .hbm, ⟨118, _⟩ => ⟨S2048x512, .f32⟩
  | .hbm, ⟨119, _⟩ => ⟨S2048x512, .f32⟩
  | .hbm, ⟨120, _⟩ => ⟨S2048x512, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_call0_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_v38 : Ref sig .tc := ⟨.hbm, 66, rfl⟩
abbrev main_v39 : Ref sig .tc := ⟨.hbm, 67, rfl⟩
abbrev main_cst_2 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_3 : Ref sig .tc := ⟨.hbm, 81, rfl⟩
abbrev main_v52 : Ref sig .tc := ⟨.hbm, 82, rfl⟩
abbrev main_v53 : Ref sig .tc := ⟨.hbm, 83, rfl⟩
abbrev main_cst_4 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_5 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_6 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_7 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_8 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩

abbrev nD : Nat := 1
abbrev τ : Topo := Topo.v7x

variable {F : FTy → Type} [FloatOps F]
-- ==== Kernel4.lean ====
abbrev S4x464x1024 : Shape := ⟨3, ![4, 464, 1024]⟩
abbrev S1x1024x464 : Shape := ⟨3, ![1, 1024, 464]⟩
abbrev S1024x464 : Shape := ⟨2, ![1024, 464]⟩
abbrev S464x1024 : Shape := ⟨2, ![464, 1024]⟩
abbrev S4x232x1024 : Shape := ⟨3, ![4, 232, 1024]⟩
abbrev S232x1024 : Shape := ⟨2, ![232, 1024]⟩
abbrev S1x232x1024 : Shape := ⟨3, ![1, 232, 1024]⟩

abbrev nBuf : Space → Nat
  | .hbm => 14
  | .vmem => 16
  | .smem => 0
  | _ => 0

abbrev bufTy : (tb : Table) → Fin (tcTables nBuf tb) → BufTy
  | .hbm, ⟨0, _⟩ => ⟨S4x464x1024, .bf16⟩
  | .hbm, ⟨1, _⟩ => ⟨S1x1024x464, .f32⟩
  | .hbm, ⟨2, _⟩ => ⟨S1x1024x464, .f32⟩
  | .hbm, ⟨3, _⟩ => ⟨S1x1024x464, .f32⟩
  | .hbm, ⟨4, _⟩ => ⟨S1024x464, .f32⟩
  | .hbm, ⟨5, _⟩ => ⟨S464x1024, .f32⟩
  | .hbm, ⟨6, _⟩ => ⟨S1024x464, .f32⟩
  | .hbm, ⟨7, _⟩ => ⟨S464x1024, .f32⟩
  | .hbm, ⟨8, _⟩ => ⟨S1024x464, .f32⟩
  | .hbm, ⟨9, _⟩ => ⟨S464x1024, .f32⟩
  | .hbm, ⟨10, _⟩ => ⟨S464x1024, .f32⟩
  | .hbm, ⟨11, _⟩ => ⟨S464x1024, .f32⟩
  | .hbm, ⟨12, _⟩ => ⟨S464x1024, .f32⟩
  | .hbm, ⟨13, _⟩ => ⟨S464x1024, .f32⟩
  | .local _ .vmem, ⟨0, _⟩ => ⟨S4x232x1024, .bf16⟩
  | .local _ .vmem, ⟨1, _⟩ => ⟨S4x232x1024, .bf16⟩
  | .local _ .vmem, ⟨2, _⟩ => ⟨S232x1024, .f32⟩
  | .local _ .vmem, ⟨3, _⟩ => ⟨S232x1024, .f32⟩
  | .local _ .vmem, ⟨4, _⟩ => ⟨S232x1024, .f32⟩
  | .local _ .vmem, ⟨5, _⟩ => ⟨S232x1024, .f32⟩
  | .local _ .vmem, ⟨6, _⟩ => ⟨S232x1024, .f32⟩
  | .local _ .vmem, ⟨7, _⟩ => ⟨S232x1024, .f32⟩
  | .local _ .vmem, ⟨8, _⟩ => ⟨S232x1024, .f32⟩
  | .local _ .vmem, ⟨9, _⟩ => ⟨S232x1024, .f32⟩
  | .local _ .vmem, ⟨10, _⟩ => ⟨S232x1024, .f32⟩
  | .local _ .vmem, ⟨11, _⟩ => ⟨S232x1024, .f32⟩
  | .local _ .vmem, ⟨12, _⟩ => ⟨S232x1024, .f32⟩
  | .local _ .vmem, ⟨13, _⟩ => ⟨S232x1024, .f32⟩
  | .local _ .vmem, ⟨14, _⟩ => ⟨S232x1024, .f32⟩
  | .local _ .vmem, ⟨15, _⟩ => ⟨S232x1024, .f32⟩
  | _, _ => ⟨S4x464x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x232x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S232x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S232x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S232x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S232x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S232x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S232x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S232x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S4x464x1024 : Shape := ⟨3, ![4, 464, 1024]⟩
abbrev S1x1024x464 : Shape := ⟨3, ![1, 1024, 464]⟩
abbrev S4x1024x464 : Shape := ⟨3, ![4, 1024, 464]⟩
abbrev S_ : Shape := ⟨0, ![]⟩
abbrev S1024x464 : Shape := ⟨2, ![1024, 464]⟩
abbrev S464x1024 : Shape := ⟨2, ![464, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x464x1024, .bf16⟩
  | .hbm, ⟨1, _⟩ => ⟨S1x1024x464, .f32⟩
  | .hbm, ⟨2, _⟩ => ⟨S1x1024x464, .f32⟩
  | .hbm, ⟨3, _⟩ => ⟨S1x1024x464, .f32⟩
  | .hbm, ⟨4, _⟩ => ⟨S4x1024x464, .bf16⟩
  | .hbm, ⟨5, _⟩ => ⟨S4x1024x464, .f32⟩
  | .hbm, ⟨6, _⟩ => ⟨S_, .f32⟩
  | .hbm, ⟨7, _⟩ => ⟨S1024x464, .f32⟩
  | .hbm, ⟨8, _⟩ => ⟨S1x1024x464, .f32⟩
  | .hbm, ⟨9, _⟩ => ⟨S_, .f32⟩
  | .hbm, ⟨10, _⟩ => ⟨S1x1024x464, .f32⟩
  | .hbm, ⟨11, _⟩ => ⟨S1x1024x464, .f32⟩
  | .hbm, ⟨12, _⟩ => ⟨S_, .f32⟩
  | .hbm, ⟨13, _⟩ => ⟨S1x1024x464, .f32⟩
  | .hbm, ⟨14, _⟩ => ⟨S1x1024x464, .f32⟩
  | .hbm, ⟨15, _⟩ => ⟨S1x1024x464, .f32⟩
  | .hbm, ⟨16, _⟩ => ⟨S_, .f32⟩
  | .hbm, ⟨17, _⟩ => ⟨S1x1024x464, .f32⟩
  | .hbm, ⟨18, _⟩ => ⟨S1x1024x464, .f32⟩
  | .hbm, ⟨19, _⟩ => ⟨S1x1024x464, .f32⟩
  | .hbm, ⟨20, _⟩ => ⟨S_, .f32⟩
  | .hbm, ⟨21, _⟩ => ⟨S1x1024x464, .f32⟩
  | .hbm, ⟨22, _⟩ => ⟨S1x1024x464, .f32⟩
  | .hbm, ⟨23, _⟩ => ⟨S1x1024x464, .f32⟩
  | .hbm, ⟨24, _⟩ => ⟨S_, .f32⟩
  | .hbm, ⟨25, _⟩ => ⟨S1x1024x464, .f32⟩
  | .hbm, ⟨26, _⟩ => ⟨S1x1024x464, .f32⟩
  | .hbm, ⟨27, _⟩ => ⟨S_, .f32⟩
  | .hbm, ⟨28, _⟩ => ⟨S1x1024x464, .f32⟩
  | .hbm, ⟨29, _⟩ => ⟨S1x1024x464, .f32⟩
  | .hbm, ⟨30, _⟩ => ⟨S1x1024x464, .f32⟩
  | .hbm, ⟨31, _⟩ => ⟨S_, .f32⟩
  | .hbm, ⟨32, _⟩ => ⟨S1x1024x464, .f32⟩
  | .hbm, ⟨33, _⟩ => ⟨S1x1024x464, .f32⟩
  | .hbm, ⟨34, _⟩ => ⟨S1x1024x464, .f32⟩
  | .hbm, ⟨35, _⟩ => ⟨S_, .f32⟩
  | .hbm, ⟨36, _⟩ => ⟨S1x1024x464, .f32⟩
  | .hbm, ⟨37, _⟩ => ⟨S1x1024x464, .f32⟩
  | .hbm, ⟨38, _⟩ => ⟨S1x1024x464, .f32⟩
  | .hbm, ⟨39, _⟩ => ⟨S_, .f32⟩
  | .hbm, ⟨40, _⟩ => ⟨S1x1024x464, .f32⟩
  | .hbm, ⟨41, _⟩ => ⟨S1x1024x464, .f32⟩
  | .hbm, ⟨42, _⟩ => ⟨S1024x464, .f32⟩
  | .hbm, ⟨43, _⟩ => ⟨S464x1024, .f32⟩
  | .hbm, ⟨44, _⟩ => ⟨S1024x464, .f32⟩
  | .hbm, ⟨45, _⟩ => ⟨S464x1024, .f32⟩
  | .hbm, ⟨46, _⟩ => ⟨S1024x464, .f32⟩
  | .hbm, ⟨47, _⟩ => ⟨S464x1024, .f32⟩
  | .hbm, ⟨48, _⟩ => ⟨S1024x464, .f32⟩
  | .hbm, ⟨49, _⟩ => ⟨S464x1024, .f32⟩
  | _, _ => ⟨S4x464x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Kernel5.lean ====
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S4x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference5Ideal.lean ====
abbrev S4x128x1024 : Shape := ⟨3, ![4, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel6.lean ====
abbrev S8x64x64 : Shape := ⟨3, ![8, 64, 64]⟩
abbrev S64x64 : Shape := ⟨2, ![64, 64]⟩
abbrev S1x64x64 : Shape := ⟨3, ![1, 64, 64]⟩

abbrev nBuf : Space → Nat
  | .hbm => 2
  | .vmem => 2
  | .smem => 0
  | _ => 0

abbrev bufTy : (tb : Table) → Fin (tcTables nBuf tb) → BufTy
  | .hbm, ⟨0, _⟩ => ⟨S8x64x64, .f32⟩
  | .hbm, ⟨1, _⟩ => ⟨S64x64, .f32⟩
  | .local _ .vmem, ⟨0, _⟩ => ⟨S8x64x64, .f32⟩
  | .local _ .vmem, ⟨1, _⟩ => ⟨S64x64, .f32⟩
  | _, _ => ⟨S8x64x64, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference6Ideal.lean ====
abbrev S8x64x64 : Shape := ⟨3, ![8, 64, 64]⟩
abbrev S_ : Shape := ⟨0, ![]⟩
abbrev S64x64 : Shape := ⟨2, ![64, 64]⟩

abbrev nBuf : Space → Nat
  | .hbm => 3
  | .vmem => 0
  | .smem => 0
  | _ => 0

abbrev bufTy : (tb : Table) → Fin (tcTables nBuf tb) → BufTy
  | .hbm, ⟨0, _⟩ => ⟨S8x64x64, .f32⟩
  | .hbm, ⟨1, _⟩ => ⟨S_, .f32⟩
  | .hbm, ⟨2, _⟩ => ⟨S64x64, .f32⟩
  | _, _ => ⟨S8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S64x64 : Shape := ⟨2, ![64, 64]⟩
abbrev S1x64x64 : Shape := ⟨3, ![1, 64, 64]⟩

abbrev nBuf : Space → Nat
  | .hbm => 9
  | .vmem => 7
  | .smem => 0
  | _ => 0

abbrev bufTy : (tb : Table) → Fin (tcTables nBuf tb) → BufTy
  | .hbm, ⟨0, _⟩ => ⟨S64x64, .f32⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S64x64, .f32⟩
  | .hbm, ⟨5, _⟩ => ⟨S1x64x64, .f32⟩
  | .hbm, ⟨6, _⟩ => ⟨S1x64x64, .f32⟩
  | .hbm, ⟨7, _⟩ => ⟨S1x64x64, .f32⟩
  | .hbm, ⟨8, _⟩ => ⟨S1x64x64, .f32⟩
  | .local _ .vmem, ⟨0, _⟩ => ⟨S1x64x64, .f32⟩
  | .local _ .vmem, ⟨1, _⟩ => ⟨S1x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference7Ideal.lean ====
abbrev S64x64 : Shape := ⟨2, ![64, 64]⟩
abbrev S1x64x64 : Shape := ⟨3, ![1, 64, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S64x64, .f32⟩
  | .hbm, ⟨5, _⟩ => ⟨S1x64x64, .f32⟩
  | .hbm, ⟨6, _⟩ => ⟨S_, .f32⟩
  | .hbm, ⟨7, _⟩ => ⟨S1x64x64, .f32⟩
  | .hbm, ⟨8, _⟩ => ⟨S1x64x64, .f32⟩
  | .hbm, ⟨9, _⟩ => ⟨S_, .f32⟩
  | .hbm, ⟨10, _⟩ => ⟨S1x64x64, .f32⟩
  | .hbm, ⟨11, _⟩ => ⟨S1x64x64, .f32⟩
  | .hbm, ⟨12, _⟩ => ⟨S1x64x64, .f32⟩
  | .hbm, ⟨13, _⟩ => ⟨S_, .f32⟩
  | .hbm, ⟨14, _⟩ => ⟨S1x64x64, .f32⟩
  | .hbm, ⟨15, _⟩ => ⟨S1x64x64, .f32⟩
  | .hbm, ⟨16, _⟩ => ⟨S1x64x64, .f32⟩
  | .hbm, ⟨17, _⟩ => ⟨S_, .f32⟩
  | .hbm, ⟨18, _⟩ => ⟨S1x64x64, .f32⟩
  | .hbm, ⟨19, _⟩ => ⟨S1x64x64, .f32⟩
  | .hbm, ⟨20, _⟩ => ⟨S1x64x64, .f32⟩
  | .hbm, ⟨21, _⟩ => ⟨S_, .f32⟩
  | .hbm, ⟨22, _⟩ => ⟨S1x64x64, .f32⟩
  | .hbm, ⟨23, _⟩ => ⟨S1x64x64, .f32⟩
  | .hbm, ⟨24, _⟩ => ⟨S_, .f32⟩
  | .hbm, ⟨25, _⟩ => ⟨S1x64x64, .f32⟩
  | .hbm, ⟨26, _⟩ => ⟨S1x64x64, .f32⟩
  | .hbm, ⟨27, _⟩ => ⟨S1x64x64, .f32⟩
  | .hbm, ⟨28, _⟩ => ⟨S_, .f32⟩
  | .hbm, ⟨29, _⟩ => ⟨S1x64x64, .f32⟩
  | .hbm, ⟨30, _⟩ => ⟨S1x64x64, .f32⟩
  | .hbm, ⟨31, _⟩ => ⟨S1x64x64, .f32⟩
  | .hbm, ⟨32, _⟩ => ⟨S_, .f32⟩
  | .hbm, ⟨33, _⟩ => ⟨S1x64x64, .f32⟩
  | .hbm, ⟨34, _⟩ => ⟨S1x64x64, .f32⟩
  | .hbm, ⟨35, _⟩ => ⟨S1x64x64, .f32⟩
  | .hbm, ⟨36, _⟩ => ⟨S_, .f32⟩
  | .hbm, ⟨37, _⟩ => ⟨S1x64x64, .f32⟩
  | .hbm, ⟨38, _⟩ => ⟨S1x64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel8.lean ====
abbrev S8x1x128 : Shape := ⟨3, ![8, 1, 128]⟩
abbrev S8x1x1024 : Shape := ⟨3, ![8, 1, 1024]⟩
abbrev S8x1x512 : Shape := ⟨3, ![8, 1, 512]⟩
abbrev S8x1x2176 : Shape := ⟨3, ![8, 1, 2176]⟩
abbrev S1x1024 : Shape := ⟨2, ![1, 1024]⟩
abbrev S1x512 : Shape := ⟨2, ![1, 512]⟩
abbrev S1x2176 : Shape := ⟨2, ![1, 2176]⟩
abbrev S1x8x64 : Shape := ⟨3, ![1, 8, 64]⟩
abbrev S8x1x8448 : Shape := ⟨3, ![8, 1, 8448]⟩
abbrev S1x128 : Shape := ⟨2, ![1, 128]⟩
abbrev S1x1x8448 : Shape := ⟨3, ![1, 1, 8448]⟩
abbrev S1x8448 : Shape := ⟨2, ![1, 8448]⟩
abbrev S1x64 : Shape := ⟨2, ![1, 64]⟩
abbrev S8x64 : Shape := ⟨2, ![8, 64]⟩

abbrev nBuf : Space → Nat
  | .hbm => 91
  | .vmem => 79
  | .smem => 0
  | _ => 0

abbrev bufTy : (tb : Table) → Fin (tcTables nBuf tb) → BufTy
  | .hbm, ⟨0, _⟩ => ⟨S8x1x128, .f32⟩
  | .hbm, ⟨1, _⟩ => ⟨S8x1x1024, .f32⟩
  | .hbm, ⟨2, _⟩ => ⟨S8x1x512, .f32⟩
  | .hbm, ⟨3, _⟩ => ⟨S8x1x2176, .f32⟩
  | .hbm, ⟨4, _⟩ => ⟨S8x1x512, .f32⟩
  | .hbm, ⟨5, _⟩ => ⟨S8x1x512, .f32⟩
  | .hbm, ⟨6, _⟩ => ⟨S8x1x512, .f32⟩
  | .hbm, ⟨7, _⟩ => ⟨S8x1x512, .f32⟩
  | .hbm, ⟨8, _⟩ => ⟨S8x1x512, .f32⟩
  | .hbm, ⟨9, _⟩ => ⟨S8x1x512, .f32⟩
  | .hbm, ⟨10, _⟩ => ⟨S8x1x512, .f32⟩
  | .hbm, ⟨11, _⟩ => ⟨S8x1x1024, .f32⟩
  | .hbm, ⟨12, _⟩ => ⟨S1x1024, .f32⟩
  | .hbm, ⟨13, _⟩ => ⟨S1x512, .f32⟩
  | .hbm, ⟨14, _⟩ => ⟨S1x2176, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x8x64, .f32⟩
  | .hbm, ⟨20, _⟩ => ⟨S1x512, .f32⟩
  | .hbm, ⟨21, _⟩ => ⟨S1x512, .f32⟩
  | .hbm, ⟨22, _⟩ => ⟨S1x1024, .f32⟩
  | .hbm, ⟨23, _⟩ => ⟨S1x1024, .f32⟩
  | .hbm, ⟨24, _⟩ => ⟨S1x512, .f32⟩
  | .hbm, ⟨25, _⟩ => ⟨S1x2176, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x8x64, .f32⟩
  | .hbm, ⟨31, _⟩ => ⟨S1x512, .f32⟩
  | .hbm, ⟨32, _⟩ => ⟨S1x512, .f32⟩
  | .hbm, ⟨33, _⟩ => ⟨S1x1024, .f32⟩
  | .hbm, ⟨34, _⟩ => ⟨S1x1024, .f32⟩
  | .hbm, ⟨35, _⟩ => ⟨S1x512, .f32⟩
  | .hbm, ⟨36, _⟩ => ⟨S1x2176, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S1x8x64, .f32⟩
  | .hbm, ⟨42, _⟩ => ⟨S1x512, .f32⟩
  | .hbm, ⟨43, _⟩ => ⟨S1x512, .f32⟩
  | .hbm, ⟨44, _⟩ => ⟨S1x1024, .f32⟩
  | .hbm, ⟨45, _⟩ => ⟨S8x1x8448, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x512, .f32⟩
  | .hbm, ⟨51, _⟩ => ⟨S1x512, .f32⟩
  | .hbm, ⟨52, _⟩ => ⟨S1x512, .f32⟩
  | .hbm, ⟨53, _⟩ => ⟨S1x512, .f32⟩
  | .hbm, ⟨54, _⟩ => ⟨S1x2176, .f32⟩
  | .hbm, ⟨55, _⟩ => ⟨S1x2176, .f32⟩
  | .hbm, ⟨56, _⟩ => ⟨S1x2176, .f32⟩
  | .hbm, ⟨57, _⟩ => ⟨S1x2176, .f32⟩
  | .hbm, ⟨58, _⟩ => ⟨S1x512, .f32⟩
  | .hbm, ⟨59, _⟩ => ⟨S1x512, .f32⟩
  | .hbm, ⟨60, _⟩ => ⟨S1x512, .f32⟩
  | .hbm, ⟨61, _⟩ => ⟨S1x512, .f32⟩
  | .hbm, ⟨62, _⟩ => ⟨S1x512, .f32⟩
  | .hbm, ⟨63, _⟩ => ⟨S1x512, .f32⟩
  | .hbm, ⟨64, _⟩ => ⟨S1x512, .f32⟩
  | .hbm, ⟨65, _⟩ => ⟨S1x512, .f32⟩
  | .hbm, ⟨66, _⟩ => ⟨S1x512, .f32⟩
  | .hbm, ⟨67, _⟩ => ⟨S1x512, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S1x8x64, .f32⟩
  | .hbm, ⟨75, _⟩ => ⟨S1x8x64, .f32⟩
  | .hbm, ⟨76, _⟩ => ⟨S1x8x64, .f32⟩
  | .hbm, ⟨77, _⟩ => ⟨S1x8x64, .f32⟩
  | .hbm, ⟨78, _⟩ => ⟨S1x512, .f32⟩
  | .hbm, ⟨79, _⟩ => ⟨S1x512, .f32⟩
  | .hbm, ⟨80, _⟩ => ⟨S1x512, .f32⟩
  | .hbm, ⟨81, _⟩ => ⟨S1x512, .f32⟩
  | .hbm, ⟨82, _⟩ => ⟨S1x512, .f32⟩
  | .hbm, ⟨83, _⟩ => ⟨S1x512, .f32⟩
  | .hbm, ⟨84, _⟩ => ⟨S1x512, .f32⟩
  | .hbm, ⟨85, _⟩ => ⟨S1x512, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x128, .f32⟩
  | .local _ .vmem, ⟨0, _⟩ => ⟨S8x1x8448, .f32⟩
  | .local _ .vmem, ⟨1, _⟩ => ⟨S1x1024, .f32⟩
  | .local _ .vmem, ⟨2, _⟩ => ⟨S1x512, .f32⟩
  | .local _ .vmem, ⟨3, _⟩ => ⟨S1x2176, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x8x64, .f32⟩
  | .local _ .vmem, ⟨9, _⟩ => ⟨S1x512, .f32⟩
  | .local _ .vmem, ⟨10, _⟩ => ⟨S1x512, .f32⟩
  | .local _ .vmem, ⟨11, _⟩ => ⟨S1x1024, .f32⟩
  | .local _ .vmem, ⟨12, _⟩ => ⟨S1x1024, .f32⟩
  | .local _ .vmem, ⟨13, _⟩ => ⟨S1x512, .f32⟩
  | .local _ .vmem, ⟨14, _⟩ => ⟨S1x2176, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x8x64, .f32⟩
  | .local _ .vmem, ⟨20, _⟩ => ⟨S1x512, .f32⟩
  | .local _ .vmem, ⟨21, _⟩ => ⟨S1x512, .f32⟩
  | .local _ .vmem, ⟨22, _⟩ => ⟨S1x1024, .f32⟩
  | .local _ .vmem, ⟨23, _⟩ => ⟨S1x1024, .f32⟩
  | .local _ .vmem, ⟨24, _⟩ => ⟨S1x512, .f32⟩
  | .local _ .vmem, ⟨25, _⟩ => ⟨S1x2176, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x8x64, .f32⟩
  | .local _ .vmem, ⟨31, _⟩ => ⟨S1x512, .f32⟩
  | .local _ .vmem, ⟨32, _⟩ => ⟨S1x512, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x512, .f32⟩
  | .local _ .vmem, ⟨39, _⟩ => ⟨S1x512, .f32⟩
  | .local _ .vmem, ⟨40, _⟩ => ⟨S1x512, .f32⟩
  | .local _ .vmem, ⟨41, _⟩ => ⟨S1x512, .f32⟩
  | .local _ .vmem, ⟨42, _⟩ => ⟨S1x2176, .f32⟩
  | .local _ .vmem, ⟨43, _⟩ => ⟨S1x2176, .f32⟩
  | .local _ .vmem, ⟨44, _⟩ => ⟨S1x2176, .f32⟩
  | .local _ .vmem, ⟨45, _⟩ => ⟨S1x2176, .f32⟩
  | .local _ .vmem, ⟨46, _⟩ => ⟨S1x512, .f32⟩
  | .local _ .vmem, ⟨47, _⟩ => ⟨S1x512, .f32⟩
  | .local _ .vmem, ⟨48, _⟩ => ⟨S1x512, .f32⟩
  | .local _ .vmem, ⟨49, _⟩ => ⟨S1x512, .f32⟩
  | .local _ .vmem, ⟨50, _⟩ => ⟨S1x512, .f32⟩
  | .local _ .vmem, ⟨51, _⟩ => ⟨S1x512, .f32⟩
  | .local _ .vmem, ⟨52, _⟩ => ⟨S1x512, .f32⟩
  | .local _ .vmem, ⟨53, _⟩ => ⟨S1x512, .f32⟩
  | .local _ .vmem, ⟨54, _⟩ => ⟨S1x512, .f32⟩
  | .local _ .vmem, ⟨55, _⟩ => ⟨S1x512, .f32⟩
  | .local _ .vmem, ⟨56, _⟩ => ⟨S1x512, .f32⟩
  | .local _ .vmem, ⟨57, _⟩ => ⟨S1x512, .f32⟩
  | .local _ .vmem, ⟨58, _⟩ => ⟨S1x512, .f32⟩
  | .local _ .vmem, ⟨59, _⟩ => ⟨S1x512, .f32⟩
  | .local _ .vmem, ⟨60, _⟩ => ⟨S1x512, .f32⟩
  | .local _ .vmem, ⟨61, _⟩ => ⟨S1x512, .f32⟩
  | .local _ .vmem, ⟨62, _⟩ => ⟨S1x8x64, .f32⟩
  | .local _ .vmem, ⟨63, _⟩ => ⟨S1x8x64, .f32⟩
  | .local _ .vmem, ⟨64, _⟩ => ⟨S1x8x64, .f32⟩
  | .local _ .vmem, ⟨65, _⟩ => ⟨S1x8x64, .f32⟩
  | .local _ .vmem, ⟨66, _⟩ => ⟨S1x512, .f32⟩
  | .local _ .vmem, ⟨67, _⟩ => ⟨S1x512, .f32⟩
  | .local _ .vmem, ⟨68, _⟩ => ⟨S1x512, .f32⟩
  | .local _ .vmem, ⟨69, _⟩ => ⟨S1x512, .f32⟩
  | .local _ .vmem, ⟨70, _⟩ => ⟨S1x512, .f32⟩
  | .local _ .vmem, ⟨71, _⟩ => ⟨S1x512, .f32⟩
  | .local _ .vmem, ⟨72, _⟩ => ⟨S1x512, .f32⟩
  | .local _ .vmem, ⟨73, _⟩ => ⟨S1x512, .f32⟩
  | .local _ .vmem, ⟨74, _⟩ => ⟨S1x1024, .f32⟩
  | .local _ .vmem, ⟨75, _⟩ => ⟨S1x1024, .f32⟩
  | .local _ .vmem, ⟨76, _⟩ => ⟨S1x1024, .f32⟩
  | .local _ .vmem, ⟨77, _⟩ => ⟨S1x1024, .f32⟩
  | .local _ .vmem, ⟨78, _⟩ => ⟨S1x128, .f32⟩
  | _, _ => ⟨S8x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_v0 : Ref sig .tc := ⟨.hbm, 45, rfl⟩
abbrev main_v1_0 : Ref sig .tc := ⟨.hbm, 46, rfl⟩
abbrev main_v1_1 : Ref sig .tc := ⟨.hbm, 47, rfl⟩
abbrev main_v1_2 : Ref sig .tc := ⟨.hbm, 48, rfl⟩
abbrev main_v1_3 : Ref sig .tc := ⟨.hbm, 49, rfl⟩
abbrev main_v1_4 : Ref sig .tc := ⟨.hbm, 50, rfl⟩
abbrev main_v1_5 : Ref sig .tc := ⟨.hbm, 51, rfl⟩
abbrev main_v1_6 : Ref sig .tc := ⟨.hbm, 52, rfl⟩
abbrev main_v1_7 : Ref sig .tc := ⟨.hbm, 53, rfl⟩
abbrev main_v1_8 : Ref sig .tc := ⟨.hbm, 54, rfl⟩
abbrev main_v1_9 : Ref sig .tc := ⟨.hbm, 55, rfl⟩
abbrev main_v1_10 : Ref sig .tc := ⟨.hbm, 56, rfl⟩
abbrev main_v1_11 : Ref sig .tc := ⟨.hbm, 57, rfl⟩
abbrev main_v1_12 : Ref sig .tc := ⟨.hbm, 58, rfl⟩
abbrev main_v1_13 : Ref sig .tc := ⟨.hbm, 59, rfl⟩
abbrev main_v1_14 : Ref sig .tc := ⟨.hbm, 60, rfl⟩
abbrev main_v1_15 : Ref sig .tc := ⟨.hbm, 61, rfl⟩
abbrev main_v1_16 : Ref sig .tc := ⟨.hbm, 62, rfl⟩
abbrev main_v1_17 : Ref sig .tc := ⟨.hbm, 63, rfl⟩
abbrev main_v1_18 : Ref sig .tc := ⟨.hbm, 64, rfl⟩
abbrev main_v1_19 : Ref sig .tc := ⟨.hbm, 65, rfl⟩
abbrev main_v1_20 : Ref sig .tc := ⟨.hbm, 66, rfl⟩
abbrev main_v1_21 : Ref sig .tc := ⟨.hbm, 67, rfl⟩
abbrev main_v1_22 : Ref sig .tc := ⟨.hbm, 68, rfl⟩
abbrev main_v1_23 : Ref sig .tc := ⟨.hbm, 69, rfl⟩
abbrev main_v1_24 : Ref sig .tc := ⟨.hbm, 70, rfl⟩
abbrev main_v1_25 : Ref sig .tc := ⟨.hbm, 71, rfl⟩
abbrev main_v1_26 : Ref sig .tc := ⟨.hbm, 72, rfl⟩
abbrev main_v1_27 : Ref sig .tc := ⟨.hbm, 73, rfl⟩
abbrev main_v1_28 : Ref sig .tc := ⟨.hbm, 74, rfl⟩
abbrev main_v1_29 : Ref sig .tc := ⟨.hbm, 75, rfl⟩
abbrev main_v1_30 : Ref sig .tc := ⟨.hbm, 76, rfl⟩
abbrev main_v1_31 : Ref sig .tc := ⟨.hbm, 77, rfl⟩
abbrev main_v1_32 : Ref sig .tc := ⟨.hbm, 78, rfl⟩
abbrev main_v1_33 : Ref sig .tc := ⟨.hbm, 79, rfl⟩
abbrev main_v1_34 : Ref sig .tc := ⟨.hbm, 80, rfl⟩
abbrev main_v1_35 : Ref sig .tc := ⟨.hbm, 81, rfl⟩
abbrev main_v1_36 : Ref sig .tc := ⟨.hbm, 82, rfl⟩
abbrev main_v1_37 : Ref sig .tc := ⟨.hbm, 83, rfl⟩
abbrev main_v1_38 : Ref sig .tc := ⟨.hbm, 84, rfl⟩
abbrev main_v1_39 : Ref sig .tc := ⟨.hbm, 85, rfl⟩
abbrev main_v1_40 : Ref sig .tc := ⟨.hbm, 86, rfl⟩
abbrev main_v1_41 : Ref sig .tc := ⟨.hbm, 87, rfl⟩
abbrev main_v1_42 : Ref sig .tc := ⟨.hbm, 88, rfl⟩
abbrev main_v1_43 : Ref sig .tc := ⟨.hbm, 89, rfl⟩
abbrev main_v1_44 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78

abbrev nD : Nat := 1
abbrev τ : Topo := Topo.v7x

variable {F : FTy → Type} [FloatOps F]

abbrev grid0 : Pipeline.Grid := .none

abbrev stage0_0 : Fin 1 → Memref sig .tc .vmem S8x1x8448 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x2176 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x8x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x2176 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x8x64 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x512 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x512 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x512 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x512 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x2176 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x2176 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x2176 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x2176 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x512 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x512 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x512 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x512 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x512 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x512 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x512 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x512 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x512 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x512 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x512 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x512 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x512 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x512 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x512 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x512 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x8x64 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x8x64 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x8x64 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x8x64 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x512 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x512 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x512 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1x512 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S1x512 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1x512 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S1x512 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S1x512 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S1x1024 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S1x1024 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S1x1024 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S1x1024 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S1x128 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))
-- ==== Reference8Ideal.lean ====
abbrev S8x1x128 : Shape := ⟨3, ![8, 1, 128]⟩
abbrev S8x1x1024 : Shape := ⟨3, ![8, 1, 1024]⟩
abbrev S8x1x512 : Shape := ⟨3, ![8, 1, 512]⟩
abbrev S8x1x2176 : Shape := ⟨3, ![8, 1, 2176]⟩
abbrev S1x1024 : Shape := ⟨2, ![1, 1024]⟩
abbrev S1x512 : Shape := ⟨2, ![1, 512]⟩
abbrev S1x2176 : Shape := ⟨2, ![1, 2176]⟩
abbrev S1x8x64 : Shape := ⟨3, ![1, 8, 64]⟩
abbrev S_ : Shape := ⟨0, ![]⟩
abbrev S1x128 : Shape := ⟨2, ![1, 128]⟩

abbrev nBuf : Space → Nat
  | .hbm => 433
  | .vmem => 0
  | .smem => 0
  | _ => 0

abbrev hbmTy0_0 (i : Nat) : BufTy := match i % 128 with
  | 0 => ⟨S8x1x128, .f32⟩
  | 1 => ⟨S8x1x1024, .f32⟩
  | 2 => ⟨S8x1x512, .f32⟩
  | 3 => ⟨S8x1x2176, .f32⟩
  | 4 => ⟨S8x1x512, .f32⟩
  | 5 => ⟨S8x1x512, .f32⟩
  | 6 => ⟨S8x1x512, .f32⟩
  | 7 => ⟨S8x1x512, .f32⟩
  | 8 => ⟨S8x1x512, .f32⟩
  | 9 => ⟨S8x1x512, .f32⟩
  | 10 => ⟨S8x1x512, .f32⟩
  | 11 => ⟨S8x1x1024, .f32⟩
  | 12 => ⟨S1x1024, .f32⟩
  | 13 => ⟨S1x512, .f32⟩
  | 14 => ⟨S1x2176, .f32⟩
  | 15 => ⟨S1x512, .f32⟩
  | 16 => ⟨S1x512, .f32⟩
  | 17 => ⟨S1x512, .f32⟩
  | 18 => ⟨S1x512, .f32⟩
  | 19 => ⟨S1x8x64, .f32⟩
  | 20 => ⟨S1x512, .f32⟩
  | 21 => ⟨S1x512, .f32⟩
  | 22 => ⟨S1x1024, .f32⟩
  | 23 => ⟨S1x1024, .f32⟩
  | 24 => ⟨S1x512, .f32⟩
  | 25 => ⟨S1x2176, .f32⟩
  | 26 => ⟨S1x512, .f32⟩
  | 27 => ⟨S1x512, .f32⟩
  | 28 => ⟨S1x512, .f32⟩
  | 29 => ⟨S1x512, .f32⟩
  | 30 => ⟨S1x8x64, .f32⟩
  | 31 => ⟨S1x512, .f32⟩
  | 32 => ⟨S1x512, .f32⟩
  | 33 => ⟨S1x1024, .f32⟩
  | 34 => ⟨S1x1024, .f32⟩
  | 35 => ⟨S1x512, .f32⟩
  | 36 => ⟨S1x2176, .f32⟩
  | 37 => ⟨S1x512, .f32⟩
  | 38 => ⟨S1x512, .f32⟩
  | 39 => ⟨S1x512, .f32⟩
  | 40 => ⟨S1x512, .f32⟩
  | 41 => ⟨S1x8x64, .f32⟩
  | 42 => ⟨S1x512, .f32⟩
  | 43 => ⟨S1x512, .f32⟩
  | 44 => ⟨S1x1024, .f32⟩
  | 45 => ⟨S_, .f32⟩
  | 46 => ⟨S1x1024, .f32⟩
  | 47 => ⟨S_, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S_, .f32⟩
  | 81 => ⟨S1x512, .f32⟩
  | 82 => ⟨S_, .f32⟩
  | 83 => ⟨S1x512, .f32⟩
  | 84 => ⟨S1x512, .f32⟩
  | 85 => ⟨S_, .f32⟩
  | 86 => ⟨S1x512, .f32⟩
  | 87 => ⟨S1x512, .f32⟩
  | 88 => ⟨S1x512, .f32⟩
  | 89 => ⟨S_, .f32⟩
  | 90 => ⟨S1x512, .f32⟩
  | 91 => ⟨S1x512, .f32⟩
  | 92 => ⟨S1x512, .f32⟩
  | 93 => ⟨S_, .f32⟩
  | 94 => ⟨S1x512, .f32⟩
  | 95 => ⟨S1x512, .f32⟩
  | 96 => ⟨S1x512, .f32⟩
  | 97 => ⟨S_, .f32⟩
  | 98 => ⟨S1x512, .f32⟩
  | 99 => ⟨S1x512, .f32⟩
  | 100 => ⟨S_, .f32⟩
  | 101 => ⟨S1x512, .f32⟩
  | 102 => ⟨S1x512, .f32⟩
  | 103 => ⟨S1x512, .f32⟩
  | 104 => ⟨S_, .f32⟩
  | 105 => ⟨S1x512, .f32⟩
  | 106 => ⟨S1x512, .f32⟩
  | 107 => ⟨S1x512, .f32⟩
  | 108 => ⟨S_, .f32⟩
  | 109 => ⟨S1x512, .f32⟩
  | 110 => ⟨S1x512, .f32⟩
  | 111 => ⟨S1x512, .f32⟩
  | 112 => ⟨S_, .f32⟩
  | 113 => ⟨S1x512, .f32⟩
  | 114 => ⟨S1x512, .f32⟩
  | 115 => ⟨S_, .f32⟩
  | 116 => ⟨S1x2176, .f32⟩
  | 117 => ⟨S_, .f32⟩
  | 118 => ⟨S1x2176, .f32⟩
  | 119 => ⟨S1x2176, .f32⟩
  | 120 => ⟨S_, .f32⟩
  | 121 => ⟨S1x2176, .f32⟩
  | 122 => ⟨S1x2176, .f32⟩
  | 123 => ⟨S1x2176, .f32⟩
  | 124 => ⟨S_, .f32⟩
  | 125 => ⟨S1x2176, .f32⟩
  | 126 => ⟨S1x2176, .f32⟩
  | 127 => ⟨S1x2176, .f32⟩
  | _ => ⟨S8x1x128, .f32⟩

abbrev hbmTy0_1 (i : Nat) : BufTy := match i % 128 with
  | 0 => ⟨S_, .f32⟩
  | 1 => ⟨S1x2176, .f32⟩
  | 2 => ⟨S1x2176, .f32⟩
  | 3 => ⟨S1x2176, .f32⟩
  | 4 => ⟨S_, .f32⟩
  | 5 => ⟨S1x2176, .f32⟩
  | 6 => ⟨S1x2176, .f32⟩
  | 7 => ⟨S_, .f32⟩
  | 8 => ⟨S1x2176, .f32⟩
  | 9 => ⟨S1x2176, .f32⟩
  | 10 => ⟨S1x2176, .f32⟩
  | 11 => ⟨S_, .f32⟩
  | 12 => ⟨S1x2176, .f32⟩
  | 13 => ⟨S1x2176, .f32⟩
  | 14 => ⟨S1x2176, .f32⟩
  | 15 => ⟨S_, .f32⟩
  | 16 => ⟨S1x2176, .f32⟩
  | 17 => ⟨S1x2176, .f32⟩
  | 18 => ⟨S1x2176, .f32⟩
  | 19 => ⟨S_, .f32⟩
  | 20 => ⟨S1x2176, .f32⟩
  | 21 => ⟨S1x2176, .f32⟩
  | 22 => ⟨S_, .f32⟩
  | 23 => ⟨S1x512, .f32⟩
  | 24 => ⟨S_, .f32⟩
  | 25 => ⟨S1x512, .f32⟩
  | 26 => ⟨S1x512, .f32⟩
  | 27 => ⟨S_, .f32⟩
  | 28 => ⟨S1x512, .f32⟩
  | 29 => ⟨S1x512, .f32⟩
  | 30 => ⟨S1x512, .f32⟩
  | 31 => ⟨S_, .f32⟩
  | 32 => ⟨S1x512, .f32⟩
  | 33 => ⟨S1x512, .f32⟩
  | 34 => ⟨S1x512, .f32⟩
  | 35 => ⟨S_, .f32⟩
  | 36 => ⟨S1x512, .f32⟩
  | 37 => ⟨S1x512, .f32⟩
  | 38 => ⟨S1x512, .f32⟩
  | 39 => ⟨S_, .f32⟩
  | 40 => ⟨S1x512, .f32⟩
  | 41 => ⟨S1x512, .f32⟩
  | 42 => ⟨S_, .f32⟩
  | 43 => ⟨S1x512, .f32⟩
  | 44 => ⟨S1x512, .f32⟩
  | 45 => ⟨S1x512, .f32⟩
  | 46 => ⟨S_, .f32⟩
  | 47 => ⟨S1x512, .f32⟩
  | 48 => ⟨S1x512, .f32⟩
  | 49 => ⟨S1x512, .f32⟩
  | 50 => ⟨S_, .f32⟩
  | 51 => ⟨S1x512, .f32⟩
  | 52 => ⟨S1x512, .f32⟩
  | 53 => ⟨S1x512, .f32⟩
  | 54 => ⟨S_, .f32⟩
  | 55 => ⟨S1x512, .f32⟩
  | 56 => ⟨S1x512, .f32⟩
  | 57 => ⟨S_, .f32⟩
  | 58 => ⟨S1x512, .f32⟩
  | 59 => ⟨S_, .f32⟩
  | 60 => ⟨S1x512, .f32⟩
  | 61 => ⟨S1x512, .f32⟩
  | 62 => ⟨S_, .f32⟩
  | 63 => ⟨S1x512, .f32⟩
  | 64 => ⟨S1x512, .f32⟩
  | 65 => ⟨S1x512, .f32⟩
  | 66 => ⟨S_, .f32⟩
  | 67 => ⟨S1x512, .f32⟩
  | 68 => ⟨S1x512, .f32⟩
  | 69 => ⟨S1x512, .f32⟩
  | 70 => ⟨S_, .f32⟩
  | 71 => ⟨S1x512, .f32⟩
  | 72 => ⟨S1x512, .f32⟩
  | 73 => ⟨S1x512, .f32⟩
  | 74 => ⟨S_, .f32⟩
  | 75 => ⟨S1x512, .f32⟩
  | 76 => ⟨S1x512, .f32⟩
  | 77 => ⟨S_, .f32⟩
  | 78 => ⟨S1x512, .f32⟩
  | 79 => ⟨S1x512, .f32⟩
  | 80 => ⟨S1x512, .f32⟩
  | 81 => ⟨S_, .f32⟩
  | 82 => ⟨S1x512, .f32⟩
  | 83 => ⟨S1x512, .f32⟩
  | 84 => ⟨S1x512, .f32⟩
  | 85 => ⟨S_, .f32⟩
  | 86 => ⟨S1x512, .f32⟩
  | 87 => ⟨S1x512, .f32⟩
  | 88 => ⟨S1x512, .f32⟩
  | 89 => ⟨S_, .f32⟩
  | 90 => ⟨S1x512, .f32⟩
  | 91 => ⟨S1x512, .f32⟩
  | 92 => ⟨S_, .f32⟩
  | 93 => ⟨S1x512, .f32⟩
  | 94 => ⟨S_, .f32⟩
  | 95 => ⟨S1x512, .f32⟩
  | 96 => ⟨S1x512, .f32⟩
  | 97 => ⟨S_, .f32⟩
  | 98 => ⟨S1x512, .f32⟩
  | 99 => ⟨S1x512, .f32⟩
  | 100 => ⟨S1x512, .f32⟩
  | 101 => ⟨S_, .f32⟩
  | 102 => ⟨S1x512, .f32⟩
  | 103 => ⟨S1x512, .f32⟩
  | 104 => ⟨S1x512, .f32⟩
  | 105 => ⟨S_, .f32⟩
  | 106 => ⟨S1x512, .f32⟩
  | 107 => ⟨S1x512, .f32⟩
  | 108 => ⟨S1x512, .f32⟩
  | 109 => ⟨S_, .f32⟩
  | 110 => ⟨S1x512, .f32⟩
  | 111 => ⟨S1x512, .f32⟩
  | 112 => ⟨S_, .f32⟩
  | 113 => ⟨S1x512, .f32⟩
  | 114 => ⟨S1x512, .f32⟩
  | 115 => ⟨S1x512, .f32⟩
  | 116 => ⟨S_, .f32⟩
  | 117 => ⟨S1x512, .f32⟩
  | 118 => ⟨S1x512, .f32⟩
  | 119 => ⟨S1x512, .f32⟩
  | 120 => ⟨S_, .f32⟩
  | 121 => ⟨S1x512, .f32⟩
  | 122 => ⟨S1x512, .f32⟩
  | 123 => ⟨S1x512, .f32⟩
  | 124 => ⟨S_, .f32⟩
  | 125 => ⟨S1x512, .f32⟩
  | 126 => ⟨S1x512, .f32⟩
  | 127 => ⟨S_, .f32⟩
  | _ => ⟨S8x1x128, .f32⟩

abbrev hbmTy0_2 (i : Nat) : BufTy := match i % 128 with
  | 0 => ⟨S1x512, .f32⟩
  | 1 => ⟨S_, .f32⟩
  | 2 => ⟨S1x512, .f32⟩
  | 3 => ⟨S1x512, .f32⟩
  | 4 => ⟨S_, .f32⟩
  | 5 => ⟨S1x512, .f32⟩
  | 6 => ⟨S1x512, .f32⟩
  | 7 => ⟨S1x512, .f32⟩
  | 8 => ⟨S_, .f32⟩
  | 9 => ⟨S1x512, .f32⟩
  | 10 => ⟨S1x512, .f32⟩
  | 11 => ⟨S1x512, .f32⟩
  | 12 => ⟨S_, .f32⟩
  | 13 => ⟨S1x512, .f32⟩
  | 14 => ⟨S1x512, .f32⟩
  | 15 => ⟨S1x512, .f32⟩
  | 16 => ⟨S_, .f32⟩
  | 17 => ⟨S1x512, .f32⟩
  | 18 => ⟨S1x512, .f32⟩
  | 19 => ⟨S_, .f32⟩
  | 20 => ⟨S1x512, .f32⟩
  | 21 => ⟨S1x512, .f32⟩
  | 22 => ⟨S1x512, .f32⟩
  | 23 => ⟨S_, .f32⟩
  | 24 => ⟨S1x512, .f32⟩
  | 25 => ⟨S1x512, .f32⟩
  | 26 => ⟨S1x512, .f32⟩
  | 27 => ⟨S_, .f32⟩
  | 28 => ⟨S1x512, .f32⟩
  | 29 => ⟨S1x512, .f32⟩
  | 30 => ⟨S1x512, .f32⟩
  | 31 => ⟨S_, .f32⟩
  | 32 => ⟨S1x512, .f32⟩
  | 33 => ⟨S1x512, .f32⟩
  | 34 => ⟨S_, .f32⟩
  | 35 => ⟨S1x512, .f32⟩
  | 36 => ⟨S1x8x64, .f32⟩
  | 37 => ⟨S_, .f32⟩
  | 38 => ⟨S1x8x64, .f32⟩
  | 39 => ⟨S1x8x64, .f32⟩
  | 40 => ⟨S_, .f32⟩
  | 41 => ⟨S1x8x64, .f32⟩
  | 42 => ⟨S1x8x64, .f32⟩
  | 43 => ⟨S1x8x64, .f32⟩
  | 44 => ⟨S_, .f32⟩
  | 45 => ⟨S1x8x64, .f32⟩
  | 46 => ⟨S1x8x64, .f32⟩
  | 47 => ⟨S1x8x64, .f32⟩
  | 48 => ⟨S_, .f32⟩
  | 49 => ⟨S1x8x64, .f32⟩
  | 50 => ⟨S1x8x64, .f32⟩
  | 51 => ⟨S1x8x64, .f32⟩
  | 52 => ⟨S_, .f32⟩
  | 53 => ⟨S1x8x64, .f32⟩
  | 54 => ⟨S1x8x64, .f32⟩
  | 55 => ⟨S_, .f32⟩
  | 56 => ⟨S1x8x64, .f32⟩
  | 57 => ⟨S1x8x64, .f32⟩
  | 58 => ⟨S1x8x64, .f32⟩
  | 59 => ⟨S_, .f32⟩
  | 60 => ⟨S1x8x64, .f32⟩
  | 61 => ⟨S1x8x64, .f32⟩
  | 62 => ⟨S1x8x64, .f32⟩
  | 63 => ⟨S_, .f32⟩
  | 64 => ⟨S1x8x64, .f32⟩
  | 65 => ⟨S1x8x64, .f32⟩
  | 66 => ⟨S1x8x64, .f32⟩
  | 67 => ⟨S_, .f32⟩
  | 68 => ⟨S1x8x64, .f32⟩
  | 69 => ⟨S1x8x64, .f32⟩
  | 70 => ⟨S_, .f32⟩
  | 71 => ⟨S1x512, .f32⟩
  | 72 => ⟨S_, .f32⟩
  | 73 => ⟨S1x512, .f32⟩
  | 74 => ⟨S1x512, .f32⟩
  | 75 => ⟨S_, .f32⟩
  | 76 => ⟨S1x512, .f32⟩
  | 77 => ⟨S1x512, .f32⟩
  | 78 => ⟨S1x512, .f32⟩
  | 79 => ⟨S_, .f32⟩
  | 80 => ⟨S1x512, .f32⟩
  | 81 => ⟨S1x512, .f32⟩
  | 82 => ⟨S1x512, .f32⟩
  | 83 => ⟨S_, .f32⟩
  | 84 => ⟨S1x512, .f32⟩
  | 85 => ⟨S1x512, .f32⟩
  | 86 => ⟨S1x512, .f32⟩
  | 87 => ⟨S_, .f32⟩
  | 88 => ⟨S1x512, .f32⟩
  | 89 => ⟨S1x512, .f32⟩
  | 90 => ⟨S_, .f32⟩
  | 91 => ⟨S1x512, .f32⟩
  | 92 => ⟨S1x512, .f32⟩
  | 93 => ⟨S1x512, .f32⟩
  | 94 => ⟨S_, .f32⟩
  | 95 => ⟨S1x512, .f32⟩
  | 96 => ⟨S1x512, .f32⟩
  | 97 => ⟨S1x512, .f32⟩
  | 98 => ⟨S_, .f32⟩
  | 99 => ⟨S1x512, .f32⟩
  | 100 => ⟨S1x512, .f32⟩
  | 101 => ⟨S1x512, .f32⟩
  | 102 => ⟨S_, .f32⟩
  | 103 => ⟨S1x512, .f32⟩
  | 104 => ⟨S1x512, .f32⟩
  | 105 => ⟨S_, .f32⟩
  | 106 => ⟨S1x512, .f32⟩
  | 107 => ⟨S_, .f32⟩
  | 108 => ⟨S1x512, .f32⟩
  | 109 => ⟨S1x512, .f32⟩
  | 110 => ⟨S_, .f32⟩
  | 111 => ⟨S1x512, .f32⟩
  | 112 => ⟨S1x512, .f32⟩
  | 113 => ⟨S1x512, .f32⟩
  | 114 => ⟨S_, .f32⟩
  | 115 => ⟨S1x512, .f32⟩
  | 116 => ⟨S1x512, .f32⟩
  | 117 => ⟨S1x512, .f32⟩
  | 118 => ⟨S_, .f32⟩
  | 119 => ⟨S1x512, .f32⟩
  | 120 => ⟨S1x512, .f32⟩
  | 121 => ⟨S1x512, .f32⟩
  | 122 => ⟨S_, .f32⟩
  | 123 => ⟨S1x512, .f32⟩
  | 124 => ⟨S1x512, .f32⟩
  | 125 => ⟨S_, .f32⟩
  | 126 => ⟨S1x512, .f32⟩
  | 127 => ⟨S1x512, .f32⟩
  | _ => ⟨S8x1x128, .f32⟩

abbrev hbmTy0_3 (i : Nat) : BufTy := match i % 128 with
  | 0 => ⟨S1x512, .f32⟩
  | 1 => ⟨S_, .f32⟩
  | 2 => ⟨S1x512, .f32⟩
  | 3 => ⟨S1x512, .f32⟩
  | 4 => ⟨S1x512, .f32⟩
  | 5 => ⟨S_, .f32⟩
  | 6 => ⟨S1x512, .f32⟩
  | 7 => ⟨S1x512, .f32⟩
  | 8 => ⟨S1x512, .f32⟩
  | 9 => ⟨S_, .f32⟩
  | 10 => ⟨S1x512, .f32⟩
  | 11 => ⟨S1x512, .f32⟩
  | 12 => ⟨S_, .f32⟩
  | 13 => ⟨S1x1024, .f32⟩
  | 14 => ⟨S_, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S1x1024, .f32⟩
  | 44 => ⟨S_, .f32⟩
  | 45 => ⟨S1x1024, .f32⟩
  | 46 => ⟨S1x1024, .f32⟩
  | 47 => ⟨S_, .f32⟩
  | 48 => ⟨S1x128, .f32⟩
  | _ => ⟨S8x1x128, .f32⟩

abbrev hbmTy (i : Nat) : BufTy := match i / 128 with
  | 0 => hbmTy0_0 i
  | 1 => hbmTy0_1 i
  | 2 => hbmTy0_2 i
  | 3 => hbmTy0_3 i
  | _ => ⟨S8x1x128, .f32⟩

abbrev bufTy : (tb : Table) → Fin (tcTables nBuf tb) → BufTy
  | .hbm, ⟨i, _⟩ => hbmTy i
  | _, _ => ⟨S8x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_cst : Ref sig .tc := ⟨.hbm, 45, rfl⟩
abbrev main_v0 : Ref sig .tc := ⟨.hbm, 46, rfl⟩
abbrev main_cst_0 : Ref sig .tc := ⟨.hbm, 47, rfl⟩
abbrev main_v1 : Ref sig .tc := ⟨.hbm, 48, rfl⟩
abbrev main_v2 : Ref sig .tc := ⟨.hbm, 49, rfl⟩
abbrev main_cst_1 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_cst_2 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_cst_3 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_cst_4 : Ref sig .tc := ⟨.hbm, 62, rfl⟩
abbrev main_v12 : Ref sig .tc := ⟨.hbm, 63, rfl⟩
abbrev main_v13 : Ref sig .tc := ⟨.hbm, 64, rfl⟩
abbrev main_cst_5 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_cst_6 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_cst_7 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_cst_8 : Ref sig .tc := ⟨.hbm, 77, rfl⟩
abbrev main_v23 : Ref sig .tc := ⟨.hbm, 78, rfl⟩
abbrev main_v24 : Ref sig .tc := ⟨.hbm, 79, rfl⟩
abbrev main_cst_9 : Ref sig .tc := ⟨.hbm, 80, rfl⟩
abbrev main_v25 : Ref sig .tc := ⟨.hbm, 81, rfl⟩
abbrev main_cst_10 : Ref sig .tc := ⟨.hbm, 82, rfl⟩
abbrev main_v26 : Ref sig .tc := ⟨.hbm, 83, rfl⟩
abbrev main_v27 : Ref sig .tc := ⟨.hbm, 84, rfl⟩
abbrev main_cst_11 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_cst_12 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_cst_13 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_cst_14 : Ref sig .tc := ⟨.hbm, 97, rfl⟩
abbrev main_v37 : Ref sig .tc := ⟨.hbm, 98, rfl⟩
abbrev main_v38 : Ref sig .tc := ⟨.hbm, 99, rfl⟩
abbrev main_cst_15 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_cst_16 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_17 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_cst_18 : Ref sig .tc := ⟨.hbm, 112, rfl⟩
abbrev main_v48 : Ref sig .tc := ⟨.hbm, 113, rfl⟩
abbrev main_v49 : Ref sig .tc := ⟨.hbm, 114, rfl⟩
abbrev main_cst_19 : Ref sig .tc := ⟨.hbm, 115, rfl⟩
abbrev main_v50 : Ref sig .tc := ⟨.hbm, 116, rfl⟩
abbrev main_cst_20 : Ref sig .tc := ⟨.hbm, 117, rfl⟩
abbrev main_v51 : Ref sig .tc := ⟨.hbm, 118, rfl⟩
abbrev main_v52 : Ref sig .tc := ⟨.hbm, 119, rfl⟩
abbrev main_cst_21 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_cst_22 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_cst_23 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_cst_24 : Ref sig .tc := ⟨.hbm, 132, rfl⟩
abbrev main_v62 : Ref sig .tc := ⟨.hbm, 133, rfl⟩
abbrev main_v63 : Ref sig .tc := ⟨.hbm, 134, rfl⟩
abbrev main_cst_25 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_cst_26 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_cst_27 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_cst_28 : Ref sig .tc := ⟨.hbm, 147, rfl⟩
abbrev main_v73 : Ref sig .tc := ⟨.hbm, 148, rfl⟩
abbrev main_v74 : Ref sig .tc := ⟨.hbm, 149, rfl⟩
abbrev main_cst_29 : Ref sig .tc := ⟨.hbm, 150, rfl⟩
abbrev main_v75 : Ref sig .tc := ⟨.hbm, 151, rfl⟩
abbrev main_cst_30 : Ref sig .tc := ⟨.hbm, 152, rfl⟩
abbrev main_v76 : Ref sig .tc := ⟨.hbm, 153, rfl⟩
abbrev main_v77 : Ref sig .tc := ⟨.hbm, 154, rfl⟩
abbrev main_cst_31 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_cst_32 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_cst_33 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_cst_34 : Ref sig .tc := ⟨.hbm, 167, rfl⟩
abbrev main_v87 : Ref sig .tc := ⟨.hbm, 168, rfl⟩
abbrev main_v88 : Ref sig .tc := ⟨.hbm, 169, rfl⟩
abbrev main_cst_35 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_cst_36 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_cst_37 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_cst_38 : Ref sig .tc := ⟨.hbm, 182, rfl⟩
abbrev main_v98 : Ref sig .tc := ⟨.hbm, 183, rfl⟩
abbrev main_v99 : Ref sig .tc := ⟨.hbm, 184, rfl⟩
abbrev main_cst_39 : Ref sig .tc := ⟨.hbm, 185, rfl⟩
abbrev main_v100 : Ref sig .tc := ⟨.hbm, 186, rfl⟩
abbrev main_cst_40 : Ref sig .tc := ⟨.hbm, 187, rfl⟩
abbrev main_v101 : Ref sig .tc := ⟨.hbm, 188, rfl⟩
abbrev main_v102 : Ref sig .tc := ⟨.hbm, 189, rfl⟩
abbrev main_cst_41 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_cst_42 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_cst_43 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_44 : Ref sig .tc := ⟨.hbm, 202, rfl⟩
abbrev main_v112 : Ref sig .tc := ⟨.hbm, 203, rfl⟩
abbrev main_v113 : Ref sig .tc := ⟨.hbm, 204, rfl⟩
abbrev main_cst_45 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_cst_46 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_cst_47 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_cst_48 : Ref sig .tc := ⟨.hbm, 217, rfl⟩
abbrev main_v123 : Ref sig .tc := ⟨.hbm, 218, rfl⟩
abbrev main_v124 : Ref sig .tc := ⟨.hbm, 219, rfl⟩
abbrev main_cst_49 : Ref sig .tc := ⟨.hbm, 220, rfl⟩
abbrev main_v125 : Ref sig .tc := ⟨.hbm, 221, rfl⟩
abbrev main_cst_50 : Ref sig .tc := ⟨.hbm, 222, rfl⟩
abbrev main_v126 : Ref sig .tc := ⟨.hbm, 223, rfl⟩
abbrev main_v127 : Ref sig .tc := ⟨.hbm, 224, rfl⟩
abbrev main_cst_51 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_cst_52 : Ref sig .tc := ⟨.hbm, 229, rfl⟩
abbrev main_v131 : Ref sig .tc := ⟨.hbm, 230, rfl⟩
abbrev main_v132 : Ref sig .tc := ⟨.hbm, 231, rfl⟩
abbrev main_v133 : Ref sig .tc := ⟨.hbm, 232, rfl⟩
abbrev main_cst_53 : Ref sig .tc := ⟨.hbm, 233, rfl⟩
abbrev main_v134 : Ref sig .tc := ⟨.hbm, 234, rfl⟩
abbrev main_v135 : Ref sig .tc := ⟨.hbm, 235, rfl⟩
abbrev main_v136 : Ref sig .tc := ⟨.hbm, 236, rfl⟩
abbrev main_cst_54 : Ref sig .tc := ⟨.hbm, 237, rfl⟩
abbrev main_v137 : Ref sig .tc := ⟨.hbm, 238, rfl⟩
abbrev main_v138 : Ref sig .tc := ⟨.hbm, 239, rfl⟩
abbrev main_cst_55 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_cst_56 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_cst_57 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_cst_58 : Ref sig .tc := ⟨.hbm, 252, rfl⟩
abbrev main_v148 : Ref sig .tc := ⟨.hbm, 253, rfl⟩
abbrev main_v149 : Ref sig .tc := ⟨.hbm, 254, rfl⟩
abbrev main_cst_59 : Ref sig .tc := ⟨.hbm, 255, rfl⟩
abbrev main_v150 : Ref sig .tc := ⟨.hbm, 256, rfl⟩
abbrev main_cst_60 : Ref sig .tc := ⟨.hbm, 257, rfl⟩
abbrev main_v151 : Ref sig .tc := ⟨.hbm, 258, rfl⟩
abbrev main_v152 : Ref sig .tc := ⟨.hbm, 259, rfl⟩
abbrev main_cst_61 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_cst_62 : Ref sig .tc := ⟨.hbm, 264, rfl⟩
abbrev main_v156 : Ref sig .tc := ⟨.hbm, 265, rfl⟩
abbrev main_v157 : Ref sig .tc := ⟨.hbm, 266, rfl⟩
abbrev main_v158 : Ref sig .tc := ⟨.hbm, 267, rfl⟩
abbrev main_cst_63 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_cst_64 : Ref sig .tc := ⟨.hbm, 272, rfl⟩
abbrev main_v162 : Ref sig .tc := ⟨.hbm, 273, rfl⟩
abbrev main_v163 : Ref sig .tc := ⟨.hbm, 274, rfl⟩
abbrev main_cst_65 : Ref sig .tc := ⟨.hbm, 275, rfl⟩
abbrev main_v164 : Ref sig .tc := ⟨.hbm, 276, rfl⟩
abbrev main_v165 : Ref sig .tc := ⟨.hbm, 277, rfl⟩
abbrev main_v166 : Ref sig .tc := ⟨.hbm, 278, rfl⟩
abbrev main_cst_66 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_cst_67 : Ref sig .tc := ⟨.hbm, 283, rfl⟩
abbrev main_v170 : Ref sig .tc := ⟨.hbm, 284, rfl⟩
abbrev main_v171 : Ref sig .tc := ⟨.hbm, 285, rfl⟩
abbrev main_v172 : Ref sig .tc := ⟨.hbm, 286, rfl⟩
abbrev main_cst_68 : Ref sig .tc := ⟨.hbm, 287, rfl⟩
abbrev main_v173 : Ref sig .tc := ⟨.hbm, 288, rfl⟩
abbrev main_v174 : Ref sig .tc := ⟨.hbm, 289, rfl⟩
abbrev main_cst_69 : Ref sig .tc := ⟨.hbm, 290, rfl⟩
abbrev main_v175 : Ref sig .tc := ⟨.hbm, 291, rfl⟩
abbrev main_v176 : Ref sig .tc := ⟨.hbm, 292, rfl⟩
abbrev main_cst_70 : Ref sig .tc := ⟨.hbm, 293, rfl⟩
abbrev main_v177 : Ref sig .tc := ⟨.hbm, 294, rfl⟩
abbrev main_v178 : Ref sig .tc := ⟨.hbm, 295, rfl⟩
abbrev main_cst_71 : Ref sig .tc := ⟨.hbm, 296, rfl⟩
abbrev main_v179 : Ref sig .tc := ⟨.hbm, 297, rfl⟩
abbrev main_v180 : Ref sig .tc := ⟨.hbm, 298, rfl⟩
abbrev main_v181 : Ref sig .tc := ⟨.hbm, 299, rfl⟩
abbrev main_cst_72 : Ref sig .tc := ⟨.hbm, 300, rfl⟩
abbrev main_v182 : Ref sig .tc := ⟨.hbm, 301, rfl⟩
abbrev main_v183 : Ref sig .tc := ⟨.hbm, 302, rfl⟩
abbrev main_v184 : Ref sig .tc := ⟨.hbm, 303, rfl⟩
abbrev main_cst_73 : Ref sig .tc := ⟨.hbm, 304, rfl⟩
abbrev main_v185 : Ref sig .tc := ⟨.hbm, 305, rfl⟩
abbrev main_v186 : Ref sig .tc := ⟨.hbm, 306, rfl⟩
abbrev main_v187 : Ref sig .tc := ⟨.hbm, 307, rfl⟩
abbrev main_cst_74 : Ref sig .tc := ⟨.hbm, 308, rfl⟩
abbrev main_v188 : Ref sig .tc := ⟨.hbm, 309, rfl⟩
abbrev main_v189 : Ref sig .tc := ⟨.hbm, 310, rfl⟩
abbrev main_cst_75 : Ref sig .tc := ⟨.hbm, 311, rfl⟩
abbrev main_v190 : Ref sig .tc := ⟨.hbm, 312, rfl⟩
abbrev main_v191 : Ref sig .tc := ⟨.hbm, 313, rfl⟩
abbrev main_v192 : Ref sig .tc := ⟨.hbm, 314, rfl⟩
abbrev main_cst_76 : Ref sig .tc := ⟨.hbm, 315, rfl⟩
abbrev main_v193 : Ref sig .tc := ⟨.hbm, 316, rfl⟩
abbrev main_v194 : Ref sig .tc := ⟨.hbm, 317, rfl⟩
abbrev main_v195 : Ref sig .tc := ⟨.hbm, 318, rfl⟩
abbrev main_cst_77 : Ref sig .tc := ⟨.hbm, 319, rfl⟩
abbrev main_v196 : Ref sig .tc := ⟨.hbm, 320, rfl⟩
abbrev main_v197 : Ref sig .tc := ⟨.hbm, 321, rfl⟩
abbrev main_v198 : Ref sig .tc := ⟨.hbm, 322, rfl⟩
abbrev main_cst_78 : Ref sig .tc := ⟨.hbm, 323, rfl⟩
abbrev main_v199 : Ref sig .tc := ⟨.hbm, 324, rfl⟩
abbrev main_v200 : Ref sig .tc := ⟨.hbm, 325, rfl⟩
abbrev main_cst_79 : Ref sig .tc := ⟨.hbm, 326, rfl⟩
abbrev main_v201 : Ref sig .tc := ⟨.hbm, 327, rfl⟩
abbrev main_cst_80 : Ref sig .tc := ⟨.hbm, 328, rfl⟩
abbrev main_v202 : Ref sig .tc := ⟨.hbm, 329, rfl⟩
abbrev main_v203 : Ref sig .tc := ⟨.hbm, 330, rfl⟩
abbrev main_cst_81 : Ref sig .tc := ⟨.hbm, 331, rfl⟩
abbrev main_v204 : Ref sig .tc := ⟨.hbm, 332, rfl⟩
abbrev main_v205 : Ref sig .tc := ⟨.hbm, 333, rfl⟩
abbrev main_v206 : Ref sig .tc := ⟨.hbm, 334, rfl⟩
abbrev main_cst_82 : Ref sig .tc := ⟨.hbm, 335, rfl⟩
abbrev main_v207 : Ref sig .tc := ⟨.hbm, 336, rfl⟩
abbrev main_v208 : Ref sig .tc := ⟨.hbm, 337, rfl⟩
abbrev main_v209 : Ref sig .tc := ⟨.hbm, 338, rfl⟩
abbrev main_cst_83 : Ref sig .tc := ⟨.hbm, 339, rfl⟩
abbrev main_v210 : Ref sig .tc := ⟨.hbm, 340, rfl⟩
abbrev main_v211 : Ref sig .tc := ⟨.hbm, 341, rfl⟩
abbrev main_v212 : Ref sig .tc := ⟨.hbm, 342, rfl⟩
abbrev main_cst_84 : Ref sig .tc := ⟨.hbm, 343, rfl⟩
abbrev main_v213 : Ref sig .tc := ⟨.hbm, 344, rfl⟩
abbrev main_v214 : Ref sig .tc := ⟨.hbm, 345, rfl⟩
abbrev main_cst_85 : Ref sig .tc := ⟨.hbm, 346, rfl⟩
abbrev main_v215 : Ref sig .tc := ⟨.hbm, 347, rfl⟩
abbrev main_v216 : Ref sig .tc := ⟨.hbm, 348, rfl⟩
abbrev main_v217 : Ref sig .tc := ⟨.hbm, 349, rfl⟩
abbrev main_cst_86 : Ref sig .tc := ⟨.hbm, 350, rfl⟩
abbrev main_v218 : Ref sig .tc := ⟨.hbm, 351, rfl⟩
abbrev main_v219 : Ref sig .tc := ⟨.hbm, 352, rfl⟩
abbrev main_v220 : Ref sig .tc := ⟨.hbm, 353, rfl⟩
abbrev main_cst_87 : Ref sig .tc := ⟨.hbm, 354, rfl⟩
abbrev main_v221 : Ref sig .tc := ⟨.hbm, 355, rfl⟩
abbrev main_v222 : Ref sig .tc := ⟨.hbm, 356, rfl⟩
abbrev main_v223 : Ref sig .tc := ⟨.hbm, 357, rfl⟩
abbrev main_cst_88 : Ref sig .tc := ⟨.hbm, 358, rfl⟩
abbrev main_v224 : Ref sig .tc := ⟨.hbm, 359, rfl⟩
abbrev main_v225 : Ref sig .tc := ⟨.hbm, 360, rfl⟩
abbrev main_cst_89 : Ref sig .tc := ⟨.hbm, 361, rfl⟩
abbrev main_v226 : Ref sig .tc := ⟨.hbm, 362, rfl⟩
abbrev main_cst_90 : Ref sig .tc := ⟨.hbm, 363, rfl⟩
abbrev main_v227 : Ref sig .tc := ⟨.hbm, 364, rfl⟩
abbrev main_v228 : Ref sig .tc := ⟨.hbm, 365, rfl⟩
abbrev main_cst_91 : Ref sig .tc := ⟨.hbm, 366, rfl⟩
abbrev main_v229 : Ref sig .tc := ⟨.hbm, 367, rfl⟩
abbrev main_v230 : Ref sig .tc := ⟨.hbm, 368, rfl⟩
abbrev main_v231 : Ref sig .tc := ⟨.hbm, 369, rfl⟩
abbrev main_cst_92 : Ref sig .tc := ⟨.hbm, 370, rfl⟩
abbrev main_v232 : Ref sig .tc := ⟨.hbm, 371, rfl⟩
abbrev main_v233 : Ref sig .tc := ⟨.hbm, 372, rfl⟩
abbrev main_v234 : Ref sig .tc := ⟨.hbm, 373, rfl⟩
abbrev main_cst_93 : Ref sig .tc := ⟨.hbm, 374, rfl⟩
abbrev main_v235 : Ref sig .tc := ⟨.hbm, 375, rfl⟩
abbrev main_v236 : Ref sig .tc := ⟨.hbm, 376, rfl⟩
abbrev main_v237 : Ref sig .tc := ⟨.hbm, 377, rfl⟩
abbrev main_cst_94 : Ref sig .tc := ⟨.hbm, 378, rfl⟩
abbrev main_v238 : Ref sig .tc := ⟨.hbm, 379, rfl⟩
abbrev main_v239 : Ref sig .tc := ⟨.hbm, 380, rfl⟩
abbrev main_cst_95 : Ref sig .tc := ⟨.hbm, 381, rfl⟩
abbrev main_v240 : Ref sig .tc := ⟨.hbm, 382, rfl⟩
abbrev main_v241 : Ref sig .tc := ⟨.hbm, 383, rfl⟩
abbrev main_v242 : Ref sig .tc := ⟨.hbm, 384, rfl⟩
abbrev main_cst_96 : Ref sig .tc := ⟨.hbm, 385, rfl⟩
abbrev main_v243 : Ref sig .tc := ⟨.hbm, 386, rfl⟩
abbrev main_v244 : Ref sig .tc := ⟨.hbm, 387, rfl⟩
abbrev main_v245 : Ref sig .tc := ⟨.hbm, 388, rfl⟩
abbrev main_cst_97 : Ref sig .tc := ⟨.hbm, 389, rfl⟩
abbrev main_v246 : Ref sig .tc := ⟨.hbm, 390, rfl⟩
abbrev main_v247 : Ref sig .tc := ⟨.hbm, 391, rfl⟩
abbrev main_v248 : Ref sig .tc := ⟨.hbm, 392, rfl⟩
abbrev main_cst_98 : Ref sig .tc := ⟨.hbm, 393, rfl⟩
abbrev main_v249 : Ref sig .tc := ⟨.hbm, 394, rfl⟩
abbrev main_v250 : Ref sig .tc := ⟨.hbm, 395, rfl⟩
abbrev main_cst_99 : Ref sig .tc := ⟨.hbm, 396, rfl⟩
abbrev main_v251 : Ref sig .tc := ⟨.hbm, 397, rfl⟩
abbrev main_cst_100 : Ref sig .tc := ⟨.hbm, 398, rfl⟩
abbrev main_v252 : Ref sig .tc := ⟨.hbm, 399, rfl⟩
abbrev main_v253 : Ref sig .tc := ⟨.hbm, 400, rfl⟩
abbrev main_cst_101 : Ref sig .tc := ⟨.hbm, 401, rfl⟩
abbrev main_v254 : Ref sig .tc := ⟨.hbm, 402, rfl⟩
abbrev main_v255 : Ref sig .tc := ⟨.hbm, 403, rfl⟩
abbrev main_v256 : Ref sig .tc := ⟨.hbm, 404, rfl⟩
abbrev main_cst_102 : Ref sig .tc := ⟨.hbm, 405, rfl⟩
abbrev main_v257 : Ref sig .tc := ⟨.hbm, 406, rfl⟩
abbrev main_v258 : Ref sig .tc := ⟨.hbm, 407, rfl⟩
abbrev main_v259 : Ref sig .tc := ⟨.hbm, 408, rfl⟩
abbrev main_cst_103 : Ref sig .tc := ⟨.hbm, 409, rfl⟩
abbrev main_v260 : Ref sig .tc := ⟨.hbm, 410, rfl⟩
abbrev main_v261 : Ref sig .tc := ⟨.hbm, 411, rfl⟩
abbrev main_v262 : Ref sig .tc := ⟨.hbm, 412, rfl⟩
abbrev main_cst_104 : Ref sig .tc := ⟨.hbm, 413, rfl⟩
abbrev main_v263 : Ref sig .tc := ⟨.hbm, 414, rfl⟩
abbrev main_v264 : Ref sig .tc := ⟨.hbm, 415, rfl⟩
abbrev main_cst_105 : Ref sig .tc := ⟨.hbm, 416, rfl⟩
abbrev main_v265 : Ref sig .tc := ⟨.hbm, 417, rfl⟩
abbrev main_v266 : Ref sig .tc := ⟨.hbm, 418, rfl⟩
abbrev main_v267 : Ref sig .tc := ⟨.hbm, 419, rfl⟩
abbrev main_cst_106 : Ref sig .tc := ⟨.hbm, 420, rfl⟩
abbrev main_v268 : Ref sig .tc := ⟨.hbm, 421, rfl⟩
abbrev main_v269 : Ref sig .tc := ⟨.hbm, 422, rfl⟩
abbrev main_v270 : Ref sig .tc := ⟨.hbm, 423, rfl⟩
abbrev main_cst_107 : Ref sig .tc := ⟨.hbm, 424, rfl⟩
abbrev main_v271 : Ref sig .tc := ⟨.hbm, 425, rfl⟩
abbrev main_v272 : Ref sig .tc := ⟨.hbm, 426, rfl⟩
abbrev main_v273 : Ref sig .tc := ⟨.hbm, 427, rfl⟩
abbrev main_cst_108 : Ref sig .tc := ⟨.hbm, 428, rfl⟩
abbrev main_v274 : Ref sig .tc := ⟨.hbm, 429, rfl⟩
abbrev main_v275 : Ref sig .tc := ⟨.hbm, 430, rfl⟩
abbrev main_cst_109 : Ref sig .tc := ⟨.hbm, 431, rfl⟩
abbrev main_v276 : Ref sig .tc := ⟨.hbm, 432, rfl⟩

abbrev nD : Nat := 1
abbrev τ : Topo := Topo.v7x

variable {F : FTy → Type} [FloatOps F]
-- ==== Proof.Vec.Outs.lean ====
module

public import proofs.«01_k».proof.Proof.Gen.Kernel8Ideal.Launch
public import proofs.«01_k».proof.Proof.Gen.Kernel8Ideal.Skeleton
public import proofs.«01_k».proof.Proof.Gen.Kernel8Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel8Ideal.Vec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen

variable {F : FTy → Type} [FloatOps F]

/-! # What the body of the call leaves in each output window

The call adds the eight devices' parts of every small weight's gradient, and steps the optimiser of eleven
weights with the sums. Its windows are whole arrays and its grid has one point. Each output is written by one
store, whose payload is stated here over the input windows that it reads: the parts (`x0`), a weight (`x1` to
`x11`) and that weight's two moments (`x12` to `x33`). -/

abbrev r0_0 : Rect S8x1x8448 := Rect.unit (s := S8x1x8448) ![0, 0, 0] S1x1x8448.size inb_S8x1x8448_S1x1x8448_0_0_0
abbrev r0_1 : Rect S8x1x8448 := Rect.unit (s := S8x1x8448) ![1, 0, 0] S1x1x8448.size inb_S8x1x8448_S1x1x8448_1_0_0
abbrev r0_2 : Rect S8x1x8448 := Rect.unit (s := S8x1x8448) ![2, 0, 0] S1x1x8448.size inb_S8x1x8448_S1x1x8448_2_0_0
abbrev r0_3 : Rect S8x1x8448 := Rect.unit (s := S8x1x8448) ![3, 0, 0] S1x1x8448.size inb_S8x1x8448_S1x1x8448_3_0_0
abbrev r0_4 : Rect S8x1x8448 := Rect.unit (s := S8x1x8448) ![4, 0, 0] S1x1x8448.size inb_S8x1x8448_S1x1x8448_4_0_0
abbrev r0_5 : Rect S8x1x8448 := Rect.unit (s := S8x1x8448) ![5, 0, 0] S1x1x8448.size inb_S8x1x8448_S1x1x8448_5_0_0
abbrev r0_6 : Rect S8x1x8448 := Rect.unit (s := S8x1x8448) ![6, 0, 0] S1x1x8448.size inb_S8x1x8448_S1x1x8448_6_0_0
abbrev r0_7 : Rect S8x1x8448 := Rect.unit (s := S8x1x8448) ![7, 0, 0] S1x1x8448.size inb_S8x1x8448_S1x1x8448_7_0_0
abbrev r0_8 : Rect S1x1024 := Rect.unit (s := S1x1024) ![0, 0] S1x1024.size inb_S1x1024_S1x1024_0_0
abbrev r0_9 : Rect S1x512 := Rect.unit (s := S1x512) ![0, 0] S1x512.size inb_S1x512_S1x512_0_0
abbrev r0_10 : Rect S1x2176 := Rect.unit (s := S1x2176) ![0, 0] S1x2176.size inb_S1x2176_S1x2176_0_0
abbrev r0_11 : Rect S1x8x64 := Rect.unit (s := S1x8x64) ![0, 0, 0] S1x8x64.size inb_S1x8x64_S1x8x64_0_0_0
abbrev r0_12 : Rect S1x128 := Rect.unit (s := S1x128) ![0, 0] S1x128.size inb_S1x128_S1x128_0_0

/-! ## Values that several stores use -/

def k0_pay52 (x0 : Vec F S8x1x8448 .f32) : FVec F S1x8448 .f32 :=
  k0_pay2 (View.ld x0 r0_0) (View.ld x0 r0_1) (View.ld x0 r0_2) (View.ld x0 r0_3) (View.ld x0 r0_4) (View.ld x0 r0_5) (View.ld x0 r0_6) (View.ld x0 r0_7)
def k0_pay53 (x0 : Vec F S8x1x8448 .f32) : FVec F S1x1024 .f32 :=
  k0_pay3 (View.ld x0 r0_0) (View.ld x0 r0_1) (View.ld x0 r0_2) (View.ld x0 r0_3) (View.ld x0 r0_4) (View.ld x0 r0_5) (View.ld x0 r0_6) (View.ld x0 r0_7)
def k0_pay54 (x0 : Vec F S8x1x8448 .f32) : FVec F S1x512 .f32 :=
  k0_pay7 (k0_pay52 x0)
def k0_pay55 (x0 : Vec F S8x1x8448 .f32) : FVec F S1x2176 .f32 :=
  k0_pay11 (k0_pay52 x0)
def k0_pay56 (x0 : Vec F S8x1x8448 .f32) : FVec F S1x512 .f32 :=
  k0_pay15 (k0_pay52 x0)
def k0_pay57 : FVec F S1x512 .f32 :=
  k0_pay16 (F := F)
def k0_pay58 (x0 : Vec F S8x1x8448 .f32) : FVec F S1x512 .f32 :=
  k0_pay20 (k0_pay52 x0)
def k0_pay59 (x16 : Vec F S1x512 .f32) : FVec F S1x512 .f32 :=
  k0_pay21 (View.ld x16 r0_9)
def k0_pay60 (x0 : Vec F S8x1x8448 .f32) : FVec F S1x512 .f32 :=
  k0_pay25 (k0_pay52 x0)
def k0_pay61 (x17 : Vec F S1x512 .f32) : FVec F S1x512 .f32 :=
  k0_pay26 (View.ld x17 r0_9)
def k0_pay62 (x0 : Vec F S8x1x8448 .f32) : FVec F S1x512 .f32 :=
  k0_pay30 (k0_pay52 x0)
def k0_pay63 (x18 : Vec F S1x512 .f32) : FVec F S1x512 .f32 :=
  k0_pay31 (View.ld x18 r0_9)
def k0_pay64 : FVec F S1x512 .f32 :=
  k0_pay32 (F := F)
def k0_pay65 (x0 : Vec F S8x1x8448 .f32) : FVec F S1x8x64 .f32 :=
  k0_pay36 (k0_pay52 x0)
def k0_pay66 (x0 : Vec F S8x1x8448 .f32) : FVec F S1x512 .f32 :=
  k0_pay40 (k0_pay52 x0)
def k0_pay67 (x0 : Vec F S8x1x8448 .f32) : FVec F S1x512 .f32 :=
  k0_pay44 (k0_pay52 x0)
def k0_pay68 (x0 : Vec F S8x1x8448 .f32) : FVec F S1x1024 .f32 :=
  k0_pay48 (k0_pay52 x0)

/-! ## The outputs, and that each one's store covers its window -/

def out0_34 (x0 : Vec F S8x1x8448 .f32) : Vec F S1x1024 .f32 :=
  View.canon [⟨r0_8, k0_pay3 (View.ld x0 r0_0) (View.ld x0 r0_1) (View.ld x0 r0_2) (View.ld x0 r0_3) (View.ld x0 r0_4) (View.ld x0 r0_5) (View.ld x0 r0_6) (View.ld x0 r0_7)⟩]

theorem cover0_34 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_35 (x0 : Vec F S8x1x8448 .f32) (x1 : Vec F S1x1024 .f32) (x12 : Vec F S1x1024 .f32) (x23 : Vec F S1x1024 .f32) : Vec F S1x1024 .f32 :=
  View.canon [⟨r0_8, k0_pay6 (k0_pay53 x0) (View.ld x1 r0_8) (View.ld x12 r0_8) (View.ld x23 r0_8)⟩]

theorem cover0_35 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_36 (x0 : Vec F S8x1x8448 .f32) (x12 : Vec F S1x1024 .f32) : Vec F S1x1024 .f32 :=
  View.canon [⟨r0_8, k0_pay4 (k0_pay53 x0) (View.ld x12 r0_8)⟩]

theorem cover0_36 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_37 (x0 : Vec F S8x1x8448 .f32) (x23 : Vec F S1x1024 .f32) : Vec F S1x1024 .f32 :=
  View.canon [⟨r0_8, k0_pay5 (k0_pay53 x0) (View.ld x23 r0_8)⟩]

theorem cover0_37 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_38 (x0 : Vec F S8x1x8448 .f32) : Vec F S1x512 .f32 :=
  View.canon [⟨r0_9, k0_pay7 (k0_pay52 x0)⟩]

theorem cover0_38 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_39 (x0 : Vec F S8x1x8448 .f32) (x2 : Vec F S1x512 .f32) (x13 : Vec F S1x512 .f32) (x24 : Vec F S1x512 .f32) : Vec F S1x512 .f32 :=
  View.canon [⟨r0_9, k0_pay10 (k0_pay54 x0) (View.ld x2 r0_9) (View.ld x13 r0_9) (View.ld x24 r0_9)⟩]

theorem cover0_39 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_40 (x0 : Vec F S8x1x8448 .f32) (x13 : Vec F S1x512 .f32) : Vec F S1x512 .f32 :=
  View.canon [⟨r0_9, k0_pay8 (k0_pay54 x0) (View.ld x13 r0_9)⟩]

theorem cover0_40 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_41 (x0 : Vec F S8x1x8448 .f32) (x24 : Vec F S1x512 .f32) : Vec F S1x512 .f32 :=
  View.canon [⟨r0_9, k0_pay9 (k0_pay54 x0) (View.ld x24 r0_9)⟩]

theorem cover0_41 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_42 (x0 : Vec F S8x1x8448 .f32) : Vec F S1x2176 .f32 :=
  View.canon [⟨r0_10, k0_pay11 (k0_pay52 x0)⟩]

theorem cover0_42 (p0 : Vec F S1x2176 .f32) (y : S1x2176.Idx) :
    ∃ pc ∈ ([⟨r0_10, p0⟩] : List (View.Piece (Elt F) S1x2176 .f32)), y ∈ pc.1.set :=
  View.cover_of_tiled [⟨r0_10, p0⟩] S1x2176.size (by rfl) y

def out0_43 (x0 : Vec F S8x1x8448 .f32) (x3 : Vec F S1x2176 .f32) (x14 : Vec F S1x2176 .f32) (x25 : Vec F S1x2176 .f32) : Vec F S1x2176 .f32 :=
  View.canon [⟨r0_10, k0_pay14 (k0_pay55 x0) (View.ld x3 r0_10) (View.ld x14 r0_10) (View.ld x25 r0_10) (Scalar.ofBits .f32 0x3F666666#32)⟩]

theorem cover0_43 (p0 : Vec F S1x2176 .f32) (y : S1x2176.Idx) :
    ∃ pc ∈ ([⟨r0_10, p0⟩] : List (View.Piece (Elt F) S1x2176 .f32)), y ∈ pc.1.set :=
  View.cover_of_tiled [⟨r0_10, p0⟩] S1x2176.size (by rfl) y

def out0_44 (x0 : Vec F S8x1x8448 .f32) (x14 : Vec F S1x2176 .f32) : Vec F S1x2176 .f32 :=
  View.canon [⟨r0_10, k0_pay12 (k0_pay55 x0) (View.ld x14 r0_10) (Scalar.ofBits .f32 0x3F666666#32)⟩]

theorem cover0_44 (p0 : Vec F S1x2176 .f32) (y : S1x2176.Idx) :
    ∃ pc ∈ ([⟨r0_10, p0⟩] : List (View.Piece (Elt F) S1x2176 .f32)), y ∈ pc.1.set :=
  View.cover_of_tiled [⟨r0_10, p0⟩] S1x2176.size (by rfl) y

def out0_45 (x0 : Vec F S8x1x8448 .f32) (x25 : Vec F S1x2176 .f32) : Vec F S1x2176 .f32 :=
  View.canon [⟨r0_10, k0_pay13 (k0_pay55 x0) (View.ld x25 r0_10)⟩]

theorem cover0_45 (p0 : Vec F S1x2176 .f32) (y : S1x2176.Idx) :
    ∃ pc ∈ ([⟨r0_10, p0⟩] : List (View.Piece (Elt F) S1x2176 .f32)), y ∈ pc.1.set :=
  View.cover_of_tiled [⟨r0_10, p0⟩] S1x2176.size (by rfl) y

def out0_46 (x0 : Vec F S8x1x8448 .f32) : Vec F S1x512 .f32 :=
  View.canon [⟨r0_9, k0_pay15 (k0_pay52 x0)⟩]

theorem cover0_46 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_47 (x0 : Vec F S8x1x8448 .f32) (x4 : Vec F S1x512 .f32) (x15 : Vec F S1x512 .f32) (x26 : Vec F S1x512 .f32) : Vec F S1x512 .f32 :=
  View.canon [⟨r0_9, k0_pay19 (k0_pay56 x0) (View.ld x4 r0_9) (View.ld x15 r0_9) (View.ld x26 r0_9) (k0_pay57)⟩]

theorem cover0_47 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_48 (x0 : Vec F S8x1x8448 .f32) (x15 : Vec F S1x512 .f32) : Vec F S1x512 .f32 :=
  View.canon [⟨r0_9, k0_pay17 (k0_pay56 x0) (View.ld x15 r0_9) (k0_pay57)⟩]

theorem cover0_48 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_49 (x0 : Vec F S8x1x8448 .f32) (x26 : Vec F S1x512 .f32) : Vec F S1x512 .f32 :=
  View.canon [⟨r0_9, k0_pay18 (k0_pay56 x0) (View.ld x26 r0_9)⟩]

theorem cover0_49 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_50 (x0 : Vec F S8x1x8448 .f32) : Vec F S1x512 .f32 :=
  View.canon [⟨r0_9, k0_pay20 (k0_pay52 x0)⟩]

theorem cover0_50 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_51 (x0 : Vec F S8x1x8448 .f32) (x5 : Vec F S1x512 .f32) (x16 : Vec F S1x512 .f32) (x27 : Vec F S1x512 .f32) : Vec F S1x512 .f32 :=
  View.canon [⟨r0_9, k0_pay24 (k0_pay58 x0) (View.ld x5 r0_9) (View.ld x27 r0_9) (k0_pay59 x16)⟩]

theorem cover0_51 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_52 (x0 : Vec F S8x1x8448 .f32) (x16 : Vec F S1x512 .f32) : Vec F S1x512 .f32 :=
  View.canon [⟨r0_9, k0_pay22 (k0_pay58 x0) (k0_pay59 x16)⟩]

theorem cover0_52 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_53 (x0 : Vec F S8x1x8448 .f32) (x27 : Vec F S1x512 .f32) : Vec F S1x512 .f32 :=
  View.canon [⟨r0_9, k0_pay23 (k0_pay58 x0) (View.ld x27 r0_9)⟩]

theorem cover0_53 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_54 (x0 : Vec F S8x1x8448 .f32) : Vec F S1x512 .f32 :=
  View.canon [⟨r0_9, k0_pay25 (k0_pay52 x0)⟩]

theorem cover0_54 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_55 (x0 : Vec F S8x1x8448 .f32) (x6 : Vec F S1x512 .f32) (x17 : Vec F S1x512 .f32) (x28 : Vec F S1x512 .f32) : Vec F S1x512 .f32 :=
  View.canon [⟨r0_9, k0_pay29 (k0_pay60 x0) (View.ld x6 r0_9) (View.ld x28 r0_9) (k0_pay61 x17) (Scalar.ofBits .f32 0x3DCCCCCD#32)⟩]

theorem cover0_55 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_56 (x0 : Vec F S8x1x8448 .f32) (x17 : Vec F S1x512 .f32) : Vec F S1x512 .f32 :=
  View.canon [⟨r0_9, k0_pay27 (k0_pay60 x0) (k0_pay61 x17) (Scalar.ofBits .f32 0x3DCCCCCD#32)⟩]

theorem cover0_56 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_57 (x0 : Vec F S8x1x8448 .f32) (x28 : Vec F S1x512 .f32) : Vec F S1x512 .f32 :=
  View.canon [⟨r0_9, k0_pay28 (k0_pay60 x0) (View.ld x28 r0_9)⟩]

theorem cover0_57 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_58 (x0 : Vec F S8x1x8448 .f32) : Vec F S1x512 .f32 :=
  View.canon [⟨r0_9, k0_pay30 (k0_pay52 x0)⟩]

theorem cover0_58 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_59 (x0 : Vec F S8x1x8448 .f32) (x7 : Vec F S1x512 .f32) (x18 : Vec F S1x512 .f32) (x29 : Vec F S1x512 .f32) : Vec F S1x512 .f32 :=
  View.canon [⟨r0_9, k0_pay35 (k0_pay62 x0) (View.ld x7 r0_9) (View.ld x29 r0_9) (k0_pay63 x18) (k0_pay64)⟩]

theorem cover0_59 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_60 (x0 : Vec F S8x1x8448 .f32) (x18 : Vec F S1x512 .f32) : Vec F S1x512 .f32 :=
  View.canon [⟨r0_9, k0_pay33 (k0_pay62 x0) (k0_pay63 x18) (k0_pay64)⟩]

theorem cover0_60 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_61 (x0 : Vec F S8x1x8448 .f32) (x29 : Vec F S1x512 .f32) : Vec F S1x512 .f32 :=
  View.canon [⟨r0_9, k0_pay34 (k0_pay62 x0) (View.ld x29 r0_9)⟩]

theorem cover0_61 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_62 (x0 : Vec F S8x1x8448 .f32) : Vec F S1x8x64 .f32 :=
  View.canon [⟨r0_11, k0_pay36 (k0_pay52 x0)⟩]

theorem cover0_62 (p0 : Vec F S1x8x64 .f32) (y : S1x8x64.Idx) :
    ∃ pc ∈ ([⟨r0_11, p0⟩] : List (View.Piece (Elt F) S1x8x64 .f32)), y ∈ pc.1.set :=
  View.cover_of_tiled [⟨r0_11, p0⟩] S1x8x64.size (by rfl) y

def out0_63 (x0 : Vec F S8x1x8448 .f32) (x8 : Vec F S1x8x64 .f32) (x19 : Vec F S1x8x64 .f32) (x30 : Vec F S1x8x64 .f32) : Vec F S1x8x64 .f32 :=
  View.canon [⟨r0_11, k0_pay39 (k0_pay65 x0) (View.ld x8 r0_11) (View.ld x19 r0_11) (View.ld x30 r0_11)⟩]

theorem cover0_63 (p0 : Vec F S1x8x64 .f32) (y : S1x8x64.Idx) :
    ∃ pc ∈ ([⟨r0_11, p0⟩] : List (View.Piece (Elt F) S1x8x64 .f32)), y ∈ pc.1.set :=
  View.cover_of_tiled [⟨r0_11, p0⟩] S1x8x64.size (by rfl) y

def out0_64 (x0 : Vec F S8x1x8448 .f32) (x19 : Vec F S1x8x64 .f32) : Vec F S1x8x64 .f32 :=
  View.canon [⟨r0_11, k0_pay37 (k0_pay65 x0) (View.ld x19 r0_11)⟩]

theorem cover0_64 (p0 : Vec F S1x8x64 .f32) (y : S1x8x64.Idx) :
    ∃ pc ∈ ([⟨r0_11, p0⟩] : List (View.Piece (Elt F) S1x8x64 .f32)), y ∈ pc.1.set :=
  View.cover_of_tiled [⟨r0_11, p0⟩] S1x8x64.size (by rfl) y

def out0_65 (x0 : Vec F S8x1x8448 .f32) (x30 : Vec F S1x8x64 .f32) : Vec F S1x8x64 .f32 :=
  View.canon [⟨r0_11, k0_pay38 (k0_pay65 x0) (View.ld x30 r0_11)⟩]

theorem cover0_65 (p0 : Vec F S1x8x64 .f32) (y : S1x8x64.Idx) :
    ∃ pc ∈ ([⟨r0_11, p0⟩] : List (View.Piece (Elt F) S1x8x64 .f32)), y ∈ pc.1.set :=
  View.cover_of_tiled [⟨r0_11, p0⟩] S1x8x64.size (by rfl) y

def out0_66 (x0 : Vec F S8x1x8448 .f32) : Vec F S1x512 .f32 :=
  View.canon [⟨r0_9, k0_pay66 x0⟩]

theorem cover0_66 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_67 (x0 : Vec F S8x1x8448 .f32) (x9 : Vec F S1x512 .f32) (x20 : Vec F S1x512 .f32) (x31 : Vec F S1x512 .f32) : Vec F S1x512 .f32 :=
  View.canon [⟨r0_9, k0_pay43 (k0_pay66 x0) (View.ld x9 r0_9) (View.ld x20 r0_9) (View.ld x31 r0_9)⟩]

theorem cover0_67 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_68 (x0 : Vec F S8x1x8448 .f32) (x20 : Vec F S1x512 .f32) : Vec F S1x512 .f32 :=
  View.canon [⟨r0_9, k0_pay41 (k0_pay66 x0) (View.ld x20 r0_9)⟩]

theorem cover0_68 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_69 (x0 : Vec F S8x1x8448 .f32) (x31 : Vec F S1x512 .f32) : Vec F S1x512 .f32 :=
  View.canon [⟨r0_9, k0_pay42 (k0_pay66 x0) (View.ld x31 r0_9)⟩]

theorem cover0_69 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_70 (x0 : Vec F S8x1x8448 .f32) : Vec F S1x512 .f32 :=
  View.canon [⟨r0_9, k0_pay44 (k0_pay52 x0)⟩]

theorem cover0_70 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_71 (x0 : Vec F S8x1x8448 .f32) (x10 : Vec F S1x512 .f32) (x21 : Vec F S1x512 .f32) (x32 : Vec F S1x512 .f32) : Vec F S1x512 .f32 :=
  View.canon [⟨r0_9, k0_pay47 (k0_pay67 x0) (View.ld x10 r0_9) (View.ld x21 r0_9) (View.ld x32 r0_9)⟩]

theorem cover0_71 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_72 (x0 : Vec F S8x1x8448 .f32) (x21 : Vec F S1x512 .f32) : Vec F S1x512 .f32 :=
  View.canon [⟨r0_9, k0_pay45 (k0_pay67 x0) (View.ld x21 r0_9)⟩]

theorem cover0_72 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_73 (x0 : Vec F S8x1x8448 .f32) (x32 : Vec F S1x512 .f32) : Vec F S1x512 .f32 :=
  View.canon [⟨r0_9, k0_pay46 (k0_pay67 x0) (View.ld x32 r0_9)⟩]

theorem cover0_73 (p0 : Vec F S1x512 .f32) (y : S1x512.Idx) :
    ∃ pc ∈ ([⟨r0_9, p0⟩] : List (View.Piece (Elt F) S1x512 .f32)), y ∈ pc.1.set :=
  View.cover_of_tiled [⟨r0_9, p0⟩] S1x512.size (by rfl) y

def out0_74 (x0 : Vec F S8x1x8448 .f32) : Vec F S1x1024 .f32 :=
  View.canon [⟨r0_8, k0_pay48 (k0_pay52 x0)⟩]

theorem cover0_74 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_75 (x0 : Vec F S8x1x8448 .f32) (x11 : Vec F S1x1024 .f32) (x22 : Vec F S1x1024 .f32) (x33 : Vec F S1x1024 .f32) : Vec F S1x1024 .f32 :=
  View.canon [⟨r0_8, k0_pay51 (k0_pay68 x0) (View.ld x11 r0_8) (View.ld x22 r0_8) (View.ld x33 r0_8)⟩]

theorem cover0_75 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_76 (x0 : Vec F S8x1x8448 .f32) (x22 : Vec F S1x1024 .f32) : Vec F S1x1024 .f32 :=
  View.canon [⟨r0_8, k0_pay49 (k0_pay68 x0) (View.ld x22 r0_8)⟩]

theorem cover0_76 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_77 (x0 : Vec F S8x1x8448 .f32) (x33 : Vec F S1x1024 .f32) : Vec F S1x1024 .f32 :=
  View.canon [⟨r0_8, k0_pay50 (k0_pay68 x0) (View.ld x33 r0_8)⟩]

theorem cover0_77 (p0 : Vec F S1x1024 .f32) (y : S1x1024.Idx) :
    ∃ pc ∈ ([⟨r0_8, p0⟩] : List (View.Piece (Elt F) S1x1024 .f32)), y ∈ pc.1.set :=
  View.cover_of_tiled [⟨r0_8, p0⟩] S1x1024.size (by rfl) y

def out0_78 (x0 : Vec F S8x1x8448 .f32) : Vec F S1x128 .f32 :=
  View.canon [⟨r0_12, k0_pay1 (k0_pay52 x0)⟩]

theorem cover0_78 (p0 : Vec F S1x128 .f32) (y : S1x128.Idx) :
    ∃ pc ∈ ([⟨r0_12, p0⟩] : List (View.Piece (Elt F) S1x128 .f32)), y ∈ pc.1.set :=
  View.cover_of_tiled [⟨r0_12, p0⟩] S1x128.size (by rfl) y

end Cert.Kernel8Ideal.Vec

end
-- ==== Proof.Vec.Body.lean ====
module

public import proofs.«01_k».proof.Proof.Vec.Outs

@[expose] public section

set_option maxRecDepth 16384

noncomputable section

namespace Cert.Kernel8Ideal.Vec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen

variable {F : FTy → Type} [FloatOps F]

local notation "𝕄" => MT nD τ sig Unit (Elt F) ℕ (UR sig nD τ) ℕ

/-! # The body's triple

On whole memrefs, the inputs' at contents `xW` and the outputs' at anything, the body runs to its end with the
inputs as they were and each output at `out0_W`. -/

set_option maxHeartbeats 1000000 in
theorem sound_kernel (c : Dev nD) (E : Set ℕ) (arg0 : Memref sig .tc .vmem S8x1x8448 .f32) (harg0 : arg0.IsWhole) (arg1 : Memref sig .tc .vmem S1x1024 .f32) (harg1 : arg1.IsWhole) (arg2 : Memref sig .tc .vmem S1x512 .f32) (harg2 : arg2.IsWhole) (arg3 : Memref sig .tc .vmem S1x2176 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x8x64 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512 .f32) (harg13 : arg13.IsWhole) (arg14 : Memref sig .tc .vmem S1x2176 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1x8x64 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S1x512 .f32) (harg24 : arg24.IsWhole) (arg25 : Memref sig .tc .vmem S1x2176 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S1x8x64 .f32) (harg30 : arg30.IsWhole) (arg31 : Memref sig .tc .vmem S1x512 .f32) (harg31 : arg31.IsWhole) (arg32 : Memref sig .tc .vmem S1x512 .f32) (harg32 : arg32.IsWhole) (arg33 : Memref sig .tc .vmem S1x1024 .f32) (harg33 : arg33.IsWhole) (arg34 : Memref sig .tc .vmem S1x1024 .f32) (harg34 : arg34.IsWhole) (arg35 : Memref sig .tc .vmem S1x1024 .f32) (harg35 : arg35.IsWhole) (arg36 : Memref sig .tc .vmem S1x1024 .f32) (harg36 : arg36.IsWhole) (arg37 : Memref sig .tc .vmem S1x1024 .f32) (harg37 : arg37.IsWhole) (arg38 : Memref sig .tc .vmem S1x512 .f32) (harg38 : arg38.IsWhole) (arg39 : Memref sig .tc .vmem S1x512 .f32) (harg39 : arg39.IsWhole) (arg40 : Memref sig .tc .vmem S1x512 .f32) (harg40 : arg40.IsWhole) (arg41 : Memref sig .tc .vmem S1x512 .f32) (harg41 : arg41.IsWhole) (arg42 : Memref sig .tc .vmem S1x2176 .f32) (harg42 : arg42.IsWhole) (arg43 : Memref sig .tc .vmem S1x2176 .f32) (harg43 : arg43.IsWhole) (arg44 : Memref sig .tc .vmem S1x2176 .f32) (harg44 : arg44.IsWhole) (arg45 : Memref sig .tc .vmem S1x2176 .f32) (harg45 : arg45.IsWhole) (arg46 : Memref sig .tc .vmem S1x512 .f32) (harg46 : arg46.IsWhole) (arg47 : Memref sig .tc .vmem S1x512 .f32) (harg47 : arg47.IsWhole) (arg48 : Memref sig .tc .vmem S1x512 .f32) (harg48 : arg48.IsWhole) (arg49 : Memref sig .tc .vmem S1x512 .f32) (harg49 : arg49.IsWhole) (arg50 : Memref sig .tc .vmem S1x512 .f32) (harg50 : arg50.IsWhole) (arg51 : Memref sig .tc .vmem S1x512 .f32) (harg51 : arg51.IsWhole) (arg52 : Memref sig .tc .vmem S1x512 .f32) (harg52 : arg52.IsWhole) (arg53 : Memref sig .tc .vmem S1x512 .f32) (harg53 : arg53.IsWhole) (arg54 : Memref sig .tc .vmem S1x512 .f32) (harg54 : arg54.IsWhole) (arg55 : Memref sig .tc .vmem S1x512 .f32) (harg55 : arg55.IsWhole) (arg56 : Memref sig .tc .vmem S1x512 .f32) (harg56 : arg56.IsWhole) (arg57 : Memref sig .tc .vmem S1x512 .f32) (harg57 : arg57.IsWhole) (arg58 : Memref sig .tc .vmem S1x512 .f32) (harg58 : arg58.IsWhole) (arg59 : Memref sig .tc .vmem S1x512 .f32) (harg59 : arg59.IsWhole) (arg60 : Memref sig .tc .vmem S1x512 .f32) (harg60 : arg60.IsWhole) (arg61 : Memref sig .tc .vmem S1x512 .f32) (harg61 : arg61.IsWhole) (arg62 : Memref sig .tc .vmem S1x8x64 .f32) (harg62 : arg62.IsWhole) (arg63 : Memref sig .tc .vmem S1x8x64 .f32) (harg63 : arg63.IsWhole) (arg64 : Memref sig .tc .vmem S1x8x64 .f32) (harg64 : arg64.IsWhole) (arg65 : Memref sig .tc .vmem S1x8x64 .f32) (harg65 : arg65.IsWhole) (arg66 : Memref sig .tc .vmem S1x512 .f32) (harg66 : arg66.IsWhole) (arg67 : Memref sig .tc .vmem S1x512 .f32) (harg67 : arg67.IsWhole) (arg68 : Memref sig .tc .vmem S1x512 .f32) (harg68 : arg68.IsWhole) (arg69 : Memref sig .tc .vmem S1x512 .f32) (harg69 : arg69.IsWhole) (arg70 : Memref sig .tc .vmem S1x512 .f32) (harg70 : arg70.IsWhole) (arg71 : Memref sig .tc .vmem S1x512 .f32) (harg71 : arg71.IsWhole) (arg72 : Memref sig .tc .vmem S1x512 .f32) (harg72 : arg72.IsWhole) (arg73 : Memref sig .tc .vmem S1x512 .f32) (harg73 : arg73.IsWhole) (arg74 : Memref sig .tc .vmem S1x1024 .f32) (harg74 : arg74.IsWhole) (arg75 : Memref sig .tc .vmem S1x1024 .f32) (harg75 : arg75.IsWhole) (arg76 : Memref sig .tc .vmem S1x1024 .f32) (harg76 : arg76.IsWhole) (arg77 : Memref sig .tc .vmem S1x1024 .f32) (harg77 : arg77.IsWhole) (arg78 : Memref sig .tc .vmem S1x128 .f32) (harg78 : arg78.IsWhole)
    (x0 : Vec F S8x1x8448 .f32) (x1 : Vec F S1x1024 .f32) (x2 : Vec F S1x512 .f32) (x3 : Vec F S1x2176 .f32) (x4 : Vec F S1x512 .f32) (x5 : Vec F S1x512 .f32) (x6 : Vec F S1x512 .f32) (x7 : Vec F S1x512 .f32) (x8 : Vec F S1x8x64 .f32) (x9 : Vec F S1x512 .f32) (x10 : Vec F S1x512 .f32) (x11 : Vec F S1x1024 .f32) (x12 : Vec F S1x1024 .f32) (x13 : Vec F S1x512 .f32) (x14 : Vec F S1x2176 .f32) (x15 : Vec F S1x512 .f32) (x16 : Vec F S1x512 .f32) (x17 : Vec F S1x512 .f32) (x18 : Vec F S1x512 .f32) (x19 : Vec F S1x8x64 .f32) (x20 : Vec F S1x512 .f32) (x21 : Vec F S1x512 .f32) (x22 : Vec F S1x1024 .f32) (x23 : Vec F S1x1024 .f32) (x24 : Vec F S1x512 .f32) (x25 : Vec F S1x2176 .f32) (x26 : Vec F S1x512 .f32) (x27 : Vec F S1x512 .f32) (x28 : Vec F S1x512 .f32) (x29 : Vec F S1x512 .f32) (x30 : Vec F S1x8x64 .f32) (x31 : Vec F S1x512 .f32) (x32 : Vec F S1x512 .f32) (x33 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d) ∗ (∃ d, owns (c : Thread nD τ) arg63 fullShare d) ∗ (∃ d, owns (c : Thread nD τ) arg64 fullShare d) ∗ (∃ d, owns (c : Thread nD τ) arg65 fullShare d) ∗ (∃ d, owns (c : Thread nD τ) arg66 fullShare d) ∗ (∃ d, owns (c : Thread nD τ) arg67 fullShare d) ∗ (∃ d, owns (c : Thread nD τ) arg68 fullShare d) ∗ (∃ d, owns (c : Thread nD τ) arg69 fullShare d) ∗ (∃ d, owns (c : Thread nD τ) arg70 fullShare d) ∗ (∃ d, owns (c : Thread nD τ) arg71 fullShare d) ∗ (∃ d, owns (c : Thread nD τ) arg72 fullShare d) ∗ (∃ d, owns (c : Thread nD τ) arg73 fullShare d) ∗ (∃ d, owns (c : Thread nD τ) arg74 fullShare d) ∗ (∃ d, owns (c : Thread nD τ) arg75 fullShare d) ∗ (∃ d, owns (c : Thread nD τ) arg76 fullShare d) ∗ (∃ d, owns (c : Thread nD τ) arg77 fullShare d) ∗ (∃ d, owns (c : Thread nD τ) arg78 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare (out0_34 x0) ∗ owns (c : Thread nD τ) arg35 fullShare (out0_35 x0 x1 x12 x23) ∗ owns (c : Thread nD τ) arg36 fullShare (out0_36 x0 x12) ∗ owns (c : Thread nD τ) arg37 fullShare (out0_37 x0 x23) ∗ owns (c : Thread nD τ) arg38 fullShare (out0_38 x0) ∗ owns (c : Thread nD τ) arg39 fullShare (out0_39 x0 x2 x13 x24) ∗ owns (c : Thread nD τ) arg40 fullShare (out0_40 x0 x13) ∗ owns (c : Thread nD τ) arg41 fullShare (out0_41 x0 x24) ∗ owns (c : Thread nD τ) arg42 fullShare (out0_42 x0) ∗ owns (c : Thread nD τ) arg43 fullShare (out0_43 x0 x3 x14 x25) ∗ owns (c : Thread nD τ) arg44 fullShare (out0_44 x0 x14) ∗ owns (c : Thread nD τ) arg45 fullShare (out0_45 x0 x25) ∗ owns (c : Thread nD τ) arg46 fullShare (out0_46 x0) ∗ owns (c : Thread nD τ) arg47 fullShare (out0_47 x0 x4 x15 x26) ∗ owns (c : Thread nD τ) arg48 fullShare (out0_48 x0 x15) ∗ owns (c : Thread nD τ) arg49 fullShare (out0_49 x0 x26) ∗ owns (c : Thread nD τ) arg50 fullShare (out0_50 x0) ∗ owns (c : Thread nD τ) arg51 fullShare (out0_51 x0 x5 x16 x27) ∗ owns (c : Thread nD τ) arg52 fullShare (out0_52 x0 x16) ∗ owns (c : Thread nD τ) arg53 fullShare (out0_53 x0 x27) ∗ owns (c : Thread nD τ) arg54 fullShare (out0_54 x0) ∗ owns (c : Thread nD τ) arg55 fullShare (out0_55 x0 x6 x17 x28) ∗ owns (c : Thread nD τ) arg56 fullShare (out0_56 x0 x17) ∗ owns (c : Thread nD τ) arg57 fullShare (out0_57 x0 x28) ∗ owns (c : Thread nD τ) arg58 fullShare (out0_58 x0) ∗ owns (c : Thread nD τ) arg59 fullShare (out0_59 x0 x7 x18 x29) ∗ owns (c : Thread nD τ) arg60 fullShare (out0_60 x0 x18) ∗ owns (c : Thread nD τ) arg61 fullShare (out0_61 x0 x29) ∗ owns (c : Thread nD τ) arg62 fullShare (out0_62 x0) ∗ owns (c : Thread nD τ) arg63 fullShare (out0_63 x0 x8 x19 x30) ∗ owns (c : Thread nD τ) arg64 fullShare (out0_64 x0 x19) ∗ owns (c : Thread nD τ) arg65 fullShare (out0_65 x0 x30) ∗ owns (c : Thread nD τ) arg66 fullShare (out0_66 x0) ∗ owns (c : Thread nD τ) arg67 fullShare (out0_67 x0 x9 x20 x31) ∗ owns (c : Thread nD τ) arg68 fullShare (out0_68 x0 x20) ∗ owns (c : Thread nD τ) arg69 fullShare (out0_69 x0 x31) ∗ owns (c : Thread nD τ) arg70 fullShare (out0_70 x0) ∗ owns (c : Thread nD τ) arg71 fullShare (out0_71 x0 x10 x21 x32) ∗ owns (c : Thread nD τ) arg72 fullShare (out0_72 x0 x21) ∗ owns (c : Thread nD τ) arg73 fullShare (out0_73 x0 x32) ∗ owns (c : Thread nD τ) arg74 fullShare (out0_74 x0) ∗ owns (c : Thread nD τ) arg75 fullShare (out0_75 x0 x11 x22 x33) ∗ owns (c : Thread nD τ) arg76 fullShare (out0_76 x0 x22) ∗ owns (c : Thread nD τ) arg77 fullShare (out0_77 x0 x33) ∗ owns (c : Thread nD τ) arg78 fullShare (out0_78 x0)) -∗ K ⟨⟩))
      ⊢ wp frame (wpE (defs₀ (F := F)) Variants.none c none) E (cc0_adamw_vectors arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 arg73 harg73 arg74 harg74 arg75 harg75 arg76 harg76 arg77 harg77 arg78 harg78) K := by
  simp only [cc0_adamw_vectors_eq_skeleton]; unfold cc0_adamw_vectors_skel
  simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩, ⟨%d64, %f64, -, H64⟩, ⟨%d65, %f65, -, H65⟩, ⟨%d66, %f66, -, H66⟩, ⟨%d67, %f67, -, H67⟩, ⟨%d68, %f68, -, H68⟩, ⟨%d69, %f69, -, H69⟩, ⟨%d70, %f70, -, H70⟩, ⟨%d71, %f71, -, H71⟩, ⟨%d72, %f72, -, H72⟩, ⟨%d73, %f73, -, H73⟩, ⟨%d74, %f74, -, H74⟩, ⟨%d75, %f75, -, H75⟩, ⟨%d76, %f76, -, H76⟩, ⟨%d77, %f77, -, H77⟩, ⟨%d78, %f78, -, H78⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists _; isplitr
    swap; · iexact H34
    ipureintro
    refine (View.read_writes_eq_canon _ _ _ (cover0_34 _)).trans ?_
    rfl
  isplitl [H35]
  · iexists _; isplitr
    swap; · iexact H35
    ipureintro
    refine (View.read_writes_eq_canon _ _ _ (cover0_35 _)).trans ?_
    rfl
  isplitl [H36]
  · iexists _; isplitr
    swap; · iexact H36
    ipureintro
    refine (View.read_writes_eq_canon _ _ _ (cover0_36 _)).trans ?_
    rfl
  isplitl [H37]
  · iexists _; isplitr
    swap; · iexact H37
    ipureintro
    refine (View.read_writes_eq_canon _ _ _ (cover0_37 _)).trans ?_
    rfl
  isplitl [H38]
  · iexists _; isplitr
    swap; · iexact H38
    ipureintro
    refine (View.read_writes_eq_canon _ _ _ (cover0_38 _)).trans ?_
    rfl
  isplitl [H39]
  · iexists _; isplitr
    swap; · iexact H39
    ipureintro
    refine (View.read_writes_eq_canon _ _ _ (cover0_39 _)).trans ?_
    rfl
  isplitl [H40]
  · iexists _; isplitr
    swap; · iexact H40
    ipureintro
    refine (View.read_writes_eq_canon _ _ _ (cover0_40 _)).trans ?_
    rfl
  isplitl [H41]
  · iexists _; isplitr
    swap; · iexact H41
    ipureintro
    refine (View.read_writes_eq_canon _ _ _ (cover0_41 _)).trans ?_
    rfl
  isplitl [H42]
  · iexists _; isplitr
    swap; · iexact H42
    ipureintro
    refine (View.read_writes_eq_canon _ _ _ (cover0_42 _)).trans ?_
    rfl
  isplitl [H43]
  · iexists _; isplitr
    swap; · iexact H43
    ipureintro
    refine (View.read_writes_eq_canon _ _ _ (cover0_43 _)).trans ?_
    rfl
  isplitl [H44]
  · iexists _; isplitr
    swap; · iexact H44
    ipureintro
    refine (View.read_writes_eq_canon _ _ _ (cover0_44 _)).trans ?_
    rfl
  isplitl [H45]
  · iexists _; isplitr
    swap; · iexact H45
    ipureintro
    refine (View.read_writes_eq_canon _ _ _ (cover0_45 _)).trans ?_
    rfl
  isplitl [H46]
  · iexists _; isplitr
    swap; · iexact H46
    ipureintro
    refine (View.read_writes_eq_canon _ _ _ (cover0_46 _)).trans ?_
    rfl
  isplitl [H47]
  · iexists _; isplitr
    swap; · iexact H47
    ipureintro
    refine (View.read_writes_eq_canon _ _ _ (cover0_47 _)).trans ?_
    rfl
  isplitl [H48]
  · iexists _; isplitr
    swap; · iexact H48
    ipureintro
    refine (View.read_writes_eq_canon _ _ _ (cover0_48 _)).trans ?_
    rfl
  isplitl [H49]
  · iexists _; isplitr
    swap; · iexact H49
    ipureintro
    refine (View.read_writes_eq_canon _ _ _ (cover0_49 _)).trans ?_
    rfl
  isplitl [H50]
  · iexists _; isplitr
    swap; · iexact H50
    ipureintro
    refine (View.read_writes_eq_canon _ _ _ (cover0_50 _)).trans ?_
    rfl
  isplitl [H51]
  · iexists _; isplitr
    swap; · iexact H51
    ipureintro
    refine (View.read_writes_eq_canon _ _ _ (cover0_51 _)).trans ?_
    rfl
  isplitl [H52]
  · iexists _; isplitr
    swap; · iexact H52
    ipureintro
    refine (View.read_writes_eq_canon _ _ _ (cover0_52 _)).trans ?_
    rfl
  isplitl [H53]
  · iexists _; isplitr
    swap; · iexact H53
    ipureintro
    refine (View.read_writes_eq_canon _ _ _ (cover0_53 _)).trans ?_
    rfl
  isplitl [H54]
  · iexists _; isplitr
    swap; · iexact H54
    ipureintro
    refine (View.read_writes_eq_canon _ _ _ (cover0_54 _)).trans ?_
    rfl
  isplitl [H55]
  · iexists _; isplitr
    swap; · iexact H55
    ipureintro
    refine (View.read_writes_eq_canon _ _ _ (cover0_55 _)).trans ?_
    rfl
  isplitl [H56]
  · iexists _; isplitr
    swap; · iexact H56
    ipureintro
    refine (View.read_writes_eq_canon _ _ _ (cover0_56 _)).trans ?_
    rfl
  isplitl [H57]
  · iexists _; isplitr
    swap; · iexact H57
    ipureintro
    refine (View.read_writes_eq_canon _ _ _ (cover0_57 _)).trans ?_
    rfl
  isplitl [H58]
  · iexists _; isplitr
    swap; · iexact H58
    ipureintro
    refine (View.read_writes_eq_canon _ _ _ (cover0_58 _)).trans ?_
    rfl
  isplitl [H59]
  · iexists _; isplitr
    swap; · iexact H59
    ipureintro
    refine (View.read_writes_eq_canon _ _ _ (cover0_59 _)).trans ?_
    rfl
  isplitl [H60]
  · iexists _; isplitr
    swap; · iexact H60
    ipureintro
    refine (View.read_writes_eq_canon _ _ _ (cover0_60 _)).trans ?_
    rfl
  isplitl [H61]
  · iexists _; isplitr
    swap; · iexact H61
    ipureintro
    refine (View.read_writes_eq_canon _ _ _ (cover0_61 _)).trans ?_
    rfl
  isplitl [H62]
  · iexists _; isplitr
    swap; · iexact H62
    ipureintro
    refine (View.read_writes_eq_canon _ _ _ (cover0_62 _)).trans ?_
    rfl
  isplitl [H63]
  · iexists _; isplitr
    swap; · iexact H63
    ipureintro
    refine (View.read_writes_eq_canon _ _ _ (cover0_63 _)).trans ?_
    rfl
  isplitl [H64]
  · iexists _; isplitr
    swap; · iexact H64
    ipureintro
    refine (View.read_writes_eq_canon _ _ _ (cover0_64 _)).trans ?_
    rfl
  isplitl [H65]
  · iexists _; isplitr
    swap; · iexact H65
    ipureintro
    refine (View.read_writes_eq_canon _ _ _ (cover0_65 _)).trans ?_
    rfl
  isplitl [H66]
  · iexists _; isplitr
    swap; · iexact H66
    ipureintro
    refine (View.read_writes_eq_canon _ _ _ (cover0_66 _)).trans ?_
    rfl
  isplitl [H67]
  · iexists _; isplitr
    swap; · iexact H67
    ipureintro
    refine (View.read_writes_eq_canon _ _ _ (cover0_67 _)).trans ?_
    rfl
  isplitl [H68]
  · iexists _; isplitr
    swap; · iexact H68
    ipureintro
    refine (View.read_writes_eq_canon _ _ _ (cover0_68 _)).trans ?_
    rfl
  isplitl [H69]
  · iexists _; isplitr
    swap; · iexact H69
    ipureintro
    refine (View.read_writes_eq_canon _ _ _ (cover0_69 _)).trans ?_
    rfl
  isplitl [H70]
  · iexists _; isplitr
    swap; · iexact H70
    ipureintro
    refine (View.read_writes_eq_canon _ _ _ (cover0_70 _)).trans ?_
    rfl
  isplitl [H71]
  · iexists _; isplitr
    swap; · iexact H71
    ipureintro
    refine (View.read_writes_eq_canon _ _ _ (cover0_71 _)).trans ?_
    rfl
  isplitl [H72]
  · iexists _; isplitr
    swap; · iexact H72
    ipureintro
    refine (View.read_writes_eq_canon _ _ _ (cover0_72 _)).trans ?_
    rfl
  isplitl [H73]
  · iexists _; isplitr
    swap; · iexact H73
    ipureintro
    refine (View.read_writes_eq_canon _ _ _ (cover0_73 _)).trans ?_
    rfl
  isplitl [H74]
  · iexists _; isplitr
    swap; · iexact H74
    ipureintro
    refine (View.read_writes_eq_canon _ _ _ (cover0_74 _)).trans ?_
    rfl
  isplitl [H75]
  · iexists _; isplitr
    swap; · iexact H75
    ipureintro
    refine (View.read_writes_eq_canon _ _ _ (cover0_75 _)).trans ?_
    rfl
  isplitl [H76]
  · iexists _; isplitr
    swap; · iexact H76
    ipureintro
    refine (View.read_writes_eq_canon _ _ _ (cover0_76 _)).trans ?_
    rfl
  isplitl [H77]
  · iexists _; isplitr
    swap; · iexact H77
    ipureintro
    refine (View.read_writes_eq_canon _ _ _ (cover0_77 _)).trans ?_
    rfl
  iexists _; isplitr
  swap; · iexact H78
  ipureintro
  refine (View.read_writes_eq_canon _ _ _ (cover0_78 _)).trans ?_
  rfl

end Cert.Kernel8Ideal.Vec

end
-- ==== Proof.Vec.Data.lean ====
module

public import proofs.«01_k».proof.Proof.Vec.Outs

@[expose] public section

set_option maxRecDepth 16384

noncomputable section

namespace Cert.Kernel8Ideal.Vec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The program up to the region, and the region's data -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The one host operation writes the joined parts, and no other buffer. -/
theorem V_of (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.Forall, StableHlo.nary_writes, Set.mem_singleton_iff, Finset.mem_singleton]
    exact StableHlo.devRef_ne_of_ne h))

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
theorem before0_27_of {c : Dev nD} (dat : Dat τ (Elt F) Unit ℕ (UR sig nD τ) ℕ cfg0 c) (hA : dat.A 27 = V m c (Pipeline.arrRef spec0 27))
    (hafter : ∀ t, dat.after 27 t = iblk m c 27 t) (t : Fin cfg0.N) (d) : dat.before 27 t d = iblk m c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)
theorem before0_28_of {c : Dev nD} (dat : Dat τ (Elt F) Unit ℕ (UR sig nD τ) ℕ cfg0 c) (hA : dat.A 28 = V m c (Pipeline.arrRef spec0 28))
    (hafter : ∀ t, dat.after 28 t = iblk m c 28 t) (t : Fin cfg0.N) (d) : dat.before 28 t d = iblk m c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)
theorem before0_29_of {c : Dev nD} (dat : Dat τ (Elt F) Unit ℕ (UR sig nD τ) ℕ cfg0 c) (hA : dat.A 29 = V m c (Pipeline.arrRef spec0 29))
    (hafter : ∀ t, dat.after 29 t = iblk m c 29 t) (t : Fin cfg0.N) (d) : dat.before 29 t d = iblk m c 29 t :=
  (dat.before_in_eq_fetched 29 rfl (fun _ => rfl) (fun _ _ _ => rfl) (fun t => by rw [hafter]; unfold Dat.blockOf iblk; rw [hA]; try rfl) t d).trans
    (by unfold Dat.fetched Dat.blockOf iblk; rw [hA]; try rfl)
theorem before0_30_of {c : Dev nD} (dat : Dat τ (Elt F) Unit ℕ (UR sig nD τ) ℕ cfg0 c) (hA : dat.A 30 = V m c (Pipeline.arrRef spec0 30))
    (hafter : ∀ t, dat.after 30 t = iblk m c 30 t) (t : Fin cfg0.N) (d) : dat.before 30 t d = iblk m c 30 t :=
  (dat.before_in_eq_fetched 30 rfl (fun _ => rfl) (fun _ _ _ => rfl) (fun t => by rw [hafter]; unfold Dat.blockOf iblk; rw [hA]; try rfl) t d).trans
    (by unfold Dat.fetched Dat.blockOf iblk; rw [hA]; try rfl)
theorem before0_31_of {c : Dev nD} (dat : Dat τ (Elt F) Unit ℕ (UR sig nD τ) ℕ cfg0 c) (hA : dat.A 31 = V m c (Pipeline.arrRef spec0 31))
    (hafter : ∀ t, dat.after 31 t = iblk m c 31 t) (t : Fin cfg0.N) (d) : dat.before 31 t d = iblk m c 31 t :=
  (dat.before_in_eq_fetched 31 rfl (fun _ => rfl) (fun _ _ _ => rfl) (fun t => by rw [hafter]; unfold Dat.blockOf iblk; rw [hA]; try rfl) t d).trans
    (by unfold Dat.fetched Dat.blockOf iblk; rw [hA]; try rfl)
theorem before0_32_of {c : Dev nD} (dat : Dat τ (Elt F) Unit ℕ (UR sig nD τ) ℕ cfg0 c) (hA : dat.A 32 = V m c (Pipeline.arrRef spec0 32))
    (hafter : ∀ t, dat.after 32 t = iblk m c 32 t) (t : Fin cfg0.N) (d) : dat.before 32 t d = iblk m c 32 t :=
  (dat.before_in_eq_fetched 32 rfl (fun _ => rfl) (fun _ _ _ => rfl) (fun t => by rw [hafter]; unfold Dat.blockOf iblk; rw [hA]; try rfl) t d).trans
    (by unfold Dat.fetched Dat.blockOf iblk; rw [hA]; try rfl)
theorem before0_33_of {c : Dev nD} (dat : Dat τ (Elt F) Unit ℕ (UR sig nD τ) ℕ cfg0 c) (hA : dat.A 33 = V m c (Pipeline.arrRef spec0 33))
    (hafter : ∀ t, dat.after 33 t = iblk m c 33 t) (t : Fin cfg0.N) (d) : dat.before 33 t d = iblk m c 33 t :=
  (dat.before_in_eq_fetched 33 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 4740000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)) :=
  (θ_run defs _ _).mono (fun _ h c => ⟨((h c).2 main_arg0 (Pipeline.mem_restRefs_of main_arg0 (by decide) (by decide))).trans (V_of m c main_arg0 (by decide)),
      ((h c).2 main_arg1 (Pipeline.mem_restRefs_of main_arg1 (by decide) (by decide))).trans (V_of m c main_arg1 (by decide)),
      ((h c).2 main_arg2 (Pipeline.mem_restRefs_of main_arg2 (by decide) (by decide))).trans (V_of m c main_arg2 (by decide)),
      ((h c).2 main_arg3 (Pipeline.mem_restRefs_of main_arg3 (by decide) (by decide))).trans (V_of m c main_arg3 (by decide)),
      ((h c).2 main_arg4 (Pipeline.mem_restRefs_of main_arg4 (by decide) (by decide))).trans (V_of m c main_arg4 (by decide)),
      ((h c).2 main_arg5 (Pipeline.mem_restRefs_of main_arg5 (by decide) (by decide))).trans (V_of m c main_arg5 (by decide)),
      ((h c).2 main_arg6 (Pipeline.mem_restRefs_of main_arg6 (by decide) (by decide))).trans (V_of m c main_arg6 (by decide)),
      ((h c).2 main_arg7 (Pipeline.mem_restRefs_of main_arg7 (by decide) (by decide))).trans (V_of m c main_arg7 (by decide)),
      ((h c).2 main_arg8 (Pipeline.mem_restRefs_of main_arg8 (by decide) (by decide))).trans (V_of m c main_arg8 (by decide)),
      ((h c).2 main_arg9 (Pipeline.mem_restRefs_of main_arg9 (by decide) (by decide))).trans (V_of m c main_arg9 (by decide)),
      ((h c).2 main_arg10 (Pipeline.mem_restRefs_of main_arg10 (by decide) (by decide))).trans (V_of m c main_arg10 (by decide)),
      ((h c).2 main_arg11 (Pipeline.mem_restRefs_of main_arg11 (by decide) (by decide))).trans (V_of m c main_arg11 (by decide)),
      ((h c).1 1).trans (((dats 0 c).arrAt_in 1 rfl _).trans ((hA c 1).trans (V_of m c main_arg12 (by decide)))),
      ((h c).1 2).trans (((dats 0 c).arrAt_in 2 rfl _).trans ((hA c 2).trans (V_of m c main_arg13 (by decide)))),
      ((h c).1 3).trans (((dats 0 c).arrAt_in 3 rfl _).trans ((hA c 3).trans (V_of m c main_arg14 (by decide)))),
      ((h c).1 4).trans (((dats 0 c).arrAt_in 4 rfl _).trans ((hA c 4).trans (V_of m c main_arg15 (by decide)))),
      ((h c).1 5).trans (((dats 0 c).arrAt_in 5 rfl _).trans ((hA c 5).trans (V_of m c main_arg16 (by decide)))),
      ((h c).1 6).trans (((dats 0 c).arrAt_in 6 rfl _).trans ((hA c 6).trans (V_of m c main_arg17 (by decide)))),
      ((h c).1 7).trans (((dats 0 c).arrAt_in 7 rfl _).trans ((hA c 7).trans (V_of m c main_arg18 (by decide)))),
      ((h c).1 8).trans (((dats 0 c).arrAt_in 8 rfl _).trans ((hA c 8).trans (V_of m c main_arg19 (by decide)))),
      ((h c).1 9).trans (((dats 0 c).arrAt_in 9 rfl _).trans ((hA c 9).trans (V_of m c main_arg20 (by decide)))),
      ((h c).1 10).trans (((dats 0 c).arrAt_in 10 rfl _).trans ((hA c 10).trans (V_of m c main_arg21 (by decide)))),
      ((h c).1 11).trans (((dats 0 c).arrAt_in 11 rfl _).trans ((hA c 11).trans (V_of m c main_arg22 (by decide)))),
      ((h c).1 12).trans (((dats 0 c).arrAt_in 12 rfl _).trans ((hA c 12).trans (V_of m c main_arg23 (by decide)))),
      ((h c).1 13).trans (((dats 0 c).arrAt_in 13 rfl _).trans ((hA c 13).trans (V_of m c main_arg24 (by decide)))),
      ((h c).1 14).trans (((dats 0 c).arrAt_in 14 rfl _).trans ((hA c 14).trans (V_of m c main_arg25 (by decide)))),
      ((h c).1 15).trans (((dats 0 c).arrAt_in 15 rfl _).trans ((hA c 15).trans (V_of m c main_arg26 (by decide)))),
      ((h c).1 16).trans (((dats 0 c).arrAt_in 16 rfl _).trans ((hA c 16).trans (V_of m c main_arg27 (by decide)))),
      ((h c).1 17).trans (((dats 0 c).arrAt_in 17 rfl _).trans ((hA c 17).trans (V_of m c main_arg28 (by decide)))),
      ((h c).1 18).trans (((dats 0 c).arrAt_in 18 rfl _).trans ((hA c 18).trans (V_of m c main_arg29 (by decide)))),
      ((h c).1 19).trans (((dats 0 c).arrAt_in 19 rfl _).trans ((hA c 19).trans (V_of m c main_arg30 (by decide)))),
      ((h c).1 20).trans (((dats 0 c).arrAt_in 20 rfl _).trans ((hA c 20).trans (V_of m c main_arg31 (by decide)))),
      ((h c).1 21).trans (((dats 0 c).arrAt_in 21 rfl _).trans ((hA c 21).trans (V_of m c main_arg32 (by decide)))),
      ((h c).1 22).trans (((dats 0 c).arrAt_in 22 rfl _).trans ((hA c 22).trans (V_of m c main_arg33 (by decide)))),
      ((h c).1 23).trans (((dats 0 c).arrAt_in 23 rfl _).trans ((hA c 23).trans (V_of m c main_arg34 (by decide)))),
      ((h c).1 24).trans (((dats 0 c).arrAt_in 24 rfl _).trans ((hA c 24).trans (V_of m c main_arg35 (by decide)))),
      ((h c).1 25).trans (((dats 0 c).arrAt_in 25 rfl _).trans ((hA c 25).trans (V_of m c main_arg36 (by decide)))),
      ((h c).1 26).trans (((dats 0 c).arrAt_in 26 rfl _).trans ((hA c 26).trans (V_of m c main_arg37 (by decide)))),
      ((h c).1 27).trans (((dats 0 c).arrAt_in 27 rfl _).trans ((hA c 27).trans (V_of m c main_arg38 (by decide)))),
      ((h c).1 28).trans (((dats 0 c).arrAt_in 28 rfl _).trans ((hA c 28).trans (V_of m c main_arg39 (by decide)))),
      ((h c).1 29).trans (((dats 0 c).arrAt_in 29 rfl _).trans ((hA c 29).trans (V_of m c main_arg40 (by decide)))),
      ((h c).1 30).trans (((dats 0 c).arrAt_in 30 rfl _).trans ((hA c 30).trans (V_of m c main_arg41 (by decide)))),
      ((h c).1 31).trans (((dats 0 c).arrAt_in 31 rfl _).trans ((hA c 31).trans (V_of m c main_arg42 (by decide)))),
      ((h c).1 32).trans (((dats 0 c).arrAt_in 32 rfl _).trans ((hA c 32).trans (V_of m c main_arg43 (by decide)))),
      ((h c).1 33).trans (((dats 0 c).arrAt_in 33 rfl _).trans ((hA c 33).trans (V_of m c main_arg44 (by decide))))⟩) h

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => out0_34 (iblk m c 0 t)
    | ⟨35, _⟩ => out0_35 (iblk m c 0 t) (iblk m c 1 t) (iblk m c 12 t) (iblk m c 23 t)
    | ⟨36, _⟩ => out0_36 (iblk m c 0 t) (iblk m c 12 t)
    | ⟨37, _⟩ => out0_37 (iblk m c 0 t) (iblk m c 23 t)
    | ⟨38, _⟩ => out0_38 (iblk m c 0 t)
    | ⟨39, _⟩ => out0_39 (iblk m c 0 t) (iblk m c 2 t) (iblk m c 13 t) (iblk m c 24 t)
    | ⟨40, _⟩ => out0_40 (iblk m c 0 t) (iblk m c 13 t)
    | ⟨41, _⟩ => out0_41 (iblk m c 0 t) (iblk m c 24 t)
    | ⟨42, _⟩ => out0_42 (iblk m c 0 t)
    | ⟨43, _⟩ => out0_43 (iblk m c 0 t) (iblk m c 3 t) (iblk m c 14 t) (iblk m c 25 t)
    | ⟨44, _⟩ => out0_44 (iblk m c 0 t) (iblk m c 14 t)
    | ⟨45, _⟩ => out0_45 (iblk m c 0 t) (iblk m c 25 t)
    | ⟨46, _⟩ => out0_46 (iblk m c 0 t)
    | ⟨47, _⟩ => out0_47 (iblk m c 0 t) (iblk m c 4 t) (iblk m c 15 t) (iblk m c 26 t)
    | ⟨48, _⟩ => out0_48 (iblk m c 0 t) (iblk m c 15 t)
    | ⟨49, _⟩ => out0_49 (iblk m c 0 t) (iblk m c 26 t)
    | ⟨50, _⟩ => out0_50 (iblk m c 0 t)
    | ⟨51, _⟩ => out0_51 (iblk m c 0 t) (iblk m c 5 t) (iblk m c 16 t) (iblk m c 27 t)
    | ⟨52, _⟩ => out0_52 (iblk m c 0 t) (iblk m c 16 t)
    | ⟨53, _⟩ => out0_53 (iblk m c 0 t) (iblk m c 27 t)
    | ⟨54, _⟩ => out0_54 (iblk m c 0 t)
    | ⟨55, _⟩ => out0_55 (iblk m c 0 t) (iblk m c 6 t) (iblk m c 17 t) (iblk m c 28 t)
    | ⟨56, _⟩ => out0_56 (iblk m c 0 t) (iblk m c 17 t)
    | ⟨57, _⟩ => out0_57 (iblk m c 0 t) (iblk m c 28 t)
    | ⟨58, _⟩ => out0_58 (iblk m c 0 t)
    | ⟨59, _⟩ => out0_59 (iblk m c 0 t) (iblk m c 7 t) (iblk m c 18 t) (iblk m c 29 t)
    | ⟨60, _⟩ => out0_60 (iblk m c 0 t) (iblk m c 18 t)
    | ⟨61, _⟩ => out0_61 (iblk m c 0 t) (iblk m c 29 t)
    | ⟨62, _⟩ => out0_62 (iblk m c 0 t)
    | ⟨63, _⟩ => out0_63 (iblk m c 0 t) (iblk m c 8 t) (iblk m c 19 t) (iblk m c 30 t)
    | ⟨64, _⟩ => out0_64 (iblk m c 0 t) (iblk m c 19 t)
    | ⟨65, _⟩ => out0_65 (iblk m c 0 t) (iblk m c 30 t)
    | ⟨66, _⟩ => out0_66 (iblk m c 0 t)
    | ⟨67, _⟩ => out0_67 (iblk m c 0 t) (iblk m c 9 t) (iblk m c 20 t) (iblk m c 31 t)
    | ⟨68, _⟩ => out0_68 (iblk m c 0 t) (iblk m c 20 t)
    | ⟨69, _⟩ => out0_69 (iblk m c 0 t) (iblk m c 31 t)
    | ⟨70, _⟩ => out0_70 (iblk m c 0 t)
    | ⟨71, _⟩ => out0_71 (iblk m c 0 t) (iblk m c 10 t) (iblk m c 21 t) (iblk m c 32 t)
    | ⟨72, _⟩ => out0_72 (iblk m c 0 t) (iblk m c 21 t)
    | ⟨73, _⟩ => out0_73 (iblk m c 0 t) (iblk m c 32 t)
    | ⟨74, _⟩ => out0_74 (iblk m c 0 t)
    | ⟨75, _⟩ => out0_75 (iblk m c 0 t) (iblk m c 11 t) (iblk m c 22 t) (iblk m c 33 t)
    | ⟨76, _⟩ => out0_76 (iblk m c 0 t) (iblk m c 22 t)
    | ⟨77, _⟩ => out0_77 (iblk m c 0 t) (iblk m c 33 t)
    | ⟨78, _⟩ => out0_78 (iblk m c 0 t)
    | ⟨_ + 79, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = out0_34 (iblk m c 0 t) := by dsimp only [dats]
theorem after0_35 (c : Dev nD) (t : Fin cfg0.N) : (dats m 0 c).after 35 t = out0_35 (iblk m c 0 t) (iblk m c 1 t) (iblk m c 12 t) (iblk m c 23 t) := by dsimp only [dats]
theorem after0_36 (c : Dev nD) (t : Fin cfg0.N) : (dats m 0 c).after 36 t = out0_36 (iblk m c 0 t) (iblk m c 12 t) := by dsimp only [dats]
theorem after0_37 (c : Dev nD) (t : Fin cfg0.N) : (dats m 0 c).after 37 t = out0_37 (iblk m c 0 t) (iblk m c 23 t) := by dsimp only [dats]
theorem after0_38 (c : Dev nD) (t : Fin cfg0.N) : (dats m 0 c).after 38 t = out0_38 (iblk m c 0 t) := by dsimp only [dats]
theorem after0_39 (c : Dev nD) (t : Fin cfg0.N) : (dats m 0 c).after 39 t = out0_39 (iblk m c 0 t) (iblk m c 2 t) (iblk m c 13 t) (iblk m c 24 t) := by dsimp only [dats]
theorem after0_40 (c : Dev nD) (t : Fin cfg0.N) : (dats m 0 c).after 40 t = out0_40 (iblk m c 0 t) (iblk m c 13 t) := by dsimp only [dats]
theorem after0_41 (c : Dev nD) (t : Fin cfg0.N) : (dats m 0 c).after 41 t = out0_41 (iblk m c 0 t) (iblk m c 24 t) := by dsimp only [dats]
theorem after0_42 (c : Dev nD) (t : Fin cfg0.N) : (dats m 0 c).after 42 t = out0_42 (iblk m c 0 t) := by dsimp only [dats]
theorem after0_43 (c : Dev nD) (t : Fin cfg0.N) : (dats m 0 c).after 43 t = out0_43 (iblk m c 0 t) (iblk m c 3 t) (iblk m c 14 t) (iblk m c 25 t) := by dsimp only [dats]
theorem after0_44 (c : Dev nD) (t : Fin cfg0.N) : (dats m 0 c).after 44 t = out0_44 (iblk m c 0 t) (iblk m c 14 t) := by dsimp only [dats]
theorem after0_45 (c : Dev nD) (t : Fin cfg0.N) : (dats m 0 c).after 45 t = out0_45 (iblk m c 0 t) (iblk m c 25 t) := by dsimp only [dats]
theorem after0_46 (c : Dev nD) (t : Fin cfg0.N) : (dats m 0 c).after 46 t = out0_46 (iblk m c 0 t) := by dsimp only [dats]
theorem after0_47 (c : Dev nD) (t : Fin cfg0.N) : (dats m 0 c).after 47 t = out0_47 (iblk m c 0 t) (iblk m c 4 t) (iblk m c 15 t) (iblk m c 26 t) := by dsimp only [dats]
theorem after0_48 (c : Dev nD) (t : Fin cfg0.N) : (dats m 0 c).after 48 t = out0_48 (iblk m c 0 t) (iblk m c 15 t) := by dsimp only [dats]
theorem after0_49 (c : Dev nD) (t : Fin cfg0.N) : (dats m 0 c).after 49 t = out0_49 (iblk m c 0 t) (iblk m c 26 t) := by dsimp only [dats]
theorem after0_50 (c : Dev nD) (t : Fin cfg0.N) : (dats m 0 c).after 50 t = out0_50 (iblk m c 0 t) := by dsimp only [dats]
theorem after0_51 (c : Dev nD) (t : Fin cfg0.N) : (dats m 0 c).after 51 t = out0_51 (iblk m c 0 t) (iblk m c 5 t) (iblk m c 16 t) (iblk m c 27 t) := by dsimp only [dats]
theorem after0_52 (c : Dev nD) (t : Fin cfg0.N) : (dats m 0 c).after 52 t = out0_52 (iblk m c 0 t) (iblk m c 16 t) := by dsimp only [dats]
theorem after0_53 (c : Dev nD) (t : Fin cfg0.N) : (dats m 0 c).after 53 t = out0_53 (iblk m c 0 t) (iblk m c 27 t) := by dsimp only [dats]
theorem after0_54 (c : Dev nD) (t : Fin cfg0.N) : (dats m 0 c).after 54 t = out0_54 (iblk m c 0 t) := by dsimp only [dats]
theorem after0_55 (c : Dev nD) (t : Fin cfg0.N) : (dats m 0 c).after 55 t = out0_55 (iblk m c 0 t) (iblk m c 6 t) (iblk m c 17 t) (iblk m c 28 t) := by dsimp only [dats]
theorem after0_56 (c : Dev nD) (t : Fin cfg0.N) : (dats m 0 c).after 56 t = out0_56 (iblk m c 0 t) (iblk m c 17 t) := by dsimp only [dats]
theorem after0_57 (c : Dev nD) (t : Fin cfg0.N) : (dats m 0 c).after 57 t = out0_57 (iblk m c 0 t) (iblk m c 28 t) := by dsimp only [dats]
theorem after0_58 (c : Dev nD) (t : Fin cfg0.N) : (dats m 0 c).after 58 t = out0_58 (iblk m c 0 t) := by dsimp only [dats]
theorem after0_59 (c : Dev nD) (t : Fin cfg0.N) : (dats m 0 c).after 59 t = out0_59 (iblk m c 0 t) (iblk m c 7 t) (iblk m c 18 t) (iblk m c 29 t) := by dsimp only [dats]
theorem after0_60 (c : Dev nD) (t : Fin cfg0.N) : (dats m 0 c).after 60 t = out0_60 (iblk m c 0 t) (iblk m c 18 t) := by dsimp only [dats]
theorem after0_61 (c : Dev nD) (t : Fin cfg0.N) : (dats m 0 c).after 61 t = out0_61 (iblk m c 0 t) (iblk m c 29 t) := by dsimp only [dats]
theorem after0_62 (c : Dev nD) (t : Fin cfg0.N) : (dats m 0 c).after 62 t = out0_62 (iblk m c 0 t) := by dsimp only [dats]
theorem after0_63 (c : Dev nD) (t : Fin cfg0.N) : (dats m 0 c).after 63 t = out0_63 (iblk m c 0 t) (iblk m c 8 t) (iblk m c 19 t) (iblk m c 30 t) := by dsimp only [dats]
theorem after0_64 (c : Dev nD) (t : Fin cfg0.N) : (dats m 0 c).after 64 t = out0_64 (iblk m c 0 t) (iblk m c 19 t) := by dsimp only [dats]
theorem after0_65 (c : Dev nD) (t : Fin cfg0.N) : (dats m 0 c).after 65 t = out0_65 (iblk m c 0 t) (iblk m c 30 t) := by dsimp only [dats]
theorem after0_66 (c : Dev nD) (t : Fin cfg0.N) : (dats m 0 c).after 66 t = out0_66 (iblk m c 0 t) := by dsimp only [dats]
theorem after0_67 (c : Dev nD) (t : Fin cfg0.N) : (dats m 0 c).after 67 t = out0_67 (iblk m c 0 t) (iblk m c 9 t) (iblk m c 20 t) (iblk m c 31 t) := by dsimp only [dats]
theorem after0_68 (c : Dev nD) (t : Fin cfg0.N) : (dats m 0 c).after 68 t = out0_68 (iblk m c 0 t) (iblk m c 20 t) := by dsimp only [dats]
theorem after0_69 (c : Dev nD) (t : Fin cfg0.N) : (dats m 0 c).after 69 t = out0_69 (iblk m c 0 t) (iblk m c 31 t) := by dsimp only [dats]
theorem after0_70 (c : Dev nD) (t : Fin cfg0.N) : (dats m 0 c).after 70 t = out0_70 (iblk m c 0 t) := by dsimp only [dats]
theorem after0_71 (c : Dev nD) (t : Fin cfg0.N) : (dats m 0 c).after 71 t = out0_71 (iblk m c 0 t) (iblk m c 10 t) (iblk m c 21 t) (iblk m c 32 t) := by dsimp only [dats]
theorem after0_72 (c : Dev nD) (t : Fin cfg0.N) : (dats m 0 c).after 72 t = out0_72 (iblk m c 0 t) (iblk m c 21 t) := by dsimp only [dats]
theorem after0_73 (c : Dev nD) (t : Fin cfg0.N) : (dats m 0 c).after 73 t = out0_73 (iblk m c 0 t) (iblk m c 32 t) := by dsimp only [dats]
theorem after0_74 (c : Dev nD) (t : Fin cfg0.N) : (dats m 0 c).after 74 t = out0_74 (iblk m c 0 t) := by dsimp only [dats]
theorem after0_75 (c : Dev nD) (t : Fin cfg0.N) : (dats m 0 c).after 75 t = out0_75 (iblk m c 0 t) (iblk m c 11 t) (iblk m c 22 t) (iblk m c 33 t) := by dsimp only [dats]
theorem after0_76 (c : Dev nD) (t : Fin cfg0.N) : (dats m 0 c).after 76 t = out0_76 (iblk m c 0 t) (iblk m c 22 t) := by dsimp only [dats]
theorem after0_77 (c : Dev nD) (t : Fin cfg0.N) : (dats m 0 c).after 77 t = out0_77 (iblk m c 0 t) (iblk m c 33 t) := by dsimp only [dats]
theorem after0_78 (c : Dev nD) (t : Fin cfg0.N) : (dats m 0 c).after 78 t = out0_78 (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d
theorem before0_33 (c : Dev nD) (t : Fin cfg0.N) (d) : (dats m 0 c).before 33 t d = iblk m c 33 t :=
  before0_33_of m (dats m 0 c) (A_eq m c 33) (after0_33 m c) t d

end Cert.Kernel8Ideal.Vec

end
-- ==== Proof.Vec.Obligation.lean ====
module

public import proofs.«01_k».proof.Proof.Vec.Body
public import proofs.«01_k».proof.Proof.Vec.Data

@[expose] public section

set_option maxRecDepth 16384

noncomputable section

namespace Cert.Kernel8Ideal.Vec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d))
    ∗ (∃ d, owns (c : Thread nD τ) (st0_63 t) fullShare ((dats m 0 c).before 63 t d))
    ∗ (∃ d, owns (c : Thread nD τ) (st0_64 t) fullShare ((dats m 0 c).before 64 t d))
    ∗ (∃ d, owns (c : Thread nD τ) (st0_65 t) fullShare ((dats m 0 c).before 65 t d))
    ∗ (∃ d, owns (c : Thread nD τ) (st0_66 t) fullShare ((dats m 0 c).before 66 t d))
    ∗ (∃ d, owns (c : Thread nD τ) (st0_67 t) fullShare ((dats m 0 c).before 67 t d))
    ∗ (∃ d, owns (c : Thread nD τ) (st0_68 t) fullShare ((dats m 0 c).before 68 t d))
    ∗ (∃ d, owns (c : Thread nD τ) (st0_69 t) fullShare ((dats m 0 c).before 69 t d))
    ∗ (∃ d, owns (c : Thread nD τ) (st0_70 t) fullShare ((dats m 0 c).before 70 t d))
    ∗ (∃ d, owns (c : Thread nD τ) (st0_71 t) fullShare ((dats m 0 c).before 71 t d))
    ∗ (∃ d, owns (c : Thread nD τ) (st0_72 t) fullShare ((dats m 0 c).before 72 t d))
    ∗ (∃ d, owns (c : Thread nD τ) (st0_73 t) fullShare ((dats m 0 c).before 73 t d))
    ∗ (∃ d, owns (c : Thread nD τ) (st0_74 t) fullShare ((dats m 0 c).before 74 t d))
    ∗ (∃ d, owns (c : Thread nD τ) (st0_75 t) fullShare ((dats m 0 c).before 75 t d))
    ∗ (∃ d, owns (c : Thread nD τ) (st0_76 t) fullShare ((dats m 0 c).before 76 t d))
    ∗ (∃ d, owns (c : Thread nD τ) (st0_77 t) fullShare ((dats m 0 c).before 77 t d))
    ∗ (∃ d, owns (c : Thread nD τ) (st0_78 t) fullShare ((dats m 0 c).before 78 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t)
    ∗ owns (c : Thread nD τ) (st0_63 t) fullShare ((dats m 0 c).after 63 t)
    ∗ owns (c : Thread nD τ) (st0_64 t) fullShare ((dats m 0 c).after 64 t)
    ∗ owns (c : Thread nD τ) (st0_65 t) fullShare ((dats m 0 c).after 65 t)
    ∗ owns (c : Thread nD τ) (st0_66 t) fullShare ((dats m 0 c).after 66 t)
    ∗ owns (c : Thread nD τ) (st0_67 t) fullShare ((dats m 0 c).after 67 t)
    ∗ owns (c : Thread nD τ) (st0_68 t) fullShare ((dats m 0 c).after 68 t)
    ∗ owns (c : Thread nD τ) (st0_69 t) fullShare ((dats m 0 c).after 69 t)
    ∗ owns (c : Thread nD τ) (st0_70 t) fullShare ((dats m 0 c).after 70 t)
    ∗ owns (c : Thread nD τ) (st0_71 t) fullShare ((dats m 0 c).after 71 t)
    ∗ owns (c : Thread nD τ) (st0_72 t) fullShare ((dats m 0 c).after 72 t)
    ∗ owns (c : Thread nD τ) (st0_73 t) fullShare ((dats m 0 c).after 73 t)
    ∗ owns (c : Thread nD τ) (st0_74 t) fullShare ((dats m 0 c).after 74 t)
    ∗ owns (c : Thread nD τ) (st0_75 t) fullShare ((dats m 0 c).after 75 t)
    ∗ owns (c : Thread nD τ) (st0_76 t) fullShare ((dats m 0 c).after 76 t)
    ∗ owns (c : Thread nD τ) (st0_77 t) fullShare ((dats m 0 c).after 77 t)
    ∗ owns (c : Thread nD τ) (st0_78 t) fullShare ((dats m 0 c).after 78 t))

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53, after0_54, after0_55, after0_56, after0_57, after0_58, after0_59, after0_60, after0_61, after0_62, after0_63, after0_64, after0_65, after0_66, after0_67, after0_68, after0_69, after0_70, after0_71, after0_72, after0_73, after0_74, after0_75, after0_76, after0_77, after0_78]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩, ⟨%d69, H69⟩, ⟨%d70, H70⟩, ⟨%d71, H71⟩, ⟨%d72, H72⟩, ⟨%d73, H73⟩, ⟨%d74, H74⟩, ⟨%d75, H75⟩, ⟨%d76, H76⟩, ⟨%d77, H77⟩, ⟨%d78, H78⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  isplitl [H69]; · iexists _; iexact H69
  isplitl [H70]; · iexists _; iexact H70
  isplitl [H71]; · iexists _; iexact H71
  isplitl [H72]; · iexists _; iexact H72
  isplitl [H73]; · iexists _; iexact H73
  isplitl [H74]; · iexists _; iexact H74
  isplitl [H75]; · iexists _; iexact H75
  isplitl [H76]; · iexists _; iexact H76
  isplitl [H77]; · iexists _; iexact H77
  isplitl [H78]; · iexists _; iexact H78
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  isplitl [H76]; · iexact H76
  isplitl [H77]; · iexact H77
  iexact H78

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.Kernel8Ideal.Vec

end
-- ==== Proof.Vec.Run.lean ====
module

public import proofs.«01_k».proof.Proof.Vec.Obligation

@[expose] public section

set_option maxRecDepth 16384

noncomputable section

namespace Cert.Kernel8Ideal.Vec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

-- `θ_run_frame`'s implicit arguments are found by unifying its conclusion with this one, which takes unfolding plain
-- definitions in a metavariable's type
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44))
      ∧ r.2.sem = fun _ => 0) :=
  θ_run_and (frame_of m ρ (dats m) (A_eq m) (run_main m ρ)) ((θ_run defs _ _).mono (fun _ h => h.2) (run_main_quiescent m ρ))

end Cert.Kernel8Ideal.Vec

end
-- ==== Proof.InProj.Math.lean ====
module

public import Idealize.ShloMosaic.Lib.Pointwise

@[expose] public section

/-!
The backward pass of `norm → in-projection`, one token at a time, over the extended reals.

A token has a row `x` of 1024 entries, the norm a gain `g`, and the projection hands back the row `d` of
3712 entries (the gradient of the projected token).
-/

noncomputable section

namespace Cert.InProj

open Idealize.ShloMosaic

/-- The mean of the squares of a row, plus the norm's epsilon. -/
def rowVar (x : Fin 1024 → EReal) : EReal :=
  Ideal.div (∑ k, x k * x k) (Ideal.ofBits .f32 0x44800000#32) + Ideal.ofBits .f32 0x358637BD#32

/-- One over the root mean square. -/
def rowInv (x : Fin 1024 → EReal) : EReal := Ideal.rsqrt (rowVar x)

/-- The normed row times the gain, which the projection multiplies. -/
def rowU (x g : Fin 1024 → EReal) (j : Fin 1024) : EReal := x j * rowInv x * g j

/-- The factor of `x` in the gradient of the norm: what the mean of squares hands back to every entry. -/
def rowBack (x g du : Fin 1024 → EReal) : EReal :=
  Ideal.div ((∑ k, x k * (du k * g k)) * (Ideal.ofBits .f32 0xBF000000#32 * Ideal.div (rowInv x) (rowVar x)))
    (Ideal.ofBits .f32 0x44800000#32)

/-- One entry of the gradient of the row: the residual's gradient `dh`, and the norm's. -/
def rowDx (x g du : Fin 1024 → EReal) (dh : EReal) (j : Fin 1024) : EReal :=
  du j * g j * rowInv x + x j * rowBack x g du + rowBack x g du * x j + dh

/-- The row of 3712 entries that three rows make, end to end. -/
def row3 (a : Fin 1024 → EReal) (b : Fin 512 → EReal) (c : Fin 2176 → EReal) (k : Fin 3712) : EReal :=
  if h : k.val < 1024 then a ⟨k.val, h⟩
  else if h' : k.val < 1536 then b ⟨k.val - 1024, by omega⟩
  else c ⟨k.val - 1536, by have := k.isLt; omega⟩

/-- A sum over the 3712 entries is the sum of the three parts' sums. -/
theorem sum_row3 (a : Fin 1024 → EReal) (b : Fin 512 → EReal) (c : Fin 2176 → EReal) (w : Fin 3712 → EReal) :
    ∑ k, row3 a b c k * w k
      = ∑ k : Fin 1024, a k * w ⟨k.val, by have := k.isLt; omega⟩
        + ∑ k : Fin 512, b k * w ⟨1024 + k.val, by have := k.isLt; omega⟩
        + ∑ k : Fin 2176, c k * w ⟨1536 + k.val, by have := k.isLt; omega⟩ := by
  rw [Fin.sum_univ_two_halves 1536 2176 rfl (fun k => row3 a b c k * w k),
    Fin.sum_univ_two_halves 1024 512 rfl (fun k : Fin 1536 => row3 a b c ⟨k.val, _⟩ * w ⟨k.val, _⟩)]
  refine congrArg₂ (· + ·) (congrArg₂ (· + ·) ?_ ?_) ?_ <;> refine Finset.sum_congr rfl fun k _ => ?_
  · exact congrArg (· * _) (dif_pos k.isLt)
  · refine congrArg (· * _) ((dif_neg (by show ¬ 1024 + k.val < 1024; omega)).trans
      ((dif_pos (by show 1024 + k.val < 1536; have := k.isLt; omega)).trans ?_))
    exact congrArg b (Fin.ext (by show 1024 + k.val - 1024 = k.val; omega))
  · refine congrArg (· * _) ((dif_neg (by show ¬ 1536 + k.val < 1024; omega)).trans
      ((dif_neg (by show ¬ 1536 + k.val < 1536; omega)).trans ?_))
    exact congrArg c (Fin.ext (by show 1536 + k.val - 1536 = k.val; omega))

/-- A sum over 2048 tokens is a sum of eight sums over 256. -/
theorem sum_tokens (f : Fin 2048 → EReal) :
    ∑ k, f k = ∑ t : Fin 8, ∑ r : Fin 256, f ⟨t.val * 256 + r.val, by have := t.isLt; have := r.isLt; omega⟩ :=
  Fin.sum_univ_tiles 8 256 rfl f

end Cert.InProj
-- ==== Proof.Prep.Math.lean ====
module

public import proofs.«01_k».proof.Proof.InProj.Math

@[expose] public section

/-!
The forward pass of `norm → in-projection → token shift → decay, learning rate and keys`, one token at a time, over the
extended reals.

A token has its projected row, of which the last 2176 entries are the recurrence's; `q` is such a row after the shift.
-/

noncomputable section

namespace Cert.Prep

open Idealize.ShloMosaic

/-- The row after the token shift: each entry moves by `mu` towards the token before. -/
def shifted (p prev mu : Fin 2176 → EReal) (j : Fin 2176) : EReal := p j + mu j * (prev j - p j)

/-- The argument of the decay: a bias plus a product with 64 entries of the shifted row, through `tanh`. -/
def wArg (q : Fin 2176 → EReal) (w0 : Fin 512 → EReal) (wup : Fin 512 → Fin 64 → EReal) (j : Fin 512) : EReal :=
  w0 j + ∑ l : Fin 64, Ideal.tanh (q ⟨2048 + l.val, by have := l.isLt; omega⟩) * wup j l

/-- `log (1 + exp y)`, in the form that does not overflow. -/
def softplus (y : EReal) : EReal := max y 0 + Ideal.log1p (Ideal.exp (-max y (-y)))

/-- The decay of a channel. -/
def decay (y : EReal) : EReal :=
  Ideal.exp (-Ideal.exp (-softplus (-y) - Ideal.ofBits .f32 0x3F000000#32))

/-- The learning rate of a channel. -/
def aGate (q : Fin 2176 → EReal) (a0 : Fin 512 → EReal) (aup : Fin 512 → Fin 64 → EReal) (j : Fin 512) : EReal :=
  Ideal.div (1) (1 + Ideal.exp (-(a0 j
    + ∑ l : Fin 64, q ⟨2112 + l.val, by have := l.isLt; omega⟩ * aup j l)))

/-- Entry `j` of the key's quarter of the row. -/
def kRaw (q : Fin 2176 → EReal) (j : Fin 512) : EReal := q ⟨512 + j.val, by have := j.isLt; omega⟩

/-- Lane `l` of the head that entry `j` belongs to. -/
def lane (j : Fin 512) (l : Fin 64) : Fin 512 := ⟨j.val / 64 * 64 + l.val, by have := j.isLt; have := l.isLt; omega⟩

/-- The key's direction: scaled, then divided by its head's length. -/
def kDir (q : Fin 2176 → EReal) (kk : Fin 512 → EReal) (j : Fin 512) : EReal :=
  Ideal.div (kRaw q j * kk j)
    (max (Ideal.sqrt (∑ l : Fin 64, (kRaw q (lane j l) * kk (lane j l)) * (kRaw q (lane j l) * kk (lane j l))))
      (Ideal.ofBits .f32 0x2B8CBCCC#32))

/-- The key, weighted by the learning rate. -/
def kOut (q : Fin 2176 → EReal) (a : Fin 512 → EReal) (ka : Fin 512 → EReal) (j : Fin 512) : EReal :=
  kRaw q j * (1 + (a j - 1) * ka j)

end Cert.Prep
-- ==== Proof.Adam.Math.lean ====
module

public import proofs.«01_k».proof.Proof.Prep.Math

@[expose] public section

set_option maxRecDepth 16384

/-!
One element of a weight's AdamW step, from its gradient `g`, its weight `w` and its two moments `m` and `v`.
-/

noncomputable section

namespace Cert.Adam

open Idealize.ShloMosaic Idealize.ShloMosaic.TcCoe Idealize.SL.Sem

/-- A literal. -/
abbrev lit (b : BitVec 32) : EReal := FloatOps.ofBits (F := Ideal) .f32 b

/-- The new first moment. -/
def mom (g m : EReal) : EReal := lit 0x3F666666#32 * m + lit 0x3DCCCCCD#32 * g

/-- The new second moment. -/
def vel (g v : EReal) : EReal := lit 0x3F7FBE77#32 * v + lit 0x3A83126F#32 * (g * g)

/-- The weight's step: both moments with their bias taken out, and the weight's decay. -/
def delta (g w m v : EReal) : EReal :=
  lit 0xBA83126F#32 * (Ideal.div (Ideal.div (mom g m) (lit 0x3F26BD02#32))
    (Ideal.sqrt (Ideal.div (vel g v) (lit 0x3C231ACC#32)) + lit 0x322BCC77#32) + lit 0x3C23D70A#32 * w)

end Cert.Adam

end
-- ==== Proof.Vec.Blocks.lean ====
module

public import proofs.«01_k».proof.Proof.Vec.Outs
public import proofs.«01_k».proof.Proof.Adam.Math
public import Idealize.ShloMosaic.Lib.Pipeline.Value
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel8Ideal.Vec

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal.Gen

/-!
# The outputs as vectors

Each output is a gradient, a step or a moment of one weight, element by element.
-/

/-- The new first moments. -/
def momV {s : Shape} (g m : FVec Ideal s .f32) : FVec Ideal s .f32 := fun i => Cert.Adam.mom (g i) (m i)

/-- The new second moments. -/
def velV {s : Shape} (g v : FVec Ideal s .f32) : FVec Ideal s .f32 := fun i => Cert.Adam.vel (g i) (v i)

/-- The step. -/
def deltaV {s : Shape} (g w m v : FVec Ideal s .f32) : FVec Ideal s .f32 :=
  fun i => Cert.Adam.delta (g i) (w i) (m i) (v i)

theorem origin2 : (![0, 0] : Fin 2 → ℕ) = fun _ => 0 := funext fun a => by fin_cases a <;> rfl

theorem origin3 : (![0, 0, 0] : Fin 3 → ℕ) = fun _ => 0 := funext fun a => by fin_cases a <;> rfl

/-! A load of a whole window reads it. -/

theorem ld8 (X : Vec Ideal S1x1024 .f32) : View.ld X r0_8 = X := View.ld_unit_zero (S := S1x1024) origin2 _ X

theorem ld9 (X : Vec Ideal S1x512 .f32) : View.ld X r0_9 = X := View.ld_unit_zero (S := S1x512) origin2 _ X

theorem ld10 (X : Vec Ideal S1x2176 .f32) : View.ld X r0_10 = X := View.ld_unit_zero (S := S1x2176) origin2 _ X

theorem ld11 (X : Vec Ideal S1x8x64 .f32) : View.ld X r0_11 = X := View.ld_unit_zero (S := S1x8x64) origin3 _ X

theorem out0_34_eq (x0 : Vec Ideal S8x1x8448 .f32) : out0_34 (F := Ideal) x0 = k0_pay53 x0 := by
  rw [out0_34, View.canon_unit_zero origin2]
  rfl

theorem out0_35_eq (x0 : Vec Ideal S8x1x8448 .f32) (x1 : Vec Ideal S1x1024 .f32) (x12 : Vec Ideal S1x1024 .f32) (x23 : Vec Ideal S1x1024 .f32) : out0_35 (F := Ideal) x0 x1 x12 x23 = deltaV (k0_pay53 x0) x1 x12 x23 := by
  rw [out0_35, View.canon_unit_zero origin2]
  simp only [k0_pay59, k0_pay61, k0_pay63, ld8, ld9, ld10, ld11]
  rfl

theorem out0_36_eq (x0 : Vec Ideal S8x1x8448 .f32) (x12 : Vec Ideal S1x1024 .f32) : out0_36 (F := Ideal) x0 x12 = momV (k0_pay53 x0) x12 := by
  rw [out0_36, View.canon_unit_zero origin2]
  simp only [k0_pay59, k0_pay61, k0_pay63, ld8, ld9, ld10, ld11]
  rfl

theorem out0_37_eq (x0 : Vec Ideal S8x1x8448 .f32) (x23 : Vec Ideal S1x1024 .f32) : out0_37 (F := Ideal) x0 x23 = velV (k0_pay53 x0) x23 := by
  rw [out0_37, View.canon_unit_zero origin2]
  simp only [k0_pay59, k0_pay61, k0_pay63, ld8, ld9, ld10, ld11]
  rfl

theorem out0_38_eq (x0 : Vec Ideal S8x1x8448 .f32) : out0_38 (F := Ideal) x0 = k0_pay54 x0 := by
  rw [out0_38, View.canon_unit_zero origin2]
  rfl

theorem out0_39_eq (x0 : Vec Ideal S8x1x8448 .f32) (x2 : Vec Ideal S1x512 .f32) (x13 : Vec Ideal S1x512 .f32) (x24 : Vec Ideal S1x512 .f32) : out0_39 (F := Ideal) x0 x2 x13 x24 = deltaV (k0_pay54 x0) x2 x13 x24 := by
  rw [out0_39, View.canon_unit_zero origin2]
  simp only [k0_pay59, k0_pay61, k0_pay63, ld8, ld9, ld10, ld11]
  rfl

theorem out0_40_eq (x0 : Vec Ideal S8x1x8448 .f32) (x13 : Vec Ideal S1x512 .f32) : out0_40 (F := Ideal) x0 x13 = momV (k0_pay54 x0) x13 := by
  rw [out0_40, View.canon_unit_zero origin2]
  simp only [k0_pay59, k0_pay61, k0_pay63, ld8, ld9, ld10, ld11]
  rfl

theorem out0_41_eq (x0 : Vec Ideal S8x1x8448 .f32) (x24 : Vec Ideal S1x512 .f32) : out0_41 (F := Ideal) x0 x24 = velV (k0_pay54 x0) x24 := by
  rw [out0_41, View.canon_unit_zero origin2]
  simp only [k0_pay59, k0_pay61, k0_pay63, ld8, ld9, ld10, ld11]
  rfl

theorem out0_42_eq (x0 : Vec Ideal S8x1x8448 .f32) : out0_42 (F := Ideal) x0 = k0_pay55 x0 := by
  rw [out0_42, View.canon_unit_zero origin2]
  rfl

theorem out0_43_eq (x0 : Vec Ideal S8x1x8448 .f32) (x3 : Vec Ideal S1x2176 .f32) (x14 : Vec Ideal S1x2176 .f32) (x25 : Vec Ideal S1x2176 .f32) : out0_43 (F := Ideal) x0 x3 x14 x25 = deltaV (k0_pay55 x0) x3 x14 x25 := by
  rw [out0_43, View.canon_unit_zero origin2]
  simp only [k0_pay59, k0_pay61, k0_pay63, ld8, ld9, ld10, ld11]
  rfl

theorem out0_44_eq (x0 : Vec Ideal S8x1x8448 .f32) (x14 : Vec Ideal S1x2176 .f32) : out0_44 (F := Ideal) x0 x14 = momV (k0_pay55 x0) x14 := by
  rw [out0_44, View.canon_unit_zero origin2]
  simp only [k0_pay59, k0_pay61, k0_pay63, ld8, ld9, ld10, ld11]
  rfl

theorem out0_45_eq (x0 : Vec Ideal S8x1x8448 .f32) (x25 : Vec Ideal S1x2176 .f32) : out0_45 (F := Ideal) x0 x25 = velV (k0_pay55 x0) x25 := by
  rw [out0_45, View.canon_unit_zero origin2]
  simp only [k0_pay59, k0_pay61, k0_pay63, ld8, ld9, ld10, ld11]
  rfl

theorem out0_46_eq (x0 : Vec Ideal S8x1x8448 .f32) : out0_46 (F := Ideal) x0 = k0_pay56 x0 := by
  rw [out0_46, View.canon_unit_zero origin2]
  rfl

theorem out0_47_eq (x0 : Vec Ideal S8x1x8448 .f32) (x4 : Vec Ideal S1x512 .f32) (x15 : Vec Ideal S1x512 .f32) (x26 : Vec Ideal S1x512 .f32) : out0_47 (F := Ideal) x0 x4 x15 x26 = deltaV (k0_pay56 x0) x4 x15 x26 := by
  rw [out0_47, View.canon_unit_zero origin2]
  simp only [k0_pay59, k0_pay61, k0_pay63, ld8, ld9, ld10, ld11]
  rfl

theorem out0_48_eq (x0 : Vec Ideal S8x1x8448 .f32) (x15 : Vec Ideal S1x512 .f32) : out0_48 (F := Ideal) x0 x15 = momV (k0_pay56 x0) x15 := by
  rw [out0_48, View.canon_unit_zero origin2]
  simp only [k0_pay59, k0_pay61, k0_pay63, ld8, ld9, ld10, ld11]
  rfl

theorem out0_49_eq (x0 : Vec Ideal S8x1x8448 .f32) (x26 : Vec Ideal S1x512 .f32) : out0_49 (F := Ideal) x0 x26 = velV (k0_pay56 x0) x26 := by
  rw [out0_49, View.canon_unit_zero origin2]
  simp only [k0_pay59, k0_pay61, k0_pay63, ld8, ld9, ld10, ld11]
  rfl

theorem out0_50_eq (x0 : Vec Ideal S8x1x8448 .f32) : out0_50 (F := Ideal) x0 = k0_pay58 x0 := by
  rw [out0_50, View.canon_unit_zero origin2]
  rfl

theorem out0_51_eq (x0 : Vec Ideal S8x1x8448 .f32) (x5 : Vec Ideal S1x512 .f32) (x16 : Vec Ideal S1x512 .f32) (x27 : Vec Ideal S1x512 .f32) : out0_51 (F := Ideal) x0 x5 x16 x27 = deltaV (k0_pay58 x0) x5 x16 x27 := by
  rw [out0_51, View.canon_unit_zero origin2]
  simp only [k0_pay59, k0_pay61, k0_pay63, ld8, ld9, ld10, ld11]
  rfl

theorem out0_52_eq (x0 : Vec Ideal S8x1x8448 .f32) (x16 : Vec Ideal S1x512 .f32) : out0_52 (F := Ideal) x0 x16 = momV (k0_pay58 x0) x16 := by
  rw [out0_52, View.canon_unit_zero origin2]
  simp only [k0_pay59, k0_pay61, k0_pay63, ld8, ld9, ld10, ld11]
  rfl

theorem out0_53_eq (x0 : Vec Ideal S8x1x8448 .f32) (x27 : Vec Ideal S1x512 .f32) : out0_53 (F := Ideal) x0 x27 = velV (k0_pay58 x0) x27 := by
  rw [out0_53, View.canon_unit_zero origin2]
  simp only [k0_pay59, k0_pay61, k0_pay63, ld8, ld9, ld10, ld11]
  rfl

theorem out0_54_eq (x0 : Vec Ideal S8x1x8448 .f32) : out0_54 (F := Ideal) x0 = k0_pay60 x0 := by
  rw [out0_54, View.canon_unit_zero origin2]
  rfl

theorem out0_55_eq (x0 : Vec Ideal S8x1x8448 .f32) (x6 : Vec Ideal S1x512 .f32) (x17 : Vec Ideal S1x512 .f32) (x28 : Vec Ideal S1x512 .f32) : out0_55 (F := Ideal) x0 x6 x17 x28 = deltaV (k0_pay60 x0) x6 x17 x28 := by
  rw [out0_55, View.canon_unit_zero origin2]
  simp only [k0_pay59, k0_pay61, k0_pay63, ld8, ld9, ld10, ld11]
  rfl

theorem out0_56_eq (x0 : Vec Ideal S8x1x8448 .f32) (x17 : Vec Ideal S1x512 .f32) : out0_56 (F := Ideal) x0 x17 = momV (k0_pay60 x0) x17 := by
  rw [out0_56, View.canon_unit_zero origin2]
  simp only [k0_pay59, k0_pay61, k0_pay63, ld8, ld9, ld10, ld11]
  rfl

theorem out0_57_eq (x0 : Vec Ideal S8x1x8448 .f32) (x28 : Vec Ideal S1x512 .f32) : out0_57 (F := Ideal) x0 x28 = velV (k0_pay60 x0) x28 := by
  rw [out0_57, View.canon_unit_zero origin2]
  simp only [k0_pay59, k0_pay61, k0_pay63, ld8, ld9, ld10, ld11]
  rfl

theorem out0_58_eq (x0 : Vec Ideal S8x1x8448 .f32) : out0_58 (F := Ideal) x0 = k0_pay62 x0 := by
  rw [out0_58, View.canon_unit_zero origin2]
  rfl

theorem out0_59_eq (x0 : Vec Ideal S8x1x8448 .f32) (x7 : Vec Ideal S1x512 .f32) (x18 : Vec Ideal S1x512 .f32) (x29 : Vec Ideal S1x512 .f32) : out0_59 (F := Ideal) x0 x7 x18 x29 = deltaV (k0_pay62 x0) x7 x18 x29 := by
  rw [out0_59, View.canon_unit_zero origin2]
  simp only [k0_pay59, k0_pay61, k0_pay63, ld8, ld9, ld10, ld11]
  rfl

theorem out0_60_eq (x0 : Vec Ideal S8x1x8448 .f32) (x18 : Vec Ideal S1x512 .f32) : out0_60 (F := Ideal) x0 x18 = momV (k0_pay62 x0) x18 := by
  rw [out0_60, View.canon_unit_zero origin2]
  simp only [k0_pay59, k0_pay61, k0_pay63, ld8, ld9, ld10, ld11]
  rfl

theorem out0_61_eq (x0 : Vec Ideal S8x1x8448 .f32) (x29 : Vec Ideal S1x512 .f32) : out0_61 (F := Ideal) x0 x29 = velV (k0_pay62 x0) x29 := by
  rw [out0_61, View.canon_unit_zero origin2]
  simp only [k0_pay59, k0_pay61, k0_pay63, ld8, ld9, ld10, ld11]
  rfl

theorem out0_62_eq (x0 : Vec Ideal S8x1x8448 .f32) : out0_62 (F := Ideal) x0 = k0_pay65 x0 := by
  rw [out0_62, View.canon_unit_zero origin3]
  rfl

theorem out0_63_eq (x0 : Vec Ideal S8x1x8448 .f32) (x8 : Vec Ideal S1x8x64 .f32) (x19 : Vec Ideal S1x8x64 .f32) (x30 : Vec Ideal S1x8x64 .f32) : out0_63 (F := Ideal) x0 x8 x19 x30 = deltaV (k0_pay65 x0) x8 x19 x30 := by
  rw [out0_63, View.canon_unit_zero origin3]
  simp only [k0_pay59, k0_pay61, k0_pay63, ld8, ld9, ld10, ld11]
  rfl

theorem out0_64_eq (x0 : Vec Ideal S8x1x8448 .f32) (x19 : Vec Ideal S1x8x64 .f32) : out0_64 (F := Ideal) x0 x19 = momV (k0_pay65 x0) x19 := by
  rw [out0_64, View.canon_unit_zero origin3]
  simp only [k0_pay59, k0_pay61, k0_pay63, ld8, ld9, ld10, ld11]
  rfl

theorem out0_65_eq (x0 : Vec Ideal S8x1x8448 .f32) (x30 : Vec Ideal S1x8x64 .f32) : out0_65 (F := Ideal) x0 x30 = velV (k0_pay65 x0) x30 := by
  rw [out0_65, View.canon_unit_zero origin3]
  simp only [k0_pay59, k0_pay61, k0_pay63, ld8, ld9, ld10, ld11]
  rfl

theorem out0_66_eq (x0 : Vec Ideal S8x1x8448 .f32) : out0_66 (F := Ideal) x0 = k0_pay66 x0 := by
  rw [out0_66, View.canon_unit_zero origin2]

theorem out0_67_eq (x0 : Vec Ideal S8x1x8448 .f32) (x9 : Vec Ideal S1x512 .f32) (x20 : Vec Ideal S1x512 .f32) (x31 : Vec Ideal S1x512 .f32) : out0_67 (F := Ideal) x0 x9 x20 x31 = deltaV (k0_pay66 x0) x9 x20 x31 := by
  rw [out0_67, View.canon_unit_zero origin2]
  simp only [k0_pay59, k0_pay61, k0_pay63, ld8, ld9, ld10, ld11]
  rfl

theorem out0_68_eq (x0 : Vec Ideal S8x1x8448 .f32) (x20 : Vec Ideal S1x512 .f32) : out0_68 (F := Ideal) x0 x20 = momV (k0_pay66 x0) x20 := by
  rw [out0_68, View.canon_unit_zero origin2]
  simp only [k0_pay59, k0_pay61, k0_pay63, ld8, ld9, ld10, ld11]
  rfl

theorem out0_69_eq (x0 : Vec Ideal S8x1x8448 .f32) (x31 : Vec Ideal S1x512 .f32) : out0_69 (F := Ideal) x0 x31 = velV (k0_pay66 x0) x31 := by
  rw [out0_69, View.canon_unit_zero origin2]
  simp only [k0_pay59, k0_pay61, k0_pay63, ld8, ld9, ld10, ld11]
  rfl

theorem out0_70_eq (x0 : Vec Ideal S8x1x8448 .f32) : out0_70 (F := Ideal) x0 = k0_pay67 x0 := by
  rw [out0_70, View.canon_unit_zero origin2]
  rfl

theorem out0_71_eq (x0 : Vec Ideal S8x1x8448 .f32) (x10 : Vec Ideal S1x512 .f32) (x21 : Vec Ideal S1x512 .f32) (x32 : Vec Ideal S1x512 .f32) : out0_71 (F := Ideal) x0 x10 x21 x32 = deltaV (k0_pay67 x0) x10 x21 x32 := by
  rw [out0_71, View.canon_unit_zero origin2]
  simp only [k0_pay59, k0_pay61, k0_pay63, ld8, ld9, ld10, ld11]
  rfl

theorem out0_72_eq (x0 : Vec Ideal S8x1x8448 .f32) (x21 : Vec Ideal S1x512 .f32) : out0_72 (F := Ideal) x0 x21 = momV (k0_pay67 x0) x21 := by
  rw [out0_72, View.canon_unit_zero origin2]
  simp only [k0_pay59, k0_pay61, k0_pay63, ld8, ld9, ld10, ld11]
  rfl

theorem out0_73_eq (x0 : Vec Ideal S8x1x8448 .f32) (x32 : Vec Ideal S1x512 .f32) : out0_73 (F := Ideal) x0 x32 = velV (k0_pay67 x0) x32 := by
  rw [out0_73, View.canon_unit_zero origin2]
  simp only [k0_pay59, k0_pay61, k0_pay63, ld8, ld9, ld10, ld11]
  rfl

theorem out0_74_eq (x0 : Vec Ideal S8x1x8448 .f32) : out0_74 (F := Ideal) x0 = k0_pay68 x0 := by
  rw [out0_74, View.canon_unit_zero origin2]
  rfl

theorem out0_75_eq (x0 : Vec Ideal S8x1x8448 .f32) (x11 : Vec Ideal S1x1024 .f32) (x22 : Vec Ideal S1x1024 .f32) (x33 : Vec Ideal S1x1024 .f32) : out0_75 (F := Ideal) x0 x11 x22 x33 = deltaV (k0_pay68 x0) x11 x22 x33 := by
  rw [out0_75, View.canon_unit_zero origin2]
  simp only [k0_pay59, k0_pay61, k0_pay63, ld8, ld9, ld10, ld11]
  rfl

theorem out0_76_eq (x0 : Vec Ideal S8x1x8448 .f32) (x22 : Vec Ideal S1x1024 .f32) : out0_76 (F := Ideal) x0 x22 = momV (k0_pay68 x0) x22 := by
  rw [out0_76, View.canon_unit_zero origin2]
  simp only [k0_pay59, k0_pay61, k0_pay63, ld8, ld9, ld10, ld11]
  rfl

theorem out0_77_eq (x0 : Vec Ideal S8x1x8448 .f32) (x33 : Vec Ideal S1x1024 .f32) : out0_77 (F := Ideal) x0 x33 = velV (k0_pay68 x0) x33 := by
  rw [out0_77, View.canon_unit_zero origin2]
  simp only [k0_pay59, k0_pay61, k0_pay63, ld8, ld9, ld10, ld11]
  rfl

theorem out0_78_eq (x0 : Vec Ideal S8x1x8448 .f32) : out0_78 (F := Ideal) x0 = k0_pay1 (k0_pay52 x0) := by
  rw [out0_78, View.canon_unit_zero origin2]

end Cert.Kernel8Ideal.Vec

end
-- ==== Proof.Vec.Sums.lean ====
module

public import proofs.«01_k».proof.Proof.Vec.Data
public import proofs.«01_k».proof.Proof.Vec.Blocks
public import proofs.«01_k».proof.Proof.Prep.Math
public import proofs.«01_k».proof.Proof.Gen.Reference8Ideal.Read
public import Idealize.ShloMosaic.Lib.StableHlo.RunRead

@[expose] public section

set_option maxRecDepth 16384

/-!
# The summed gradients

The host joins the devices' parts of the small weights' gradients into one row, the call adds the eight rows and cuts
the sum apart again: each cut is the reference's sum of one weight's parts.
-/

noncomputable section

namespace Cert.Kernel8Ideal.Vec

open Idealize.ShloMosaic Idealize.ShloMosaic.TcCoe Idealize.SL.Sem
open Cert.Kernel8Ideal Cert.Kernel8Ideal.Gen Cert.Reference8Ideal.Read

variable (m : (ℓ : Loc nD τ sig) → Buf (Elt Ideal) ℓ) (c : Dev nD)

/-- The eight rows' sum at a column. -/
theorem pay52_at (x : FVec Ideal S8x1x8448 .f32) (n : Fin 8448) :
    k0_pay52 (F := Ideal) x (ix2 0 n) = ∑ d : Fin 8, x (ix3 d 0 n) := by
  rw [Fin.sum_univ_eight]
  pointwise [k0_pay52, k0_pay2, r0_0, r0_1, r0_2, r0_3, r0_4, r0_5, r0_6, r0_7]

/-- The devices' parts of the eleven gradients and of the loss. -/
def pieces : List ((s : Shape) × (s.Idx → Ideal .f32)) :=
   [⟨S8x1x1024, (m ((c.tc : Thread nD τ).loc main_arg1) : FVec Ideal S8x1x1024 .f32)⟩,
    ⟨S8x1x512, (m ((c.tc : Thread nD τ).loc main_arg2) : FVec Ideal S8x1x512 .f32)⟩,
    ⟨S8x1x2176, (m ((c.tc : Thread nD τ).loc main_arg3) : FVec Ideal S8x1x2176 .f32)⟩,
    ⟨S8x1x512, (m ((c.tc : Thread nD τ).loc main_arg4) : FVec Ideal S8x1x512 .f32)⟩,
    ⟨S8x1x512, (m ((c.tc : Thread nD τ).loc main_arg5) : FVec Ideal S8x1x512 .f32)⟩,
    ⟨S8x1x512, (m ((c.tc : Thread nD τ).loc main_arg6) : FVec Ideal S8x1x512 .f32)⟩,
    ⟨S8x1x512, (m ((c.tc : Thread nD τ).loc main_arg7) : FVec Ideal S8x1x512 .f32)⟩,
    ⟨S8x1x512, (m ((c.tc : Thread nD τ).loc main_arg8) : FVec Ideal S8x1x512 .f32)⟩,
    ⟨S8x1x512, (m ((c.tc : Thread nD τ).loc main_arg9) : FVec Ideal S8x1x512 .f32)⟩,
    ⟨S8x1x512, (m ((c.tc : Thread nD τ).loc main_arg10) : FVec Ideal S8x1x512 .f32)⟩,
    ⟨S8x1x1024, (m ((c.tc : Thread nD τ).loc main_arg11) : FVec Ideal S8x1x1024 .f32)⟩,
    ⟨S8x1x128, (m ((c.tc : Thread nD τ).loc main_arg0) : FVec Ideal S8x1x128 .f32)⟩]

/-- The pieces' widths. -/
def widths : List ℕ := [1024, 512, 2176, 512, 512, 512, 512, 512, 512, 512, 1024, 128]

theorem pieces_widths : ((pieces m c).map (·.1)).map
    (fun s => if h : s.rank = 3 then s.size ((2 : Fin 3).cast h.symm) else 0) = widths := rfl

/-- The host joins them side by side. -/
theorem V_joined : (V m c main_v0 : FVec Ideal S8x1x8448 .f32) = concatenate S8x1x8448 2 (pieces m c)
    concatenates_S8x1x1024_S8x1x512_S8x1x2176_S8x1x512_S8x1x512_S8x1x512_S8x1x512_S8x1x512_S8x1x512_S8x1x512_S8x1x1024_S8x1x128_S8x1x8448_d2 := by
  unfold V
  simp only [hostOps0]
  after_results_simp
  rfl

/-- A cut of the eight rows' sum, from column `pre` on, is the sum of the piece that starts there. -/
theorem cut_sum {n : ℕ} (k : ℕ) (hk : k < 12) (x : FVec Ideal ⟨3, ![8, 1, n]⟩ .f32)
    (hx : (pieces m c)[k]'hk = ⟨⟨3, ![8, 1, n]⟩, x⟩) (pre : ℕ)
    (hpre : ((widths.take k).sum = pre))
    (j : Fin n) (i : Fin 8448) (hi : pre + j.val = i.val) :
    k0_pay52 (F := Ideal) (V m c main_v0) (ix2 0 i) = ∑ d : Fin 8, x (ix3 d 0 j) := by
  rw [pay52_at]
  refine Finset.sum_congr rfl fun d _ => ?_
  rw [V_joined]
  refine concatenate_apply_piece (t := S8x1x8448) 2 (pieces m c) _ _ k hk ⟨3, ![8, 1, n]⟩ x hx rfl pre
    (by rw [← hpre, List.map_take, List.map_take, pieces_widths]) (ix3 d 0 j) ?_ hi
  intro b hb
  match b with
  | ⟨0, _⟩ => rfl
  | ⟨1, _⟩ => rfl
  | ⟨2, _⟩ => exact absurd rfl hb

/-- A row is known at `(0, j)`. -/
theorem row_ext {n : ℕ} {f g : FVec Ideal ⟨2, ![1, n]⟩ .f32} (h : ∀ j : Fin n, f (ix2 0 j) = g (ix2 0 j)) : f = g := by
  funext z
  obtain ⟨j, rfl⟩ : ∃ j : Fin n, z = ix2 0 j := ⟨z 1, (eq_ix2 z).trans (by rw [Fin.fin_one_eq_zero (z 0 : Fin 1)])⟩
  exact h j

/-- A row of heads is known at `(0, h, i)`. -/
theorem heads_ext {f g : FVec Ideal S1x8x64 .f32} (h : ∀ (a : Fin 8) (i : Fin 64), f (ix3 0 a i) = g (ix3 0 a i)) : f = g := by
  funext z
  obtain ⟨a, i, rfl⟩ : ∃ (a : Fin 8) (i : Fin 64), z = ix3 0 a i := by
    refine ⟨z 1, z 2, (eq_ix3 z).trans ?_⟩
    rw [Fin.fin_one_eq_zero (z 0 : Fin 1)]
  exact h a i

/-! ## Each weight's gradient, and the loss -/

theorem sum0 : k0_pay53 (F := Ideal) (V m c main_v0) = val_main_v0 (F := Ideal) (m ((c.tc : Thread nD τ).loc main_arg1)) := by
  refine row_ext (n := 1024) fun j => ?_
  pointwise [k0_pay53, k0_pay3, val_main_v0, val_main_cst]
  exact cut_sum m c 0 (by decide) (m ((c.tc : Thread nD τ).loc main_arg1)) rfl 0 (by decide) j _ (Nat.zero_add _)

theorem sum1 : k0_pay54 (F := Ideal) (V m c main_v0) = val_main_v25 (F := Ideal) (m ((c.tc : Thread nD τ).loc main_arg2)) := by
  refine row_ext (n := 512) fun j => ?_
  pointwise [k0_pay54, k0_pay7, val_main_v25, val_main_cst_9]
  exact cut_sum m c 1 (by decide) (m ((c.tc : Thread nD τ).loc main_arg2)) rfl 1024 (by decide) j _ rfl

theorem sum2 : k0_pay55 (F := Ideal) (V m c main_v0) = val_main_v50 (F := Ideal) (m ((c.tc : Thread nD τ).loc main_arg3)) := by
  refine row_ext (n := 2176) fun j => ?_
  pointwise [k0_pay55, k0_pay11, val_main_v50, val_main_cst_19]
  exact cut_sum m c 2 (by decide) (m ((c.tc : Thread nD τ).loc main_arg3)) rfl 1536 (by decide) j _ rfl

theorem sum3 : k0_pay56 (F := Ideal) (V m c main_v0) = val_main_v75 (F := Ideal) (m ((c.tc : Thread nD τ).loc main_arg4)) := by
  refine row_ext (n := 512) fun j => ?_
  pointwise [k0_pay56, k0_pay15, val_main_v75, val_main_cst_29]
  exact cut_sum m c 3 (by decide) (m ((c.tc : Thread nD τ).loc main_arg4)) rfl 3712 (by decide) j _ rfl

theorem sum4 : k0_pay58 (F := Ideal) (V m c main_v0) = val_main_v100 (F := Ideal) (m ((c.tc : Thread nD τ).loc main_arg5)) := by
  refine row_ext (n := 512) fun j => ?_
  pointwise [k0_pay58, k0_pay20, val_main_v100, val_main_cst_39]
  exact cut_sum m c 4 (by decide) (m ((c.tc : Thread nD τ).loc main_arg5)) rfl 4224 (by decide) j _ rfl

theorem sum5 : k0_pay60 (F := Ideal) (V m c main_v0) = val_main_v125 (F := Ideal) (m ((c.tc : Thread nD τ).loc main_arg6)) := by
  refine row_ext (n := 512) fun j => ?_
  pointwise [k0_pay60, k0_pay25, val_main_v125, val_main_cst_49]
  exact cut_sum m c 5 (by decide) (m ((c.tc : Thread nD τ).loc main_arg6)) rfl 4736 (by decide) j _ rfl

theorem sum6 : k0_pay62 (F := Ideal) (V m c main_v0) = val_main_v150 (F := Ideal) (m ((c.tc : Thread nD τ).loc main_arg7)) := by
  refine row_ext (n := 512) fun j => ?_
  pointwise [k0_pay62, k0_pay30, val_main_v150, val_main_cst_59]
  exact cut_sum m c 6 (by decide) (m ((c.tc : Thread nD τ).loc main_arg7)) rfl 5248 (by decide) j _ rfl

theorem sum7 : k0_pay65 (F := Ideal) (V m c main_v0) = val_main_v176 (F := Ideal) (m ((c.tc : Thread nD τ).loc main_arg8)) := by
  refine heads_ext fun a i => ?_
  pointwise [k0_pay65, k0_pay36, val_main_v176, val_main_v175, val_main_cst_69]
  have e (n : ℕ) (hn : n < 512) (q : Fin 8448) (hq : 5760 + n = q.val) :=
    cut_sum m c 7 (by decide) (m ((c.tc : Thread nD τ).loc main_arg8)) rfl 5760 (by decide) ⟨n, hn⟩ q hq
  fin_cases a <;> exact e _ (by omega) _ (by simp only [] <;> omega)

theorem sum8 : k0_pay66 (F := Ideal) (V m c main_v0) = val_main_v201 (F := Ideal) (m ((c.tc : Thread nD τ).loc main_arg9)) := by
  refine row_ext (n := 512) fun j => ?_
  pointwise [k0_pay66, k0_pay40, val_main_v201, val_main_cst_79]
  exact cut_sum m c 8 (by decide) (m ((c.tc : Thread nD τ).loc main_arg9)) rfl 6272 (by decide) j _ rfl

theorem sum9 : k0_pay67 (F := Ideal) (V m c main_v0) = val_main_v226 (F := Ideal) (m ((c.tc : Thread nD τ).loc main_arg10)) := by
  refine row_ext (n := 512) fun j => ?_
  pointwise [k0_pay67, k0_pay44, val_main_v226, val_main_cst_89]
  exact cut_sum m c 9 (by decide) (m ((c.tc : Thread nD τ).loc main_arg10)) rfl 6784 (by decide) j _ rfl

theorem sum10 : k0_pay68 (F := Ideal) (V m c main_v0) = val_main_v251 (F := Ideal) (m ((c.tc : Thread nD τ).loc main_arg11)) := by
  refine row_ext (n := 1024) fun j => ?_
  pointwise [k0_pay68, k0_pay48, val_main_v251, val_main_cst_99]
  exact cut_sum m c 10 (by decide) (m ((c.tc : Thread nD τ).loc main_arg11)) rfl 7296 (by decide) j _ rfl

theorem sum11 : k0_pay1 (F := Ideal) (k0_pay52 (V m c main_v0)) = val_main_v276 (F := Ideal) (m ((c.tc : Thread nD τ).loc main_arg0)) := by
  refine row_ext (n := 128) fun j => ?_
  pointwise [k0_pay1, val_main_v276, val_main_cst_109]
  exact cut_sum m c 11 (by decide) (m ((c.tc : Thread nD τ).loc main_arg0)) rfl 8320 (by decide) j _ rfl

end Cert.Kernel8Ideal.Vec

end
-- ==== Proof.Vec.Final.lean ====
module

public import proofs.«01_k».proof.Proof.Vec.Data
public import proofs.«01_k».proof.Proof.Vec.Sums
public import proofs.«01_k».proof.Proof.Vec.Blocks
public import proofs.«01_k».proof.Proof.Prep.Math
public import proofs.«01_k».proof.Proof.Gen.Reference8Ideal.Read
public import Idealize.ShloMosaic.Lib.StableHlo.RunRead

@[expose] public section

set_option maxRecDepth 16384

/-!
# The arrays after the run

Every window is its whole array, so the one grid point reads the arrays as they are and leaves its results whole.
-/

noncomputable section

namespace Cert.Kernel8Ideal.Vec

open Idealize.ShloMosaic Idealize.ShloMosaic.TcCoe Idealize.SL.Sem
open Cert.Kernel8Ideal Cert.Kernel8Ideal.Gen Cert.Reference8Ideal.Read

/-- An index of a block that is its matrix whole is the matrix's index. -/
theorem in_place2 {p q : ℕ} (e j : Shape.Idx ⟨2, ![p, q]⟩) (x : Fin 2 → ℕ) (h : ∀ a, x a = 0)
    (h0 : (e 0).val = x 0 * p + 1 * (j 0).val) (h1 : (e 1).val = x 1 * q + 1 * (j 1).val) : e = j := by
  funext a; apply Fin.ext
  match a with
  | ⟨0, _⟩ => refine h0.trans ?_; show x 0 * p + 1 * (j 0).val = (j 0).val; rw [h]; omega
  | ⟨1, _⟩ => refine h1.trans ?_; show x 1 * q + 1 * (j 1).val = (j 1).val; rw [h]; omega

/-- An index of a block that is its three-axis array whole is the array's index. -/
theorem in_place3 {p q r : ℕ} (e j : Shape.Idx ⟨3, ![p, q, r]⟩) (x : Fin 3 → ℕ) (h : ∀ a, x a = 0)
    (h0 : (e 0).val = x 0 * p + 1 * (j 0).val) (h1 : (e 1).val = x 1 * q + 1 * (j 1).val)
    (h2 : (e 2).val = x 2 * r + 1 * (j 2).val) : e = j := by
  funext a; apply Fin.ext
  match a with
  | ⟨0, _⟩ => refine h0.trans ?_; show x 0 * p + 1 * (j 0).val = (j 0).val; rw [h]; omega
  | ⟨1, _⟩ => refine h1.trans ?_; show x 1 * q + 1 * (j 1).val = (j 1).val; rw [h]; omega
  | ⟨2, _⟩ => refine h2.trans ?_; show x 2 * r + 1 * (j 2).val = (j 2).val; rw [h]; omega

/-- Reading through indices that stay in place is reading. -/
theorem read_in_place {ι α : Type} {X Y : ι → α} {e : ι → ι} (h : ∀ j, Y j = X (e j)) (he : ∀ j, e j = j) : Y = X :=
  funext fun j => (h j).trans (congrArg X (he j))

variable (m : (ℓ : Loc nD τ sig) → Buf (Elt Ideal) ℓ) (c : Dev nD)

/-! ## The input windows -/

theorem in0 (t : Fin cfg0.N) : iblk m c 0 t = V m c main_v0 :=
  read_in_place (ι := S8x1x8448.Idx) (e := fun j => ((cfg0.win 0).blk t).view.emb j) (fun _ => rfl) fun j => in_place3 (p := 8) (q := 1) (r := 8448) _ j (win0_0.index t) ((by decide +kernel : ∀ (t : Fin grid0.N) a, win0_0.index t a = 0) t) rfl rfl rfl

theorem in1 (t : Fin cfg0.N) : iblk m c 1 t = m ((c.tc : Thread nD τ).loc main_arg12) :=
  Eq.trans (read_in_place (ι := S1x1024.Idx) (e := fun j => ((cfg0.win 1).blk t).view.emb j) (fun _ => rfl) fun j => in_place2 (p := 1) (q := 1024) _ j (win0_1.index t) ((by decide +kernel : ∀ (t : Fin grid0.N) a, win0_1.index t a = 0) t) rfl rfl)
    (V_of m c main_arg12 (by decide))

theorem in2 (t : Fin cfg0.N) : iblk m c 2 t = m ((c.tc : Thread nD τ).loc main_arg13) :=
  Eq.trans (read_in_place (ι := S1x512.Idx) (e := fun j => ((cfg0.win 2).blk t).view.emb j) (fun _ => rfl) fun j => in_place2 (p := 1) (q := 512) _ j (win0_2.index t) ((by decide +kernel : ∀ (t : Fin grid0.N) a, win0_2.index t a = 0) t) rfl rfl)
    (V_of m c main_arg13 (by decide))

theorem in3 (t : Fin cfg0.N) : iblk m c 3 t = m ((c.tc : Thread nD τ).loc main_arg14) :=
  Eq.trans (read_in_place (ι := S1x2176.Idx) (e := fun j => ((cfg0.win 3).blk t).view.emb j) (fun _ => rfl) fun j => in_place2 (p := 1) (q := 2176) _ j (win0_3.index t) ((by decide +kernel : ∀ (t : Fin grid0.N) a, win0_3.index t a = 0) t) rfl rfl)
    (V_of m c main_arg14 (by decide))

theorem in4 (t : Fin cfg0.N) : iblk m c 4 t = m ((c.tc : Thread nD τ).loc main_arg15) :=
  Eq.trans (read_in_place (ι := S1x512.Idx) (e := fun j => ((cfg0.win 4).blk t).view.emb j) (fun _ => rfl) fun j => in_place2 (p := 1) (q := 512) _ j (win0_4.index t) ((by decide +kernel : ∀ (t : Fin grid0.N) a, win0_4.index t a = 0) t) rfl rfl)
    (V_of m c main_arg15 (by decide))

theorem in5 (t : Fin cfg0.N) : iblk m c 5 t = m ((c.tc : Thread nD τ).loc main_arg16) :=
  Eq.trans (read_in_place (ι := S1x512.Idx) (e := fun j => ((cfg0.win 5).blk t).view.emb j) (fun _ => rfl) fun j => in_place2 (p := 1) (q := 512) _ j (win0_5.index t) ((by decide +kernel : ∀ (t : Fin grid0.N) a, win0_5.index t a = 0) t) rfl rfl)
    (V_of m c main_arg16 (by decide))

theorem in6 (t : Fin cfg0.N) : iblk m c 6 t = m ((c.tc : Thread nD τ).loc main_arg17) :=
  Eq.trans (read_in_place (ι := S1x512.Idx) (e := fun j => ((cfg0.win 6).blk t).view.emb j) (fun _ => rfl) fun j => in_place2 (p := 1) (q := 512) _ j (win0_6.index t) ((by decide +kernel : ∀ (t : Fin grid0.N) a, win0_6.index t a = 0) t) rfl rfl)
    (V_of m c main_arg17 (by decide))

theorem in7 (t : Fin cfg0.N) : iblk m c 7 t = m ((c.tc : Thread nD τ).loc main_arg18) :=
  Eq.trans (read_in_place (ι := S1x512.Idx) (e := fun j => ((cfg0.win 7).blk t).view.emb j) (fun _ => rfl) fun j => in_place2 (p := 1) (q := 512) _ j (win0_7.index t) ((by decide +kernel : ∀ (t : Fin grid0.N) a, win0_7.index t a = 0) t) rfl rfl)
    (V_of m c main_arg18 (by decide))

theorem in8 (t : Fin cfg0.N) : iblk m c 8 t = m ((c.tc : Thread nD τ).loc main_arg19) :=
  Eq.trans (read_in_place (ι := S1x8x64.Idx) (e := fun j => ((cfg0.win 8).blk t).view.emb j) (fun _ => rfl) fun j => in_place3 (p := 1) (q := 8) (r := 64) _ j (win0_8.index t) ((by decide +kernel : ∀ (t : Fin grid0.N) a, win0_8.index t a = 0) t) rfl rfl rfl)
    (V_of m c main_arg19 (by decide))

theorem in9 (t : Fin cfg0.N) : iblk m c 9 t = m ((c.tc : Thread nD τ).loc main_arg20) :=
  Eq.trans (read_in_place (ι := S1x512.Idx) (e := fun j => ((cfg0.win 9).blk t).view.emb j) (fun _ => rfl) fun j => in_place2 (p := 1) (q := 512) _ j (win0_9.index t) ((by decide +kernel : ∀ (t : Fin grid0.N) a, win0_9.index t a = 0) t) rfl rfl)
    (V_of m c main_arg20 (by decide))

theorem in10 (t : Fin cfg0.N) : iblk m c 10 t = m ((c.tc : Thread nD τ).loc main_arg21) :=
  Eq.trans (read_in_place (ι := S1x512.Idx) (e := fun j => ((cfg0.win 10).blk t).view.emb j) (fun _ => rfl) fun j => in_place2 (p := 1) (q := 512) _ j (win0_10.index t) ((by decide +kernel : ∀ (t : Fin grid0.N) a, win0_10.index t a = 0) t) rfl rfl)
    (V_of m c main_arg21 (by decide))

theorem in11 (t : Fin cfg0.N) : iblk m c 11 t = m ((c.tc : Thread nD τ).loc main_arg22) :=
  Eq.trans (read_in_place (ι := S1x1024.Idx) (e := fun j => ((cfg0.win 11).blk t).view.emb j) (fun _ => rfl) fun j => in_place2 (p := 1) (q := 1024) _ j (win0_11.index t) ((by decide +kernel : ∀ (t : Fin grid0.N) a, win0_11.index t a = 0) t) rfl rfl)
    (V_of m c main_arg22 (by decide))

theorem in12 (t : Fin cfg0.N) : iblk m c 12 t = m ((c.tc : Thread nD τ).loc main_arg23) :=
  Eq.trans (read_in_place (ι := S1x1024.Idx) (e := fun j => ((cfg0.win 12).blk t).view.emb j) (fun _ => rfl) fun j => in_place2 (p := 1) (q := 1024) _ j (win0_12.index t) ((by decide +kernel : ∀ (t : Fin grid0.N) a, win0_12.index t a = 0) t) rfl rfl)
    (V_of m c main_arg23 (by decide))

theorem in13 (t : Fin cfg0.N) : iblk m c 13 t = m ((c.tc : Thread nD τ).loc main_arg24) :=
  Eq.trans (read_in_place (ι := S1x512.Idx) (e := fun j => ((cfg0.win 13).blk t).view.emb j) (fun _ => rfl) fun j => in_place2 (p := 1) (q := 512) _ j (win0_13.index t) ((by decide +kernel : ∀ (t : Fin grid0.N) a, win0_13.index t a = 0) t) rfl rfl)
    (V_of m c main_arg24 (by decide))

theorem in14 (t : Fin cfg0.N) : iblk m c 14 t = m ((c.tc : Thread nD τ).loc main_arg25) :=
  Eq.trans (read_in_place (ι := S1x2176.Idx) (e := fun j => ((cfg0.win 14).blk t).view.emb j) (fun _ => rfl) fun j => in_place2 (p := 1) (q := 2176) _ j (win0_14.index t) ((by decide +kernel : ∀ (t : Fin grid0.N) a, win0_14.index t a = 0) t) rfl rfl)
    (V_of m c main_arg25 (by decide))

theorem in15 (t : Fin cfg0.N) : iblk m c 15 t = m ((c.tc : Thread nD τ).loc main_arg26) :=
  Eq.trans (read_in_place (ι := S1x512.Idx) (e := fun j => ((cfg0.win 15).blk t).view.emb j) (fun _ => rfl) fun j => in_place2 (p := 1) (q := 512) _ j (win0_15.index t) ((by decide +kernel : ∀ (t : Fin grid0.N) a, win0_15.index t a = 0) t) rfl rfl)
    (V_of m c main_arg26 (by decide))

theorem in16 (t : Fin cfg0.N) : iblk m c 16 t = m ((c.tc : Thread nD τ).loc main_arg27) :=
  Eq.trans (read_in_place (ι := S1x512.Idx) (e := fun j => ((cfg0.win 16).blk t).view.emb j) (fun _ => rfl) fun j => in_place2 (p := 1) (q := 512) _ j (win0_16.index t) ((by decide +kernel : ∀ (t : Fin grid0.N) a, win0_16.index t a = 0) t) rfl rfl)
    (V_of m c main_arg27 (by decide))

theorem in17 (t : Fin cfg0.N) : iblk m c 17 t = m ((c.tc : Thread nD τ).loc main_arg28) :=
  Eq.trans (read_in_place (ι := S1x512.Idx) (e := fun j => ((cfg0.win 17).blk t).view.emb j) (fun _ => rfl) fun j => in_place2 (p := 1) (q := 512) _ j (win0_17.index t) ((by decide +kernel : ∀ (t : Fin grid0.N) a, win0_17.index t a = 0) t) rfl rfl)
    (V_of m c main_arg28 (by decide))

theorem in18 (t : Fin cfg0.N) : iblk m c 18 t = m ((c.tc : Thread nD τ).loc main_arg29) :=
  Eq.trans (read_in_place (ι := S1x512.Idx) (e := fun j => ((cfg0.win 18).blk t).view.emb j) (fun _ => rfl) fun j => in_place2 (p := 1) (q := 512) _ j (win0_18.index t) ((by decide +kernel : ∀ (t : Fin grid0.N) a, win0_18.index t a = 0) t) rfl rfl)
    (V_of m c main_arg29 (by decide))

theorem in19 (t : Fin cfg0.N) : iblk m c 19 t = m ((c.tc : Thread nD τ).loc main_arg30) :=
  Eq.trans (read_in_place (ι := S1x8x64.Idx) (e := fun j => ((cfg0.win 19).blk t).view.emb j) (fun _ => rfl) fun j => in_place3 (p := 1) (q := 8) (r := 64) _ j (win0_19.index t) ((by decide +kernel : ∀ (t : Fin grid0.N) a, win0_19.index t a = 0) t) rfl rfl rfl)
    (V_of m c main_arg30 (by decide))

theorem in20 (t : Fin cfg0.N) : iblk m c 20 t = m ((c.tc : Thread nD τ).loc main_arg31) :=
  Eq.trans (read_in_place (ι := S1x512.Idx) (e := fun j => ((cfg0.win 20).blk t).view.emb j) (fun _ => rfl) fun j => in_place2 (p := 1) (q := 512) _ j (win0_20.index t) ((by decide +kernel : ∀ (t : Fin grid0.N) a, win0_20.index t a = 0) t) rfl rfl)
    (V_of m c main_arg31 (by decide))

theorem in21 (t : Fin cfg0.N) : iblk m c 21 t = m ((c.tc : Thread nD τ).loc main_arg32) :=
  Eq.trans (read_in_place (ι := S1x512.Idx) (e := fun j => ((cfg0.win 21).blk t).view.emb j) (fun _ => rfl) fun j => in_place2 (p := 1) (q := 512) _ j (win0_21.index t) ((by decide +kernel : ∀ (t : Fin grid0.N) a, win0_21.index t a = 0) t) rfl rfl)
    (V_of m c main_arg32 (by decide))

theorem in22 (t : Fin cfg0.N) : iblk m c 22 t = m ((c.tc : Thread nD τ).loc main_arg33) :=
  Eq.trans (read_in_place (ι := S1x1024.Idx) (e := fun j => ((cfg0.win 22).blk t).view.emb j) (fun _ => rfl) fun j => in_place2 (p := 1) (q := 1024) _ j (win0_22.index t) ((by decide +kernel : ∀ (t : Fin grid0.N) a, win0_22.index t a = 0) t) rfl rfl)
    (V_of m c main_arg33 (by decide))

theorem in23 (t : Fin cfg0.N) : iblk m c 23 t = m ((c.tc : Thread nD τ).loc main_arg34) :=
  Eq.trans (read_in_place (ι := S1x1024.Idx) (e := fun j => ((cfg0.win 23).blk t).view.emb j) (fun _ => rfl) fun j => in_place2 (p := 1) (q := 1024) _ j (win0_23.index t) ((by decide +kernel : ∀ (t : Fin grid0.N) a, win0_23.index t a = 0) t) rfl rfl)
    (V_of m c main_arg34 (by decide))

theorem in24 (t : Fin cfg0.N) : iblk m c 24 t = m ((c.tc : Thread nD τ).loc main_arg35) :=
  Eq.trans (read_in_place (ι := S1x512.Idx) (e := fun j => ((cfg0.win 24).blk t).view.emb j) (fun _ => rfl) fun j => in_place2 (p := 1) (q := 512) _ j (win0_24.index t) ((by decide +kernel : ∀ (t : Fin grid0.N) a, win0_24.index t a = 0) t) rfl rfl)
    (V_of m c main_arg35 (by decide))

theorem in25 (t : Fin cfg0.N) : iblk m c 25 t = m ((c.tc : Thread nD τ).loc main_arg36) :=
  Eq.trans (read_in_place (ι := S1x2176.Idx) (e := fun j => ((cfg0.win 25).blk t).view.emb j) (fun _ => rfl) fun j => in_place2 (p := 1) (q := 2176) _ j (win0_25.index t) ((by decide +kernel : ∀ (t : Fin grid0.N) a, win0_25.index t a = 0) t) rfl rfl)
    (V_of m c main_arg36 (by decide))

theorem in26 (t : Fin cfg0.N) : iblk m c 26 t = m ((c.tc : Thread nD τ).loc main_arg37) :=
  Eq.trans (read_in_place (ι := S1x512.Idx) (e := fun j => ((cfg0.win 26).blk t).view.emb j) (fun _ => rfl) fun j => in_place2 (p := 1) (q := 512) _ j (win0_26.index t) ((by decide +kernel : ∀ (t : Fin grid0.N) a, win0_26.index t a = 0) t) rfl rfl)
    (V_of m c main_arg37 (by decide))

theorem in27 (t : Fin cfg0.N) : iblk m c 27 t = m ((c.tc : Thread nD τ).loc main_arg38) :=
  Eq.trans (read_in_place (ι := S1x512.Idx) (e := fun j => ((cfg0.win 27).blk t).view.emb j) (fun _ => rfl) fun j => in_place2 (p := 1) (q := 512) _ j (win0_27.index t) ((by decide +kernel : ∀ (t : Fin grid0.N) a, win0_27.index t a = 0) t) rfl rfl)
    (V_of m c main_arg38 (by decide))

theorem in28 (t : Fin cfg0.N) : iblk m c 28 t = m ((c.tc : Thread nD τ).loc main_arg39) :=
  Eq.trans (read_in_place (ι := S1x512.Idx) (e := fun j => ((cfg0.win 28).blk t).view.emb j) (fun _ => rfl) fun j => in_place2 (p := 1) (q := 512) _ j (win0_28.index t) ((by decide +kernel : ∀ (t : Fin grid0.N) a, win0_28.index t a = 0) t) rfl rfl)
    (V_of m c main_arg39 (by decide))

theorem in29 (t : Fin cfg0.N) : iblk m c 29 t = m ((c.tc : Thread nD τ).loc main_arg40) :=
  Eq.trans (read_in_place (ι := S1x512.Idx) (e := fun j => ((cfg0.win 29).blk t).view.emb j) (fun _ => rfl) fun j => in_place2 (p := 1) (q := 512) _ j (win0_29.index t) ((by decide +kernel : ∀ (t : Fin grid0.N) a, win0_29.index t a = 0) t) rfl rfl)
    (V_of m c main_arg40 (by decide))

theorem in30 (t : Fin cfg0.N) : iblk m c 30 t = m ((c.tc : Thread nD τ).loc main_arg41) :=
  Eq.trans (read_in_place (ι := S1x8x64.Idx) (e := fun j => ((cfg0.win 30).blk t).view.emb j) (fun _ => rfl) fun j => in_place3 (p := 1) (q := 8) (r := 64) _ j (win0_30.index t) ((by decide +kernel : ∀ (t : Fin grid0.N) a, win0_30.index t a = 0) t) rfl rfl rfl)
    (V_of m c main_arg41 (by decide))

theorem in31 (t : Fin cfg0.N) : iblk m c 31 t = m ((c.tc : Thread nD τ).loc main_arg42) :=
  Eq.trans (read_in_place (ι := S1x512.Idx) (e := fun j => ((cfg0.win 31).blk t).view.emb j) (fun _ => rfl) fun j => in_place2 (p := 1) (q := 512) _ j (win0_31.index t) ((by decide +kernel : ∀ (t : Fin grid0.N) a, win0_31.index t a = 0) t) rfl rfl)
    (V_of m c main_arg42 (by decide))

theorem in32 (t : Fin cfg0.N) : iblk m c 32 t = m ((c.tc : Thread nD τ).loc main_arg43) :=
  Eq.trans (read_in_place (ι := S1x512.Idx) (e := fun j => ((cfg0.win 32).blk t).view.emb j) (fun _ => rfl) fun j => in_place2 (p := 1) (q := 512) _ j (win0_32.index t) ((by decide +kernel : ∀ (t : Fin grid0.N) a, win0_32.index t a = 0) t) rfl rfl)
    (V_of m c main_arg43 (by decide))

theorem in33 (t : Fin cfg0.N) : iblk m c 33 t = m ((c.tc : Thread nD τ).loc main_arg44) :=
  Eq.trans (read_in_place (ι := S1x1024.Idx) (e := fun j => ((cfg0.win 33).blk t).view.emb j) (fun _ => rfl) fun j => in_place2 (p := 1) (q := 1024) _ j (win0_33.index t) ((by decide +kernel : ∀ (t : Fin grid0.N) a, win0_33.index t a = 0) t) rfl rfl)
    (V_of m c main_arg44 (by decide))

/-! ## The results -/

/-- A result that every grid point leaves whole. -/
theorem result_whole (w : Fin cfg0.W) (G : Buf (Elt Ideal) ((cfg0.win w).arr.view.loc (c.tc : Thread nD τ)))
    (hf : ∀ t, (cfg0.win w).flush t = true)
    (he : ∀ t (i : ((cfg0.win w).arr.view.loc (c.tc : Thread nD τ)).2.ty.Idx), i ∈ ((cfg0.win w).blk t).view.set)
    (hG : ∀ t, (dats m 0 c).flushed w t = ((cfg0.win w).blk t).view.read (Elt Ideal) G) :
    (dats m 0 c).arrAt w cfg0.N = G :=
  (dats m 0 c).arrAt_eq_of_cover w G (fun t _ => hG t) fun i =>
    ⟨⟨0, by decide⟩, hf _, he _ i⟩

theorem out34 (t : Fin cfg0.N) : (dats m 0 c).after 34 t = val_main_v0 (F := Ideal) (m ((c.tc : Thread nD τ).loc main_arg1)) := by
  rw [after0_34, in0]
  refine (out0_34_eq _).trans ?_
  exact sum0 m c

theorem out35 (t : Fin cfg0.N) : (dats m 0 c).after 35 t = val_main_v24 (F := Ideal) (m ((c.tc : Thread nD τ).loc main_arg1)) (m ((c.tc : Thread nD τ).loc main_arg12)) (m ((c.tc : Thread nD τ).loc main_arg23)) (m ((c.tc : Thread nD τ).loc main_arg34)) := by
  rw [after0_35, in0, in1, in12, in23]
  refine (out0_35_eq _ _ _ _).trans ?_
  rw [sum0]; rfl

theorem out36 (t : Fin cfg0.N) : (dats m 0 c).after 36 t = val_main_v5 (F := Ideal) (m ((c.tc : Thread nD τ).loc main_arg1)) (m ((c.tc : Thread nD τ).loc main_arg23)) := by
  rw [after0_36, in0, in12]
  refine (out0_36_eq _ _).trans ?_
  rw [sum0]; rfl

theorem out37 (t : Fin cfg0.N) : (dats m 0 c).after 37 t = val_main_v11 (F := Ideal) (m ((c.tc : Thread nD τ).loc main_arg1)) (m ((c.tc : Thread nD τ).loc main_arg34)) := by
  rw [after0_37, in0, in23]
  refine (out0_37_eq _ _).trans ?_
  rw [sum0]; rfl

theorem out38 (t : Fin cfg0.N) : (dats m 0 c).after 38 t = val_main_v25 (F := Ideal) (m ((c.tc : Thread nD τ).loc main_arg2)) := by
  rw [after0_38, in0]
  refine (out0_38_eq _).trans ?_
  exact sum1 m c

theorem out39 (t : Fin cfg0.N) : (dats m 0 c).after 39 t = val_main_v49 (F := Ideal) (m ((c.tc : Thread nD τ).loc main_arg2)) (m ((c.tc : Thread nD τ).loc main_arg13)) (m ((c.tc : Thread nD τ).loc main_arg24)) (m ((c.tc : Thread nD τ).loc main_arg35)) := by
  rw [after0_39, in0, in2, in13, in24]
  refine (out0_39_eq _ _ _ _).trans ?_
  rw [sum1]; rfl

theorem out40 (t : Fin cfg0.N) : (dats m 0 c).after 40 t = val_main_v30 (F := Ideal) (m ((c.tc : Thread nD τ).loc main_arg2)) (m ((c.tc : Thread nD τ).loc main_arg24)) := by
  rw [after0_40, in0, in13]
  refine (out0_40_eq _ _).trans ?_
  rw [sum1]; rfl

theorem out41 (t : Fin cfg0.N) : (dats m 0 c).after 41 t = val_main_v36 (F := Ideal) (m ((c.tc : Thread nD τ).loc main_arg2)) (m ((c.tc : Thread nD τ).loc main_arg35)) := by
  rw [after0_41, in0, in24]
  refine (out0_41_eq _ _).trans ?_
  rw [sum1]; rfl

theorem out42 (t : Fin cfg0.N) : (dats m 0 c).after 42 t = val_main_v50 (F := Ideal) (m ((c.tc : Thread nD τ).loc main_arg3)) := by
  rw [after0_42, in0]
  refine (out0_42_eq _).trans ?_
  exact sum2 m c

theorem out43 (t : Fin cfg0.N) : (dats m 0 c).after 43 t = val_main_v74 (F := Ideal) (m ((c.tc : Thread nD τ).loc main_arg3)) (m ((c.tc : Thread nD τ).loc main_arg14)) (m ((c.tc : Thread nD τ).loc main_arg25)) (m ((c.tc : Thread nD τ).loc main_arg36)) := by
  rw [after0_43, in0, in3, in14, in25]
  refine (out0_43_eq _ _ _ _).trans ?_
  rw [sum2]; rfl

theorem out44 (t : Fin cfg0.N) : (dats m 0 c).after 44 t = val_main_v55 (F := Ideal) (m ((c.tc : Thread nD τ).loc main_arg3)) (m ((c.tc : Thread nD τ).loc main_arg25)) := by
  rw [after0_44, in0, in14]
  refine (out0_44_eq _ _).trans ?_
  rw [sum2]; rfl

theorem out45 (t : Fin cfg0.N) : (dats m 0 c).after 45 t = val_main_v61 (F := Ideal) (m ((c.tc : Thread nD τ).loc main_arg3)) (m ((c.tc : Thread nD τ).loc main_arg36)) := by
  rw [after0_45, in0, in25]
  refine (out0_45_eq _ _).trans ?_
  rw [sum2]; rfl

theorem out46 (t : Fin cfg0.N) : (dats m 0 c).after 46 t = val_main_v75 (F := Ideal) (m ((c.tc : Thread nD τ).loc main_arg4)) := by
  rw [after0_46, in0]
  refine (out0_46_eq _).trans ?_
  exact sum3 m c

theorem out47 (t : Fin cfg0.N) : (dats m 0 c).after 47 t = val_main_v99 (F := Ideal) (m ((c.tc : Thread nD τ).loc main_arg4)) (m ((c.tc : Thread nD τ).loc main_arg15)) (m ((c.tc : Thread nD τ).loc main_arg26)) (m ((c.tc : Thread nD τ).loc main_arg37)) := by
  rw [after0_47, in0, in4, in15, in26]
  refine (out0_47_eq _ _ _ _).trans ?_
  rw [sum3]; rfl

theorem out48 (t : Fin cfg0.N) : (dats m 0 c).after 48 t = val_main_v80 (F := Ideal) (m ((c.tc : Thread nD τ).loc main_arg4)) (m ((c.tc : Thread nD τ).loc main_arg26)) := by
  rw [after0_48, in0, in15]
  refine (out0_48_eq _ _).trans ?_
  rw [sum3]; rfl

theorem out49 (t : Fin cfg0.N) : (dats m 0 c).after 49 t = val_main_v86 (F := Ideal) (m ((c.tc : Thread nD τ).loc main_arg4)) (m ((c.tc : Thread nD τ).loc main_arg37)) := by
  rw [after0_49, in0, in26]
  refine (out0_49_eq _ _).trans ?_
  rw [sum3]; rfl

theorem out50 (t : Fin cfg0.N) : (dats m 0 c).after 50 t = val_main_v100 (F := Ideal) (m ((c.tc : Thread nD τ).loc main_arg5)) := by
  rw [after0_50, in0]
  refine (out0_50_eq _).trans ?_
  exact sum4 m c

theorem out51 (t : Fin cfg0.N) : (dats m 0 c).after 51 t = val_main_v124 (F := Ideal) (m ((c.tc : Thread nD τ).loc main_arg5)) (m ((c.tc : Thread nD τ).loc main_arg16)) (m ((c.tc : Thread nD τ).loc main_arg27)) (m ((c.tc : Thread nD τ).loc main_arg38)) := by
  rw [after0_51, in0, in5, in16, in27]
  refine (out0_51_eq _ _ _ _).trans ?_
  rw [sum4]; rfl

theorem out52 (t : Fin cfg0.N) : (dats m 0 c).after 52 t = val_main_v105 (F := Ideal) (m ((c.tc : Thread nD τ).loc main_arg5)) (m ((c.tc : Thread nD τ).loc main_arg27)) := by
  rw [after0_52, in0, in16]
  refine (out0_52_eq _ _).trans ?_
  rw [sum4]; rfl

theorem out53 (t : Fin cfg0.N) : (dats m 0 c).after 53 t = val_main_v111 (F := Ideal) (m ((c.tc : Thread nD τ).loc main_arg5)) (m ((c.tc : Thread nD τ).loc main_arg38)) := by
  rw [after0_53, in0, in27]
  refine (out0_53_eq _ _).trans ?_
  rw [sum4]; rfl

theorem out54 (t : Fin cfg0.N) : (dats m 0 c).after 54 t = val_main_v125 (F := Ideal) (m ((c.tc : Thread nD τ).loc main_arg6)) := by
  rw [after0_54, in0]
  refine (out0_54_eq _).trans ?_
  exact sum5 m c

theorem out55 (t : Fin cfg0.N) : (dats m 0 c).after 55 t = val_main_v149 (F := Ideal) (m ((c.tc : Thread nD τ).loc main_arg6)) (m ((c.tc : Thread nD τ).loc main_arg17)) (m ((c.tc : Thread nD τ).loc main_arg28)) (m ((c.tc : Thread nD τ).loc main_arg39)) := by
  rw [after0_55, in0, in6, in17, in28]
  refine (out0_55_eq _ _ _ _).trans ?_
  rw [sum5]; rfl

theorem out56 (t : Fin cfg0.N) : (dats m 0 c).after 56 t = val_main_v130 (F := Ideal) (m ((c.tc : Thread nD τ).loc main_arg6)) (m ((c.tc : Thread nD τ).loc main_arg28)) := by
  rw [after0_56, in0, in17]
  refine (out0_56_eq _ _).trans ?_
  rw [sum5]; rfl

theorem out57 (t : Fin cfg0.N) : (dats m 0 c).after 57 t = val_main_v136 (F := Ideal) (m ((c.tc : Thread nD τ).loc main_arg6)) (m ((c.tc : Thread nD τ).loc main_arg39)) := by
  rw [after0_57, in0, in28]
  refine (out0_57_eq _ _).trans ?_
  rw [sum5]; rfl

theorem out58 (t : Fin cfg0.N) : (dats m 0 c).after 58 t = val_main_v150 (F := Ideal) (m ((c.tc : Thread nD τ).loc main_arg7)) := by
  rw [after0_58, in0]
  refine (out0_58_eq _).trans ?_
  exact sum6 m c

theorem out59 (t : Fin cfg0.N) : (dats m 0 c).after 59 t = val_main_v174 (F := Ideal) (m ((c.tc : Thread nD τ).loc main_arg7)) (m ((c.tc : Thread nD τ).loc main_arg18)) (m ((c.tc : Thread nD τ).loc main_arg29)) (m ((c.tc : Thread nD τ).loc main_arg40)) := by
  rw [after0_59, in0, in7, in18, in29]
  refine (out0_59_eq _ _ _ _).trans ?_
  rw [sum6]; rfl

theorem out60 (t : Fin cfg0.N) : (dats m 0 c).after 60 t = val_main_v155 (F := Ideal) (m ((c.tc : Thread nD τ).loc main_arg7)) (m ((c.tc : Thread nD τ).loc main_arg29)) := by
  rw [after0_60, in0, in18]
  refine (out0_60_eq _ _).trans ?_
  rw [sum6]; rfl

theorem out61 (t : Fin cfg0.N) : (dats m 0 c).after 61 t = val_main_v161 (F := Ideal) (m ((c.tc : Thread nD τ).loc main_arg7)) (m ((c.tc : Thread nD τ).loc main_arg40)) := by
  rw [after0_61, in0, in29]
  refine (out0_61_eq _ _).trans ?_
  rw [sum6]; rfl

theorem out62 (t : Fin cfg0.N) : (dats m 0 c).after 62 t = val_main_v176 (F := Ideal) (m ((c.tc : Thread nD τ).loc main_arg8)) := by
  rw [after0_62, in0]
  refine (out0_62_eq _).trans ?_
  exact sum7 m c

theorem out63 (t : Fin cfg0.N) : (dats m 0 c).after 63 t = val_main_v200 (F := Ideal) (m ((c.tc : Thread nD τ).loc main_arg8)) (m ((c.tc : Thread nD τ).loc main_arg19)) (m ((c.tc : Thread nD τ).loc main_arg30)) (m ((c.tc : Thread nD τ).loc main_arg41)) := by
  rw [after0_63, in0, in8, in19, in30]
  refine (out0_63_eq _ _ _ _).trans ?_
  rw [sum7]; rfl

theorem out64 (t : Fin cfg0.N) : (dats m 0 c).after 64 t = val_main_v181 (F := Ideal) (m ((c.tc : Thread nD τ).loc main_arg8)) (m ((c.tc : Thread nD τ).loc main_arg30)) := by
  rw [after0_64, in0, in19]
  refine (out0_64_eq _ _).trans ?_
  rw [sum7]; rfl

theorem out65 (t : Fin cfg0.N) : (dats m 0 c).after 65 t = val_main_v187 (F := Ideal) (m ((c.tc : Thread nD τ).loc main_arg8)) (m ((c.tc : Thread nD τ).loc main_arg41)) := by
  rw [after0_65, in0, in30]
  refine (out0_65_eq _ _).trans ?_
  rw [sum7]; rfl

theorem out66 (t : Fin cfg0.N) : (dats m 0 c).after 66 t = val_main_v201 (F := Ideal) (m ((c.tc : Thread nD τ).loc main_arg9)) := by
  rw [after0_66, in0]
  refine (out0_66_eq _).trans ?_
  exact sum8 m c

theorem out67 (t : Fin cfg0.N) : (dats m 0 c).after 67 t = val_main_v225 (F := Ideal) (m ((c.tc : Thread nD τ).loc main_arg9)) (m ((c.tc : Thread nD τ).loc main_arg20)) (m ((c.tc : Thread nD τ).loc main_arg31)) (m ((c.tc : Thread nD τ).loc main_arg42)) := by
  rw [after0_67, in0, in9, in20, in31]
  refine (out0_67_eq _ _ _ _).trans ?_
  rw [sum8]; rfl

theorem out68 (t : Fin cfg0.N) : (dats m 0 c).after 68 t = val_main_v206 (F := Ideal) (m ((c.tc : Thread nD τ).loc main_arg9)) (m ((c.tc : Thread nD τ).loc main_arg31)) := by
  rw [after0_68, in0, in20]
  refine (out0_68_eq _ _).trans ?_
  rw [sum8]; rfl

theorem out69 (t : Fin cfg0.N) : (dats m 0 c).after 69 t = val_main_v212 (F := Ideal) (m ((c.tc : Thread nD τ).loc main_arg9)) (m ((c.tc : Thread nD τ).loc main_arg42)) := by
  rw [after0_69, in0, in31]
  refine (out0_69_eq _ _).trans ?_
  rw [sum8]; rfl

theorem out70 (t : Fin cfg0.N) : (dats m 0 c).after 70 t = val_main_v226 (F := Ideal) (m ((c.tc : Thread nD τ).loc main_arg10)) := by
  rw [after0_70, in0]
  refine (out0_70_eq _).trans ?_
  exact sum9 m c

theorem out71 (t : Fin cfg0.N) : (dats m 0 c).after 71 t = val_main_v250 (F := Ideal) (m ((c.tc : Thread nD τ).loc main_arg10)) (m ((c.tc : Thread nD τ).loc main_arg21)) (m ((c.tc : Thread nD τ).loc main_arg32)) (m ((c.tc : Thread nD τ).loc main_arg43)) := by
  rw [after0_71, in0, in10, in21, in32]
  refine (out0_71_eq _ _ _ _).trans ?_
  rw [sum9]; rfl

theorem out72 (t : Fin cfg0.N) : (dats m 0 c).after 72 t = val_main_v231 (F := Ideal) (m ((c.tc : Thread nD τ).loc main_arg10)) (m ((c.tc : Thread nD τ).loc main_arg32)) := by
  rw [after0_72, in0, in21]
  refine (out0_72_eq _ _).trans ?_
  rw [sum9]; rfl

theorem out73 (t : Fin cfg0.N) : (dats m 0 c).after 73 t = val_main_v237 (F := Ideal) (m ((c.tc : Thread nD τ).loc main_arg10)) (m ((c.tc : Thread nD τ).loc main_arg43)) := by
  rw [after0_73, in0, in32]
  refine (out0_73_eq _ _).trans ?_
  rw [sum9]; rfl

theorem out74 (t : Fin cfg0.N) : (dats m 0 c).after 74 t = val_main_v251 (F := Ideal) (m ((c.tc : Thread nD τ).loc main_arg11)) := by
  rw [after0_74, in0]
  refine (out0_74_eq _).trans ?_
  exact sum10 m c

theorem out75 (t : Fin cfg0.N) : (dats m 0 c).after 75 t = val_main_v275 (F := Ideal) (m ((c.tc : Thread nD τ).loc main_arg11)) (m ((c.tc : Thread nD τ).loc main_arg22)) (m ((c.tc : Thread nD τ).loc main_arg33)) (m ((c.tc : Thread nD τ).loc main_arg44)) := by
  rw [after0_75, in0, in11, in22, in33]
  refine (out0_75_eq _ _ _ _).trans ?_
  rw [sum10]; rfl

theorem out76 (t : Fin cfg0.N) : (dats m 0 c).after 76 t = val_main_v256 (F := Ideal) (m ((c.tc : Thread nD τ).loc main_arg11)) (m ((c.tc : Thread nD τ).loc main_arg33)) := by
  rw [after0_76, in0, in22]
  refine (out0_76_eq _ _).trans ?_
  rw [sum10]; rfl

theorem out77 (t : Fin cfg0.N) : (dats m 0 c).after 77 t = val_main_v262 (F := Ideal) (m ((c.tc : Thread nD τ).loc main_arg11)) (m ((c.tc : Thread nD τ).loc main_arg44)) := by
  rw [after0_77, in0, in33]
  refine (out0_77_eq _ _).trans ?_
  rw [sum10]; rfl

theorem out78 (t : Fin cfg0.N) : (dats m 0 c).after 78 t = val_main_v276 (F := Ideal) (m ((c.tc : Thread nD τ).loc main_arg0)) := by
  rw [after0_78, in0]
  refine (out0_78_eq _).trans ?_
  exact sum11 m c

theorem final34 : (dats m 0 c).arrAt 34 cfg0.N = val_main_v0 (F := Ideal) (m ((c.tc : Thread nD τ).loc main_arg1)) :=
  have e (t : Fin cfg0.N) (j : S1x1024.Idx) : ((cfg0.win 34).blk t).view.emb j = j := in_place2 (p := 1) (q := 1024) _ j (win0_34.index t) ((by decide +kernel : ∀ (t : Fin grid0.N) a, win0_34.index t a = 0) t) rfl rfl
  result_whole m c 34 _ (by decide +kernel : ∀ t : Fin grid0.N, win0_34.flush t = true) (fun t i => by
      have h := ((cfg0.win 34).blk t).view.emb_mem_set i
      rwa [e] at h)
    fun t => read_in_place (ι := S1x1024.Idx) (fun j => (congrFun (out34 m c t) j).trans (congrArg (β := Ideal .f32) _ (e t j).symm)) fun _ => rfl

theorem final35 : (dats m 0 c).arrAt 35 cfg0.N = val_main_v24 (F := Ideal) (m ((c.tc : Thread nD τ).loc main_arg1)) (m ((c.tc : Thread nD τ).loc main_arg12)) (m ((c.tc : Thread nD τ).loc main_arg23)) (m ((c.tc : Thread nD τ).loc main_arg34)) :=
  have e (t : Fin cfg0.N) (j : S1x1024.Idx) : ((cfg0.win 35).blk t).view.emb j = j := in_place2 (p := 1) (q := 1024) _ j (win0_35.index t) ((by decide +kernel : ∀ (t : Fin grid0.N) a, win0_35.index t a = 0) t) rfl rfl
  result_whole m c 35 _ (by decide +kernel : ∀ t : Fin grid0.N, win0_35.flush t = true) (fun t i => by
      have h := ((cfg0.win 35).blk t).view.emb_mem_set i
      rwa [e] at h)
    fun t => read_in_place (ι := S1x1024.Idx) (fun j => (congrFun (out35 m c t) j).trans (congrArg (β := Ideal .f32) _ (e t j).symm)) fun _ => rfl

theorem final36 : (dats m 0 c).arrAt 36 cfg0.N = val_main_v5 (F := Ideal) (m ((c.tc : Thread nD τ).loc main_arg1)) (m ((c.tc : Thread nD τ).loc main_arg23)) :=
  have e (t : Fin cfg0.N) (j : S1x1024.Idx) : ((cfg0.win 36).blk t).view.emb j = j := in_place2 (p := 1) (q := 1024) _ j (win0_36.index t) ((by decide +kernel : ∀ (t : Fin grid0.N) a, win0_36.index t a = 0) t) rfl rfl
  result_whole m c 36 _ (by decide +kernel : ∀ t : Fin grid0.N, win0_36.flush t = true) (fun t i => by
      have h := ((cfg0.win 36).blk t).view.emb_mem_set i
      rwa [e] at h)
    fun t => read_in_place (ι := S1x1024.Idx) (fun j => (congrFun (out36 m c t) j).trans (congrArg (β := Ideal .f32) _ (e t j).symm)) fun _ => rfl

theorem final37 : (dats m 0 c).arrAt 37 cfg0.N = val_main_v11 (F := Ideal) (m ((c.tc : Thread nD τ).loc main_arg1)) (m ((c.tc : Thread nD τ).loc main_arg34)) :=
  have e (t : Fin cfg0.N) (j : S1x1024.Idx) : ((cfg0.win 37).blk t).view.emb j = j := in_place2 (p := 1) (q := 1024) _ j (win0_37.index t) ((by decide +kernel : ∀ (t : Fin grid0.N) a, win0_37.index t a = 0) t) rfl rfl
  result_whole m c 37 _ (by decide +kernel : ∀ t : Fin grid0.N, win0_37.flush t = true) (fun t i => by
      have h := ((cfg0.win 37).blk t).view.emb_mem_set i
      rwa [e] at h)
    fun t => read_in_place (ι := S1x1024.Idx) (fun j => (congrFun (out37 m c t) j).trans (congrArg (β := Ideal .f32) _ (e t j).symm)) fun _ => rfl

theorem final38 : (dats m 0 c).arrAt 38 cfg0.N = val_main_v25 (F := Ideal) (m ((c.tc : Thread nD τ).loc main_arg2)) :=
  have e (t : Fin cfg0.N) (j : S1x512.Idx) : ((cfg0.win 38).blk t).view.emb j = j := in_place2 (p := 1) (q := 512) _ j (win0_38.index t) ((by decide +kernel : ∀ (t : Fin grid0.N) a, win0_38.index t a = 0) t) rfl rfl
  result_whole m c 38 _ (by decide +kernel : ∀ t : Fin grid0.N, win0_38.flush t = true) (fun t i => by
      have h := ((cfg0.win 38).blk t).view.emb_mem_set i
      rwa [e] at h)
    fun t => read_in_place (ι := S1x512.Idx) (fun j => (congrFun (out38 m c t) j).trans (congrArg (β := Ideal .f32) _ (e t j).symm)) fun _ => rfl

theorem final39 : (dats m 0 c).arrAt 39 cfg0.N = val_main_v49 (F := Ideal) (m ((c.tc : Thread nD τ).loc main_arg2)) (m ((c.tc : Thread nD τ).loc main_arg13)) (m ((c.tc : Thread nD τ).loc main_arg24)) (m ((c.tc : Thread nD τ).loc main_arg35)) :=
  have e (t : Fin cfg0.N) (j : S1x512.Idx) : ((cfg0.win 39).blk t).view.emb j = j := in_place2 (p := 1) (q := 512) _ j (win0_39.index t) ((by decide +kernel : ∀ (t : Fin grid0.N) a, win0_39.index t a = 0) t) rfl rfl
  result_whole m c 39 _ (by decide +kernel : ∀ t : Fin grid0.N, win0_39.flush t = true) (fun t i => by
      have h := ((cfg0.win 39).blk t).view.emb_mem_set i
      rwa [e] at h)
    fun t => read_in_place (ι := S1x512.Idx) (fun j => (congrFun (out39 m c t) j).trans (congrArg (β := Ideal .f32) _ (e t j).symm)) fun _ => rfl

theorem final40 : (dats m 0 c).arrAt 40 cfg0.N = val_main_v30 (F := Ideal) (m ((c.tc : Thread nD τ).loc main_arg2)) (m ((c.tc : Thread nD τ).loc main_arg24)) :=
  have e (t : Fin cfg0.N) (j : S1x512.Idx) : ((cfg0.win 40).blk t).view.emb j = j := in_place2 (p := 1) (q := 512) _ j (win0_40.index t) ((by decide +kernel : ∀ (t : Fin grid0.N) a, win0_40.index t a = 0) t) rfl rfl
  result_whole m c 40 _ (by decide +kernel : ∀ t : Fin grid0.N, win0_40.flush t = true) (fun t i => by
      have h := ((cfg0.win 40).blk t).view.emb_mem_set i
      rwa [e] at h)
    fun t => read_in_place (ι := S1x512.Idx) (fun j => (congrFun (out40 m c t) j).trans (congrArg (β := Ideal .f32) _ (e t j).symm)) fun _ => rfl

theorem final41 : (dats m 0 c).arrAt 41 cfg0.N = val_main_v36 (F := Ideal) (m ((c.tc : Thread nD τ).loc main_arg2)) (m ((c.tc : Thread nD τ).loc main_arg35)) :=
  have e (t : Fin cfg0.N) (j : S1x512.Idx) : ((cfg0.win 41).blk t).view.emb j = j := in_place2 (p := 1) (q := 512) _ j (win0_41.index t) ((by decide +kernel : ∀ (t : Fin grid0.N) a, win0_41.index t a = 0) t) rfl rfl
  result_whole m c 41 _ (by decide +kernel : ∀ t : Fin grid0.N, win0_41.flush t = true) (fun t i => by
      have h := ((cfg0.win 41).blk t).view.emb_mem_set i
      rwa [e] at h)
    fun t => read_in_place (ι := S1x512.Idx) (fun j => (congrFun (out41 m c t) j).trans (congrArg (β := Ideal .f32) _ (e t j).symm)) fun _ => rfl

theorem final42 : (dats m 0 c).arrAt 42 cfg0.N = val_main_v50 (F := Ideal) (m ((c.tc : Thread nD τ).loc main_arg3)) :=
  have e (t : Fin cfg0.N) (j : S1x2176.Idx) : ((cfg0.win 42).blk t).view.emb j = j := in_place2 (p := 1) (q := 2176) _ j (win0_42.index t) ((by decide +kernel : ∀ (t : Fin grid0.N) a, win0_42.index t a = 0) t) rfl rfl
  result_whole m c 42 _ (by decide +kernel : ∀ t : Fin grid0.N, win0_42.flush t = true) (fun t i => by
      have h := ((cfg0.win 42).blk t).view.emb_mem_set i
      rwa [e] at h)
    fun t => read_in_place (ι := S1x2176.Idx) (fun j => (congrFun (out42 m c t) j).trans (congrArg (β := Ideal .f32) _ (e t j).symm)) fun _ => rfl

theorem final43 : (dats m 0 c).arrAt 43 cfg0.N = val_main_v74 (F := Ideal) (m ((c.tc : Thread nD τ).loc main_arg3)) (m ((c.tc : Thread nD τ).loc main_arg14)) (m ((c.tc : Thread nD τ).loc main_arg25)) (m ((c.tc : Thread nD τ).loc main_arg36)) :=
  have e (t : Fin cfg0.N) (j : S1x2176.Idx) : ((cfg0.win 43).blk t).view.emb j = j := in_place2 (p := 1) (q := 2176) _ j (win0_43.index t) ((by decide +kernel : ∀ (t : Fin grid0.N) a, win0_43.index t a = 0) t) rfl rfl
  result_whole m c 43 _ (by decide +kernel : ∀ t : Fin grid0.N, win0_43.flush t = true) (fun t i => by
      have h := ((cfg0.win 43).blk t).view.emb_mem_set i
      rwa [e] at h)
    fun t => read_in_place (ι := S1x2176.Idx) (fun j => (congrFun (out43 m c t) j).trans (congrArg (β := Ideal .f32) _ (e t j).symm)) fun _ => rfl

theorem final44 : (dats m 0 c).arrAt 44 cfg0.N = val_main_v55 (F := Ideal) (m ((c.tc : Thread nD τ).loc main_arg3)) (m ((c.tc : Thread nD τ).loc main_arg25)) :=
  have e (t : Fin cfg0.N) (j : S1x2176.Idx) : ((cfg0.win 44).blk t).view.emb j = j := in_place2 (p := 1) (q := 2176) _ j (win0_44.index t) ((by decide +kernel : ∀ (t : Fin grid0.N) a, win0_44.index t a = 0) t) rfl rfl
  result_whole m c 44 _ (by decide +kernel : ∀ t : Fin grid0.N, win0_44.flush t = true) (fun t i => by
      have h := ((cfg0.win 44).blk t).view.emb_mem_set i
      rwa [e] at h)
    fun t => read_in_place (ι := S1x2176.Idx) (fun j => (congrFun (out44 m c t) j).trans (congrArg (β := Ideal .f32) _ (e t j).symm)) fun _ => rfl

theorem final45 : (dats m 0 c).arrAt 45 cfg0.N = val_main_v61 (F := Ideal) (m ((c.tc : Thread nD τ).loc main_arg3)) (m ((c.tc : Thread nD τ).loc main_arg36)) :=
  have e (t : Fin cfg0.N) (j : S1x2176.Idx) : ((cfg0.win 45).blk t).view.emb j = j := in_place2 (p := 1) (q := 2176) _ j (win0_45.index t) ((by decide +kernel : ∀ (t : Fin grid0.N) a, win0_45.index t a = 0) t) rfl rfl
  result_whole m c 45 _ (by decide +kernel : ∀ t : Fin grid0.N, win0_45.flush t = true) (fun t i => by
      have h := ((cfg0.win 45).blk t).view.emb_mem_set i
      rwa [e] at h)
    fun t => read_in_place (ι := S1x2176.Idx) (fun j => (congrFun (out45 m c t) j).trans (congrArg (β := Ideal .f32) _ (e t j).symm)) fun _ => rfl

theorem final46 : (dats m 0 c).arrAt 46 cfg0.N = val_main_v75 (F := Ideal) (m ((c.tc : Thread nD τ).loc main_arg4)) :=
  have e (t : Fin cfg0.N) (j : S1x512.Idx) : ((cfg0.win 46).blk t).view.emb j = j := in_place2 (p := 1) (q := 512) _ j (win0_46.index t) ((by decide +kernel : ∀ (t : Fin grid0.N) a, win0_46.index t a = 0) t) rfl rfl
  result_whole m c 46 _ (by decide +kernel : ∀ t : Fin grid0.N, win0_46.flush t = true) (fun t i => by
      have h := ((cfg0.win 46).blk t).view.emb_mem_set i
      rwa [e] at h)
    fun t => read_in_place (ι := S1x512.Idx) (fun j => (congrFun (out46 m c t) j).trans (congrArg (β := Ideal .f32) _ (e t j).symm)) fun _ => rfl

theorem final47 : (dats m 0 c).arrAt 47 cfg0.N = val_main_v99 (F := Ideal) (m ((c.tc : Thread nD τ).loc main_arg4)) (m ((c.tc : Thread nD τ).loc main_arg15)) (m ((c.tc : Thread nD τ).loc main_arg26)) (m ((c.tc : Thread nD τ).loc main_arg37)) :=
  have e (t : Fin cfg0.N) (j : S1x512.Idx) : ((cfg0.win 47).blk t).view.emb j = j := in_place2 (p := 1) (q := 512) _ j (win0_47.index t) ((by decide +kernel : ∀ (t : Fin grid0.N) a, win0_47.index t a = 0) t) rfl rfl
  result_whole m c 47 _ (by decide +kernel : ∀ t : Fin grid0.N, win0_47.flush t = true) (fun t i => by
      have h := ((cfg0.win 47).blk t).view.emb_mem_set i
      rwa [e] at h)
    fun t => read_in_place (ι := S1x512.Idx) (fun j => (congrFun (out47 m c t) j).trans (congrArg (β := Ideal .f32) _ (e t j).symm)) fun _ => rfl

theorem final48 : (dats m 0 c).arrAt 48 cfg0.N = val_main_v80 (F := Ideal) (m ((c.tc : Thread nD τ).loc main_arg4)) (m ((c.tc : Thread nD τ).loc main_arg26)) :=
  have e (t : Fin cfg0.N) (j : S1x512.Idx) : ((cfg0.win 48).blk t).view.emb j = j := in_place2 (p := 1) (q := 512) _ j (win0_48.index t) ((by decide +kernel : ∀ (t : Fin grid0.N) a, win0_48.index t a = 0) t) rfl rfl
  result_whole m c 48 _ (by decide +kernel : ∀ t : Fin grid0.N, win0_48.flush t = true) (fun t i => by
      have h := ((cfg0.win 48).blk t).view.emb_mem_set i
      rwa [e] at h)
    fun t => read_in_place (ι := S1x512.Idx) (fun j => (congrFun (out48 m c t) j).trans (congrArg (β := Ideal .f32) _ (e t j).symm)) fun _ => rfl

theorem final49 : (dats m 0 c).arrAt 49 cfg0.N = val_main_v86 (F := Ideal) (m ((c.tc : Thread nD τ).loc main_arg4)) (m ((c.tc : Thread nD τ).loc main_arg37)) :=
  have e (t : Fin cfg0.N) (j : S1x512.Idx) : ((cfg0.win 49).blk t).view.emb j = j := in_place2 (p := 1) (q := 512) _ j (win0_49.index t) ((by decide +kernel : ∀ (t : Fin grid0.N) a, win0_49.index t a = 0) t) rfl rfl
  result_whole m c 49 _ (by decide +kernel : ∀ t : Fin grid0.N, win0_49.flush t = true) (fun t i => by
      have h := ((cfg0.win 49).blk t).view.emb_mem_set i
      rwa [e] at h)
    fun t => read_in_place (ι := S1x512.Idx) (fun j => (congrFun (out49 m c t) j).trans (congrArg (β := Ideal .f32) _ (e t j).symm)) fun _ => rfl

theorem final50 : (dats m 0 c).arrAt 50 cfg0.N = val_main_v100 (F := Ideal) (m ((c.tc : Thread nD τ).loc main_arg5)) :=
  have e (t : Fin cfg0.N) (j : S1x512.Idx) : ((cfg0.win 50).blk t).view.emb j = j := in_place2 (p := 1) (q := 512) _ j (win0_50.index t) ((by decide +kernel : ∀ (t : Fin grid0.N) a, win0_50.index t a = 0) t) rfl rfl
  result_whole m c 50 _ (by decide +kernel : ∀ t : Fin grid0.N, win0_50.flush t = true) (fun t i => by
      have h := ((cfg0.win 50).blk t).view.emb_mem_set i
      rwa [e] at h)
    fun t => read_in_place (ι := S1x512.Idx) (fun j => (congrFun (out50 m c t) j).trans (congrArg (β := Ideal .f32) _ (e t j).symm)) fun _ => rfl

theorem final51 : (dats m 0 c).arrAt 51 cfg0.N = val_main_v124 (F := Ideal) (m ((c.tc : Thread nD τ).loc main_arg5)) (m ((c.tc : Thread nD τ).loc main_arg16)) (m ((c.tc : Thread nD τ).loc main_arg27)) (m ((c.tc : Thread nD τ).loc main_arg38)) :=
  have e (t : Fin cfg0.N) (j : S1x512.Idx) : ((cfg0.win 51).blk t).view.emb j = j := in_place2 (p := 1) (q := 512) _ j (win0_51.index t) ((by decide +kernel : ∀ (t : Fin grid0.N) a, win0_51.index t a = 0) t) rfl rfl
  result_whole m c 51 _ (by decide +kernel : ∀ t : Fin grid0.N, win0_51.flush t = true) (fun t i => by
      have h := ((cfg0.win 51).blk t).view.emb_mem_set i
      rwa [e] at h)
    fun t => read_in_place (ι := S1x512.Idx) (fun j => (congrFun (out51 m c t) j).trans (congrArg (β := Ideal .f32) _ (e t j).symm)) fun _ => rfl

theorem final52 : (dats m 0 c).arrAt 52 cfg0.N = val_main_v105 (F := Ideal) (m ((c.tc : Thread nD τ).loc main_arg5)) (m ((c.tc : Thread nD τ).loc main_arg27)) :=
  have e (t : Fin cfg0.N) (j : S1x512.Idx) : ((cfg0.win 52).blk t).view.emb j = j := in_place2 (p := 1) (q := 512) _ j (win0_52.index t) ((by decide +kernel : ∀ (t : Fin grid0.N) a, win0_52.index t a = 0) t) rfl rfl
  result_whole m c 52 _ (by decide +kernel : ∀ t : Fin grid0.N, win0_52.flush t = true) (fun t i => by
      have h := ((cfg0.win 52).blk t).view.emb_mem_set i
      rwa [e] at h)
    fun t => read_in_place (ι := S1x512.Idx) (fun j => (congrFun (out52 m c t) j).trans (congrArg (β := Ideal .f32) _ (e t j).symm)) fun _ => rfl

theorem final53 : (dats m 0 c).arrAt 53 cfg0.N = val_main_v111 (F := Ideal) (m ((c.tc : Thread nD τ).loc main_arg5)) (m ((c.tc : Thread nD τ).loc main_arg38)) :=
  have e (t : Fin cfg0.N) (j : S1x512.Idx) : ((cfg0.win 53).blk t).view.emb j = j := in_place2 (p := 1) (q := 512) _ j (win0_53.index t) ((by decide +kernel : ∀ (t : Fin grid0.N) a, win0_53.index t a = 0) t) rfl rfl
  result_whole m c 53 _ (by decide +kernel : ∀ t : Fin grid0.N, win0_53.flush t = true) (fun t i => by
      have h := ((cfg0.win 53).blk t).view.emb_mem_set i
      rwa [e] at h)
    fun t => read_in_place (ι := S1x512.Idx) (fun j => (congrFun (out53 m c t) j).trans (congrArg (β := Ideal .f32) _ (e t j).symm)) fun _ => rfl

theorem final54 : (dats m 0 c).arrAt 54 cfg0.N = val_main_v125 (F := Ideal) (m ((c.tc : Thread nD τ).loc main_arg6)) :=
  have e (t : Fin cfg0.N) (j : S1x512.Idx) : ((cfg0.win 54).blk t).view.emb j = j := in_place2 (p := 1) (q := 512) _ j (win0_54.index t) ((by decide +kernel : ∀ (t : Fin grid0.N) a, win0_54.index t a = 0) t) rfl rfl
  result_whole m c 54 _ (by decide +kernel : ∀ t : Fin grid0.N, win0_54.flush t = true) (fun t i => by
      have h := ((cfg0.win 54).blk t).view.emb_mem_set i
      rwa [e] at h)
    fun t => read_in_place (ι := S1x512.Idx) (fun j => (congrFun (out54 m c t) j).trans (congrArg (β := Ideal .f32) _ (e t j).symm)) fun _ => rfl

theorem final55 : (dats m 0 c).arrAt 55 cfg0.N = val_main_v149 (F := Ideal) (m ((c.tc : Thread nD τ).loc main_arg6)) (m ((c.tc : Thread nD τ).loc main_arg17)) (m ((c.tc : Thread nD τ).loc main_arg28)) (m ((c.tc : Thread nD τ).loc main_arg39)) :=
  have e (t : Fin cfg0.N) (j : S1x512.Idx) : ((cfg0.win 55).blk t).view.emb j = j := in_place2 (p := 1) (q := 512) _ j (win0_55.index t) ((by decide +kernel : ∀ (t : Fin grid0.N) a, win0_55.index t a = 0) t) rfl rfl
  result_whole m c 55 _ (by decide +kernel : ∀ t : Fin grid0.N, win0_55.flush t = true) (fun t i => by
      have h := ((cfg0.win 55).blk t).view.emb_mem_set i
      rwa [e] at h)
    fun t => read_in_place (ι := S1x512.Idx) (fun j => (congrFun (out55 m c t) j).trans (congrArg (β := Ideal .f32) _ (e t j).symm)) fun _ => rfl

theorem final56 : (dats m 0 c).arrAt 56 cfg0.N = val_main_v130 (F := Ideal) (m ((c.tc : Thread nD τ).loc main_arg6)) (m ((c.tc : Thread nD τ).loc main_arg28)) :=
  have e (t : Fin cfg0.N) (j : S1x512.Idx) : ((cfg0.win 56).blk t).view.emb j = j := in_place2 (p := 1) (q := 512) _ j (win0_56.index t) ((by decide +kernel : ∀ (t : Fin grid0.N) a, win0_56.index t a = 0) t) rfl rfl
  result_whole m c 56 _ (by decide +kernel : ∀ t : Fin grid0.N, win0_56.flush t = true) (fun t i => by
      have h := ((cfg0.win 56).blk t).view.emb_mem_set i
      rwa [e] at h)
    fun t => read_in_place (ι := S1x512.Idx) (fun j => (congrFun (out56 m c t) j).trans (congrArg (β := Ideal .f32) _ (e t j).symm)) fun _ => rfl

theorem final57 : (dats m 0 c).arrAt 57 cfg0.N = val_main_v136 (F := Ideal) (m ((c.tc : Thread nD τ).loc main_arg6)) (m ((c.tc : Thread nD τ).loc main_arg39)) :=
  have e (t : Fin cfg0.N) (j : S1x512.Idx) : ((cfg0.win 57).blk t).view.emb j = j := in_place2 (p := 1) (q := 512) _ j (win0_57.index t) ((by decide +kernel : ∀ (t : Fin grid0.N) a, win0_57.index t a = 0) t) rfl rfl
  result_whole m c 57 _ (by decide +kernel : ∀ t : Fin grid0.N, win0_57.flush t = true) (fun t i => by
      have h := ((cfg0.win 57).blk t).view.emb_mem_set i
      rwa [e] at h)
    fun t => read_in_place (ι := S1x512.Idx) (fun j => (congrFun (out57 m c t) j).trans (congrArg (β := Ideal .f32) _ (e t j).symm)) fun _ => rfl

theorem final58 : (dats m 0 c).arrAt 58 cfg0.N = val_main_v150 (F := Ideal) (m ((c.tc : Thread nD τ).loc main_arg7)) :=
  have e (t : Fin cfg0.N) (j : S1x512.Idx) : ((cfg0.win 58).blk t).view.emb j = j := in_place2 (p := 1) (q := 512) _ j (win0_58.index t) ((by decide +kernel : ∀ (t : Fin grid0.N) a, win0_58.index t a = 0) t) rfl rfl
  result_whole m c 58 _ (by decide +kernel : ∀ t : Fin grid0.N, win0_58.flush t = true) (fun t i => by
      have h := ((cfg0.win 58).blk t).view.emb_mem_set i
      rwa [e] at h)
    fun t => read_in_place (ι := S1x512.Idx) (fun j => (congrFun (out58 m c t) j).trans (congrArg (β := Ideal .f32) _ (e t j).symm)) fun _ => rfl

theorem final59 : (dats m 0 c).arrAt 59 cfg0.N = val_main_v174 (F := Ideal) (m ((c.tc : Thread nD τ).loc main_arg7)) (m ((c.tc : Thread nD τ).loc main_arg18)) (m ((c.tc : Thread nD τ).loc main_arg29)) (m ((c.tc : Thread nD τ).loc main_arg40)) :=
  have e (t : Fin cfg0.N) (j : S1x512.Idx) : ((cfg0.win 59).blk t).view.emb j = j := in_place2 (p := 1) (q := 512) _ j (win0_59.index t) ((by decide +kernel : ∀ (t : Fin grid0.N) a, win0_59.index t a = 0) t) rfl rfl
  result_whole m c 59 _ (by decide +kernel : ∀ t : Fin grid0.N, win0_59.flush t = true) (fun t i => by
      have h := ((cfg0.win 59).blk t).view.emb_mem_set i
      rwa [e] at h)
    fun t => read_in_place (ι := S1x512.Idx) (fun j => (congrFun (out59 m c t) j).trans (congrArg (β := Ideal .f32) _ (e t j).symm)) fun _ => rfl

theorem final60 : (dats m 0 c).arrAt 60 cfg0.N = val_main_v155 (F := Ideal) (m ((c.tc : Thread nD τ).loc main_arg7)) (m ((c.tc : Thread nD τ).loc main_arg29)) :=
  have e (t : Fin cfg0.N) (j : S1x512.Idx) : ((cfg0.win 60).blk t).view.emb j = j := in_place2 (p := 1) (q := 512) _ j (win0_60.index t) ((by decide +kernel : ∀ (t : Fin grid0.N) a, win0_60.index t a = 0) t) rfl rfl
  result_whole m c 60 _ (by decide +kernel : ∀ t : Fin grid0.N, win0_60.flush t = true) (fun t i => by
      have h := ((cfg0.win 60).blk t).view.emb_mem_set i
      rwa [e] at h)
    fun t => read_in_place (ι := S1x512.Idx) (fun j => (congrFun (out60 m c t) j).trans (congrArg (β := Ideal .f32) _ (e t j).symm)) fun _ => rfl

theorem final61 : (dats m 0 c).arrAt 61 cfg0.N = val_main_v161 (F := Ideal) (m ((c.tc : Thread nD τ).loc main_arg7)) (m ((c.tc : Thread nD τ).loc main_arg40)) :=
  have e (t : Fin cfg0.N) (j : S1x512.Idx) : ((cfg0.win 61).blk t).view.emb j = j := in_place2 (p := 1) (q := 512) _ j (win0_61.index t) ((by decide +kernel : ∀ (t : Fin grid0.N) a, win0_61.index t a = 0) t) rfl rfl
  result_whole m c 61 _ (by decide +kernel : ∀ t : Fin grid0.N, win0_61.flush t = true) (fun t i => by
      have h := ((cfg0.win 61).blk t).view.emb_mem_set i
      rwa [e] at h)
    fun t => read_in_place (ι := S1x512.Idx) (fun j => (congrFun (out61 m c t) j).trans (congrArg (β := Ideal .f32) _ (e t j).symm)) fun _ => rfl

theorem final62 : (dats m 0 c).arrAt 62 cfg0.N = val_main_v176 (F := Ideal) (m ((c.tc : Thread nD τ).loc main_arg8)) :=
  have e (t : Fin cfg0.N) (j : S1x8x64.Idx) : ((cfg0.win 62).blk t).view.emb j = j := in_place3 (p := 1) (q := 8) (r := 64) _ j (win0_62.index t) ((by decide +kernel : ∀ (t : Fin grid0.N) a, win0_62.index t a = 0) t) rfl rfl rfl
  result_whole m c 62 _ (by decide +kernel : ∀ t : Fin grid0.N, win0_62.flush t = true) (fun t i => by
      have h := ((cfg0.win 62).blk t).view.emb_mem_set i
      rwa [e] at h)
    fun t => read_in_place (ι := S1x8x64.Idx) (fun j => (congrFun (out62 m c t) j).trans (congrArg (β := Ideal .f32) _ (e t j).symm)) fun _ => rfl

theorem final63 : (dats m 0 c).arrAt 63 cfg0.N = val_main_v200 (F := Ideal) (m ((c.tc : Thread nD τ).loc main_arg8)) (m ((c.tc : Thread nD τ).loc main_arg19)) (m ((c.tc : Thread nD τ).loc main_arg30)) (m ((c.tc : Thread nD τ).loc main_arg41)) :=
  have e (t : Fin cfg0.N) (j : S1x8x64.Idx) : ((cfg0.win 63).blk t).view.emb j = j := in_place3 (p := 1) (q := 8) (r := 64) _ j (win0_63.index t) ((by decide +kernel : ∀ (t : Fin grid0.N) a, win0_63.index t a = 0) t) rfl rfl rfl
  result_whole m c 63 _ (by decide +kernel : ∀ t : Fin grid0.N, win0_63.flush t = true) (fun t i => by
      have h := ((cfg0.win 63).blk t).view.emb_mem_set i
      rwa [e] at h)
    fun t => read_in_place (ι := S1x8x64.Idx) (fun j => (congrFun (out63 m c t) j).trans (congrArg (β := Ideal .f32) _ (e t j).symm)) fun _ => rfl

theorem final64 : (dats m 0 c).arrAt 64 cfg0.N = val_main_v181 (F := Ideal) (m ((c.tc : Thread nD τ).loc main_arg8)) (m ((c.tc : Thread nD τ).loc main_arg30)) :=
  have e (t : Fin cfg0.N) (j : S1x8x64.Idx) : ((cfg0.win 64).blk t).view.emb j = j := in_place3 (p := 1) (q := 8) (r := 64) _ j (win0_64.index t) ((by decide +kernel : ∀ (t : Fin grid0.N) a, win0_64.index t a = 0) t) rfl rfl rfl
  result_whole m c 64 _ (by decide +kernel : ∀ t : Fin grid0.N, win0_64.flush t = true) (fun t i => by
      have h := ((cfg0.win 64).blk t).view.emb_mem_set i
      rwa [e] at h)
    fun t => read_in_place (ι := S1x8x64.Idx) (fun j => (congrFun (out64 m c t) j).trans (congrArg (β := Ideal .f32) _ (e t j).symm)) fun _ => rfl

theorem final65 : (dats m 0 c).arrAt 65 cfg0.N = val_main_v187 (F := Ideal) (m ((c.tc : Thread nD τ).loc main_arg8)) (m ((c.tc : Thread nD τ).loc main_arg41)) :=
  have e (t : Fin cfg0.N) (j : S1x8x64.Idx) : ((cfg0.win 65).blk t).view.emb j = j := in_place3 (p := 1) (q := 8) (r := 64) _ j (win0_65.index t) ((by decide +kernel : ∀ (t : Fin grid0.N) a, win0_65.index t a = 0) t) rfl rfl rfl
  result_whole m c 65 _ (by decide +kernel : ∀ t : Fin grid0.N, win0_65.flush t = true) (fun t i => by
      have h := ((cfg0.win 65).blk t).view.emb_mem_set i
      rwa [e] at h)
    fun t => read_in_place (ι := S1x8x64.Idx) (fun j => (congrFun (out65 m c t) j).trans (congrArg (β := Ideal .f32) _ (e t j).symm)) fun _ => rfl

theorem final66 : (dats m 0 c).arrAt 66 cfg0.N = val_main_v201 (F := Ideal) (m ((c.tc : Thread nD τ).loc main_arg9)) :=
  have e (t : Fin cfg0.N) (j : S1x512.Idx) : ((cfg0.win 66).blk t).view.emb j = j := in_place2 (p := 1) (q := 512) _ j (win0_66.index t) ((by decide +kernel : ∀ (t : Fin grid0.N) a, win0_66.index t a = 0) t) rfl rfl
  result_whole m c 66 _ (by decide +kernel : ∀ t : Fin grid0.N, win0_66.flush t = true) (fun t i => by
      have h := ((cfg0.win 66).blk t).view.emb_mem_set i
      rwa [e] at h)
    fun t => read_in_place (ι := S1x512.Idx) (fun j => (congrFun (out66 m c t) j).trans (congrArg (β := Ideal .f32) _ (e t j).symm)) fun _ => rfl

theorem final67 : (dats m 0 c).arrAt 67 cfg0.N = val_main_v225 (F := Ideal) (m ((c.tc : Thread nD τ).loc main_arg9)) (m ((c.tc : Thread nD τ).loc main_arg20)) (m ((c.tc : Thread nD τ).loc main_arg31)) (m ((c.tc : Thread nD τ).loc main_arg42)) :=
  have e (t : Fin cfg0.N) (j : S1x512.Idx) : ((cfg0.win 67).blk t).view.emb j = j := in_place2 (p := 1) (q := 512) _ j (win0_67.index t) ((by decide +kernel : ∀ (t : Fin grid0.N) a, win0_67.index t a = 0) t) rfl rfl
  result_whole m c 67 _ (by decide +kernel : ∀ t : Fin grid0.N, win0_67.flush t = true) (fun t i => by
      have h := ((cfg0.win 67).blk t).view.emb_mem_set i
      rwa [e] at h)
    fun t => read_in_place (ι := S1x512.Idx) (fun j => (congrFun (out67 m c t) j).trans (congrArg (β := Ideal .f32) _ (e t j).symm)) fun _ => rfl

theorem final68 : (dats m 0 c).arrAt 68 cfg0.N = val_main_v206 (F := Ideal) (m ((c.tc : Thread nD τ).loc main_arg9)) (m ((c.tc : Thread nD τ).loc main_arg31)) :=
  have e (t : Fin cfg0.N) (j : S1x512.Idx) : ((cfg0.win 68).blk t).view.emb j = j := in_place2 (p := 1) (q := 512) _ j (win0_68.index t) ((by decide +kernel : ∀ (t : Fin grid0.N) a, win0_68.index t a = 0) t) rfl rfl
  result_whole m c 68 _ (by decide +kernel : ∀ t : Fin grid0.N, win0_68.flush t = true) (fun t i => by
      have h := ((cfg0.win 68).blk t).view.emb_mem_set i
      rwa [e] at h)
    fun t => read_in_place (ι := S1x512.Idx) (fun j => (congrFun (out68 m c t) j).trans (congrArg (β := Ideal .f32) _ (e t j).symm)) fun _ => rfl

theorem final69 : (dats m 0 c).arrAt 69 cfg0.N = val_main_v212 (F := Ideal) (m ((c.tc : Thread nD τ).loc main_arg9)) (m ((c.tc : Thread nD τ).loc main_arg42)) :=
  have e (t : Fin cfg0.N) (j : S1x512.Idx) : ((cfg0.win 69).blk t).view.emb j = j := in_place2 (p := 1) (q := 512) _ j (win0_69.index t) ((by decide +kernel : ∀ (t : Fin grid0.N) a, win0_69.index t a = 0) t) rfl rfl
  result_whole m c 69 _ (by decide +kernel : ∀ t : Fin grid0.N, win0_69.flush t = true) (fun t i => by
      have h := ((cfg0.win 69).blk t).view.emb_mem_set i
      rwa [e] at h)
    fun t => read_in_place (ι := S1x512.Idx) (fun j => (congrFun (out69 m c t) j).trans (congrArg (β := Ideal .f32) _ (e t j).symm)) fun _ => rfl

theorem final70 : (dats m 0 c).arrAt 70 cfg0.N = val_main_v226 (F := Ideal) (m ((c.tc : Thread nD τ).loc main_arg10)) :=
  have e (t : Fin cfg0.N) (j : S1x512.Idx) : ((cfg0.win 70).blk t).view.emb j = j := in_place2 (p := 1) (q := 512) _ j (win0_70.index t) ((by decide +kernel : ∀ (t : Fin grid0.N) a, win0_70.index t a = 0) t) rfl rfl
  result_whole m c 70 _ (by decide +kernel : ∀ t : Fin grid0.N, win0_70.flush t = true) (fun t i => by
      have h := ((cfg0.win 70).blk t).view.emb_mem_set i
      rwa [e] at h)
    fun t => read_in_place (ι := S1x512.Idx) (fun j => (congrFun (out70 m c t) j).trans (congrArg (β := Ideal .f32) _ (e t j).symm)) fun _ => rfl

theorem final71 : (dats m 0 c).arrAt 71 cfg0.N = val_main_v250 (F := Ideal) (m ((c.tc : Thread nD τ).loc main_arg10)) (m ((c.tc : Thread nD τ).loc main_arg21)) (m ((c.tc : Thread nD τ).loc main_arg32)) (m ((c.tc : Thread nD τ).loc main_arg43)) :=
  have e (t : Fin cfg0.N) (j : S1x512.Idx) : ((cfg0.win 71).blk t).view.emb j = j := in_place2 (p := 1) (q := 512) _ j (win0_71.index t) ((by decide +kernel : ∀ (t : Fin grid0.N) a, win0_71.index t a = 0) t) rfl rfl
  result_whole m c 71 _ (by decide +kernel : ∀ t : Fin grid0.N, win0_71.flush t = true) (fun t i => by
      have h := ((cfg0.win 71).blk t).view.emb_mem_set i
      rwa [e] at h)
    fun t => read_in_place (ι := S1x512.Idx) (fun j => (congrFun (out71 m c t) j).trans (congrArg (β := Ideal .f32) _ (e t j).symm)) fun _ => rfl

theorem final72 : (dats m 0 c).arrAt 72 cfg0.N = val_main_v231 (F := Ideal) (m ((c.tc : Thread nD τ).loc main_arg10)) (m ((c.tc : Thread nD τ).loc main_arg32)) :=
  have e (t : Fin cfg0.N) (j : S1x512.Idx) : ((cfg0.win 72).blk t).view.emb j = j := in_place2 (p := 1) (q := 512) _ j (win0_72.index t) ((by decide +kernel : ∀ (t : Fin grid0.N) a, win0_72.index t a = 0) t) rfl rfl
  result_whole m c 72 _ (by decide +kernel : ∀ t : Fin grid0.N, win0_72.flush t = true) (fun t i => by
      have h := ((cfg0.win 72).blk t).view.emb_mem_set i
      rwa [e] at h)
    fun t => read_in_place (ι := S1x512.Idx) (fun j => (congrFun (out72 m c t) j).trans (congrArg (β := Ideal .f32) _ (e t j).symm)) fun _ => rfl

theorem final73 : (dats m 0 c).arrAt 73 cfg0.N = val_main_v237 (F := Ideal) (m ((c.tc : Thread nD τ).loc main_arg10)) (m ((c.tc : Thread nD τ).loc main_arg43)) :=
  have e (t : Fin cfg0.N) (j : S1x512.Idx) : ((cfg0.win 73).blk t).view.emb j = j := in_place2 (p := 1) (q := 512) _ j (win0_73.index t) ((by decide +kernel : ∀ (t : Fin grid0.N) a, win0_73.index t a = 0) t) rfl rfl
  result_whole m c 73 _ (by decide +kernel : ∀ t : Fin grid0.N, win0_73.flush t = true) (fun t i => by
      have h := ((cfg0.win 73).blk t).view.emb_mem_set i
      rwa [e] at h)
    fun t => read_in_place (ι := S1x512.Idx) (fun j => (congrFun (out73 m c t) j).trans (congrArg (β := Ideal .f32) _ (e t j).symm)) fun _ => rfl

theorem final74 : (dats m 0 c).arrAt 74 cfg0.N = val_main_v251 (F := Ideal) (m ((c.tc : Thread nD τ).loc main_arg11)) :=
  have e (t : Fin cfg0.N) (j : S1x1024.Idx) : ((cfg0.win 74).blk t).view.emb j = j := in_place2 (p := 1) (q := 1024) _ j (win0_74.index t) ((by decide +kernel : ∀ (t : Fin grid0.N) a, win0_74.index t a = 0) t) rfl rfl
  result_whole m c 74 _ (by decide +kernel : ∀ t : Fin grid0.N, win0_74.flush t = true) (fun t i => by
      have h := ((cfg0.win 74).blk t).view.emb_mem_set i
      rwa [e] at h)
    fun t => read_in_place (ι := S1x1024.Idx) (fun j => (congrFun (out74 m c t) j).trans (congrArg (β := Ideal .f32) _ (e t j).symm)) fun _ => rfl

theorem final75 : (dats m 0 c).arrAt 75 cfg0.N = val_main_v275 (F := Ideal) (m ((c.tc : Thread nD τ).loc main_arg11)) (m ((c.tc : Thread nD τ).loc main_arg22)) (m ((c.tc : Thread nD τ).loc main_arg33)) (m ((c.tc : Thread nD τ).loc main_arg44)) :=
  have e (t : Fin cfg0.N) (j : S1x1024.Idx) : ((cfg0.win 75).blk t).view.emb j = j := in_place2 (p := 1) (q := 1024) _ j (win0_75.index t) ((by decide +kernel : ∀ (t : Fin grid0.N) a, win0_75.index t a = 0) t) rfl rfl
  result_whole m c 75 _ (by decide +kernel : ∀ t : Fin grid0.N, win0_75.flush t = true) (fun t i => by
      have h := ((cfg0.win 75).blk t).view.emb_mem_set i
      rwa [e] at h)
    fun t => read_in_place (ι := S1x1024.Idx) (fun j => (congrFun (out75 m c t) j).trans (congrArg (β := Ideal .f32) _ (e t j).symm)) fun _ => rfl

theorem final76 : (dats m 0 c).arrAt 76 cfg0.N = val_main_v256 (F := Ideal) (m ((c.tc : Thread nD τ).loc main_arg11)) (m ((c.tc : Thread nD τ).loc main_arg33)) :=
  have e (t : Fin cfg0.N) (j : S1x1024.Idx) : ((cfg0.win 76).blk t).view.emb j = j := in_place2 (p := 1) (q := 1024) _ j (win0_76.index t) ((by decide +kernel : ∀ (t : Fin grid0.N) a, win0_76.index t a = 0) t) rfl rfl
  result_whole m c 76 _ (by decide +kernel : ∀ t : Fin grid0.N, win0_76.flush t = true) (fun t i => by
      have h := ((cfg0.win 76).blk t).view.emb_mem_set i
      rwa [e] at h)
    fun t => read_in_place (ι := S1x1024.Idx) (fun j => (congrFun (out76 m c t) j).trans (congrArg (β := Ideal .f32) _ (e t j).symm)) fun _ => rfl

theorem final77 : (dats m 0 c).arrAt 77 cfg0.N = val_main_v262 (F := Ideal) (m ((c.tc : Thread nD τ).loc main_arg11)) (m ((c.tc : Thread nD τ).loc main_arg44)) :=
  have e (t : Fin cfg0.N) (j : S1x1024.Idx) : ((cfg0.win 77).blk t).view.emb j = j := in_place2 (p := 1) (q := 1024) _ j (win0_77.index t) ((by decide +kernel : ∀ (t : Fin grid0.N) a, win0_77.index t a = 0) t) rfl rfl
  result_whole m c 77 _ (by decide +kernel : ∀ t : Fin grid0.N, win0_77.flush t = true) (fun t i => by
      have h := ((cfg0.win 77).blk t).view.emb_mem_set i
      rwa [e] at h)
    fun t => read_in_place (ι := S1x1024.Idx) (fun j => (congrFun (out77 m c t) j).trans (congrArg (β := Ideal .f32) _ (e t j).symm)) fun _ => rfl

theorem final78 : (dats m 0 c).arrAt 78 cfg0.N = val_main_v276 (F := Ideal) (m ((c.tc : Thread nD τ).loc main_arg0)) :=
  have e (t : Fin cfg0.N) (j : S1x128.Idx) : ((cfg0.win 78).blk t).view.emb j = j := in_place2 (p := 1) (q := 128) _ j (win0_78.index t) ((by decide +kernel : ∀ (t : Fin grid0.N) a, win0_78.index t a = 0) t) rfl rfl
  result_whole m c 78 _ (by decide +kernel : ∀ t : Fin grid0.N, win0_78.flush t = true) (fun t i => by
      have h := ((cfg0.win 78).blk t).view.emb_mem_set i
      rwa [e] at h)
    fun t => read_in_place (ι := S1x128.Idx) (fun j => (congrFun (out78 m c t) j).trans (congrArg (β := Ideal .f32) _ (e t j).symm)) fun _ => rfl

end Cert.Kernel8Ideal.Vec

end
-- ==== Proof.Vec.Claims.lean ====
module

public import proofs.«01_k».proof.Defs
public import proofs.«01_k».proof.Proof.Gen.Kernel8
public import proofs.«01_k».proof.Proof.Vec.Run
public import proofs.«01_k».proof.Proof.Vec.Final
public import proofs.«01_k».proof.Proof.Gen.Reference8Ideal.Run
public import Idealize.ShloMosaic.Adequacy
public import Idealize.ShloMosaic.Lib.Tactic

@[expose] public section

set_option maxRecDepth 16384
set_option maxHeartbeats 4000000

/-!
# The claims on the small weights' step
-/

noncomputable section

namespace Cert.Vec

open Idealize.ShloMosaic Idealize.ShloMosaic.TcCoe Idealize.SL.Sem Idealize.ShloMosaic.StableHlo

/-- The call runs and leaves its arguments: the two programs have one text, and the run over any floats is read at
    machine words. -/
theorem frame_Kernel8 : Cert.quiescent_Kernel8 :=
  Eq.mpr (by sl_kernel_rfl)
    (fun (m : (ℓ : Loc Cert.Kernel8Ideal.nD Cert.Kernel8Ideal.τ Cert.Kernel8Ideal.sig) → Buf (Elt Bits) ℓ)
      (ρ : Dev Cert.Kernel8Ideal.nD → PrngReg) (_ : True) => Cert.Kernel8Ideal.Vec.frame (F := Bits) m ρ)

/-- The same over the extended reals. -/
theorem frame_Kernel8Ideal : Cert.quiescent_Kernel8Ideal := fun m ρ _ => Cert.Kernel8Ideal.Vec.frame m ρ

/-- The reference runs and leaves its arguments. -/
theorem frame_Reference8Ideal : Cert.quiescent_Reference8Ideal := fun m ρ _ =>
  (θ_run Cert.Reference8Ideal.defs _ _).mono
    (fun r h => ⟨fun c => (h c).2.2.2.2.2.2.2.2.2.2.2.2.2.2.2.2.2.2.2.2.2.2.2.2.2.2.2.2.2.2.2.2.2.2.2.2.2.2.2.2.2.2.2.2.2, sem_eq_zero_of_no_sems (by decide) r.2⟩)
    (Cert.Reference8Ideal.Value.run m ρ)

/-- A function of two arrays at equal arrays. -/
theorem at2 {α β γ : Type} (f : α → β → γ) {a a' : α} {b b' : β} (ha : a = a') (hb : b = b') : f a b = f a' b' := by
  rw [ha, hb]

/-- A function of four arrays at equal arrays. -/
theorem at4 {α β γ δ ε : Type} (f : α → β → γ → δ → ε) {a a' : α} {b b' : β} {c c' : γ} {d d' : δ}
    (ha : a = a') (hb : b = b') (hc : c = c') (hd : d = d') : f a b c d = f a' b' c' d' := by rw [ha, hb, hc, hd]

/-- Both programs end with the same eleven gradients, steps and moments, and the same loss. -/
theorem vectors : Cert.algebraic_Kernel8Ideal_Reference8Ideal := by
  intro m g m' g' _ hargs
  refine ⟨fun c => Cert.Reference8Ideal.Read.val_main_v0 (F := Ideal) (m ((c.tc : Thread Cert.Kernel8Ideal.nD Cert.Kernel8Ideal.τ).loc Cert.Kernel8Ideal.main_arg1)),
    fun c => Cert.Reference8Ideal.Read.val_main_v24 (F := Ideal) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg23)) (m ((c.tc : Thread Cert.Kernel8Ideal.nD Cert.Kernel8Ideal.τ).loc Cert.Kernel8Ideal.main_arg34)),
    fun c => Cert.Reference8Ideal.Read.val_main_v5 (F := Ideal) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg23)),
    fun c => Cert.Reference8Ideal.Read.val_main_v11 (F := Ideal) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg34)),
    fun c => Cert.Reference8Ideal.Read.val_main_v25 (F := Ideal) (m ((c.tc : Thread Cert.Kernel8Ideal.nD Cert.Kernel8Ideal.τ).loc Cert.Kernel8Ideal.main_arg2)),
    fun c => Cert.Reference8Ideal.Read.val_main_v49 (F := Ideal) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg13)) (m ((c.tc : Thread Cert.Kernel8Ideal.nD Cert.Kernel8Ideal.τ).loc Cert.Kernel8Ideal.main_arg24)) (m ((c.tc : Thread Cert.Kernel8Ideal.nD Cert.Kernel8Ideal.τ).loc Cert.Kernel8Ideal.main_arg35)),
    fun c => Cert.Reference8Ideal.Read.val_main_v30 (F := Ideal) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg24)),
    fun c => Cert.Reference8Ideal.Read.val_main_v36 (F := Ideal) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg35)),
    fun c => Cert.Reference8Ideal.Read.val_main_v50 (F := Ideal) (m ((c.tc : Thread Cert.Kernel8Ideal.nD Cert.Kernel8Ideal.τ).loc Cert.Kernel8Ideal.main_arg3)),
    fun c => Cert.Reference8Ideal.Read.val_main_v74 (F := Ideal) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg14)) (m ((c.tc : Thread Cert.Kernel8Ideal.nD Cert.Kernel8Ideal.τ).loc Cert.Kernel8Ideal.main_arg25)) (m ((c.tc : Thread Cert.Kernel8Ideal.nD Cert.Kernel8Ideal.τ).loc Cert.Kernel8Ideal.main_arg36)),
    fun c => Cert.Reference8Ideal.Read.val_main_v55 (F := Ideal) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg25)),
    fun c => Cert.Reference8Ideal.Read.val_main_v61 (F := Ideal) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg36)),
    fun c => Cert.Reference8Ideal.Read.val_main_v75 (F := Ideal) (m ((c.tc : Thread Cert.Kernel8Ideal.nD Cert.Kernel8Ideal.τ).loc Cert.Kernel8Ideal.main_arg4)),
    fun c => Cert.Reference8Ideal.Read.val_main_v99 (F := Ideal) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg15)) (m ((c.tc : Thread Cert.Kernel8Ideal.nD Cert.Kernel8Ideal.τ).loc Cert.Kernel8Ideal.main_arg26)) (m ((c.tc : Thread Cert.Kernel8Ideal.nD Cert.Kernel8Ideal.τ).loc Cert.Kernel8Ideal.main_arg37)),
    fun c => Cert.Reference8Ideal.Read.val_main_v80 (F := Ideal) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg26)),
    fun c => Cert.Reference8Ideal.Read.val_main_v86 (F := Ideal) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg37)),
    fun c => Cert.Reference8Ideal.Read.val_main_v100 (F := Ideal) (m ((c.tc : Thread Cert.Kernel8Ideal.nD Cert.Kernel8Ideal.τ).loc Cert.Kernel8Ideal.main_arg5)),
    fun c => Cert.Reference8Ideal.Read.val_main_v124 (F := Ideal) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg16)) (m ((c.tc : Thread Cert.Kernel8Ideal.nD Cert.Kernel8Ideal.τ).loc Cert.Kernel8Ideal.main_arg27)) (m ((c.tc : Thread Cert.Kernel8Ideal.nD Cert.Kernel8Ideal.τ).loc Cert.Kernel8Ideal.main_arg38)),
    fun c => Cert.Reference8Ideal.Read.val_main_v105 (F := Ideal) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg27)),
    fun c => Cert.Reference8Ideal.Read.val_main_v111 (F := Ideal) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg38)),
    fun c => Cert.Reference8Ideal.Read.val_main_v125 (F := Ideal) (m ((c.tc : Thread Cert.Kernel8Ideal.nD Cert.Kernel8Ideal.τ).loc Cert.Kernel8Ideal.main_arg6)),
    fun c => Cert.Reference8Ideal.Read.val_main_v149 (F := Ideal) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg17)) (m ((c.tc : Thread Cert.Kernel8Ideal.nD Cert.Kernel8Ideal.τ).loc Cert.Kernel8Ideal.main_arg28)) (m ((c.tc : Thread Cert.Kernel8Ideal.nD Cert.Kernel8Ideal.τ).loc Cert.Kernel8Ideal.main_arg39)),
    fun c => Cert.Reference8Ideal.Read.val_main_v130 (F := Ideal) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg28)),
    fun c => Cert.Reference8Ideal.Read.val_main_v136 (F := Ideal) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg39)),
    fun c => Cert.Reference8Ideal.Read.val_main_v150 (F := Ideal) (m ((c.tc : Thread Cert.Kernel8Ideal.nD Cert.Kernel8Ideal.τ).loc Cert.Kernel8Ideal.main_arg7)),
    fun c => Cert.Reference8Ideal.Read.val_main_v174 (F := Ideal) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg18)) (m ((c.tc : Thread Cert.Kernel8Ideal.nD Cert.Kernel8Ideal.τ).loc Cert.Kernel8Ideal.main_arg29)) (m ((c.tc : Thread Cert.Kernel8Ideal.nD Cert.Kernel8Ideal.τ).loc Cert.Kernel8Ideal.main_arg40)),
    fun c => Cert.Reference8Ideal.Read.val_main_v155 (F := Ideal) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg29)),
    fun c => Cert.Reference8Ideal.Read.val_main_v161 (F := Ideal) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg40)),
    fun c => Cert.Reference8Ideal.Read.val_main_v176 (F := Ideal) (m ((c.tc : Thread Cert.Kernel8Ideal.nD Cert.Kernel8Ideal.τ).loc Cert.Kernel8Ideal.main_arg8)),
    fun c => Cert.Reference8Ideal.Read.val_main_v200 (F := Ideal) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg19)) (m ((c.tc : Thread Cert.Kernel8Ideal.nD Cert.Kernel8Ideal.τ).loc Cert.Kernel8Ideal.main_arg30)) (m ((c.tc : Thread Cert.Kernel8Ideal.nD Cert.Kernel8Ideal.τ).loc Cert.Kernel8Ideal.main_arg41)),
    fun c => Cert.Reference8Ideal.Read.val_main_v181 (F := Ideal) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg30)),
    fun c => Cert.Reference8Ideal.Read.val_main_v187 (F := Ideal) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg41)),
    fun c => Cert.Reference8Ideal.Read.val_main_v201 (F := Ideal) (m ((c.tc : Thread Cert.Kernel8Ideal.nD Cert.Kernel8Ideal.τ).loc Cert.Kernel8Ideal.main_arg9)),
    fun c => Cert.Reference8Ideal.Read.val_main_v225 (F := Ideal) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg20)) (m ((c.tc : Thread Cert.Kernel8Ideal.nD Cert.Kernel8Ideal.τ).loc Cert.Kernel8Ideal.main_arg31)) (m ((c.tc : Thread Cert.Kernel8Ideal.nD Cert.Kernel8Ideal.τ).loc Cert.Kernel8Ideal.main_arg42)),
    fun c => Cert.Reference8Ideal.Read.val_main_v206 (F := Ideal) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg31)),
    fun c => Cert.Reference8Ideal.Read.val_main_v212 (F := Ideal) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg42)),
    fun c => Cert.Reference8Ideal.Read.val_main_v226 (F := Ideal) (m ((c.tc : Thread Cert.Kernel8Ideal.nD Cert.Kernel8Ideal.τ).loc Cert.Kernel8Ideal.main_arg10)),
    fun c => Cert.Reference8Ideal.Read.val_main_v250 (F := Ideal) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg21)) (m ((c.tc : Thread Cert.Kernel8Ideal.nD Cert.Kernel8Ideal.τ).loc Cert.Kernel8Ideal.main_arg32)) (m ((c.tc : Thread Cert.Kernel8Ideal.nD Cert.Kernel8Ideal.τ).loc Cert.Kernel8Ideal.main_arg43)),
    fun c => Cert.Reference8Ideal.Read.val_main_v231 (F := Ideal) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg32)),
    fun c => Cert.Reference8Ideal.Read.val_main_v237 (F := Ideal) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg43)),
    fun c => Cert.Reference8Ideal.Read.val_main_v251 (F := Ideal) (m ((c.tc : Thread Cert.Kernel8Ideal.nD Cert.Kernel8Ideal.τ).loc Cert.Kernel8Ideal.main_arg11)),
    fun c => Cert.Reference8Ideal.Read.val_main_v275 (F := Ideal) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg22)) (m ((c.tc : Thread Cert.Kernel8Ideal.nD Cert.Kernel8Ideal.τ).loc Cert.Kernel8Ideal.main_arg33)) (m ((c.tc : Thread Cert.Kernel8Ideal.nD Cert.Kernel8Ideal.τ).loc Cert.Kernel8Ideal.main_arg44)),
    fun c => Cert.Reference8Ideal.Read.val_main_v256 (F := Ideal) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg33)),
    fun c => Cert.Reference8Ideal.Read.val_main_v262 (F := Ideal) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg44)),
    fun c => Cert.Reference8Ideal.Read.val_main_v276 (F := Ideal) (m ((c.tc : Thread Cert.Kernel8Ideal.nD Cert.Kernel8Ideal.τ).loc Cert.Kernel8Ideal.main_arg0)),
    (θ_run Cert.Kernel8Ideal.defs _ _).mono (fun r h c => ?_)
      (θ_run_and (Cert.Kernel8Ideal.Vec.run_main m g) (Cert.Kernel8Ideal.Vec.frame m g)),
    (θ_run Cert.Reference8Ideal.defs _ _).mono (fun r h c => ?_) (Cert.Reference8Ideal.Value.run m' g')⟩
  · have k := (h.1 c).1
    exact ⟨(k 34).trans (Cert.Kernel8Ideal.Vec.final34 m c),
      (k 35).trans (Cert.Kernel8Ideal.Vec.final35 m c),
      (k 36).trans (Cert.Kernel8Ideal.Vec.final36 m c),
      (k 37).trans (Cert.Kernel8Ideal.Vec.final37 m c),
      (k 38).trans (Cert.Kernel8Ideal.Vec.final38 m c),
      (k 39).trans (Cert.Kernel8Ideal.Vec.final39 m c),
      (k 40).trans (Cert.Kernel8Ideal.Vec.final40 m c),
      (k 41).trans (Cert.Kernel8Ideal.Vec.final41 m c),
      (k 42).trans (Cert.Kernel8Ideal.Vec.final42 m c),
      (k 43).trans (Cert.Kernel8Ideal.Vec.final43 m c),
      (k 44).trans (Cert.Kernel8Ideal.Vec.final44 m c),
      (k 45).trans (Cert.Kernel8Ideal.Vec.final45 m c),
      (k 46).trans (Cert.Kernel8Ideal.Vec.final46 m c),
      (k 47).trans (Cert.Kernel8Ideal.Vec.final47 m c),
      (k 48).trans (Cert.Kernel8Ideal.Vec.final48 m c),
      (k 49).trans (Cert.Kernel8Ideal.Vec.final49 m c),
      (k 50).trans (Cert.Kernel8Ideal.Vec.final50 m c),
      (k 51).trans (Cert.Kernel8Ideal.Vec.final51 m c),
      (k 52).trans (Cert.Kernel8Ideal.Vec.final52 m c),
      (k 53).trans (Cert.Kernel8Ideal.Vec.final53 m c),
      (k 54).trans (Cert.Kernel8Ideal.Vec.final54 m c),
      (k 55).trans (Cert.Kernel8Ideal.Vec.final55 m c),
      (k 56).trans (Cert.Kernel8Ideal.Vec.final56 m c),
      (k 57).trans (Cert.Kernel8Ideal.Vec.final57 m c),
      (k 58).trans (Cert.Kernel8Ideal.Vec.final58 m c),
      (k 59).trans (Cert.Kernel8Ideal.Vec.final59 m c),
      (k 60).trans (Cert.Kernel8Ideal.Vec.final60 m c),
      (k 61).trans (Cert.Kernel8Ideal.Vec.final61 m c),
      (k 62).trans (Cert.Kernel8Ideal.Vec.final62 m c),
      (k 63).trans (Cert.Kernel8Ideal.Vec.final63 m c),
      (k 64).trans (Cert.Kernel8Ideal.Vec.final64 m c),
      (k 65).trans (Cert.Kernel8Ideal.Vec.final65 m c),
      (k 66).trans (Cert.Kernel8Ideal.Vec.final66 m c),
      (k 67).trans (Cert.Kernel8Ideal.Vec.final67 m c),
      (k 68).trans (Cert.Kernel8Ideal.Vec.final68 m c),
      (k 69).trans (Cert.Kernel8Ideal.Vec.final69 m c),
      (k 70).trans (Cert.Kernel8Ideal.Vec.final70 m c),
      (k 71).trans (Cert.Kernel8Ideal.Vec.final71 m c),
      (k 72).trans (Cert.Kernel8Ideal.Vec.final72 m c),
      (k 73).trans (Cert.Kernel8Ideal.Vec.final73 m c),
      (k 74).trans (Cert.Kernel8Ideal.Vec.final74 m c),
      (k 75).trans (Cert.Kernel8Ideal.Vec.final75 m c),
      (k 76).trans (Cert.Kernel8Ideal.Vec.final76 m c),
      (k 77).trans (Cert.Kernel8Ideal.Vec.final77 m c),
      (k 78).trans (Cert.Kernel8Ideal.Vec.final78 m c), h.2.1 c⟩
  · obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44⟩ := hargs c
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, hk⟩ := h c
    exact ⟨h0.trans ((Cert.Reference8Ideal.Read.val_main_v0_eq (F := Ideal) (launchContents m' c)).trans (congrArg (Cert.Reference8Ideal.Read.val_main_v0 (F := Ideal)) a1)),
      h1.trans ((Cert.Reference8Ideal.Read.val_main_v24_eq (F := Ideal) (launchContents m' c)).trans (at4 (Cert.Reference8Ideal.Read.val_main_v24 (F := Ideal)) a1 a12 a23 a34)),
      h2.trans ((Cert.Reference8Ideal.Read.val_main_v5_eq (F := Ideal) (launchContents m' c)).trans (at2 (Cert.Reference8Ideal.Read.val_main_v5 (F := Ideal)) a1 a23)),
      h3.trans ((Cert.Reference8Ideal.Read.val_main_v11_eq (F := Ideal) (launchContents m' c)).trans (at2 (Cert.Reference8Ideal.Read.val_main_v11 (F := Ideal)) a1 a34)),
      h4.trans ((Cert.Reference8Ideal.Read.val_main_v25_eq (F := Ideal) (launchContents m' c)).trans (congrArg (Cert.Reference8Ideal.Read.val_main_v25 (F := Ideal)) a2)),
      h5.trans ((Cert.Reference8Ideal.Read.val_main_v49_eq (F := Ideal) (launchContents m' c)).trans (at4 (Cert.Reference8Ideal.Read.val_main_v49 (F := Ideal)) a2 a13 a24 a35)),
      h6.trans ((Cert.Reference8Ideal.Read.val_main_v30_eq (F := Ideal) (launchContents m' c)).trans (at2 (Cert.Reference8Ideal.Read.val_main_v30 (F := Ideal)) a2 a24)),
      h7.trans ((Cert.Reference8Ideal.Read.val_main_v36_eq (F := Ideal) (launchContents m' c)).trans (at2 (Cert.Reference8Ideal.Read.val_main_v36 (F := Ideal)) a2 a35)),
      h8.trans ((Cert.Reference8Ideal.Read.val_main_v50_eq (F := Ideal) (launchContents m' c)).trans (congrArg (Cert.Reference8Ideal.Read.val_main_v50 (F := Ideal)) a3)),
      h9.trans ((Cert.Reference8Ideal.Read.val_main_v74_eq (F := Ideal) (launchContents m' c)).trans (at4 (Cert.Reference8Ideal.Read.val_main_v74 (F := Ideal)) a3 a14 a25 a36)),
      h10.trans ((Cert.Reference8Ideal.Read.val_main_v55_eq (F := Ideal) (launchContents m' c)).trans (at2 (Cert.Reference8Ideal.Read.val_main_v55 (F := Ideal)) a3 a25)),
      h11.trans ((Cert.Reference8Ideal.Read.val_main_v61_eq (F := Ideal) (launchContents m' c)).trans (at2 (Cert.Reference8Ideal.Read.val_main_v61 (F := Ideal)) a3 a36)),
      h12.trans ((Cert.Reference8Ideal.Read.val_main_v75_eq (F := Ideal) (launchContents m' c)).trans (congrArg (Cert.Reference8Ideal.Read.val_main_v75 (F := Ideal)) a4)),
      h13.trans ((Cert.Reference8Ideal.Read.val_main_v99_eq (F := Ideal) (launchContents m' c)).trans (at4 (Cert.Reference8Ideal.Read.val_main_v99 (F := Ideal)) a4 a15 a26 a37)),
      h14.trans ((Cert.Reference8Ideal.Read.val_main_v80_eq (F := Ideal) (launchContents m' c)).trans (at2 (Cert.Reference8Ideal.Read.val_main_v80 (F := Ideal)) a4 a26)),
      h15.trans ((Cert.Reference8Ideal.Read.val_main_v86_eq (F := Ideal) (launchContents m' c)).trans (at2 (Cert.Reference8Ideal.Read.val_main_v86 (F := Ideal)) a4 a37)),
      h16.trans ((Cert.Reference8Ideal.Read.val_main_v100_eq (F := Ideal) (launchContents m' c)).trans (congrArg (Cert.Reference8Ideal.Read.val_main_v100 (F := Ideal)) a5)),
      h17.trans ((Cert.Reference8Ideal.Read.val_main_v124_eq (F := Ideal) (launchContents m' c)).trans (at4 (Cert.Reference8Ideal.Read.val_main_v124 (F := Ideal)) a5 a16 a27 a38)),
      h18.trans ((Cert.Reference8Ideal.Read.val_main_v105_eq (F := Ideal) (launchContents m' c)).trans (at2 (Cert.Reference8Ideal.Read.val_main_v105 (F := Ideal)) a5 a27)),
      h19.trans ((Cert.Reference8Ideal.Read.val_main_v111_eq (F := Ideal) (launchContents m' c)).trans (at2 (Cert.Reference8Ideal.Read.val_main_v111 (F := Ideal)) a5 a38)),
      h20.trans ((Cert.Reference8Ideal.Read.val_main_v125_eq (F := Ideal) (launchContents m' c)).trans (congrArg (Cert.Reference8Ideal.Read.val_main_v125 (F := Ideal)) a6)),
      h21.trans ((Cert.Reference8Ideal.Read.val_main_v149_eq (F := Ideal) (launchContents m' c)).trans (at4 (Cert.Reference8Ideal.Read.val_main_v149 (F := Ideal)) a6 a17 a28 a39)),
      h22.trans ((Cert.Reference8Ideal.Read.val_main_v130_eq (F := Ideal) (launchContents m' c)).trans (at2 (Cert.Reference8Ideal.Read.val_main_v130 (F := Ideal)) a6 a28)),
      h23.trans ((Cert.Reference8Ideal.Read.val_main_v136_eq (F := Ideal) (launchContents m' c)).trans (at2 (Cert.Reference8Ideal.Read.val_main_v136 (F := Ideal)) a6 a39)),
      h24.trans ((Cert.Reference8Ideal.Read.val_main_v150_eq (F := Ideal) (launchContents m' c)).trans (congrArg (Cert.Reference8Ideal.Read.val_main_v150 (F := Ideal)) a7)),
      h25.trans ((Cert.Reference8Ideal.Read.val_main_v174_eq (F := Ideal) (launchContents m' c)).trans (at4 (Cert.Reference8Ideal.Read.val_main_v174 (F := Ideal)) a7 a18 a29 a40)),
      h26.trans ((Cert.Reference8Ideal.Read.val_main_v155_eq (F := Ideal) (launchContents m' c)).trans (at2 (Cert.Reference8Ideal.Read.val_main_v155 (F := Ideal)) a7 a29)),
      h27.trans ((Cert.Reference8Ideal.Read.val_main_v161_eq (F := Ideal) (launchContents m' c)).trans (at2 (Cert.Reference8Ideal.Read.val_main_v161 (F := Ideal)) a7 a40)),
      h28.trans ((Cert.Reference8Ideal.Read.val_main_v176_eq (F := Ideal) (launchContents m' c)).trans (congrArg (Cert.Reference8Ideal.Read.val_main_v176 (F := Ideal)) a8)),
      h29.trans ((Cert.Reference8Ideal.Read.val_main_v200_eq (F := Ideal) (launchContents m' c)).trans (at4 (Cert.Reference8Ideal.Read.val_main_v200 (F := Ideal)) a8 a19 a30 a41)),
      h30.trans ((Cert.Reference8Ideal.Read.val_main_v181_eq (F := Ideal) (launchContents m' c)).trans (at2 (Cert.Reference8Ideal.Read.val_main_v181 (F := Ideal)) a8 a30)),
      h31.trans ((Cert.Reference8Ideal.Read.val_main_v187_eq (F := Ideal) (launchContents m' c)).trans (at2 (Cert.Reference8Ideal.Read.val_main_v187 (F := Ideal)) a8 a41)),
      h32.trans ((Cert.Reference8Ideal.Read.val_main_v201_eq (F := Ideal) (launchContents m' c)).trans (congrArg (Cert.Reference8Ideal.Read.val_main_v201 (F := Ideal)) a9)),
      h33.trans ((Cert.Reference8Ideal.Read.val_main_v225_eq (F := Ideal) (launchContents m' c)).trans (at4 (Cert.Reference8Ideal.Read.val_main_v225 (F := Ideal)) a9 a20 a31 a42)),
      h34.trans ((Cert.Reference8Ideal.Read.val_main_v206_eq (F := Ideal) (launchContents m' c)).trans (at2 (Cert.Reference8Ideal.Read.val_main_v206 (F := Ideal)) a9 a31)),
      h35.trans ((Cert.Reference8Ideal.Read.val_main_v212_eq (F := Ideal) (launchContents m' c)).trans (at2 (Cert.Reference8Ideal.Read.val_main_v212 (F := Ideal)) a9 a42)),
      h36.trans ((Cert.Reference8Ideal.Read.val_main_v226_eq (F := Ideal) (launchContents m' c)).trans (congrArg (Cert.Reference8Ideal.Read.val_main_v226 (F := Ideal)) a10)),
      h37.trans ((Cert.Reference8Ideal.Read.val_main_v250_eq (F := Ideal) (launchContents m' c)).trans (at4 (Cert.Reference8Ideal.Read.val_main_v250 (F := Ideal)) a10 a21 a32 a43)),
      h38.trans ((Cert.Reference8Ideal.Read.val_main_v231_eq (F := Ideal) (launchContents m' c)).trans (at2 (Cert.Reference8Ideal.Read.val_main_v231 (F := Ideal)) a10 a32)),
      h39.trans ((Cert.Reference8Ideal.Read.val_main_v237_eq (F := Ideal) (launchContents m' c)).trans (at2 (Cert.Reference8Ideal.Read.val_main_v237 (F := Ideal)) a10 a43)),
      h40.trans ((Cert.Reference8Ideal.Read.val_main_v251_eq (F := Ideal) (launchContents m' c)).trans (congrArg (Cert.Reference8Ideal.Read.val_main_v251 (F := Ideal)) a11)),
      h41.trans ((Cert.Reference8Ideal.Read.val_main_v275_eq (F := Ideal) (launchContents m' c)).trans (at4 (Cert.Reference8Ideal.Read.val_main_v275 (F := Ideal)) a11 a22 a33 a44)),
      h42.trans ((Cert.Reference8Ideal.Read.val_main_v256_eq (F := Ideal) (launchContents m' c)).trans (at2 (Cert.Reference8Ideal.Read.val_main_v256 (F := Ideal)) a11 a33)),
      h43.trans ((Cert.Reference8Ideal.Read.val_main_v262_eq (F := Ideal) (launchContents m' c)).trans (at2 (Cert.Reference8Ideal.Read.val_main_v262 (F := Ideal)) a11 a44)),
      h44.trans ((Cert.Reference8Ideal.Read.val_main_v276_eq (F := Ideal) (launchContents m' c)).trans (congrArg (Cert.Reference8Ideal.Read.val_main_v276 (F := Ideal)) a0)), hk⟩

end Cert.Vec

end
-- ==== Proof.InProj.Pay.lean ====
module

public import proofs.«01_k».proof.Proof.Gen.KernelIdeal.Skeleton
public import proofs.«01_k».proof.Proof.InProj.Math

@[expose] public section

set_option maxRecDepth 16384

/-!
What the values that one grid point of the kernel stores are, at an index: the block's tokens are the rows `r < 256`.
-/

noncomputable section

namespace Cert.InProj

open Idealize.ShloMosaic Idealize.ShloMosaic.TcCoe Idealize.SL.Sem
open Cert.KernelIdeal Cert.KernelIdeal.Gen

variable (x : FVec Ideal S1x256x1024 .f32) (g : FVec Ideal S1x1024 .f32)
  (dq : FVec Ideal S256x1024 .f32) (dg : FVec Ideal S256x512 .f32) (dr : FVec Ideal S256x2176 .f32)
  (dh : FVec Ideal S256x1024 .f32) (w : FVec Ideal S3712x1024 .bf16)
  (w1 : FVec Ideal S1024x1024 .bf16) (w2 : FVec Ideal S512x1024 .bf16) (w3 : FVec Ideal S2176x1024 .bf16)

/-- Token `r` of the block. -/
def bx (r : Fin 256) (k : Fin 1024) : EReal := x (ix3 0 r k)
def bg (k : Fin 1024) : EReal := g (ix2 0 k)
/-- Its row of 3712 gradients. -/
def bd (r : Fin 256) : Fin 3712 → EReal := row3 (fun k => dq (ix2 r k)) (fun k => dg (ix2 r k)) (fun k => dr (ix2 r k))
/-- What the projection hands back to its normed row. -/
def bdu (r : Fin 256) (j : Fin 1024) : EReal := ∑ k, bd dq dg dr r k * w (ix2 k j)

/-- The weight's row blocks are `w1`, `w2`, `w3`. -/
structure Rows : Prop where
  r1 : ∀ (k : Fin 1024) (j : Fin 1024), w1 (ix2 k j) = w (ix2 ⟨k.val, by have := k.isLt; omega⟩ j)
  r2 : ∀ (k : Fin 512) (j : Fin 1024), w2 (ix2 k j) = w (ix2 ⟨1024 + k.val, by have := k.isLt; omega⟩ j)
  r3 : ∀ (k : Fin 2176) (j : Fin 1024), w3 (ix2 k j) = w (ix2 ⟨1536 + k.val, by have := k.isLt; omega⟩ j)

theorem pay14_at (r : Fin 256) (k : Fin 1024) : k0_pay14 (F := Ideal) x (ix2 r k) = bx x r k := by
  pointwise [k0_pay14]
  rfl

theorem pay15_at (r : Fin 256) (u : Fin 1) : k0_pay15 (F := Ideal) x (ix2 r u) = rowVar (bx x r) := by
  pointwise [k0_pay15, pay14_at]
  rfl

theorem pay16_at (r : Fin 256) (u : Fin 1) : k0_pay16 (F := Ideal) x (ix2 r u) = rowInv (bx x r) := by
  pointwise [k0_pay16, pay15_at]
  rfl

theorem pay17_at (r : Fin 256) (u : Fin 1) : k0_pay17 (F := Ideal) x (ix2 r u)
    = Ideal.ofBits .f32 0xBF000000#32 * Ideal.div (rowInv (bx x r)) (rowVar (bx x r)) := by
  pointwise [k0_pay17, pay15_at, pay16_at]

theorem pay18_at (r : Fin 256) (j : Fin 1024) : k0_pay18 (F := Ideal) x (ix2 r j) = bx x r j * rowInv (bx x r) := by
  pointwise [k0_pay18, pay14_at, pay16_at]

theorem pay19_at (r : Fin 256) (j : Fin 1024) : k0_pay19 (F := Ideal) x g (ix2 r j) = rowU (bx x r) (bg g) j := by
  pointwise [k0_pay19, pay18_at]
  rfl

/-- The accumulated weight gradient's rows: each part's product is added. -/
theorem pay22_at (acc : FVec Ideal S1024x1024 .f32) (n : Fin 1024) (j : Fin 1024) :
    k0_pay22 (F := Ideal) x g dq acc (ix2 n j) = acc (ix2 n j) + ∑ r, dq (ix2 r n) * rowU (bx x r) (bg g) j := by
  pointwise [k0_pay22, k0_pay20, pay19_at]

theorem pay24_at (acc : FVec Ideal S512x1024 .f32) (n : Fin 512) (j : Fin 1024) :
    k0_pay24 (F := Ideal) (k0_pay19 x g) dg acc (ix2 n j) = acc (ix2 n j) + ∑ r, dg (ix2 r n) * rowU (bx x r) (bg g) j := by
  pointwise [k0_pay24, k0_pay23, pay19_at]

theorem pay27_at (acc : FVec Ideal S2176x1024 .f32) (n : Fin 2176) (j : Fin 1024) :
    k0_pay27 (F := Ideal) (k0_pay19 x g) dr acc (ix2 n j) = acc (ix2 n j) + ∑ r, dr (ix2 r n) * rowU (bx x r) (bg g) j := by
  pointwise [k0_pay27, k0_pay25, pay19_at]

variable {w w1 w2 w3}

theorem pay26_at (h : Rows w w1 w2 w3) (r : Fin 256) (j : Fin 1024) :
    k0_pay26 (F := Ideal) (k0_pay21 dq w1) dg w2 dr w3 (ix2 r j) = bdu dq dg dr w r j := by
  pointwise [k0_pay26, k0_pay25, k0_pay23, k0_pay21, k0_pay20, h.r1, h.r2, h.r3]
  unfold bdu bd
  exact (sum_row3 _ _ _ fun k => w (ix2 k j)).symm

/-- The gain's gradient over the block. -/
theorem pay28_at (h : Rows w w1 w2 w3) (u : Fin 1) (j : Fin 1024) :
    k0_pay28 (F := Ideal) (k0_pay18 x) (k0_pay21 dq w1) dg w2 dr w3 (ix2 u j)
      = ∑ r, bx x r j * rowInv (bx x r) * bdu dq dg dr w r j := by
  pointwise [k0_pay28, pay18_at, pay26_at _ _ _ h]

theorem pay29_at (h : Rows w w1 w2 w3) (r : Fin 256) (j : Fin 1024) :
    k0_pay29 (F := Ideal) g (k0_pay21 dq w1) dg w2 dr w3 (ix2 r j) = bdu dq dg dr w r j * bg g j := by
  pointwise [k0_pay29, pay26_at _ _ _ h]
  rfl

theorem pay30_at (h : Rows w w1 w2 w3) (r : Fin 256) (j : Fin 1024) :
    k0_pay30 (F := Ideal) g (k0_pay16 x) (k0_pay21 dq w1) dg w2 dr w3 (ix2 r j)
      = bdu dq dg dr w r j * bg g j * rowInv (bx x r) := by
  pointwise [k0_pay30, pay29_at _ _ _ _ h, pay16_at]

theorem pay31_at (h : Rows w w1 w2 w3) (r : Fin 256) (u : Fin 1) :
    k0_pay31 (F := Ideal) (k0_pay14 x) g (k0_pay17 x) (k0_pay21 dq w1) dg w2 dr w3 (ix2 r u)
      = rowBack (bx x r) (bg g) (bdu dq dg dr w r) := by
  pointwise [k0_pay31, pay29_at _ _ _ _ h, pay14_at, pay17_at]
  rfl

/-- The gradient of the block's tokens. -/
theorem pay1_at (h : Rows w w1 w2 w3) (u : Fin 1) (r : Fin 256) (j : Fin 1024) :
    k0_pay1 (F := Ideal) (k0_pay14 x) (k0_pay30 g (k0_pay16 x) (k0_pay21 dq w1) dg w2 dr w3)
        (k0_pay31 (k0_pay14 x) g (k0_pay17 x) (k0_pay21 dq w1) dg w2 dr w3) dh (ix3 u r j)
      = rowDx (bx x r) (bg g) (bdu dq dg dr w r) (dh (ix2 r j)) j := by
  pointwise [k0_pay1, pay30_at _ _ _ _ _ h, pay31_at _ _ _ _ _ h, pay14_at]
  simp only [Fin.sum_univ_one]
  rfl

theorem pay2_at (p old : FVec Ideal S1x1024 .f32) (u : Fin 1) (j : Fin 1024) :
    k0_pay2 (F := Ideal) p old (ix2 u j) = old (ix2 u j) + p (ix2 u j) := by
  pointwise [k0_pay2]

end Cert.InProj
-- ==== Proof.InProj.Pieces.lean ====
module

public import proofs.«01_k».proof.Proof.Gen.KernelIdeal.Frame
public import proofs.«01_k».proof.Proof.InProj.Pay
public import Idealize.ShloMosaic.Lib.Pipeline.Value
public import Idealize.ShloMosaic.Lib.Pipeline.CanonAppend

@[expose] public section

set_option maxRecDepth 16384

/-!
What one grid point leaves in the kernel's buffers, as functions of the block of tokens it reads and of what the
point before left: the tokens' gradient, the gain's gradient so far, the weight's gradient so far (in scratch), and,
at the last point, the two halves of the weight's gradient.
-/

noncomputable section

namespace Cert.InProj

open Idealize.ShloMosaic Idealize.ShloMosaic.TcCoe Idealize.SL.Sem
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

section Pure

variable (x : FVec Ideal S1x256x1024 .f32) (g : FVec Ideal S1x1024 .f32)
  (dq : FVec Ideal S256x1024 .f32) (dg : FVec Ideal S256x512 .f32) (dr : FVec Ideal S256x2176 .f32)
  (dh : FVec Ideal S256x1024 .f32) (w acc : FVec Ideal S3712x1024 .f32)

/-- The gradient of the block's tokens. -/
def dxOf (w : FVec Ideal S3712x1024 .bf16) : FVec Ideal S1x256x1024 .f32 := fun y =>
  rowDx (bx x (y 1)) (bg g) (bdu dq dg dr w (y 1)) (dh (ix2 (y 1) (y 2))) (y 2)

/-- The block's part of the gain's gradient, added to `old`. -/
def dgOf (w : FVec Ideal S3712x1024 .bf16) (old : FVec Ideal S1x1024 .f32) : FVec Ideal S1x1024 .f32 := fun y =>
  old y + ∑ r, bx x r (y 1) * rowInv (bx x r) * bdu dq dg dr w r (y 1)

/-- The block's part of the weight's gradient, added to `acc`. -/
def dwOf : FVec Ideal S3712x1024 .f32 := fun y =>
  acc y + ∑ r, bd dq dg dr r (y 0) * rowU (bx x r) (bg g) (y 1)

/-- The rows of one core: `p = 0` the even eighths of the rows, `p = 1` the odd ones. -/
def halfOf (p : Fin 2) : FVec Ideal S4x464x1024 .bf16 := fun y =>
  acc (ix2 ⟨(y 0).val * 928 + 464 * p.val + (y 1).val, by
    have h0 : (y 0).val < 4 := (y 0).isLt; have h1 : (y 1).val < 464 := (y 1).isLt; have h2 := p.isLt; omega⟩ (y 2))

theorem rect1_idx (inb) (n : Fin 1024) (j : Fin 1024) :
    (Rect.unit (s := S3712x1024) ![0, 0] S1024x1024.size inb).idx (ix2 n j) = ix2 ⟨n.val, by have := n.isLt; omega⟩ j := by
  funext a; fin_cases a <;> apply Fin.ext
  · show 0 + 1 * n.val = n.val; omega
  · show 0 + 1 * j.val = j.val; omega

theorem rect2_idx (inb) (n : Fin 512) (j : Fin 1024) :
    (Rect.unit (s := S3712x1024) ![1024, 0] S512x1024.size inb).idx (ix2 n j)
      = ix2 ⟨1024 + n.val, by have := n.isLt; omega⟩ j := by
  funext a; fin_cases a <;> apply Fin.ext
  · show 1024 + 1 * n.val = 1024 + n.val; omega
  · show 0 + 1 * j.val = j.val; omega

theorem rect3_idx (inb) (n : Fin 2176) (j : Fin 1024) :
    (Rect.unit (s := S3712x1024) ![1536, 0] S2176x1024.size inb).idx (ix2 n j)
      = ix2 ⟨1536 + n.val, by have := n.isLt; omega⟩ j := by
  funext a; fin_cases a <;> apply Fin.ext
  · show 1536 + 1 * n.val = 1536 + n.val; omega
  · show 0 + 1 * j.val = j.val; omega

theorem bd_1 (r : Fin 256) (n : Fin 1024) : bd dq dg dr r ⟨n.val, by have := n.isLt; omega⟩ = dq (ix2 r n) :=
  dif_pos n.isLt

theorem bd_2 (r : Fin 256) (n : Fin 512) : bd dq dg dr r ⟨1024 + n.val, by have := n.isLt; omega⟩ = dg (ix2 r n) := by
  refine (dif_neg (by show ¬ 1024 + n.val < 1024; omega)).trans
      ((dif_pos (by show 1024 + n.val < 1536; have := n.isLt; omega)).trans ?_)
  exact congrArg (fun k => dg (ix2 r k)) (Fin.ext (by show 1024 + n.val - 1024 = n.val; omega))

theorem bd_3 (r : Fin 256) (n : Fin 2176) : bd dq dg dr r ⟨1536 + n.val, by have := n.isLt; omega⟩ = dr (ix2 r n) := by
  refine (dif_neg (by show ¬ 1536 + n.val < 1024; omega)).trans
      ((dif_neg (by show ¬ 1536 + n.val < 1536; omega)).trans ?_)
  exact congrArg (fun k => dr (ix2 r k)) (Fin.ext (by show 1536 + n.val - 1536 = n.val; omega))

/-- The weight's three row blocks, loaded, are its rows. -/
theorem rows_ld (w : FVec Ideal S3712x1024 .bf16) (i1 i2 i3) : Rows w
    (View.ld (Val := Elt Ideal) (e' := .bf16) w (Rect.unit (s := S3712x1024) ![0, 0] S1024x1024.size i1))
    (View.ld (Val := Elt Ideal) (e' := .bf16) w (Rect.unit (s := S3712x1024) ![1024, 0] S512x1024.size i2))
    (View.ld (Val := Elt Ideal) (e' := .bf16) w (Rect.unit (s := S3712x1024) ![1536, 0] S2176x1024.size i3)) where
  r1 k j := congrArg w (rect1_idx i1 k j)
  r2 k j := congrArg w (rect2_idx i2 k j)
  r3 k j := congrArg w (rect3_idx i3 k j)

variable {acc}

/-- A row between `o` and `o + n` lies in the rectangle of those rows. -/
theorem mem_rows {o n : Nat} (inb) (y : S3712x1024.Idx) (h : o ≤ (y 0).val) (h' : (y 0).val < o + n) :
    y ∈ (Rect.unit (s := S3712x1024) ![o, 0] (⟨2, ![n, 1024]⟩ : Shape).size inb).set :=
  Rect.mem_set_unit.2 fun a => match a with
    | ⟨0, _⟩ => ⟨h, h'⟩
    | ⟨1, _⟩ => ⟨Nat.zero_le _, by have h1 : (y 1).val < 1024 := (y 1).isLt; show (y 1).val < 0 + 1024; omega⟩

/-- Row block 3 of the scratch, stored, holds `dwOf`'s rows. -/
theorem piece3 (a3 : FVec Ideal S2176x1024 .f32) (h3 : ∀ n j, a3 (ix2 n j) = acc (ix2 ⟨1536 + n.val, by have := n.isLt; omega⟩ j))
    (inb) (z : S2176x1024.Idx) : k0_pay27 (F := Ideal) (k0_pay19 x g) dr a3 z
      = dwOf x g dq dg dr acc ((Rect.unit (s := S3712x1024) ![1536, 0] S2176x1024.size inb).idx z) := by
  obtain ⟨n, j, rfl⟩ : ∃ (n : Fin 2176) (j : Fin 1024), z = ix2 n j := ⟨z 0, z 1, eq_ix2 z⟩
  refine Eq.trans ?_ (congrArg (dwOf x g dq dg dr acc) (rect3_idx inb n j).symm)
  rw [pay27_at, h3]
  exact congrArg (_ + ·) (Finset.sum_congr rfl fun r _ => congrArg (· * _) (bd_3 dq dg dr r n).symm)

/-- Row block 2 of the scratch, stored, holds `dwOf`'s rows. -/
theorem piece2 (a2 : FVec Ideal S512x1024 .f32) (h2 : ∀ n j, a2 (ix2 n j) = acc (ix2 ⟨1024 + n.val, by have := n.isLt; omega⟩ j))
    (inb) (z : S512x1024.Idx) : k0_pay24 (F := Ideal) (k0_pay19 x g) dg a2 z
      = dwOf x g dq dg dr acc ((Rect.unit (s := S3712x1024) ![1024, 0] S512x1024.size inb).idx z) := by
  obtain ⟨n, j, rfl⟩ : ∃ (n : Fin 512) (j : Fin 1024), z = ix2 n j := ⟨z 0, z 1, eq_ix2 z⟩
  refine Eq.trans ?_ (congrArg (dwOf x g dq dg dr acc) (rect2_idx inb n j).symm)
  rw [pay24_at, h2]
  exact congrArg (_ + ·) (Finset.sum_congr rfl fun r _ => congrArg (· * _) (bd_2 dq dg dr r n).symm)

/-- Row block 1 of the scratch, stored, holds `dwOf`'s rows. -/
theorem piece1 (a1 : FVec Ideal S1024x1024 .f32) (h1 : ∀ n j, a1 (ix2 n j) = acc (ix2 ⟨n.val, by have := n.isLt; omega⟩ j))
    (inb) (z : S1024x1024.Idx) : k0_pay22 (F := Ideal) x g dq a1 z
      = dwOf x g dq dg dr acc ((Rect.unit (s := S3712x1024) ![0, 0] S1024x1024.size inb).idx z) := by
  obtain ⟨n, j, rfl⟩ : ∃ (n : Fin 1024) (j : Fin 1024), z = ix2 n j := ⟨z 0, z 1, eq_ix2 z⟩
  refine Eq.trans ?_ (congrArg (dwOf x g dq dg dr acc) (rect1_idx inb n j).symm)
  rw [pay22_at, h1]
  exact congrArg (_ + ·) (Finset.sum_congr rfl fun r _ => congrArg (· * _) (bd_1 dq dg dr r n).symm)

/-- The three row blocks that a point stores into the scratch, over whatever it held, leave `dwOf`. -/
theorem canon_dw (a1 : FVec Ideal S1024x1024 .f32) (a2 : FVec Ideal S512x1024 .f32) (a3 : FVec Ideal S2176x1024 .f32)
    (h1 : ∀ n j, a1 (ix2 n j) = acc (ix2 ⟨n.val, by have := n.isLt; omega⟩ j))
    (h2 : ∀ n j, a2 (ix2 n j) = acc (ix2 ⟨1024 + n.val, by have := n.isLt; omega⟩ j))
    (h3 : ∀ n j, a3 (ix2 n j) = acc (ix2 ⟨1536 + n.val, by have := n.isLt; omega⟩ j))
    (i1 i2 i3) (L : List (View.Piece (Elt Ideal) S3712x1024 .f32)) :
    View.canon (Val := Elt Ideal) (s := S3712x1024) (e := .f32)
      (⟨Rect.unit (s := S3712x1024) ![1536, 0] S2176x1024.size i3, k0_pay27 (F := Ideal) (k0_pay19 x g) dr a3⟩
        :: ⟨Rect.unit (s := S3712x1024) ![1024, 0] S512x1024.size i2, k0_pay24 (F := Ideal) (k0_pay19 x g) dg a2⟩
        :: ⟨Rect.unit (s := S3712x1024) ![0, 0] S1024x1024.size i1, k0_pay22 (F := Ideal) x g dq a1⟩ :: L)
      = dwOf x g dq dg dr acc := by
  funext y
  refine View.canon_append_of_pieces (dwOf x g dq dg dr acc) L
    [⟨Rect.unit (s := S3712x1024) ![1536, 0] S2176x1024.size i3, k0_pay27 (F := Ideal) (k0_pay19 x g) dr a3⟩,
      ⟨Rect.unit (s := S3712x1024) ![1024, 0] S512x1024.size i2, k0_pay24 (F := Ideal) (k0_pay19 x g) dg a2⟩,
      ⟨Rect.unit (s := S3712x1024) ![0, 0] S1024x1024.size i1, k0_pay22 (F := Ideal) x g dq a1⟩] ?_ y ?_
  · intro p hp z
    simp only [List.mem_cons, List.not_mem_nil, or_false] at hp
    rcases hp with rfl | rfl | rfl
    · exact piece3 x g dq dg dr a3 h3 i3 z
    · exact piece2 x g dq dg dr a2 h2 i2 z
    · exact piece1 x g dq dg dr a1 h1 i1 z
  · have h0 : (y 0).val < 3712 := (y 0).isLt
    by_cases c1 : (y 0).val < 1024
    · exact ⟨_, List.mem_cons_of_mem _ (List.mem_cons_of_mem _ List.mem_cons_self),
        mem_rows (n := 1024) i1 y (Nat.zero_le _) (by omega)⟩
    · by_cases c2 : (y 0).val < 1536
      · exact ⟨_, List.mem_cons_of_mem _ List.mem_cons_self, mem_rows (n := 512) i2 y (by omega) (by omega)⟩
      · exact ⟨_, List.mem_cons_self, mem_rows (n := 2176) i3 y (by omega) (by omega)⟩

/-- An index below a stored row block reads what the earlier stores left. -/
theorem canon_below {o n : Nat} (inb) (v : FVec Ideal ⟨2, ![n, 1024]⟩ .f32) (L : List (View.Piece (Elt Ideal) S3712x1024 .f32))
    (y : S3712x1024.Idx) (h : o + n ≤ (y 0).val) :
    View.canon (Val := Elt Ideal) (s := S3712x1024) (e := .f32)
      (⟨Rect.unit (s := S3712x1024) ![o, 0] (⟨2, ![n, 1024]⟩ : Shape).size inb, v⟩ :: L) y = View.canon L y :=
  View.canon_cons_of_not_mem _ _ fun hm => by
    have h' : (y 0).val < o + n := ((Rect.mem_set_unit (inb := inb)).1 hm 0).2
    omega

theorem canon_zero (inb) (y : S3712x1024.Idx) :
    View.canon (Val := Elt Ideal) (s := S3712x1024) (e := .f32)
      [⟨Rect.unit (s := S3712x1024) ![0, 0] S3712x1024.size inb, k0_pay13 (F := Ideal)⟩] y = 0 := by
  rw [View.canon_unit_zero (S := S3712x1024) hz2]
  pointwise [k0_pay13]

/-- At the first point, the three row blocks stored over a scratch that was first filled with zeros. -/
theorem canon_dw_first {sp : Space} (v : View Cert.KernelIdeal.sig .tc sp S3712x1024 .f32) (i0 i1 i2 i3) :
    let Z : List (View.Piece (Elt Ideal) S3712x1024 .f32) :=
      [⟨Rect.unit (s := S3712x1024) ![0, 0] S3712x1024.size i0, k0_pay13 (F := Ideal)⟩]
    let P1 : List (View.Piece (Elt Ideal) S3712x1024 .f32) :=
      ⟨Rect.unit (s := S3712x1024) ![0, 0] S1024x1024.size i1, k0_pay22 (F := Ideal) x g dq
        (v.readCov Z (Rect.unit (s := S3712x1024) ![0, 0] S1024x1024.size i1).toLoadRect)⟩ :: Z
    let P2 : List (View.Piece (Elt Ideal) S3712x1024 .f32) :=
      ⟨Rect.unit (s := S3712x1024) ![1024, 0] S512x1024.size i2, k0_pay24 (F := Ideal) (k0_pay19 x g) dg
        (v.readCov P1 (Rect.unit (s := S3712x1024) ![1024, 0] S512x1024.size i2).toLoadRect)⟩ :: P1
    View.canon (Val := Elt Ideal) (s := S3712x1024) (e := .f32)
      (⟨Rect.unit (s := S3712x1024) ![1536, 0] S2176x1024.size i3, k0_pay27 (F := Ideal) (k0_pay19 x g) dr
        (v.readCov P2 (Rect.unit (s := S3712x1024) ![1536, 0] S2176x1024.size i3).toLoadRect)⟩ :: P2)
      = dwOf x g dq dg dr (fun _ => 0) := by
  intro Z P1 P2
  refine canon_dw x g dq dg dr (acc := fun _ => 0) _ _ _ ?_ ?_ ?_ i1 i2 i3 Z
  · intro n j
    rw [View.readCov_eq_canon']
    exact canon_zero i0 _
  · intro n j
    rw [View.readCov_eq_canon']
    exact (canon_below (o := 0) (n := 1024) i1 _ Z _ (by show 0 + 1024 ≤ 1024 + 1 * n.val; omega)).trans (canon_zero i0 _)
  · intro n j
    rw [View.readCov_eq_canon']
    exact (canon_below (o := 1024) (n := 512) i2 _ P1 _ (by show 1024 + 512 ≤ 1536 + 1 * n.val; omega)).trans
      ((canon_below (o := 0) (n := 1024) i1 _ Z _ (by show 0 + 1024 ≤ 1536 + 1 * n.val; omega)).trans (canon_zero i0 _))

variable {w w1 w2 w3}

/-- The gain's gradient, stored. -/
theorem pay2_dg {w : FVec Ideal S3712x1024 .bf16} {w1 w2 w3} (h : Rows w w1 w2 w3) (old : FVec Ideal S1x1024 .f32) :
    k0_pay2 (F := Ideal) (k0_pay28 (k0_pay18 x) (k0_pay21 dq w1) dg w2 dr w3) old = dgOf x dq dg dr w old := by
  funext y
  obtain ⟨u, j, rfl⟩ : ∃ (u : Fin 1) (j : Fin 1024), y = ix2 u j := ⟨y 0, y 1, eq_ix2 y⟩
  rw [pay2_at, pay28_at _ _ _ _ h]
  rfl

theorem pay12_eq : k0_pay12 (F := Ideal) = fun _ => 0 := by
  funext y
  pointwise [k0_pay12]

/-- One stored row block of a core's half. -/
theorem half_piece (p : Fin 2) (k : Fin 4) (a : FVec Ideal S1x464x1024 .bf16)
    (h : ∀ (u : Fin 1) (n : Fin 464) (j : Fin 1024),
      a (ix3 u n j) = acc (ix2 (⟨k.val * 928 + 464 * p.val + n.val, by omega⟩ : Fin 3712) j))
    (inb) (z : S1x464x1024.Idx) :
    a z = halfOf acc p ((Rect.unit (s := S4x464x1024) ![k.val, 0, 0] S1x464x1024.size inb).idx z) := by
  obtain ⟨u, n, j, rfl⟩ : ∃ (u : Fin 1) (n : Fin 464) (j : Fin 1024), z = ix3 u n j := ⟨z 0, z 1, z 2, eq_ix3 z⟩
  rw [h]
  have hu : u.val = 0 := by have := u.isLt; omega
  refine congrArg acc ?_
  funext b
  match b with
  | ⟨0, _⟩ =>
    apply Fin.ext
    show k.val * 928 + 464 * p.val + n.val = (k.val + 1 * u.val) * 928 + 464 * p.val + (0 + 1 * n.val)
    rw [hu]; omega
  | ⟨1, _⟩ =>
    apply Fin.ext
    show j.val = 0 + 1 * j.val
    omega

theorem half_mem (k : Nat) (inb) (y : S4x464x1024.Idx) (e : (y 0).val = k) :
    y ∈ (Rect.unit (s := S4x464x1024) ![k, 0, 0] S1x464x1024.size inb).set :=
  Rect.mem_set_unit.2 fun b => match b with
    | ⟨0, _⟩ => ⟨le_of_eq e.symm, by show (y 0).val < k + 1; omega⟩
    | ⟨1, _⟩ => ⟨Nat.zero_le _, by have h1 : (y 1).val < 464 := (y 1).isLt; show (y 1).val < 0 + 464; omega⟩
    | ⟨2, _⟩ => ⟨Nat.zero_le _, by have h1 : (y 2).val < 1024 := (y 2).isLt; show (y 2).val < 0 + 1024; omega⟩

/-- One core's half, stored in four row blocks. -/
theorem canon_half (p : Fin 2) (a0 a1 a2 a3 : FVec Ideal S1x464x1024 .bf16)
    (h0 : ∀ (u : Fin 1) (n : Fin 464) (j : Fin 1024),
      a0 (ix3 u n j) = acc (ix2 (⟨0 * 928 + 464 * p.val + n.val, by omega⟩ : Fin 3712) j))
    (h1 : ∀ (u : Fin 1) (n : Fin 464) (j : Fin 1024),
      a1 (ix3 u n j) = acc (ix2 (⟨1 * 928 + 464 * p.val + n.val, by omega⟩ : Fin 3712) j))
    (h2 : ∀ (u : Fin 1) (n : Fin 464) (j : Fin 1024),
      a2 (ix3 u n j) = acc (ix2 (⟨2 * 928 + 464 * p.val + n.val, by omega⟩ : Fin 3712) j))
    (h3 : ∀ (u : Fin 1) (n : Fin 464) (j : Fin 1024),
      a3 (ix3 u n j) = acc (ix2 (⟨3 * 928 + 464 * p.val + n.val, by omega⟩ : Fin 3712) j)) (i0 i1 i2 i3) :
    View.canon (Val := Elt Ideal) (s := S4x464x1024) (e := .bf16)
      [⟨Rect.unit (s := S4x464x1024) ![3, 0, 0] S1x464x1024.size i3, a3⟩,
        ⟨Rect.unit (s := S4x464x1024) ![2, 0, 0] S1x464x1024.size i2, a2⟩,
        ⟨Rect.unit (s := S4x464x1024) ![1, 0, 0] S1x464x1024.size i1, a1⟩,
        ⟨Rect.unit (s := S4x464x1024) ![0, 0, 0] S1x464x1024.size i0, a0⟩]
      = halfOf acc p := by
  have g0 := half_piece p 0 a0 h0 i0
  have g1 := half_piece p 1 a1 h1 i1
  have g2 := half_piece p 2 a2 h2 i2
  have g3 := half_piece p 3 a3 h3 i3
  funext y
  rw [← List.append_nil [_, _, _, _]]
  refine View.canon_append_of_pieces (Val := Elt Ideal) (S := S4x464x1024) (e := .bf16) (halfOf acc p) []
    [⟨Rect.unit (s := S4x464x1024) ![3, 0, 0] S1x464x1024.size i3, a3⟩,
        ⟨Rect.unit (s := S4x464x1024) ![2, 0, 0] S1x464x1024.size i2, a2⟩,
        ⟨Rect.unit (s := S4x464x1024) ![1, 0, 0] S1x464x1024.size i1, a1⟩,
        ⟨Rect.unit (s := S4x464x1024) ![0, 0, 0] S1x464x1024.size i0, a0⟩] ?_ y ?_
  · intro q hq
    rcases List.mem_cons.1 hq with e | hq
    · subst e; exact g3
    rcases List.mem_cons.1 hq with e | hq
    · subst e; exact g2
    rcases List.mem_cons.1 hq with e | hq
    · subst e; exact g1
    rcases List.mem_cons.1 hq with e | hq
    · subst e; exact g0
    exact absurd hq List.not_mem_nil
  · have h0 : (y 0).val < 4 := (y 0).isLt
    have hc : (y 0).val = 0 ∨ (y 0).val = 1 ∨ (y 0).val = 2 ∨ (y 0).val = 3 := by omega
    rcases hc with e | e | e | e
    · exact ⟨_, List.mem_cons_of_mem _ (List.mem_cons_of_mem _ (List.mem_cons_of_mem _ List.mem_cons_self)), half_mem 0 i0 y e⟩
    · exact ⟨_, List.mem_cons_of_mem _ (List.mem_cons_of_mem _ List.mem_cons_self), half_mem 1 i1 y e⟩
    · exact ⟨_, List.mem_cons_of_mem _ List.mem_cons_self, half_mem 2 i2 y e⟩
    · exact ⟨_, List.mem_cons_self, half_mem 3 i3 y e⟩

/-- A block of 464 rows, loaded from the scratch and rounded for the exchange. -/
theorem rows_at {sp : Space} (v : View Cert.KernelIdeal.sig .tc sp S3712x1024 .f32) (P : List (View.Piece (Elt Ideal) S3712x1024 .f32))
    (hP : View.canon P = acc) (o : Nat) (inb) (n : Fin 464) (j : Fin 1024) (ho : o + n.val < 3712) :
    v.readCov P (Rect.unit (s := S3712x1024) ![o, 0] S464x1024.size inb).toLoadRect (ix2 n j) = acc (ix2 ⟨o + n.val, ho⟩ j) := by
  rw [View.readCov_eq_canon', hP]
  refine congrArg acc ?_
  funext b; fin_cases b <;> apply Fin.ext
  · show o + 1 * n.val = o + n.val; omega
  · show 0 + 1 * j.val = j.val; omega

end Pure

section Casts

variable (v : FVec Ideal S464x1024 .f32) (u : Fin 1) (n : Fin 464) (j : Fin 1024)

theorem pay6_at : k0_pay6 (F := Ideal) v (ix3 u n j) = v (ix2 n j) := by pointwise [k0_pay6]
theorem pay8_at : k0_pay8 (F := Ideal) v (ix3 u n j) = v (ix2 n j) := by pointwise [k0_pay8]
theorem pay10_at : k0_pay10 (F := Ideal) v (ix3 u n j) = v (ix2 n j) := by pointwise [k0_pay10]
theorem pay4_at : k0_pay4 (F := Ideal) v (ix3 u n j) = v (ix2 n j) := by pointwise [k0_pay4]
theorem pay7_at : k0_pay7 (F := Ideal) v (ix3 u n j) = v (ix2 n j) := by pointwise [k0_pay7]
theorem pay9_at : k0_pay9 (F := Ideal) v (ix3 u n j) = v (ix2 n j) := by pointwise [k0_pay9]
theorem pay3_at : k0_pay3 (F := Ideal) (k0_pay11 v) (ix3 u n j) = v (ix2 n j) := by pointwise [k0_pay3, k0_pay11]
theorem pay5_at : k0_pay5 (F := Ideal) v (ix3 u n j) = v (ix2 n j) := by pointwise [k0_pay5]

end Casts

section Halves

variable {sp : Space} (v : View Cert.KernelIdeal.sig .tc sp S3712x1024 .f32) (P : List (View.Piece (Elt Ideal) S3712x1024 .f32))
  (acc : FVec Ideal S3712x1024 .f32)

/-- The even eighths, stored from a scratch that holds `acc`. -/
theorem canon_mine (hP : View.canon P = acc) (i0 i1 i2 i3 l0 l1 l2 l3) :
    View.canon (Val := Elt Ideal) (s := S4x464x1024) (e := .bf16)
      [⟨Rect.unit (s := S4x464x1024) ![3, 0, 0] S1x464x1024.size i3,
          k0_pay4 (F := Ideal) (v.readCov P (Rect.unit (s := S3712x1024) ![2784, 0] S464x1024.size l3).toLoadRect)⟩,
        ⟨Rect.unit (s := S4x464x1024) ![2, 0, 0] S1x464x1024.size i2,
          k0_pay10 (F := Ideal) (v.readCov P (Rect.unit (s := S3712x1024) ![1856, 0] S464x1024.size l2).toLoadRect)⟩,
        ⟨Rect.unit (s := S4x464x1024) ![1, 0, 0] S1x464x1024.size i1,
          k0_pay8 (F := Ideal) (v.readCov P (Rect.unit (s := S3712x1024) ![928, 0] S464x1024.size l1).toLoadRect)⟩,
        ⟨Rect.unit (s := S4x464x1024) ![0, 0, 0] S1x464x1024.size i0,
          k0_pay6 (F := Ideal) (v.readCov P (Rect.unit (s := S3712x1024) ![0, 0] S464x1024.size l0).toLoadRect)⟩]
      = halfOf acc 0 := by
  exact canon_half 0 _ _ _ _
    (fun (u : Fin 1) n j => (pay6_at _ u n j).trans ((rows_at v P hP 0 l0 n j (by omega)).trans
      (congrArg (fun i => acc (ix2 i j)) (Fin.ext (by show 0 + n.val = 0 * 928 + 464 * 0 + n.val; omega)))))
    (fun (u : Fin 1) n j => (pay8_at _ u n j).trans ((rows_at v P hP 928 l1 n j (by omega)).trans
      (congrArg (fun i => acc (ix2 i j)) (Fin.ext (by show 928 + n.val = 1 * 928 + 464 * 0 + n.val; omega)))))
    (fun (u : Fin 1) n j => (pay10_at _ u n j).trans ((rows_at v P hP 1856 l2 n j (by omega)).trans
      (congrArg (fun i => acc (ix2 i j)) (Fin.ext (by show 1856 + n.val = 2 * 928 + 464 * 0 + n.val; omega)))))
    (fun (u : Fin 1) n j => (pay4_at _ u n j).trans ((rows_at v P hP 2784 l3 n j (by omega)).trans
      (congrArg (fun i => acc (ix2 i j)) (Fin.ext (by show 2784 + n.val = 3 * 928 + 464 * 0 + n.val; omega))))) i0 i1 i2 i3

/-- The odd eighths. -/
theorem canon_sib (hP : View.canon P = acc) (i0 i1 i2 i3 l0 l1 l2 l3) :
    View.canon (Val := Elt Ideal) (s := S4x464x1024) (e := .bf16)
      [⟨Rect.unit (s := S4x464x1024) ![3, 0, 0] S1x464x1024.size i3,
          k0_pay5 (F := Ideal) (v.readCov P (Rect.unit (s := S3712x1024) ![3248, 0] S464x1024.size l3).toLoadRect)⟩,
        ⟨Rect.unit (s := S4x464x1024) ![2, 0, 0] S1x464x1024.size i2,
          k0_pay3 (F := Ideal) (k0_pay11 (v.readCov P (Rect.unit (s := S3712x1024) ![2320, 0] S464x1024.size l2).toLoadRect))⟩,
        ⟨Rect.unit (s := S4x464x1024) ![1, 0, 0] S1x464x1024.size i1,
          k0_pay9 (F := Ideal) (v.readCov P (Rect.unit (s := S3712x1024) ![1392, 0] S464x1024.size l1).toLoadRect)⟩,
        ⟨Rect.unit (s := S4x464x1024) ![0, 0, 0] S1x464x1024.size i0,
          k0_pay7 (F := Ideal) (v.readCov P (Rect.unit (s := S3712x1024) ![464, 0] S464x1024.size l0).toLoadRect)⟩]
      = halfOf acc 1 := by
  exact canon_half 1 _ _ _ _
    (fun (u : Fin 1) n j => (pay7_at _ u n j).trans ((rows_at v P hP 464 l0 n j (by omega)).trans
      (congrArg (fun i => acc (ix2 i j)) (Fin.ext (by show 464 + n.val = 0 * 928 + 464 * 1 + n.val; omega)))))
    (fun (u : Fin 1) n j => (pay9_at _ u n j).trans ((rows_at v P hP 1392 l1 n j (by omega)).trans
      (congrArg (fun i => acc (ix2 i j)) (Fin.ext (by show 1392 + n.val = 1 * 928 + 464 * 1 + n.val; omega)))))
    (fun (u : Fin 1) n j => (pay3_at _ u n j).trans ((rows_at v P hP 2320 l2 n j (by omega)).trans
      (congrArg (fun i => acc (ix2 i j)) (Fin.ext (by show 2320 + n.val = 2 * 928 + 464 * 1 + n.val; omega)))))
    (fun (u : Fin 1) n j => (pay5_at _ u n j).trans ((rows_at v P hP 3248 l3 n j (by omega)).trans
      (congrArg (fun i => acc (ix2 i j)) (Fin.ext (by show 3248 + n.val = 3 * 928 + 464 * 1 + n.val; omega))))) i0 i1 i2 i3

end Halves

end Cert.InProj
-- ==== Proof.InProj.Case.lean ====
module

public import proofs.«01_k».proof.Proof.InProj.Pieces

@[expose] public section

set_option maxRecDepth 16384

/-!
The named terms of the three cases of a grid point (the first, a middle one, the last) as the functions of `Pieces`.
-/

noncomputable section

namespace Cert.InProj

open Idealize.ShloMosaic Idealize.ShloMosaic.TcCoe Idealize.SL.Sem
open Cert.KernelIdeal Cert.KernelIdeal.Gen

variable (c : Dev nD) (i : grid0.Coords) (arg1 : Memref sig .tc .vmem S1x256x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x512 .f32) (harg4 : arg4.IsWhole) (arg5 : Memref sig .tc .vmem S256x2176 .f32) (harg5 : arg5.IsWhole) (arg6 : Memref sig .tc .vmem S256x1024 .f32) (harg6 : arg6.IsWhole) (arg7 : Memref sig .tc .vmem S3712x1024 .bf16) (harg7 : arg7.IsWhole) (arg8 : Memref sig .tc .vmem S1x256x1024 .f32) (harg8 : arg8.IsWhole) (arg9 : Memref sig .tc .vmem S1x1024 .f32) (harg9 : arg9.IsWhole) (arg10 : Memref sig .tc .vmem S4x464x1024 .bf16) (harg10 : arg10.IsWhole) (arg11 : Memref sig .tc .vmem S4x464x1024 .bf16) (harg11 : arg11.IsWhole) (arg12 : Memref sig .tc .vmem S3712x1024 .f32) (harg12 : arg12.IsWhole)
  (x0 : FVec Ideal S1x256x1024 .f32) (x1 : FVec Ideal S1x1024 .f32) (x2 : FVec Ideal S256x1024 .f32)
  (x3 : FVec Ideal S256x512 .f32) (x4 : FVec Ideal S256x2176 .f32) (x5 : FVec Ideal S256x1024 .f32)
  (x6 : FVec Ideal S3712x1024 .bf16) (xo8 : FVec Ideal S1x1024 .f32) (xs0 : FVec Ideal S3712x1024 .f32)

/-- Case A: the tokens' gradient. -/
theorem out7_A (hc0 : cond0_0 i) (hc1 : ¬cond0_1 i) :
    out0_A_7 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = dxOf x0 x1 x2 x3 x4 x5 x6 := by
  unfold out0_A_7
  rw [View.read_writes_junk_eq_canon]
  unfold kernelRun0_A; dsimp only
  sl_unfold_words
  simp only [View.readAt_eq_ld, harg1.read_unread, harg2.read_unread, harg3.read_unread, harg4.read_unread,
    harg5.read_unread, harg6.read_unread, harg7.read_unread, harg9.read_unread, harg12.read_unread,
    View.ld_unit_zero (S := S1x256x1024) hz3, View.ld_unit_zero (S := S1x1024) hz2, View.ld_unit_zero (S := S256x1024) hz2,
    View.ld_unit_zero (S := S256x512) hz2, View.ld_unit_zero (S := S256x2176) hz2]
  rw [View.canon_unit_zero (S := S1x256x1024) hz3]
  funext y
  rw [show y = ix3 (n0 := 1) (n1 := 256) (n2 := 1024) (y 0) (y 1) (y 2) from eq_ix3 y]
  exact pay1_at x0 x1 x2 x3 x4 x5 (rows_ld x6 _ _ _) _ _ _

/-- Case A: the gain's gradient so far. -/
theorem out8_A (hc0 : cond0_0 i) (hc1 : ¬cond0_1 i) :
    out0_A_8 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = dgOf x0 x2 x3 x4 x6 (fun _ => 0) := by
  unfold out0_A_8
  rw [View.read_writes_junk_eq_canon]
  unfold kernelRun0_A; dsimp only
  sl_unfold_words
  simp only [View.readAt_eq_ld, harg1.read_unread, harg2.read_unread, harg3.read_unread, harg4.read_unread,
    harg5.read_unread, harg6.read_unread, harg7.read_unread, harg9.read_unread, harg12.read_unread,
    View.ld_unit_zero (S := S1x256x1024) hz3, View.ld_unit_zero (S := S1x1024) hz2, View.ld_unit_zero (S := S256x1024) hz2,
    View.ld_unit_zero (S := S256x512) hz2, View.ld_unit_zero (S := S256x2176) hz2]
  rw [View.canon_cons_unit_zero (S := S1x1024) hz2, View.readCov_unit_zero (S := S1x1024) _ hz2, pay12_eq]
  exact pay2_dg x0 x2 x3 x4 (rows_ld x6 _ _ _) _
/-- Case A: the weight's gradient so far. -/
theorem sout_A (hc0 : cond0_0 i) (hc1 : ¬cond0_1 i) :
    sout0_A_0 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = dwOf x0 x1 x2 x3 x4 (fun _ => 0) := by
  unfold sout0_A_0
  rw [View.read_writes_junk_eq_canon]
  unfold kernelRun0_A; dsimp only
  sl_unfold_words
  simp only [View.readAt_eq_ld, harg1.read_unread, harg2.read_unread, harg3.read_unread, harg4.read_unread,
    harg5.read_unread, harg6.read_unread, harg7.read_unread, harg9.read_unread, harg12.read_unread,
    View.ld_unit_zero (S := S1x256x1024) hz3, View.ld_unit_zero (S := S1x1024) hz2, View.ld_unit_zero (S := S256x1024) hz2,
    View.ld_unit_zero (S := S256x512) hz2, View.ld_unit_zero (S := S256x2176) hz2]
  exact canon_dw_first x0 x1 x2 x3 x4 _ _ _ _ _

/-- Case B: the tokens' gradient. -/
theorem out7_B (hc0 : ¬cond0_0 i) (hc1 : ¬cond0_1 i) :
    out0_B_7 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xs0 = dxOf x0 x1 x2 x3 x4 x5 x6 := by
  unfold out0_B_7
  rw [View.read_writes_junk_eq_canon]
  unfold kernelRun0_B; dsimp only
  sl_unfold_words
  simp only [View.readAt_eq_ld, harg1.read_unread, harg2.read_unread, harg3.read_unread, harg4.read_unread,
    harg5.read_unread, harg6.read_unread, harg7.read_unread, harg9.read_unread, harg12.read_unread,
    View.ld_unit_zero (S := S1x256x1024) hz3, View.ld_unit_zero (S := S1x1024) hz2, View.ld_unit_zero (S := S256x1024) hz2,
    View.ld_unit_zero (S := S256x512) hz2, View.ld_unit_zero (S := S256x2176) hz2]
  rw [View.canon_unit_zero (S := S1x256x1024) hz3]
  funext y
  rw [show y = ix3 (n0 := 1) (n1 := 256) (n2 := 1024) (y 0) (y 1) (y 2) from eq_ix3 y]
  exact pay1_at x0 x1 x2 x3 x4 x5 (rows_ld x6 _ _ _) _ _ _

/-- Case B: the gain's gradient so far. -/
theorem out8_B (hc0 : ¬cond0_0 i) (hc1 : ¬cond0_1 i) :
    out0_B_8 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xs0 = dgOf x0 x2 x3 x4 x6 xo8 := by
  unfold out0_B_8
  rw [View.read_writes_junk_eq_canon]
  unfold kernelRun0_B; dsimp only
  sl_unfold_words
  simp only [View.readAt_eq_ld, harg1.read_unread, harg2.read_unread, harg3.read_unread, harg4.read_unread,
    harg5.read_unread, harg6.read_unread, harg7.read_unread, harg9.read_unread, harg12.read_unread,
    View.ld_unit_zero (S := S1x256x1024) hz3, View.ld_unit_zero (S := S1x1024) hz2, View.ld_unit_zero (S := S256x1024) hz2,
    View.ld_unit_zero (S := S256x512) hz2, View.ld_unit_zero (S := S256x2176) hz2]
  rw [View.canon_unit_zero (S := S1x1024) hz2]
  exact pay2_dg x0 x2 x3 x4 (rows_ld x6 _ _ _) _
/-- Case B: the weight's gradient so far. -/
theorem sout_B (hc0 : ¬cond0_0 i) (hc1 : ¬cond0_1 i) :
    sout0_B_0 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xs0 = dwOf x0 x1 x2 x3 x4 xs0 := by
  unfold sout0_B_0
  rw [View.read_writes_junk_eq_canon]
  unfold kernelRun0_B; dsimp only
  sl_unfold_words
  simp only [View.readAt_eq_ld, harg1.read_unread, harg2.read_unread, harg3.read_unread, harg4.read_unread,
    harg5.read_unread, harg6.read_unread, harg7.read_unread, harg9.read_unread, harg12.read_unread,
    View.ld_unit_zero (S := S1x256x1024) hz3, View.ld_unit_zero (S := S1x1024) hz2, View.ld_unit_zero (S := S256x1024) hz2,
    View.ld_unit_zero (S := S256x512) hz2, View.ld_unit_zero (S := S256x2176) hz2]
  exact canon_dw x0 x1 x2 x3 x4 _ _ _ (fun n j => congrArg xs0 (rect1_idx _ n j)) (fun n j => congrArg xs0 (rect2_idx _ n j))
    (fun n j => congrArg xs0 (rect3_idx _ n j)) _ _ _ _

/-- Case C: the tokens' gradient. -/
theorem out7_C (hc0 : ¬cond0_0 i) (hc1 : cond0_1 i) :
    out0_C_7 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xs0 = dxOf x0 x1 x2 x3 x4 x5 x6 := by
  unfold out0_C_7
  rw [View.read_writes_junk_eq_canon]
  unfold kernelRun0_C; dsimp only
  sl_unfold_words
  simp only [View.readAt_eq_ld, harg1.read_unread, harg2.read_unread, harg3.read_unread, harg4.read_unread,
    harg5.read_unread, harg6.read_unread, harg7.read_unread, harg9.read_unread, harg12.read_unread,
    View.ld_unit_zero (S := S1x256x1024) hz3, View.ld_unit_zero (S := S1x1024) hz2, View.ld_unit_zero (S := S256x1024) hz2,
    View.ld_unit_zero (S := S256x512) hz2, View.ld_unit_zero (S := S256x2176) hz2]
  rw [View.canon_unit_zero (S := S1x256x1024) hz3]
  funext y
  rw [show y = ix3 (n0 := 1) (n1 := 256) (n2 := 1024) (y 0) (y 1) (y 2) from eq_ix3 y]
  exact pay1_at x0 x1 x2 x3 x4 x5 (rows_ld x6 _ _ _) _ _ _

/-- Case C: the gain's gradient so far. -/
theorem out8_C (hc0 : ¬cond0_0 i) (hc1 : cond0_1 i) :
    out0_C_8 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xs0 = dgOf x0 x2 x3 x4 x6 xo8 := by
  unfold out0_C_8
  rw [View.read_writes_junk_eq_canon]
  unfold kernelRun0_C; dsimp only
  sl_unfold_words
  simp only [View.readAt_eq_ld, harg1.read_unread, harg2.read_unread, harg3.read_unread, harg4.read_unread,
    harg5.read_unread, harg6.read_unread, harg7.read_unread, harg9.read_unread, harg12.read_unread,
    View.ld_unit_zero (S := S1x256x1024) hz3, View.ld_unit_zero (S := S1x1024) hz2, View.ld_unit_zero (S := S256x1024) hz2,
    View.ld_unit_zero (S := S256x512) hz2, View.ld_unit_zero (S := S256x2176) hz2]
  rw [View.canon_unit_zero (S := S1x1024) hz2]
  exact pay2_dg x0 x2 x3 x4 (rows_ld x6 _ _ _) _
/-- Case C: the weight's gradient so far. -/
theorem sout_C (hc0 : ¬cond0_0 i) (hc1 : cond0_1 i) :
    sout0_C_0 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xs0 = dwOf x0 x1 x2 x3 x4 xs0 := by
  unfold sout0_C_0
  rw [View.read_writes_junk_eq_canon]
  unfold kernelRun0_C; dsimp only
  sl_unfold_words
  simp only [View.readAt_eq_ld, harg1.read_unread, harg2.read_unread, harg3.read_unread, harg4.read_unread,
    harg5.read_unread, harg6.read_unread, harg7.read_unread, harg9.read_unread, harg12.read_unread,
    View.ld_unit_zero (S := S1x256x1024) hz3, View.ld_unit_zero (S := S1x1024) hz2, View.ld_unit_zero (S := S256x1024) hz2,
    View.ld_unit_zero (S := S256x512) hz2, View.ld_unit_zero (S := S256x2176) hz2]
  exact canon_dw x0 x1 x2 x3 x4 _ _ _ (fun n j => congrArg xs0 (rect1_idx _ n j)) (fun n j => congrArg xs0 (rect2_idx _ n j))
    (fun n j => congrArg xs0 (rect3_idx _ n j)) _ _ _ _

/-- Case C: of the weight's gradient the even eighths. -/
theorem out9_C (hc0 : ¬cond0_0 i) (hc1 : cond0_1 i) :
    out0_C_9 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xs0 = halfOf (dwOf x0 x1 x2 x3 x4 xs0) 0 := by
  unfold out0_C_9
  rw [View.read_writes_junk_eq_canon]
  unfold kernelRun0_C; dsimp only
  sl_unfold_words
  simp only [View.readAt_eq_ld, harg1.read_unread, harg2.read_unread, harg3.read_unread, harg4.read_unread,
    harg5.read_unread, harg6.read_unread, harg7.read_unread, harg9.read_unread, harg12.read_unread,
    View.ld_unit_zero (S := S1x256x1024) hz3, View.ld_unit_zero (S := S1x1024) hz2, View.ld_unit_zero (S := S256x1024) hz2,
    View.ld_unit_zero (S := S256x512) hz2, View.ld_unit_zero (S := S256x2176) hz2]
  exact canon_mine _ _ _ (canon_dw x0 x1 x2 x3 x4 _ _ _ (fun n j => congrArg xs0 (rect1_idx _ n j))
    (fun n j => congrArg xs0 (rect2_idx _ n j)) (fun n j => congrArg xs0 (rect3_idx _ n j)) _ _ _ _) _ _ _ _ _ _ _ _

/-- Case C: of the weight's gradient the odd eighths. -/
theorem out10_C (hc0 : ¬cond0_0 i) (hc1 : cond0_1 i) :
    out0_C_10 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo8 xs0 = halfOf (dwOf x0 x1 x2 x3 x4 xs0) 1 := by
  unfold out0_C_10
  rw [View.read_writes_junk_eq_canon]
  unfold kernelRun0_C; dsimp only
  sl_unfold_words
  simp only [View.readAt_eq_ld, harg1.read_unread, harg2.read_unread, harg3.read_unread, harg4.read_unread,
    harg5.read_unread, harg6.read_unread, harg7.read_unread, harg9.read_unread, harg12.read_unread,
    View.ld_unit_zero (S := S1x256x1024) hz3, View.ld_unit_zero (S := S1x1024) hz2, View.ld_unit_zero (S := S256x1024) hz2,
    View.ld_unit_zero (S := S256x512) hz2, View.ld_unit_zero (S := S256x2176) hz2]
  exact canon_sib _ _ _ (canon_dw x0 x1 x2 x3 x4 _ _ _ (fun n j => congrArg xs0 (rect1_idx _ n j))
    (fun n j => congrArg xs0 (rect2_idx _ n j)) (fun n j => congrArg xs0 (rect3_idx _ n j)) _ _ _ _) _ _ _ _ _ _ _ _

end Cert.InProj
-- ==== Proof.InProj.Ref.lean ====
module

public import proofs.«01_k».proof.Proof.Gen.ReferenceIdeal.Read
public import proofs.«01_k».proof.Proof.InProj.Math

@[expose] public section

set_option maxRecDepth 16384

noncomputable section

namespace Cert.InProj

open Idealize.ShloMosaic Idealize.ShloMosaic.TcCoe Idealize.SL.Sem
open Cert.ReferenceIdeal Cert.ReferenceIdeal.Read

variable (x0 : FVec Ideal S1x2048x1024 .f32) (x1 : FVec Ideal S1x1024 .f32)
  (x2 : FVec Ideal S2048x1024 .f32) (x3 : FVec Ideal S2048x512 .f32) (x4 : FVec Ideal S2048x2176 .f32)
  (x5 : FVec Ideal S2048x1024 .f32) (x6 : FVec Ideal S3712x1024 .bf16)

/-- Token `t`'s row. -/
def xrow (t : Fin 2048) (k : Fin 1024) : EReal := x0 (ix3 0 t k)
def grow (k : Fin 1024) : EReal := x1 (ix2 0 k)
/-- Token `t`'s row of 3712 gradients: the three parts end to end. -/
def drow (t : Fin 2048) : Fin 3712 → EReal :=
  row3 (fun k => x2 (ix2 t k)) (fun k => x3 (ix2 t k)) (fun k => x4 (ix2 t k))
/-- What the projection hands back to token `t`'s normed row. -/
def durow (t : Fin 2048) (j : Fin 1024) : EReal := ∑ k, drow x2 x3 x4 t k * x6 (ix2 k j)

theorem v9_at (t : Fin 2048) (u : Fin 1) : val_main_v9 (F := Ideal) x0 (ix3 0 t u) = rowVar (xrow x0 t) := by
  pointwise [val_main_v9, val_main_v7, val_main_v5, val_main_v4, val_main_v3, val_main_v6, val_main_v8, val_main_cst,
    val_main_cst_0, val_main_cst_1]
  rfl

theorem v10_at (t : Fin 2048) (u : Fin 1) : val_main_v10 (F := Ideal) x0 (ix3 0 t u) = rowInv (xrow x0 t) := by
  rw [val_main_v10_apply, v9_at]; rfl

theorem v13_at (t : Fin 2048) (u : Fin 1) : val_main_v13 (F := Ideal) x0 (ix3 0 t u)
    = Ideal.ofBits .f32 0xBF000000#32 * Ideal.div (rowInv (xrow x0 t)) (rowVar (xrow x0 t)) := by
  rw [val_main_v13_apply, val_main_v11_apply, v9_at, v10_at]; rfl

theorem v15_at (t : Fin 2048) (j : Fin 1024) : val_main_v15 (F := Ideal) x0 (ix3 0 t j)
    = xrow x0 t j * rowInv (xrow x0 t) := by
  pointwise [val_main_v15, val_main_v14, v10_at]
  rfl

theorem v18_at (t : Fin 2048) (j : Fin 1024) : val_main_v18 (F := Ideal) x0 x1 (ix3 0 t j)
    = rowU (xrow x0 t) (grow x1) j := by
  pointwise [val_main_v18, val_main_v17, val_main_v16, v15_at]
  rfl

theorem v0_at (t : Fin 2048) (k : Fin 3712) : val_main_v0 (F := Ideal) x2 x3 x4 (ix2 t k) = drow x2 x3 x4 t k := by
  pointwise [val_main_v0]
  unfold drow row3
  by_cases h : k.val < 1024
  · rw [dif_pos h, dif_pos h]
  · rw [dif_neg h, dif_neg h]
    by_cases h' : k.val < 1536
    · rw [dif_pos h']
      exact dif_pos (show k.val - 1024 < 512 by omega)
    · rw [dif_neg h']
      exact (dif_neg (show ¬ k.val - 1024 < 512 by omega)).trans rfl

theorem v22_at (t : Fin 2048) (j : Fin 1024) : val_main_v22 (F := Ideal) x2 x3 x4 x6 (ix3 0 t j)
    = durow x2 x3 x4 x6 t j := by
  pointwise [val_main_v22, val_main_v1, val_main_v2, v0_at]
  rfl

theorem v27_at (t : Fin 2048) (j : Fin 1024) : val_main_v27 (F := Ideal) x1 x2 x3 x4 x6 (ix3 0 t j)
    = durow x2 x3 x4 x6 t j * grow x1 j := by
  pointwise [val_main_v27, val_main_v26, val_main_v16, v22_at]
  rfl

theorem v38_at (t : Fin 2048) (u : Fin 1) : val_main_v38 (F := Ideal) x0 x1 x2 x3 x4 x6 (ix3 0 t u)
    = rowBack (xrow x0 t) (grow x1) (durow x2 x3 x4 x6 t) := by
  pointwise [val_main_v38, val_main_v36, val_main_v32, val_main_v31, val_main_v30, val_main_v37, val_main_cst_5,
    val_main_cst_6, v27_at, v13_at]
  rfl

/-- A sum over two axes of size one is the one element. -/
theorem drop02 (x : FVec Ideal S1x2048x1 .f32) (t : Fin 2048) :
    Ideal.hostReduceAdd Gen.reducesTo_S1x2048x1_S2048_d0_2 x 0 (ix1 t) = x (ix3 0 t 0) := by
  unfold Ideal.hostReduceAdd
  rw [zero_add]
  refine Finset.sum_eq_single_of_mem _ (Finset.mem_filter.2 ⟨Finset.mem_univ _, ?_⟩) fun i hi hne => absurd ?_ hne
  · funext a; fin_cases a; apply Fin.ext; rfl
  · have h := congrArg (fun f => (f 0).val) (Finset.mem_filter.1 hi).2
    rw [eq_ix3 i]
    have h0 : i 0 = (0 : Fin 1) := Subsingleton.elim (α := Fin 1) _ _
    have h2 : i 2 = (0 : Fin 1) := Subsingleton.elim (α := Fin 1) _ _
    have h1 : i 1 = t := Fin.ext h
    rw [h0, h1, h2]

/-- The same of a row. -/
theorem drop01 (x : FVec Ideal S1x1x1024 .f32) (j : Fin 1024) :
    Ideal.hostReduceAdd Gen.reducesTo_S1x1x1024_S1024_d0_1 x 0 (ix1 j) = x (ix3 0 0 j) := by
  unfold Ideal.hostReduceAdd
  rw [zero_add]
  refine Finset.sum_eq_single_of_mem _ (Finset.mem_filter.2 ⟨Finset.mem_univ _, ?_⟩) fun i hi hne => absurd ?_ hne
  · funext a; fin_cases a; apply Fin.ext; rfl
  · have h := congrArg (fun f => (f 0).val) (Finset.mem_filter.1 hi).2
    rw [eq_ix3 i]
    have h0 : i 0 = (0 : Fin 1) := Subsingleton.elim (α := Fin 1) _ _
    have h2 : i 1 = (0 : Fin 1) := Subsingleton.elim (α := Fin 1) _ _
    have h1 : i 2 = j := Fin.ext h
    rw [h0, h1, h2]

theorem v39_at (t : Fin 2048) : val_main_v39 (F := Ideal) x0 x1 x2 x3 x4 x6 (ix1 t)
    = rowBack (xrow x0 t) (grow x1) (durow x2 x3 x4 x6 t) := by
  pointwise [val_main_v39, val_main_cst_7, drop02, v38_at]

/-- Entry `j` of token `t`'s gradient, as the reference computes it. -/
theorem v45_at (t : Fin 2048) (j : Fin 1024) : val_main_v45 (F := Ideal) x0 x1 x2 x3 x4 x5 x6 (ix3 0 t j)
    = rowDx (xrow x0 t) (grow x1) (durow x2 x3 x4 x6 t) (x5 (ix2 t j)) j := by
  pointwise [val_main_v45, val_main_v44, val_main_v43, val_main_v42, val_main_v41, val_main_v40, val_main_v35,
    val_main_v34, val_main_v33, val_main_v20, v10_at, v27_at, v39_at]
  unfold rowDx xrow
  abel

/-- Entry `j` of the gain's gradient: the sum over the tokens. -/
theorem v29_at (u : Fin 1) (j : Fin 1024) : val_main_v29 (F := Ideal) x0 x2 x3 x4 x6 (ix2 u j)
    = ∑ t, xrow x0 t j * rowInv (xrow x0 t) * durow x2 x3 x4 x6 t j := by
  pointwise [val_main_v29, val_main_v28, val_main_v25, val_main_v24, val_main_v23, val_main_cst_3, val_main_cst_4,
    drop01, v15_at, v22_at]

/-- The weight's gradient at row `n`, column `j`: the sum over the tokens. -/
theorem v21_at (n : Fin 3712) (j : Fin 1024) : val_main_v21 (F := Ideal) x0 x1 x2 x3 x4 (ix2 n j)
    = ∑ t, drow x2 x3 x4 t n * rowU (xrow x0 t) (grow x1) j := by
  pointwise [val_main_v21, val_main_v1, v0_at]
  rw [Fin.sum_univ_one]
  exact Finset.sum_congr rfl fun t _ => congrArg _ (v18_at x0 x1 t j)

/-- The half of the weight's gradient that the reference keeps: of block `y` the rows of its even eighth. -/
theorem v49_at (y : Fin 4) (n : Fin 464) (j : Fin 1024) : val_main_v49 (F := Ideal) x0 x1 x2 x3 x4 (ix3 y n j)
    = ∑ t, drow x2 x3 x4 t ⟨y.val * 928 + n.val, by have := y.isLt; have := n.isLt; omega⟩ * rowU (xrow x0 t) (grow x1) j := by
  pointwise [val_main_v49, val_main_v48, val_main_v47, val_main_v46]
  rw [v21_at]

theorem v52_at (y : Fin 4) (n : Fin 464) (j : Fin 1024) : val_main_v52 (F := Ideal) x0 x1 x2 x3 x4 (ix3 y n j)
    = ∑ t, drow x2 x3 x4 t ⟨y.val * 928 + 464 + n.val, by have := y.isLt; have := n.isLt; omega⟩ * rowU (xrow x0 t) (grow x1) j := by
  pointwise [val_main_v52, val_main_v51, val_main_v50, val_main_v46]
  rw [v21_at]

end Cert.InProj
-- ==== Proof.InProj.Fold.lean ====
module

public import proofs.«01_k».proof.Proof.Gen.KernelIdeal.Value
public import proofs.«01_k».proof.Proof.InProj.Case
public import proofs.«01_k».proof.Proof.InProj.Ref

@[expose] public section

set_option maxRecDepth 16384

/-!
The eight grid points in a row: each point's blocks are 256 tokens of the arguments, so what the run leaves is, of the
tokens, each token's own gradient, and of the gain and the weight the sum over all 2048 tokens.
-/

noncomputable section

namespace Cert.InProj

open Idealize.ShloMosaic Idealize.ShloMosaic.TcCoe Idealize.SL.Sem
open Cert.KernelIdeal Cert.KernelIdeal.Gen Cert.KernelIdeal.Value

variable (m : (ℓ : Loc nD τ sig) → Buf (Elt Ideal) ℓ) (c : Dev nD)

/-- The seven arguments. -/
abbrev A0 : FVec Ideal S1x2048x1024 .f32 := m ((c.tc : Thread nD τ).loc main_arg0)
abbrev A1 : FVec Ideal S1x1024 .f32 := m ((c.tc : Thread nD τ).loc main_arg1)
abbrev A2 : FVec Ideal S2048x1024 .f32 := m ((c.tc : Thread nD τ).loc main_arg2)
abbrev A3 : FVec Ideal S2048x512 .f32 := m ((c.tc : Thread nD τ).loc main_arg3)
abbrev A4 : FVec Ideal S2048x2176 .f32 := m ((c.tc : Thread nD τ).loc main_arg4)
abbrev A5 : FVec Ideal S2048x1024 .f32 := m ((c.tc : Thread nD τ).loc main_arg5)
abbrev A6 : FVec Ideal S3712x1024 .bf16 := m ((c.tc : Thread nD τ).loc main_arg6)

/-- Point `t`'s blocks. -/
abbrev B0 (t : Fin cfg0.N) : FVec Ideal S1x256x1024 .f32 := iblk m c 0 t
abbrev B1 (t : Fin cfg0.N) : FVec Ideal S1x1024 .f32 := iblk m c 1 t
abbrev B2 (t : Fin cfg0.N) : FVec Ideal S256x1024 .f32 := iblk m c 2 t
abbrev B3 (t : Fin cfg0.N) : FVec Ideal S256x512 .f32 := iblk m c 3 t
abbrev B4 (t : Fin cfg0.N) : FVec Ideal S256x2176 .f32 := iblk m c 4 t
abbrev B5 (t : Fin cfg0.N) : FVec Ideal S256x1024 .f32 := iblk m c 5 t
abbrev B6 (t : Fin cfg0.N) : FVec Ideal S3712x1024 .bf16 := iblk m c 6 t

/-- Row `r` of point `t`'s blocks is this token. -/
def tok (t : Fin cfg0.N) (r : Fin 256) : Fin 2048 :=
  ⟨t.val * 256 + r.val, by have := lt_of_lt_of_eq t.isLt (show cfg0.N = 8 from N_0); have := r.isLt; omega⟩

theorem idx0 : ∀ t : Fin cfg0.N, win0_0.index t 0 = 0 ∧ win0_0.index t 1 = t.val ∧ win0_0.index t 2 = 0 :=
  (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = t.val ∧ win0_3.index t 1 = 0 := (by decide +kernel : ∀ t : Fin grid0.N, _)
theorem idx4 : ∀ t : Fin cfg0.N, win0_4.index t 0 = t.val ∧ win0_4.index t 1 = 0 := (by decide +kernel : ∀ t : Fin grid0.N, _)
theorem idx5 : ∀ t : Fin cfg0.N, win0_5.index t 0 = t.val ∧ win0_5.index t 1 = 0 := (by decide +kernel : ∀ t : Fin grid0.N, _)
theorem idx6 : ∀ t : Fin cfg0.N, win0_6.index t 0 = 0 ∧ win0_6.index t 1 = 0 := (by decide +kernel : ∀ t : Fin grid0.N, _)

theorem B0_at (t : Fin cfg0.N) (u : Fin 1) (r : Fin 256) (k : Fin 1024) :
    B0 m c t (ix3 u r k) = A0 m c (ix3 0 (tok t r) k) := by
  show iblk m c 0 t _ = _
  unfold iblk
  rw [View.read_apply]
  show V m c main_arg0 _ = _
  unfold V
  congr 1
  obtain ⟨e0, e1, e2⟩ := idx0 t
  funext a; apply Fin.ext
  match a with
  | ⟨0, _⟩ => show win0_0.index t 0 * 1 + 1 * u.val = 0; rw [e0]; have := u.isLt; omega
  | ⟨1, _⟩ => show win0_0.index t 1 * 256 + 1 * r.val = t.val * 256 + r.val; rw [e1]; omega
  | ⟨2, _⟩ => show win0_0.index t 2 * 1024 + 1 * k.val = k.val; rw [e2]; omega

theorem B1_at (t : Fin cfg0.N) (u : Fin 1) (k : Fin 1024) : B1 m c t (ix2 u k) = A1 m c (ix2 u k) := by
  show iblk m c 1 t _ = _
  unfold iblk
  rw [View.read_apply]
  show V m c main_arg1 _ = _
  unfold V
  congr 1
  obtain ⟨e0, e1⟩ := idx1 t
  funext a; apply Fin.ext
  match a with
  | ⟨0, _⟩ => show win0_1.index t 0 * 1 + 1 * u.val = u.val; rw [e0]; omega
  | ⟨1, _⟩ => show win0_1.index t 1 * 1024 + 1 * k.val = k.val; rw [e1]; omega

theorem B2_at (t : Fin cfg0.N) (r : Fin 256) (k : Fin 1024) : B2 m c t (ix2 r k) = A2 m c (ix2 (tok t r) k) := by
  show iblk m c 2 t _ = _
  unfold iblk
  rw [View.read_apply]
  show V m c main_arg2 _ = _
  unfold V
  congr 1
  obtain ⟨e0, e1⟩ := idx2 t
  funext a; apply Fin.ext
  match a with
  | ⟨0, _⟩ => show win0_2.index t 0 * 256 + 1 * r.val = t.val * 256 + r.val; rw [e0]; omega
  | ⟨1, _⟩ => show win0_2.index t 1 * 1024 + 1 * k.val = k.val; rw [e1]; omega

theorem B3_at (t : Fin cfg0.N) (r : Fin 256) (k : Fin 512) : B3 m c t (ix2 r k) = A3 m c (ix2 (tok t r) k) := by
  show iblk m c 3 t _ = _
  unfold iblk
  rw [View.read_apply]
  show V m c main_arg3 _ = _
  unfold V
  congr 1
  obtain ⟨e0, e1⟩ := idx3 t
  funext a; apply Fin.ext
  match a with
  | ⟨0, _⟩ => show win0_3.index t 0 * 256 + 1 * r.val = t.val * 256 + r.val; rw [e0]; omega
  | ⟨1, _⟩ => show win0_3.index t 1 * 512 + 1 * k.val = k.val; rw [e1]; omega

theorem B4_at (t : Fin cfg0.N) (r : Fin 256) (k : Fin 2176) : B4 m c t (ix2 r k) = A4 m c (ix2 (tok t r) k) := by
  show iblk m c 4 t _ = _
  unfold iblk
  rw [View.read_apply]
  show V m c main_arg4 _ = _
  unfold V
  congr 1
  obtain ⟨e0, e1⟩ := idx4 t
  funext a; apply Fin.ext
  match a with
  | ⟨0, _⟩ => show win0_4.index t 0 * 256 + 1 * r.val = t.val * 256 + r.val; rw [e0]; omega
  | ⟨1, _⟩ => show win0_4.index t 1 * 2176 + 1 * k.val = k.val; rw [e1]; omega

theorem B5_at (t : Fin cfg0.N) (r : Fin 256) (k : Fin 1024) : B5 m c t (ix2 r k) = A5 m c (ix2 (tok t r) k) := by
  show iblk m c 5 t _ = _
  unfold iblk
  rw [View.read_apply]
  show V m c main_arg5 _ = _
  unfold V
  congr 1
  obtain ⟨e0, e1⟩ := idx5 t
  funext a; apply Fin.ext
  match a with
  | ⟨0, _⟩ => show win0_5.index t 0 * 256 + 1 * r.val = t.val * 256 + r.val; rw [e0]; omega
  | ⟨1, _⟩ => show win0_5.index t 1 * 1024 + 1 * k.val = k.val; rw [e1]; omega

theorem B6_at (t : Fin cfg0.N) (n : Fin 3712) (k : Fin 1024) : B6 m c t (ix2 n k) = A6 m c (ix2 n k) := by
  show iblk m c 6 t _ = _
  unfold iblk
  rw [View.read_apply]
  show V m c main_arg6 _ = _
  unfold V
  congr 1
  obtain ⟨e0, e1⟩ := idx6 t
  funext a; apply Fin.ext
  match a with
  | ⟨0, _⟩ => show win0_6.index t 0 * 3712 + 1 * n.val = n.val; rw [e0]; omega
  | ⟨1, _⟩ => show win0_6.index t 1 * 1024 + 1 * k.val = k.val; rw [e1]; omega

theorem bx_tok (t : Fin cfg0.N) (r : Fin 256) : bx (B0 m c t) r = xrow (A0 m c) (tok t r) :=
  funext fun k => B0_at m c t 0 r k
theorem bg_tok (t : Fin cfg0.N) : bg (B1 m c t) = grow (A1 m c) := funext fun k => B1_at m c t 0 k
theorem bd_tok (t : Fin cfg0.N) (r : Fin 256) :
    bd (B2 m c t) (B3 m c t) (B4 m c t) r = drow (A2 m c) (A3 m c) (A4 m c) (tok t r) := by
  unfold bd drow
  rw [funext fun k => B2_at m c t r k, funext fun k => B3_at m c t r k, funext fun k => B4_at m c t r k]
theorem bdu_tok (t : Fin cfg0.N) (r : Fin 256) :
    bdu (B2 m c t) (B3 m c t) (B4 m c t) (B6 m c t) r = durow (A2 m c) (A3 m c) (A4 m c) (A6 m c) (tok t r) := by
  funext j
  unfold bdu durow
  rw [bd_tok]
  exact Finset.sum_congr rfl fun k _ => congrArg _ (B6_at m c t k j)

/-- A token's gradient, its part of the gain's gradient and its part of the weight's. -/
def tokDx (s : Fin 2048) (j : Fin 1024) : EReal :=
  rowDx (xrow (A0 m c) s) (grow (A1 m c)) (durow (A2 m c) (A3 m c) (A4 m c) (A6 m c) s) (A5 m c (ix2 s j)) j
def tokDg (s : Fin 2048) (j : Fin 1024) : EReal :=
  xrow (A0 m c) s j * rowInv (xrow (A0 m c) s) * durow (A2 m c) (A3 m c) (A4 m c) (A6 m c) s j
def tokDw (s : Fin 2048) (n : Fin 3712) (j : Fin 1024) : EReal :=
  drow (A2 m c) (A3 m c) (A4 m c) s n * rowU (xrow (A0 m c) s) (grow (A1 m c)) j

theorem dx_tok (t : Fin cfg0.N) (u : Fin 1) (r : Fin 256) (j : Fin 1024) :
    dxOf (B0 m c t) (B1 m c t) (B2 m c t) (B3 m c t) (B4 m c t) (B5 m c t) (B6 m c t) (ix3 u r j) = tokDx m c (tok t r) j := by
  show rowDx (bx (B0 m c t) r) (bg (B1 m c t)) (bdu (B2 m c t) (B3 m c t) (B4 m c t) (B6 m c t) r) (B5 m c t (ix2 r j)) j = _
  rw [bx_tok, bg_tok, bdu_tok, B5_at]
  rfl

theorem dg_tok (t : Fin cfg0.N) (old : FVec Ideal S1x1024 .f32) (u : Fin 1) (j : Fin 1024) :
    dgOf (B0 m c t) (B2 m c t) (B3 m c t) (B4 m c t) (B6 m c t) old (ix2 u j)
      = old (ix2 u j) + ∑ r, tokDg m c (tok t r) j := by
  show old (ix2 u j) + ∑ r, bx (B0 m c t) r j * rowInv (bx (B0 m c t) r) * bdu (B2 m c t) (B3 m c t) (B4 m c t) (B6 m c t) r j = _
  refine congrArg (_ + ·) (Finset.sum_congr rfl fun r _ => ?_)
  rw [bx_tok, bdu_tok]
  rfl

theorem dw_tok (t : Fin cfg0.N) (acc : FVec Ideal S3712x1024 .f32) (n : Fin 3712) (j : Fin 1024) :
    dwOf (B0 m c t) (B1 m c t) (B2 m c t) (B3 m c t) (B4 m c t) acc (ix2 n j)
      = acc (ix2 n j) + ∑ r, tokDw m c (tok t r) n j := by
  show acc (ix2 n j) + ∑ r, bd (B2 m c t) (B3 m c t) (B4 m c t) r n * rowU (bx (B0 m c t) r) (bg (B1 m c t)) j = _
  refine congrArg (_ + ·) (Finset.sum_congr rfl fun r _ => ?_)
  rw [bd_tok, bx_tok, bg_tok]
  rfl

/-- What a point leaves: its tokens' gradients, and the two sums so far. -/
theorem st_dx (t : Fin cfg0.N) (acc) : (stAt0 m c t.val t.isLt acc).1
    = dxOf (B0 m c t) (B1 m c t) (B2 m c t) (B3 m c t) (B4 m c t) (B5 m c t) (B6 m c t) := by
  by_cases h0 : t.val % 8 = 0
  · rw [stAt0_A m c t acc h0 (by omega)]; dsimp only; rw [out7_A]
  · by_cases h1 : t.val % 8 = 7
    · rw [stAt0_C m c t acc h0 h1]; dsimp only; rw [out7_C]
    · rw [stAt0_B m c t acc h0 h1]; dsimp only; rw [out7_B]

theorem st_dg_first (t : Fin cfg0.N) (acc) (h0 : t.val % 8 = 0) : (stAt0 m c t.val t.isLt acc).2.1
    = dgOf (B0 m c t) (B2 m c t) (B3 m c t) (B4 m c t) (B6 m c t) (fun _ => 0) := by
  rw [stAt0_A m c t acc h0 (by omega)]; dsimp only; rw [out8_A]
theorem st_dg_next (t : Fin cfg0.N) (acc) (h0 : ¬ t.val % 8 = 0) : (stAt0 m c t.val t.isLt acc).2.1
    = dgOf (B0 m c t) (B2 m c t) (B3 m c t) (B4 m c t) (B6 m c t) acc.2.1 := by
  by_cases h1 : t.val % 8 = 7
  · rw [stAt0_C m c t acc h0 h1]; dsimp only; rw [out8_C]
  · rw [stAt0_B m c t acc h0 h1]; dsimp only; rw [out8_B]
theorem st_dw_first (t : Fin cfg0.N) (acc) (h0 : t.val % 8 = 0) : (stAt0 m c t.val t.isLt acc).2.2.2.2
    = dwOf (B0 m c t) (B1 m c t) (B2 m c t) (B3 m c t) (B4 m c t) (fun _ => 0) := by
  rw [stAt0_A m c t acc h0 (by omega)]; dsimp only; rw [sout_A]
theorem st_dw_next (t : Fin cfg0.N) (acc) (h0 : ¬ t.val % 8 = 0) : (stAt0 m c t.val t.isLt acc).2.2.2.2
    = dwOf (B0 m c t) (B1 m c t) (B2 m c t) (B3 m c t) (B4 m c t) acc.2.2.2.2 := by
  by_cases h1 : t.val % 8 = 7
  · rw [stAt0_C m c t acc h0 h1]; dsimp only; rw [sout_C]
  · rw [stAt0_B m c t acc h0 h1]; dsimp only; rw [sout_B]
/-- The last point stores both halves of the sum that it leaves in the scratch. -/
theorem st_mine (t : Fin cfg0.N) (acc) (h1 : t.val % 8 = 7) : (stAt0 m c t.val t.isLt acc).2.2.1
    = halfOf (dwOf (B0 m c t) (B1 m c t) (B2 m c t) (B3 m c t) (B4 m c t) acc.2.2.2.2) 0 := by
  rw [stAt0_C m c t acc (by omega) h1]; dsimp only; rw [out9_C]
theorem st_sib (t : Fin cfg0.N) (acc) (h1 : t.val % 8 = 7) : (stAt0 m c t.val t.isLt acc).2.2.2.1
    = halfOf (dwOf (B0 m c t) (B1 m c t) (B2 m c t) (B3 m c t) (B4 m c t) acc.2.2.2.2) 1 := by
  rw [stAt0_C m c t acc (by omega) h1]; dsimp only; rw [out10_C]

theorem lt8 {n : ℕ} (h : n < cfg0.N) : n < 8 := lt_of_lt_of_eq h (show cfg0.N = 8 from N_0)

/-- After point `n`: the sums over the tokens of the points up to `n`. -/
theorem sums (n : ℕ) : ∀ hn : n < cfg0.N,
    (∀ u j, (outsAt0 m c n hn).2.1 (ix2 u j) = ∑ s : Fin (n + 1), ∑ r, tokDg m c (tok ⟨s.val, by have := s.isLt; omega⟩ r) j)
    ∧ (∀ k j, (outsAt0 m c n hn).2.2.2.2 (ix2 k j)
        = ∑ s : Fin (n + 1), ∑ r, tokDw m c (tok ⟨s.val, by have := s.isLt; omega⟩ r) k j) := by
  induction n with
  | zero =>
    intro hn
    rw [outsAt0_zero]
    refine ⟨fun u j => ?_, fun k j => ?_⟩
    · rw [Fin.sum_univ_one, st_dg_first m c ⟨0, hn⟩ junk0 rfl, dg_tok]
      exact zero_add _
    · rw [Fin.sum_univ_one, st_dw_first m c ⟨0, hn⟩ junk0 rfl, dw_tok]
      exact zero_add _
  | succ n ih =>
    intro hn
    have h8 := lt8 hn
    obtain ⟨ig, iw⟩ := ih (Nat.lt_of_succ_lt hn)
    rw [outsAt0_succ]
    refine ⟨fun u j => ?_, fun k j => ?_⟩
    · rw [Fin.sum_univ_castSucc, st_dg_next m c ⟨n + 1, hn⟩ _ (by show ¬ (n + 1) % 8 = 0; omega), dg_tok, ig]
      rfl
    · rw [Fin.sum_univ_castSucc, st_dw_next m c ⟨n + 1, hn⟩ _ (by show ¬ (n + 1) % 8 = 0; omega), dw_tok, iw]
      rfl

/-- The sum over the eight points is the sum over the tokens. -/
theorem sum_points (f : Fin 2048 → EReal) (h : ∀ s : Fin (7 + 1), s.val < cfg0.N) :
    ∑ s : Fin (7 + 1), ∑ r, f (tok ⟨s.val, h s⟩ r) = ∑ s, f s :=
  (sum_tokens f).symm

theorem seven : (7 : ℕ) < cfg0.N := lt_of_lt_of_eq (by decide) N_0.symm

/-- The token gradients, as the run leaves them. -/
theorem G7_at (u : Fin 1) (s : Fin 2048) (j : Fin 1024) : G7 m c (ix3 u s j) = tokDx m c s j := by
  have hu : u.val = 0 := by have := u.isLt; omega
  have hs := s.isLt
  have hj := j.isLt
  have hp : pt7Of (ix3 u s j) = s.val / 256 := by
    show 8 * (u.val / 1 - 0) + 1 * (s.val / 256 - 0) + 1 * (j.val / 1024 - 0) = _
    omega
  have hN : s.val / 256 < cfg0.N := lt_of_lt_of_eq (by omega) N_0.symm
  have hl : loc7Of (ix3 u s j) = ix3 (n0 := 1) (n1 := 256) (n2 := 1024) 0 ⟨s.val % 256, Nat.mod_lt _ (by decide)⟩ j := by
    funext a; apply Fin.ext
    match a with
    | ⟨0, _⟩ => show u.val % 1 = 0; omega
    | ⟨1, _⟩ => rfl
    | ⟨2, _⟩ => show j.val % 1024 = j.val; omega
  unfold G7
  rw [dif_pos (by rw [hp]; exact hN), hl, fold0_congr m c _ _ (s.val / 256) (by omega) hp, ← outsAt0_sweep m c _ hN]
  have key : (outsAt0 m c (s.val / 256) hN).1 = dxOf (B0 m c ⟨_, hN⟩) (B1 m c ⟨_, hN⟩) (B2 m c ⟨_, hN⟩) (B3 m c ⟨_, hN⟩)
      (B4 m c ⟨_, hN⟩) (B5 m c ⟨_, hN⟩) (B6 m c ⟨_, hN⟩) := by
    generalize s.val / 256 = n at hN
    cases n with
    | zero => rw [outsAt0_zero]; exact st_dx m c ⟨0, hN⟩ _
    | succ n => rw [outsAt0_succ]; exact st_dx m c ⟨n + 1, hN⟩ _
  rw [key, dx_tok]
  exact congrArg (fun s => tokDx m c s j) (Fin.ext (by show s.val / 256 * 256 + s.val % 256 = s.val; omega))

/-- The gain's gradient. -/
theorem G8_at (u : Fin 1) (j : Fin 1024) : G8 m c (ix2 u j) = ∑ s, tokDg m c s j := by
  rw [G8_last, ← outsAt0_sweep m c 7 seven, (sums m c 7 seven).1 u j]
  exact sum_points (fun s => tokDg m c s j) _

/-- The two halves of the weight's gradient. -/
theorem halves (p : Fin 2) (y : Fin 4) (n : Fin 464) (j : Fin 1024) :
    halfOf (outsAt0 m c 7 seven).2.2.2.2 p (ix3 y n j)
      = ∑ s, tokDw m c s ⟨y.val * 928 + 464 * p.val + n.val, by have := y.isLt; have := n.isLt; omega⟩ j := by
  show (outsAt0 m c 7 seven).2.2.2.2 (ix2 _ j) = _
  rw [(sums m c 7 seven).2]
  exact sum_points (fun s => tokDw m c s ⟨y.val * 928 + 464 * p.val + n.val, _⟩ j) _

theorem last_acc : (outsAt0 m c 7 seven).2.2.2.2 = dwOf (B0 m c ⟨7, seven⟩) (B1 m c ⟨7, seven⟩) (B2 m c ⟨7, seven⟩)
    (B3 m c ⟨7, seven⟩) (B4 m c ⟨7, seven⟩) (outsAt0 m c 6 (Nat.lt_of_succ_lt seven)).2.2.2.2 := by
  rw [outsAt0_succ]
  exact st_dw_next m c ⟨7, seven⟩ _ (by decide)

theorem G9_at (y : Fin 4) (n : Fin 464) (j : Fin 1024) : G9 m c (ix3 y n j)
    = ∑ s, tokDw m c s ⟨y.val * 928 + 464 * (0 : Fin 2).val + n.val, by have := y.isLt; have := n.isLt; show _ * _ + 464 * 0 + _ < _; omega⟩ j := by
  rw [G9_last, ← outsAt0_sweep m c 7 seven, outsAt0_succ, st_mine m c ⟨7, seven⟩ _ (by decide), ← last_acc]
  exact halves m c 0 y n j

theorem G10_at (y : Fin 4) (n : Fin 464) (j : Fin 1024) : G10 m c (ix3 y n j)
    = ∑ s, tokDw m c s ⟨y.val * 928 + 464 * (1 : Fin 2).val + n.val, by have := y.isLt; have := n.isLt; show _ * _ + 464 * 1 + _ < _; omega⟩ j := by
  rw [G10_last, ← outsAt0_sweep m c 7 seven, outsAt0_succ, st_sib m c ⟨7, seven⟩ _ (by decide), ← last_acc]
  exact halves m c 1 y n j

/-- The kernel's arrays are the reference's. -/
theorem G7_eq : G7 m c = Cert.ReferenceIdeal.Read.val_main_v45 (F := Ideal) (A0 m c) (A1 m c) (A2 m c) (A3 m c) (A4 m c) (A5 m c) (A6 m c) := by
  funext y
  obtain ⟨u, s, j, rfl⟩ : ∃ (u : Fin 1) (s : Fin 2048) (j : Fin 1024), y = ix3 u s j := ⟨y 0, y 1, y 2, eq_ix3 y⟩
  obtain rfl : u = 0 := Subsingleton.elim _ _
  exact (G7_at m c 0 s j).trans (v45_at _ _ _ _ _ _ _ s j).symm

theorem G8_eq : G8 m c = Cert.ReferenceIdeal.Read.val_main_v29 (F := Ideal) (A0 m c) (A2 m c) (A3 m c) (A4 m c) (A6 m c) := by
  funext y
  obtain ⟨u, j, rfl⟩ : ∃ (u : Fin 1) (j : Fin 1024), y = ix2 u j := ⟨y 0, y 1, eq_ix2 y⟩
  exact (G8_at m c u j).trans (v29_at _ _ _ _ _ u j).symm

theorem G9_eq : G9 m c = Cert.ReferenceIdeal.Read.val_main_v49 (F := Ideal) (A0 m c) (A1 m c) (A2 m c) (A3 m c) (A4 m c) := by
  funext z
  obtain ⟨y, n, j, rfl⟩ : ∃ (y : Fin 4) (n : Fin 464) (j : Fin 1024), z = ix3 y n j := ⟨z 0, z 1, z 2, eq_ix3 z⟩
  refine (G9_at m c y n j).trans (Eq.trans ?_ (v49_at _ _ _ _ _ y n j).symm)
  exact Finset.sum_congr (M := EReal) rfl fun s _ => congrArg (fun k => tokDw m c s k j)
    (Fin.ext (by show y.val * 928 + 464 * 0 + n.val = y.val * 928 + n.val; omega))

theorem G10_eq : G10 m c = Cert.ReferenceIdeal.Read.val_main_v52 (F := Ideal) (A0 m c) (A1 m c) (A2 m c) (A3 m c) (A4 m c) := by
  funext z
  obtain ⟨y, n, j, rfl⟩ : ∃ (y : Fin 4) (n : Fin 464) (j : Fin 1024), z = ix3 y n j := ⟨z 0, z 1, z 2, eq_ix3 z⟩
  refine (G10_at m c y n j).trans (Eq.trans ?_ (v52_at _ _ _ _ _ y n j).symm)
  exact Finset.sum_congr (M := EReal) rfl fun s _ => congrArg (fun k => tokDw m c s k j)
    (Fin.ext (by show y.val * 928 + 464 * 1 + n.val = y.val * 928 + 464 + n.val; omega))

end Cert.InProj
-- ==== Proof.Ret.Frame.lean ====
/- The reference of the retention's backward pass leaves its arguments alone: no operation before its loop, of the loop's
   condition, of the loop's body or after the loop writes one of them. -/
module

public import proofs.«01_k».proof.Defs
public import proofs.«01_k».proof.Proof.Gen.Reference2Ideal
public import proofs.«01_k».proof.Proof.Gen.Reference2Ideal.Run

@[expose] public section

set_option maxRecDepth 16384

noncomputable section

namespace Cert.Ret

open Idealize.ShloMosaic Idealize.ShloMosaic.TcCoe Idealize.SL.Sem
open Cert.Reference2Ideal Cert.Reference2Ideal.Gen Cert.Reference2Ideal.Value
open Idealize.ShloMosaic.StableHlo

/-- The references that the operations after the loop write, in order. -/
abbrev post_W : List (Ref sig .tc) :=
  [main_v199, main_cst_19, main_v200, main_v201, main_cst_20, main_v202, main_v203, main_v204, main_cst_21, main_v205, main_v206, main_v207, main_v208, main_v209, main_v210, main_v211, main_v212, main_v213, main_v214, main_v215, main_v216, main_v217, main_v218, main_v219, main_v220, main_v221, main_v222, main_cst_22, main_v223, main_v224, main_v225, main_v226, main_v227, main_v228, main_v229, main_v230, main_v231, main_cst_23, main_v232, main_v233, main_v234, main_v235, main_v236, main_v237, main_v238, main_cst_24, main_v239, main_v240, main_v241, main_v242, main_v243, main_v244, main_v245, main_v246, main_v247, main_v248, main_v249, main_v250, main_v251, main_v252, main_v253, main_v254, main_v255, main_v256, main_v257, main_cst_25, main_v258, main_cst_26, main_v259, main_v260, main_v261, main_v262, main_v263, main_v264, main_v265, main_v266, main_v267, main_v268, main_v269, main_v270, main_v271, main_v272, main_v273, main_cst_27, main_v274, main_cst_28, main_v275, main_v276, main_v277, main_cst_29, main_v278, main_v279, main_v280, main_v281, main_v282, main_v283, main_v284, main_v285, main_v286, main_v287, main_v288, main_v289, main_v290, main_v291, main_v292, main_cst_30, main_v293, main_cst_31, main_v294, main_v295, main_v296, main_cst_32, main_v297, main_v298, main_v299]

/-- The operations after the loop keep the arguments. -/
theorem post_keeps (r : Ref sig .tc) (hr : r = main_arg0 ∨ r = main_arg1 ∨ r = main_arg2)
    (V : Valuation τ sig (Elt Ideal)) :
    after (hostOps0_1 (F := Ideal)) V (Proc.devRef .tc r) = V (Proc.devRef .tc r) := by
  refine after_of_writes_sub (hostOps0_1 (F := Ideal)) V (W := post_W) (StableHlo.forall_writes_sub_of_map rfl) ?_
  rcases hr with rfl | rfl | rfl <;> decide +kernel

/-- One trip round the loop keeps the arguments. -/
theorem trip_keeps (r : Ref sig .tc) (hr : r = main_arg0 ∨ r = main_arg1 ∨ r = main_arg2)
    (V : Valuation τ sig (Elt Ideal)) :
    afterL (bodyI (F := Ideal)) (after condOps V) (Proc.devRef .tc r) = V (Proc.devRef .tc r) := by
  have h : r ∉ condOps_W ∧ r ∉ while0Ops0_W ∧ r ∉ while0Ops0_1_W ∧ r ∉ while0Ops0_2_W ∧ r ∉ while0Ops0_3_W
      ∧ r ∉ while0Ops0_4_W := by rcases hr with rfl | rfl | rfl <;> decide +kernel
  obtain ⟨h0, h1, h2, h3, h4, h5⟩ := h
  show after while0Ops0_4 (after while0Ops0_3 (after while0Ops0_2 (after while0Ops0_1 (after while0Ops0
    (after condOps V))))) _ = _
  rw [after_of_writes_sub _ _ while0Ops0_4_writes h5, after_of_writes_sub _ _ while0Ops0_3_writes h4,
    after_of_writes_sub _ _ while0Ops0_2_writes h3, after_of_writes_sub _ _ while0Ops0_1_writes h2,
    after_of_writes_sub _ _ while0Ops0_writes h1, after_of_writes_sub _ _ condOps_writes h0]

/-- The arguments are as at the launch before every trip. -/
theorem atK_keeps (r : Ref sig .tc) (hr : r = main_arg0 ∨ r = main_arg1 ∨ r = main_arg2)
    (m : (ℓ : Loc nD τ sig) → Buf (Elt Ideal) ℓ) (c : Dev nD) :
    ∀ k : ℕ, atK (F := Ideal) m k c (Proc.devRef .tc r) = launchContents m c (Proc.devRef .tc r)
  | 0 => by
    have h : r ∉ hostOps0_W := by rcases hr with rfl | rfl | rfl <;> decide +kernel
    show after hostOps0 (launchContents m c) _ = _
    rw [after_of_writes_sub _ _ hostOps0_writes h]
  | k + 1 => (trip_keeps r hr _).trans (atK_keeps r hr m c k)

/-- The arguments are as at the launch when the program ends. -/
theorem final_keeps (r : Ref sig .tc) (hr : r = main_arg0 ∨ r = main_arg1 ∨ r = main_arg2)
    (m : (ℓ : Loc nD τ sig) → Buf (Elt Ideal) ℓ) (c : Dev nD) :
    finalContents (F := Ideal) condOps preI bodyI postI 32 m c (Proc.devRef .tc r) = launchContents m c (Proc.devRef .tc r) := by
  have h : r ∉ condOps_W := by rcases hr with rfl | rfl | rfl <;> decide +kernel
  show after hostOps0_1 (after condOps (atK m 32 c)) _ = _
  rw [post_keeps r hr, after_of_writes_sub _ _ condOps_writes h, atK_keeps r hr]

/-- The reference's run: it ends with its arguments as they were, and every counter at zero. -/
theorem frame_reference : Cert.quiescent_Reference2Ideal := fun m ρ _ =>
  (θ_run Cert.Reference2Ideal.defs _ _).mono
    (fun r h => ⟨fun c =>
      ⟨(h c main_arg0 rfl).trans (final_keeps main_arg0 (.inl rfl) m c),
        (h c main_arg1 rfl).trans (final_keeps main_arg1 (.inr (.inl rfl)) m c),
        (h c main_arg2 rfl).trans (final_keeps main_arg2 (.inr (.inr rfl)) m c)⟩,
      sem_eq_zero_of_no_sems (by decide) r.2⟩)
    (Cert.Reference2Ideal.Value.run_fold m ρ)

end Cert.Ret
-- ==== Proof.Prep.Pay.lean ====
module

public import proofs.«01_k».proof.Proof.Gen.Kernel3Ideal.Skeleton
public import proofs.«01_k».proof.Proof.Prep.Math

@[expose] public section

set_option maxRecDepth 16384

/-!
What the values that one grid point of the forward call stores are, at an index: the block's tokens are the rows `r < 256`.
-/

noncomputable section

namespace Cert.Prep

open Idealize.ShloMosaic Idealize.ShloMosaic.TcCoe Idealize.SL.Sem
open Cert.Kernel3Ideal Cert.Kernel3Ideal.Gen Cert.InProj

variable (x : FVec Ideal S1x256x1024 .f32) (g : FVec Ideal S1x1024 .f32)
  (w1 : FVec Ideal S1536x1024 .bf16) (w2 : FVec Ideal S2176x1024 .bf16)
  (p : FVec Ideal S256x2176 .f32) (mu last : FVec Ideal S1x2176 .f32)

/-- Token `r` of the block. -/
def bx (r : Fin 256) (k : Fin 1024) : EReal := x (ix3 0 r k)
def bg (k : Fin 1024) : EReal := g (ix2 0 k)

theorem pay4_at (r : Fin 256) (j : Fin 1024) : k0_pay4 (F := Ideal) x g (ix2 r j) = rowU (bx x r) (bg g) j := by
  pointwise [k0_pay4]
  rfl

theorem pay5_at (r : Fin 256) (n : Fin 1536) : k0_pay5 (F := Ideal) x g w1 (ix2 r n)
    = ∑ k, rowU (bx x r) (bg g) k * w1 (ix2 n k) := by
  pointwise [k0_pay5, pay4_at]

theorem pay6_at (r : Fin 256) (n : Fin 2176) : k0_pay6 (F := Ideal) x g w2 (ix2 r n)
    = ∑ k, rowU (bx x r) (bg g) k * w2 (ix2 n k) := by
  pointwise [k0_pay6, pay4_at]

/-- The row of the token before: the last row of the block before at the block's first token. -/
def bprev (r : Fin 256) (j : Fin 2176) : EReal :=
  if r.val = 0 then last (ix2 0 j) else p (ix2 ⟨r.val - 1, by have := r.isLt; omega⟩ j)

/-- Token `r`'s shifted row. -/
def bq (r : Fin 256) : Fin 2176 → EReal :=
  shifted (fun j => p (ix2 r j)) (bprev p last r) (fun j => mu (ix2 0 j))

theorem iota_eq_zero : ∀ r : Fin 256, (IntOp.cmpi CmpIPredicate.eq (BitVec.ofNat 32 r.val) 0#32) = if r.val = 0 then 1#1 else 0#1 := by
  decide +kernel

theorem pay8_at (r : Fin 256) (j : Fin 2176) : k0_pay8 (F := Ideal) p mu last k0_pay7 1#32 (ix2 r j) = bq p mu last r j := by
  pointwise [k0_pay8, k0_pay7]
  rw [iota_eq_zero]
  unfold bq shifted bprev
  by_cases h : r.val = 0
  · rw [if_pos h, if_pos h]; rfl
  · rw [if_neg h, if_neg h]
    have e : (⟨(r.val + 256 - 1) % 256, Nat.mod_lt _ (by decide)⟩ : Fin 256) = ⟨r.val - 1, by have := r.isLt; omega⟩ :=
      Fin.ext (by show (r.val + 256 - 1) % 256 = r.val - 1; have := r.isLt; omega)
    rw [e]; rfl

theorem pay9_at (r : Fin 8) (j : Fin 2176) : k0_pay9 (F := Ideal) p (ix2 r j)
    = p (ix2 ⟨248 + r.val, by have := r.isLt; omega⟩ j) := by
  pointwise [k0_pay9]

theorem pay21_at (r : Fin 256) (j : Fin 512) : k0_pay21 (F := Ideal) (k0_pay8 p mu last k0_pay7 1#32) (ix2 r j)
    = bq p mu last r ⟨j.val, by have := j.isLt; omega⟩ := by
  pointwise [k0_pay21, pay8_at]

theorem pay1_at (r : Fin 256) (j : Fin 512) : k0_pay1 (F := Ideal) (k0_pay8 p mu last k0_pay7 1#32) (ix2 r j)
    = bq p mu last r ⟨1024 + j.val, by have := j.isLt; omega⟩ := by
  pointwise [k0_pay1, pay8_at]

theorem pay2_at (r : Fin 256) (j : Fin 512) : k0_pay2 (F := Ideal) (k0_pay8 p mu last k0_pay7 1#32) (ix2 r j)
    = bq p mu last r ⟨1536 + j.val, by have := j.isLt; omega⟩ := by
  pointwise [k0_pay2, pay8_at]

theorem pay10_at (r : Fin 256) (j : Fin 512) : k0_pay10 (F := Ideal) p mu last k0_pay7 1#32 (ix2 r j)
    = kRaw (bq p mu last r) j := by
  pointwise [k0_pay10, pay8_at]
  rfl

theorem pay11_at (r : Fin 256) (l : Fin 128) : k0_pay11 (F := Ideal) p mu last k0_pay7 1#32 (ix2 r l)
    = bq p mu last r ⟨2048 + l.val, by have := l.isLt; omega⟩ := by
  pointwise [k0_pay11, pay8_at]

variable (w0 a0 kk ka : FVec Ideal S1x512 .f32) (wp ap : FVec Ideal S512x128 .f32) (ones : FVec Ideal S256x128 .f32)
  {wup aup : Fin 512 → Fin 64 → EReal}

/-- A row of 512 entries. -/
def row (v : FVec Ideal S1x512 .f32) (j : Fin 512) : EReal := v (ix2 0 j)

/-- 64 columns, padded with zeros to 128 on the right. -/
structure PadR (wup : Fin 512 → Fin 64 → EReal) : Prop where
  l : ∀ (j : Fin 512) (l : Fin 64), wp (ix2 j ⟨l.val, by have := l.isLt; omega⟩) = wup j l
  r : ∀ (j : Fin 512) (l : Fin 64), wp (ix2 j ⟨64 + l.val, by have := l.isLt; omega⟩) = 0

/-- 64 columns, padded with zeros to 128 on the left. -/
structure PadL (aup : Fin 512 → Fin 64 → EReal) : Prop where
  l : ∀ (j : Fin 512) (l : Fin 64), ap (ix2 j ⟨l.val, by have := l.isLt; omega⟩) = 0
  r : ∀ (j : Fin 512) (l : Fin 64), ap (ix2 j ⟨64 + l.val, by have := l.isLt; omega⟩) = aup j l

variable {wp ap}

theorem pay14_at (h : PadR wp wup) (r : Fin 256) (j : Fin 512) :
    k0_pay14 (F := Ideal) p mu last k0_pay7 1#32 w0 wp (ix2 r j) = -wArg (bq p mu last r) (row w0) wup j := by
  pointwise [k0_pay14, pay11_at]
  rw [Fin.sum_univ_two_halves 64 64 rfl]
  have e : ∑ k : Fin 64, Ideal.tanh (bq p mu last r ⟨2048 + (64 + k.val), by have := k.isLt; omega⟩)
      * wp (ix2 j ⟨64 + k.val, by have := k.isLt; omega⟩) = 0 :=
    Finset.sum_eq_zero fun k _ => (congrArg (_ * ·) (h.r j k)).trans (mul_zero _)
  rw [zero_sub]
  refine congrArg (fun z => -(w0 (ix2 0 j) + z)) ?_
  refine (congrArg (_ + ·) e).trans ((add_zero _).trans ?_)
  exact Finset.sum_congr rfl fun k _ => congrArg (_ * ·) (h.l j k)

theorem pay17_at (h : PadR wp wup) (r : Fin 256) (j : Fin 512) :
    k0_pay17 (F := Ideal) (k0_pay15 p mu last k0_pay7 1#32 w0 wp) (k0_pay16 p mu last k0_pay7 1#32 w0 wp)
        (Scalar.ofBits .f32 0x3F800000#32) (ix2 r j)
      = decay (wArg (bq p mu last r) (row w0) wup j) := by
  pointwise [k0_pay17, k0_pay15, k0_pay16, pay14_at _ _ _ _ h]
  simp only [zero_sub]
  rfl

theorem pay18_at (h : PadL ap aup) (r : Fin 256) (j : Fin 512) :
    k0_pay18 (F := Ideal) (k0_pay11 p mu last k0_pay7 1#32) a0 (k0_pay12 ap) (ix2 r j)
      = aGate (bq p mu last r) (row a0) aup j := by
  pointwise [k0_pay18, k0_pay12, pay11_at]
  rw [Fin.sum_univ_two_halves 64 64 rfl]
  have e : ∑ k : Fin 64, bq p mu last r ⟨2048 + k.val, by have := k.isLt; omega⟩
      * ap (ix2 j ⟨k.val, by have := k.isLt; omega⟩) = 0 :=
    Finset.sum_eq_zero fun k _ => (congrArg (_ * ·) (h.l j k)).trans (mul_zero _)
  refine congrArg (fun z => Ideal.logistic (a0 (ix2 0 j) + z)) ?_
  refine (congrArg (· + _) e).trans ((zero_add _).trans ?_)
  exact Finset.sum_congr rfl fun k _ => congrArg₂ (· * ·)
    (congrArg (bq p mu last r) (Fin.ext (by show 2048 + (64 + k.val) = 2112 + k.val; omega))) (h.r j k)

theorem pay20_at (h : PadL ap aup) (r : Fin 256) (j : Fin 512) :
    k0_pay20 (F := Ideal) (k0_pay10 p mu last k0_pay7 1#32) (k0_pay11 p mu last k0_pay7 1#32) a0 ka (k0_pay12 ap) (ix2 r j)
      = kOut (bq p mu last r) (aGate (bq p mu last r) (row a0) aup) (row ka) j := by
  pointwise [k0_pay20, pay10_at, pay18_at _ _ _ _ h]
  rfl

/-- The 0/1 matrix that adds up a head of 64 lanes: two heads in 128 lanes, the matrix twice over. -/
def Heads (ones : FVec Ideal S256x128 .f32) : Prop :=
  ∀ (i : Fin 256) (c : Fin 128), ones (ix2 i c) = if i.val % 128 / 64 = c.val / 64 then 1 else 0

variable {ones}

/-- The product with that matrix, of 128 lanes and as many zeros, is the sum over the lane's head. -/
theorem head_sum (h : Heads ones) (f : Fin 512 → EReal) (f' : Fin 128 → EReal) (o : ℕ) (ho : o % 128 = 0) (ho' : o + 128 ≤ 512)
    (hf : ∀ x : Fin 128, f' x = f ⟨o + x.val, by have := x.isLt; omega⟩) (j : Fin 512) (c : Fin 128) (hc : o + c.val = j.val) :
    ∑ x : Fin 128, f' x * ones (ix2 ⟨x.val, by have := x.isLt; omega⟩ c)
        + ∑ x : Fin 128, 0 * ones (ix2 ⟨128 + x.val, by have := x.isLt; omega⟩ c)
      = ∑ l, f (lane j l) := by
  rw [Finset.sum_eq_zero (f := fun x : Fin 128 => 0 * ones (ix2 ⟨128 + x.val, _⟩ c)) (fun x _ => zero_mul _), add_zero,
    Fin.sum_univ_two_halves 64 64 rfl]
  have hcl := c.isLt
  have on : ∀ (x : ℕ) (hx : x < 256), x < 128 → x / 64 = c.val / 64 → ones (ix2 ⟨x, hx⟩ c) = 1 := fun x hx h1 h2 => by
    rw [h]; exact if_pos (by show x % 128 / 64 = _; rw [Nat.mod_eq_of_lt h1, h2])
  have off : ∀ (x : ℕ) (hx : x < 256), x < 128 → x / 64 ≠ c.val / 64 → ones (ix2 ⟨x, hx⟩ c) = 0 := fun x hx h1 h2 => by
    rw [h]; exact if_neg (by show ¬ x % 128 / 64 = _; rw [Nat.mod_eq_of_lt h1]; exact h2)
  by_cases hc64 : c.val < 64
  · rw [Finset.sum_eq_zero (s := Finset.univ) (f := fun k : Fin 64 => f' ⟨64 + k.val, _⟩ * ones (ix2 ⟨64 + k.val, _⟩ c))
      (fun k _ => by rw [off _ _ (by have := k.isLt; omega) (by have := k.isLt; omega), mul_zero]), add_zero]
    refine Finset.sum_congr rfl fun k _ => ?_
    have hk := k.isLt
    refine (congrArg (_ * ·) (on k.val (by omega) (by omega) (by omega))).trans ((mul_one _).trans ((hf _).trans ?_))
    exact congrArg f (Fin.ext (by show o + k.val = j.val / 64 * 64 + k.val; omega))
  · rw [Finset.sum_eq_zero (s := Finset.univ) (f := fun k : Fin 64 => f' ⟨k.val, _⟩ * ones (ix2 ⟨k.val, _⟩ c))
      (fun k _ => by rw [off _ _ (by have := k.isLt; omega) (by have := k.isLt; omega), mul_zero]), zero_add]
    refine Finset.sum_congr rfl fun k _ => ?_
    have hk := k.isLt
    refine (congrArg (_ * ·) (on (64 + k.val) (by omega) (by omega) (by omega))).trans ((mul_one _).trans ((hf _).trans ?_))
    exact congrArg f (Fin.ext (by show o + (64 + k.val) = j.val / 64 * 64 + k.val; omega))

/-- The square of a scaled key's entry. -/
def bsq (r : Fin 256) (i : Fin 512) : EReal :=
  (kRaw (bq p mu last r) i * kk (ix2 0 i)) * (kRaw (bq p mu last r) i * kk (ix2 0 i))

theorem pay19_at (h : Heads ones) (r : Fin 256) (j : Fin 512) :
    k0_pay19 (F := Ideal) (k0_pay10 p mu last k0_pay7 1#32) kk (k0_pay13 ones) (ix2 r j)
      = kDir (bq p mu last r) (row kk) j := by
  pointwise [k0_pay19, k0_pay13, pay10_at]
  have hr := r.isLt
  have hj := j.isLt
  refine congrArg (fun z => Ideal.div (kRaw (bq p mu last r) j * kk (ix2 0 j)) (max (Ideal.sqrt z) _)) ?_
  refine Eq.trans ?_ (show ∑ l, bsq p mu last kk r (lane j l) = _ from rfl)
  have key := head_sum h (bsq p mu last kk r)
  by_cases h1 : j.val < 128
  · rw [dif_pos h1]
    exact key (fun x => bsq p mu last kk r ⟨x.val, by have := x.isLt; omega⟩) 0 rfl (by omega)
      (fun x => congrArg _ (Fin.ext (by show x.val = 0 + x.val; omega))) j ⟨j.val, h1⟩ (Nat.zero_add _)
  rw [dif_neg h1]
  by_cases h2 : j.val - 128 < 128
  · rw [dif_pos h2]
    exact key (fun x => bsq p mu last kk r ⟨128 + x.val, by have := x.isLt; omega⟩) 128 rfl (by omega)
      (fun x => rfl) j ⟨_, h2⟩ (by show 128 + (j.val - 128) = _; omega)
  rw [dif_neg h2]
  by_cases h3 : j.val - 128 - 128 < 128
  · rw [dif_pos h3]
    refine Eq.trans ?_ (key (fun x => bsq p mu last kk r ⟨256 + x.val, by have := x.isLt; omega⟩) 256 rfl (by omega)
      (fun x => rfl) j ⟨_, h3⟩ (by show 256 + (j.val - 128 - 128) = _; omega))
    refine congrArg (· + _) (Finset.sum_congr rfl fun x _ => congrArg (· * _) ?_)
    have e : (⟨512 + r.val - 256 - 256, by omega⟩ : Fin 256) = r := Fin.ext (by show 512 + r.val - 256 - 256 = r.val; omega)
    exact (dif_neg (by omega)).trans ((dif_neg (by omega)).trans ((dif_pos (by omega)).trans
      (congrArg (fun r' => bsq p mu last kk r' ⟨256 + x.val, by have := x.isLt; omega⟩) e)))
  · rw [dif_neg h3]
    refine Eq.trans ?_ (key (fun x => bsq p mu last kk r ⟨384 + x.val, by have := x.isLt; omega⟩) 384 rfl (by omega)
      (fun x => rfl) j ⟨j.val - 128 - 128 - 128, by omega⟩ (by show 384 + (j.val - 128 - 128 - 128) = _; omega))
    refine congrArg (· + _) (Finset.sum_congr rfl fun x _ => congrArg (· * _) ?_)
    have e : (⟨768 + r.val - 256 - 256 - 256, by omega⟩ : Fin 256) = r :=
      Fin.ext (by show 768 + r.val - 256 - 256 - 256 = r.val; omega)
    exact (dif_neg (by omega)).trans ((dif_neg (by omega)).trans ((dif_neg (by omega)).trans
      (congrArg (fun r' => bsq p mu last kk r' ⟨384 + x.val, by have := x.isLt; omega⟩) e)))

end Cert.Prep
-- ==== Proof.Prep.Case.lean ====
module

public import proofs.«01_k».proof.Proof.Gen.Kernel3Ideal.Frame
public import proofs.«01_k».proof.Proof.Prep.Pay
public import Idealize.ShloMosaic.Lib.Pipeline.Value
public import Idealize.ShloMosaic.Lib.Pipeline.CanonAppend

@[expose] public section

set_option maxRecDepth 16384

/-!
What one grid point of the forward call leaves in its nine output blocks and in the scratch, as one function of the
point's blocks and of the last projected row of the point before.
-/

noncomputable section

namespace Cert.Prep

open Idealize.ShloMosaic Idealize.ShloMosaic.TcCoe Idealize.SL.Sem
open Cert.Kernel3Ideal Cert.Kernel3Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The weight's first 1536 rows, and the other 2176. -/
def rows1 (w : FVec Ideal S3712x1024 .bf16) : FVec Ideal S1536x1024 .bf16 := fun y =>
  w (ix2 ⟨(y 0).val, by have h : (y 0).val < 1536 := (y 0).isLt; omega⟩ (y 1))
def rows2 (w : FVec Ideal S3712x1024 .bf16) : FVec Ideal S2176x1024 .bf16 := fun y =>
  w (ix2 ⟨1536 + (y 0).val, by have h : (y 0).val < 2176 := (y 0).isLt; omega⟩ (y 1))
/-- The last of eight rows. -/
def lastRow (s : FVec Ideal S8x2176 .f32) : FVec Ideal S1x2176 .f32 := fun y => s (ix2 7 (y 1))

theorem ld_rows1 (w : FVec Ideal S3712x1024 .bf16) (inb) :
    View.ld (Val := Elt Ideal) (e' := .bf16) w (Rect.unit (s := S3712x1024) ![0, 0] ![1536, 1024] inb) = rows1 w := by
  funext y
  refine congrArg w ?_
  funext a; fin_cases a <;> apply Fin.ext
  · show 0 + 1 * (y 0).val = (y 0).val; omega
  · show 0 + 1 * (y 1).val = (y 1).val; omega

theorem ld_rows2 (w : FVec Ideal S3712x1024 .bf16) (inb) :
    View.ld (Val := Elt Ideal) (e' := .bf16) w (Rect.unit (s := S3712x1024) ![1536, 0] ![2176, 1024] inb) = rows2 w := by
  funext y
  refine congrArg w ?_
  funext a; fin_cases a <;> apply Fin.ext
  · show 1536 + 1 * (y 0).val = 1536 + (y 0).val; omega
  · show 0 + 1 * (y 1).val = (y 1).val; omega

theorem ld_last (s : FVec Ideal S8x2176 .f32) (inb) :
    View.ld (Val := Elt Ideal) (e' := .f32) s (Rect.unit (s := S8x2176) ![7, 0] ![1, 2176] inb) = lastRow s := by
  funext y
  refine congrArg s ?_
  have hy : (y 0).val < 1 := (y 0).isLt
  funext a; fin_cases a <;> apply Fin.ext
  · show 7 + 1 * (y 0).val = 7; omega
  · show 0 + 1 * (y 1).val = (y 1).val; omega

/-- The scratch filled with zeros, read back. -/
theorem cov_last {sp : Space} (v : View Cert.Kernel3Ideal.sig .tc sp S8x2176 .f32) (i0 i1) :
    v.readCov (Val := Elt Ideal) [⟨Rect.unit (s := S8x2176) ![0, 0] ![8, 2176] i0, k0_pay3 (F := Ideal)⟩]
      (Rect.unit (s := S8x2176) ![7, 0] ![1, 2176] i1).toLoadRect = lastRow fun _ => 0 := by
  rw [View.readCov_eq_canon', View.canon_unit_zero (S := S8x2176) hz2 (Val := Elt Ideal) (e := .f32) i0 _]
  funext y
  show k0_pay3 (F := Ideal) _ = 0
  pointwise [k0_pay3]

/-- The ten arrays that a point leaves. -/
abbrev Outs : Type := Vec Ideal S256x1536 .f32 × Vec Ideal S256x2176 .f32 × Vec Ideal S256x512 .f32 × Vec Ideal S256x512 .f32
  × Vec Ideal S256x512 .f32 × Vec Ideal S256x512 .f32 × Vec Ideal S256x512 .f32 × Vec Ideal S256x512 .f32
  × Vec Ideal S256x512 .f32 × Vec Ideal S8x2176 .f32

variable (x0 : FVec Ideal S1x256x1024 .f32) (x1 : FVec Ideal S1x1024 .f32) (x2 : FVec Ideal S3712x1024 .bf16)
  (x3 : FVec Ideal S1x2176 .f32) (x4 x5 x6 x7 : FVec Ideal S1x512 .f32) (x8 x9 : FVec Ideal S512x128 .f32)
  (x10 : FVec Ideal S256x128 .f32) (last : FVec Ideal S1x2176 .f32)

/-- The block's projected rows, the recurrence's part. -/
abbrev pOf : FVec Ideal S256x2176 .f32 := k0_pay6 (F := Ideal) x0 x1 (rows2 x2)

/-- What a point leaves, given the last projected row of the point before. -/
def ptOf : Outs :=
  (k0_pay5 (F := Ideal) x0 x1 (rows1 x2), pOf x0 x1 x2,
    k0_pay21 (F := Ideal) (k0_pay8 (F := Ideal) (pOf x0 x1 x2) x3 last k0_pay7 1#32),
    k0_pay17 (F := Ideal) (k0_pay15 (F := Ideal) (pOf x0 x1 x2) x3 last k0_pay7 1#32 x4 x8) (k0_pay16 (F := Ideal) (pOf x0 x1 x2) x3 last k0_pay7 1#32 x4 x8)
      (Scalar.ofBits (F := Ideal) .f32 0x3F800000#32),
    k0_pay20 (F := Ideal) (k0_pay10 (F := Ideal) (pOf x0 x1 x2) x3 last k0_pay7 1#32) (k0_pay11 (F := Ideal) (pOf x0 x1 x2) x3 last k0_pay7 1#32) x5 x7 (k0_pay12 (F := Ideal) x9),
    k0_pay1 (F := Ideal) (k0_pay8 (F := Ideal) (pOf x0 x1 x2) x3 last k0_pay7 1#32),
    k0_pay19 (F := Ideal) (k0_pay10 (F := Ideal) (pOf x0 x1 x2) x3 last k0_pay7 1#32) x6 (k0_pay13 (F := Ideal) x10),
    k0_pay18 (F := Ideal) (k0_pay11 (F := Ideal) (pOf x0 x1 x2) x3 last k0_pay7 1#32) x5 (k0_pay12 (F := Ideal) x9),
    k0_pay2 (F := Ideal) (k0_pay8 (F := Ideal) (pOf x0 x1 x2) x3 last k0_pay7 1#32),
    k0_pay9 (F := Ideal) (pOf x0 x1 x2))

variable (c : Dev nD) (i : grid0.Coords) (arg1 : Memref sig .tc .vmem S1x256x1024 .f32) (harg1 : arg1.IsWhole) (arg2 : Memref sig .tc .vmem S1x1024 .f32) (harg2 : arg2.IsWhole) (arg3 : Memref sig .tc .vmem S3712x1024 .bf16) (harg3 : arg3.IsWhole) (arg4 : Memref sig .tc .vmem S1x2176 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S256x128 .f32) (harg11 : arg11.IsWhole) (arg12 : Memref sig .tc .vmem S256x1536 .f32) (harg12 : arg12.IsWhole) (arg13 : Memref sig .tc .vmem S256x2176 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x512 .f32) (harg19 : arg19.IsWhole) (arg20 : Memref sig .tc .vmem S256x512 .f32) (harg20 : arg20.IsWhole) (arg21 : Memref sig .tc .vmem S8x2176 .f32) (harg21 : arg21.IsWhole)
  (xs0 : FVec Ideal S8x2176 .f32)

/-- The first point: the row before the first token is zero. -/
theorem outs_A (hc0 : cond0_0 i) :
    ((out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10,
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10,
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10,
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10,
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10,
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10,
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10,
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10,
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10,
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10) : Outs)
      = ptOf x0 x1 x2 x3 x4 x5 x6 x7 x8 x9 x10 (lastRow fun _ => 0) := by
  unfold ptOf out0_A_11 out0_A_12 out0_A_13 out0_A_14 out0_A_15 out0_A_16 out0_A_17 out0_A_18 out0_A_19 sout0_A_0
  simp only [View.read_writes_junk_eq_canon]
  unfold kernelRun0_A; dsimp only
  sl_unfold_words
  simp only [View.readAt_eq_ld, harg1.read_unread, harg2.read_unread, harg3.read_unread, harg4.read_unread,
    harg5.read_unread, harg6.read_unread, harg7.read_unread, harg8.read_unread, harg9.read_unread, harg10.read_unread,
    harg11.read_unread, harg21.read_unread, View.ld_unit_zero (S := S1x256x1024) hz3,
    View.ld_unit_zero (S := S1x1024) hz2, View.ld_unit_zero (S := S1x2176) hz2, View.ld_unit_zero (S := S1x512) hz2,
    View.ld_unit_zero (S := S512x128) hz2, View.ld_unit_zero (S := S256x128) hz2, ld_rows1, ld_rows2, ld_last, cov_last]
  refine congrArg₂ Prod.mk ?_ (congrArg₂ Prod.mk ?_ (congrArg₂ Prod.mk ?_ (congrArg₂ Prod.mk ?_ (congrArg₂ Prod.mk ?_
    (congrArg₂ Prod.mk ?_ (congrArg₂ Prod.mk ?_ (congrArg₂ Prod.mk ?_ (congrArg₂ Prod.mk ?_ ?_))))))))
  · exact View.canon_unit_zero (Val := Elt Ideal) (e := .f32) (S := S256x1536) hz2 _ _
  · exact View.canon_unit_zero (Val := Elt Ideal) (e := .f32) (S := S256x2176) hz2 _ _
  · exact View.canon_unit_zero (Val := Elt Ideal) (e := .f32) (S := S256x512) hz2 _ _
  · exact View.canon_unit_zero (Val := Elt Ideal) (e := .f32) (S := S256x512) hz2 _ _
  · exact View.canon_unit_zero (Val := Elt Ideal) (e := .f32) (S := S256x512) hz2 _ _
  · exact View.canon_unit_zero (Val := Elt Ideal) (e := .f32) (S := S256x512) hz2 _ _
  · exact View.canon_unit_zero (Val := Elt Ideal) (e := .f32) (S := S256x512) hz2 _ _
  · exact View.canon_unit_zero (Val := Elt Ideal) (e := .f32) (S := S256x512) hz2 _ _
  · exact View.canon_unit_zero (Val := Elt Ideal) (e := .f32) (S := S256x512) hz2 _ _
  · exact View.canon_cons_unit_zero (Val := Elt Ideal) (e := .f32) (S := S8x2176) hz2 _ _ _

/-- Another point: the row before its first token is the scratch's last. -/
theorem outs_B (hc0 : ¬cond0_0 i) :
    ((out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0,
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0,
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0,
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0,
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0,
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0,
    out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0,
    out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0,
    out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0,
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 xs0) : Outs)
      = ptOf x0 x1 x2 x3 x4 x5 x6 x7 x8 x9 x10 (lastRow xs0) := by
  unfold ptOf out0_B_11 out0_B_12 out0_B_13 out0_B_14 out0_B_15 out0_B_16 out0_B_17 out0_B_18 out0_B_19 sout0_B_0
  simp only [View.read_writes_junk_eq_canon]
  unfold kernelRun0_B; dsimp only
  sl_unfold_words
  simp only [View.readAt_eq_ld, harg1.read_unread, harg2.read_unread, harg3.read_unread, harg4.read_unread,
    harg5.read_unread, harg6.read_unread, harg7.read_unread, harg8.read_unread, harg9.read_unread, harg10.read_unread,
    harg11.read_unread, harg21.read_unread, View.ld_unit_zero (S := S1x256x1024) hz3,
    View.ld_unit_zero (S := S1x1024) hz2, View.ld_unit_zero (S := S1x2176) hz2, View.ld_unit_zero (S := S1x512) hz2,
    View.ld_unit_zero (S := S512x128) hz2, View.ld_unit_zero (S := S256x128) hz2, ld_rows1, ld_rows2, ld_last, cov_last]
  refine congrArg₂ Prod.mk ?_ (congrArg₂ Prod.mk ?_ (congrArg₂ Prod.mk ?_ (congrArg₂ Prod.mk ?_ (congrArg₂ Prod.mk ?_
    (congrArg₂ Prod.mk ?_ (congrArg₂ Prod.mk ?_ (congrArg₂ Prod.mk ?_ (congrArg₂ Prod.mk ?_ ?_))))))))
  · exact View.canon_unit_zero (Val := Elt Ideal) (e := .f32) (S := S256x1536) hz2 _ _
  · exact View.canon_unit_zero (Val := Elt Ideal) (e := .f32) (S := S256x2176) hz2 _ _
  · exact View.canon_unit_zero (Val := Elt Ideal) (e := .f32) (S := S256x512) hz2 _ _
  · exact View.canon_unit_zero (Val := Elt Ideal) (e := .f32) (S := S256x512) hz2 _ _
  · exact View.canon_unit_zero (Val := Elt Ideal) (e := .f32) (S := S256x512) hz2 _ _
  · exact View.canon_unit_zero (Val := Elt Ideal) (e := .f32) (S := S256x512) hz2 _ _
  · exact View.canon_unit_zero (Val := Elt Ideal) (e := .f32) (S := S256x512) hz2 _ _
  · exact View.canon_unit_zero (Val := Elt Ideal) (e := .f32) (S := S256x512) hz2 _ _
  · exact View.canon_unit_zero (Val := Elt Ideal) (e := .f32) (S := S256x512) hz2 _ _
  · exact View.canon_unit_zero (Val := Elt Ideal) (e := .f32) (S := S8x2176) hz2 _ _

end Cert.Prep
-- ==== Proof.Prep.Host.lean ====
module

public import proofs.«01_k».proof.Proof.Gen.Kernel3Ideal.Frame
public import proofs.«01_k».proof.Proof.Prep.Pay
public import Idealize.ShloMosaic.Lib.StableHlo.RunRead

@[expose] public section

set_option maxRecDepth 16384

/-!
What the host prepares for the forward call: the two padded matrices and the 0/1 matrix of the heads.
-/

noncomputable section

namespace Cert.Prep

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

theorem V12_at (j : Fin 512) (l : Fin 128) : V m c main_v12 (ix2 j l)
    = if h : l.val < 64 then (m ((c.tc : Thread nD τ).loc main_arg4) : FVec Ideal S512x64 .f32) (ix2 j ⟨l.val, h⟩) else (0 : EReal) := by
  unfold V
  simp only [hostOps0, hostOps0_1, hostOps0_2, List.flatten_cons, List.flatten_nil, List.append_nil, List.cons_append,
    List.nil_append]
  after_results_simp
  pointwise
  done

theorem V14_at (j : Fin 512) (l : Fin 128) : V m c main_v14 (ix2 j l)
    = if h : l.val < 64 then (0 : EReal) else (m ((c.tc : Thread nD τ).loc main_arg6) : FVec Ideal S512x64 .f32) (ix2 j ⟨l.val - 64, by omega⟩) := by
  unfold V
  simp only [hostOps0, hostOps0_1, hostOps0_2, List.flatten_cons, List.flatten_nil, List.append_nil, List.cons_append,
    List.nil_append]
  after_results_simp
  pointwise
  done

/-- The number of a lane's head, as the host computes it: a division that rounds down. -/
def headNo (k : ℕ) : BitVec 32 :=
  Scalar.select
    (IntOp.andi
      (IntOp.cmpi CmpIPredicate.ne
        (if BitVec.ofNat 32 k = 0 then (0 : BitVec 32) else if (BitVec.ofNat 32 k).msb = true then -1 else 1)
        (if 64#32 = 0 then (0 : BitVec 32) else if (64#32).msb = true then -1 else 1))
      (IntOp.cmpi CmpIPredicate.ne (IntOp.remsi ArithUnit.host (BitVec.ofNat 32 k) 64#32) 0#32))
    (IntOp.subi (IntOp.divsi ArithUnit.host (BitVec.ofNat 32 k) 64#32) 1#32)
    (IntOp.divsi ArithUnit.host (BitVec.ofNat 32 k) 64#32)

/-- One where two lanes are of one head. -/
def headBit (k l : ℕ) : EReal := FloatOps.uitofp (F := Ideal) FTy.f32 (IntOp.cmpi CmpIPredicate.eq (headNo k) (headNo l))

theorem headNo_eq : ∀ k l : Fin 128, IntOp.cmpi CmpIPredicate.eq (headNo k.val) (headNo l.val)
    = if k.val / 64 = l.val / 64 then 1#1 else 0#1 := by decide +kernel

theorem headBit_eq (k l : Fin 128) : headBit k.val l.val = if k.val / 64 = l.val / 64 then 1 else 0 := by
  unfold headBit
  rw [headNo_eq]
  by_cases h : k.val / 64 = l.val / 64
  · rw [if_pos h, if_pos h]; show (((1#1 : BitVec 1).toNat : ℝ) : EReal) = 1; simp
  · rw [if_neg h, if_neg h]; show (((0#1 : BitVec 1).toNat : ℝ) : EReal) = 0; simp

theorem V10_raw (i : Fin 256) (l : Fin 128) : V m c main_v10 (ix2 i l)
    = if i.val < 128 then headBit i.val l.val else headBit (i.val - 128) l.val := by
  unfold V
  simp only [hostOps0, hostOps0_1, hostOps0_2, List.flatten_cons, List.flatten_nil, List.append_nil, List.cons_append,
    List.nil_append]
  after_results_simp
  simp only [StableHlo.TRef.ofBuf_toBuf, StableHlo.TRef.ofBuf, StableHlo.TRef.toBuf, cast_eq]
  pointwise
  unfold headBit headNo
  split <;> rfl

theorem V10_at (i : Fin 256) (l : Fin 128) : V m c main_v10 (ix2 i l)
    = if i.val % 128 / 64 = l.val / 64 then (1 : EReal) else 0 := by
  rw [V10_raw]
  have hi := i.isLt
  by_cases h : i.val < 128
  · rw [if_pos h, Nat.mod_eq_of_lt h]; exact headBit_eq ⟨i.val, h⟩ l
  · rw [if_neg h, show i.val % 128 = i.val - 128 by omega]; exact headBit_eq ⟨i.val - 128, by omega⟩ l

end Cert.Prep
-- ==== Proof.Prep.Ref.lean ====
module

public import proofs.«01_k».proof.Proof.Gen.Reference3Ideal.Read
public import proofs.«01_k».proof.Proof.Prep.Math

@[expose] public section

set_option maxRecDepth 16384

/-!
What the reference of the forward call computes, at an index.
-/

noncomputable section

namespace Cert.Prep

open Idealize.ShloMosaic Idealize.ShloMosaic.TcCoe Idealize.SL.Sem
open Cert.Reference3Ideal Cert.Reference3Ideal.Read Cert.InProj

variable (x0 : FVec Ideal S1x2048x1024 .f32) (x1 : FVec Ideal S1x1024 .f32) (x2 : FVec Ideal S3712x1024 .bf16)
  (x3 : FVec Ideal S1x2176 .f32) (x4 : FVec Ideal S512x64 .f32) (x5 : FVec Ideal S1x512 .f32)
  (x6 : FVec Ideal S512x64 .f32) (x7 x8 x9 : FVec Ideal S1x512 .f32)

/-- Token `t`'s row, and the gain. -/
def xrow (t : Fin 2048) (k : Fin 1024) : EReal := x0 (ix3 0 t k)
def grow (k : Fin 1024) : EReal := x1 (ix2 0 k)

/-- Token `t`'s projected row. -/
def proj (t : Fin 2048) (n : Fin 3712) : EReal := ∑ k, rowU (xrow x0 t) (grow x1) k * x2 (ix2 n k)

/-- Its recurrence part, and that of the token before (zeros before the first). -/
def prow (t : Fin 2048) (j : Fin 2176) : EReal := proj x0 x1 x2 t ⟨1536 + j.val, by have := j.isLt; omega⟩
def pprev (t : Fin 2048) (j : Fin 2176) : EReal :=
  if t.val = 0 then 0 else prow x0 x1 x2 ⟨t.val - 1, by have := t.isLt; omega⟩ j

/-- Token `t`'s row after the token shift. -/
def qrow (t : Fin 2048) : Fin 2176 → EReal := shifted (prow x0 x1 x2 t) (pprev x0 x1 x2 t) (fun j => x3 (ix2 0 j))

theorem v12_at (t : Fin 2048) (j : Fin 1024) : val_main_v12 (F := Ideal) x0 x1 (ix3 0 t j)
    = rowU (xrow x0 t) (grow x1) j := by
  pointwise [val_main_v12, val_main_v9, val_main_v8, val_main_v7, val_main_v6, val_main_v5, val_main_v4, val_main_v3,
    val_main_v2, val_main_v1, val_main_v0, val_main_v11, val_main_v10, val_main_cst, val_main_cst_0, val_main_cst_1]
  rfl

theorem v15_at (t : Fin 2048) (n : Fin 3712) : val_main_v15 (F := Ideal) x0 x1 x2 (ix3 0 t n) = proj x0 x1 x2 t n := by
  pointwise [val_main_v15, val_main_v14, val_main_v13, v12_at]
  rfl

theorem v17_at (t : Fin 2048) (j : Fin 2176) : val_main_v17 (F := Ideal) x0 x1 x2 (ix3 0 t j) = prow x0 x1 x2 t j := by
  pointwise [val_main_v17, v15_at]
  rfl

theorem v19_at (t : Fin 2048) (j : Fin 2176) : val_main_v19 (F := Ideal) x0 x1 x2 (ix3 0 t j) = pprev x0 x1 x2 t j := by
  pointwise [val_main_v19, val_main_v18, v17_at]
  unfold pprev
  have ht := t.isLt
  by_cases h : t.val = 0
  · rw [if_pos h, dif_neg (by omega)]
    pointwise [val_main_call0_v0, val_main_c]
    show (((0#32 : BitVec 32).toInt : ℝ) : EReal) = 0
    simp
  · rw [if_neg h, dif_pos (by omega)]

theorem v24_at (t : Fin 2048) (j : Fin 2176) : val_main_v24 (F := Ideal) x0 x1 x2 x3 (ix3 0 t j)
    = qrow x0 x1 x2 x3 t j := by
  pointwise [val_main_v24, val_main_v23, val_main_v22, val_main_v21, val_main_v20, v17_at, v19_at]
  rfl

theorem v76_at (t : Fin 2048) (n : Fin 1536) : val_main_v76 (F := Ideal) x0 x1 x2 (ix2 t n)
    = proj x0 x1 x2 t ⟨n.val, by have := n.isLt; omega⟩ := by
  pointwise [val_main_v76, val_main_v16, v15_at]

theorem v77_at (t : Fin 2048) (j : Fin 2176) : val_main_v77 (F := Ideal) x0 x1 x2 (ix2 t j) = prow x0 x1 x2 t j := by
  pointwise [val_main_v77, v17_at]

theorem v78_at (t : Fin 2048) (j : Fin 512) : val_main_v78 (F := Ideal) x0 x1 x2 x3 (ix2 t j)
    = qrow x0 x1 x2 x3 t ⟨j.val, by have := j.isLt; omega⟩ := by
  pointwise [val_main_v78, val_main_v25, v24_at]

theorem v81_at (t : Fin 2048) (j : Fin 512) : val_main_v81 (F := Ideal) x0 x1 x2 x3 (ix2 t j)
    = qrow x0 x1 x2 x3 t ⟨1024 + j.val, by have := j.isLt; omega⟩ := by
  pointwise [val_main_v81, val_main_v27, v24_at]

theorem v85_at (t : Fin 2048) (j : Fin 512) : val_main_v85 (F := Ideal) x0 x1 x2 x3 (ix2 t j)
    = qrow x0 x1 x2 x3 t ⟨1536 + j.val, by have := j.isLt; omega⟩ := by
  pointwise [val_main_v85, val_main_v28, v24_at]

theorem v26_at (t : Fin 2048) (j : Fin 512) : val_main_v26 (F := Ideal) x0 x1 x2 x3 (ix3 0 t j)
    = kRaw (qrow x0 x1 x2 x3 t) j := by
  pointwise [val_main_v26, v24_at]
  rfl

theorem v36_at (t : Fin 2048) (j : Fin 512) : val_main_v36 (F := Ideal) x0 x1 x2 x3 x4 x5 (ix3 0 t j)
    = wArg (qrow x0 x1 x2 x3 t) (fun j => x5 (ix2 0 j)) (fun j l => x4 (ix2 j l)) j := by
  pointwise [val_main_v36, val_main_v35, val_main_v34, val_main_v33, val_main_v32, val_main_v31, val_main_v29, v24_at]
  rfl

theorem v38_at (t : Fin 2048) (j : Fin 512) : val_main_v38 (F := Ideal) x0 x1 x2 x3 x4 x5 (ix3 0 t j)
    = softplus (-wArg (qrow x0 x1 x2 x3 t) (fun j => x5 (ix2 0 j)) (fun j l => x4 (ix2 j l)) j) := by
  pointwise [val_main_v38, val_main_v37, val_main_call1_v11, val_main_call1_v10, val_main_call1_v9, val_main_call1_v8,
    val_main_call1_v7, val_main_call1_v6, val_main_call1_v5, val_main_call1_v4, val_main_call1_v3, val_main_call1_v2,
    val_main_call1_v1, val_main_call1_v0, val_main_call1_cst, v36_at]
  exact if_neg fun h => h rfl

theorem v79_at (t : Fin 2048) (j : Fin 512) : val_main_v79 (F := Ideal) x0 x1 x2 x3 x4 x5 (ix2 t j)
    = decay (wArg (qrow x0 x1 x2 x3 t) (fun j => x5 (ix2 0 j)) (fun j l => x4 (ix2 j l)) j) := by
  pointwise [val_main_v79, val_main_v44, val_main_v43, val_main_v42, val_main_v41, val_main_v40, val_main_v39,
    val_main_cst_2, v38_at]
  rfl

theorem v55_at (t : Fin 2048) (j : Fin 512) : val_main_v55 (F := Ideal) x0 x1 x2 x3 x6 x7 (ix3 0 t j)
    = aGate (qrow x0 x1 x2 x3 t) (fun j => x7 (ix2 0 j)) (fun j l => x6 (ix2 j l)) j := by
  pointwise [val_main_v55, val_main_v54, val_main_v53, val_main_v52, val_main_v51, val_main_v50, val_main_v49,
    val_main_v48, val_main_v47, val_main_v46, val_main_v45, val_main_v30, val_main_cst_3, val_main_cst_4, v24_at]
  rfl

theorem v84_at (t : Fin 2048) (j : Fin 512) : val_main_v84 (F := Ideal) x0 x1 x2 x3 x6 x7 (ix2 t j)
    = aGate (qrow x0 x1 x2 x3 t) (fun j => x7 (ix2 0 j)) (fun j l => x6 (ix2 j l)) j := by
  pointwise [val_main_v84, v55_at]

theorem v80_at (t : Fin 2048) (j : Fin 512) : val_main_v80 (F := Ideal) x0 x1 x2 x3 x6 x7 x9 (ix2 t j)
    = kOut (qrow x0 x1 x2 x3 t) (aGate (qrow x0 x1 x2 x3 t) (fun j => x7 (ix2 0 j)) (fun j l => x6 (ix2 j l)))
        (fun j => x9 (ix2 0 j)) j := by
  pointwise [val_main_v80, val_main_v75, val_main_v74, val_main_v73, val_main_v72, val_main_v71, val_main_v70,
    val_main_v69, val_main_v68, val_main_cst_7, val_main_cst_8, v55_at, v26_at]
  rfl

theorem v83_at (t : Fin 2048) (j : Fin 512) : val_main_v83 (F := Ideal) x0 x1 x2 x3 x8 (ix2 t j)
    = kDir (qrow x0 x1 x2 x3 t) (fun j => x8 (ix2 0 j)) j := by
  pointwise [val_main_v83, val_main_v82, val_main_v67, val_main_v66, val_main_v65, val_main_v64, val_main_v63,
    val_main_v62, val_main_v61, val_main_v60, val_main_v59, val_main_v58, val_main_v57, val_main_v56, val_main_cst_5,
    val_main_cst_6, v26_at]
  rfl

end Cert.Prep
-- ==== Proof.Prep.Fold.lean ====
module

public import proofs.«01_k».proof.Proof.Gen.Kernel3Ideal.Value
public import proofs.«01_k».proof.Proof.Prep.Case
public import proofs.«01_k».proof.Proof.Prep.Host
public import proofs.«01_k».proof.Proof.Prep.Ref

@[expose] public section

set_option maxRecDepth 16384

/-!
The eight grid points of the forward call in a row: each point takes 256 tokens, and the row before its first token comes
from the scratch, where the point before has left it. So every array holds, at every token, what the reference computes.
-/

noncomputable section

namespace Cert.Prep

open Idealize.ShloMosaic Idealize.ShloMosaic.TcCoe Idealize.SL.Sem
open Cert.Kernel3Ideal Cert.Kernel3Ideal.Gen Cert.Kernel3Ideal.Value Cert.InProj

variable (m : (ℓ : Loc nD τ sig) → Buf (Elt Ideal) ℓ) (c : Dev nD)

/-- The ten arguments. -/
abbrev A0 : FVec Ideal S1x2048x1024 .f32 := m ((c.tc : Thread nD τ).loc main_arg0)
abbrev A1 : FVec Ideal S1x1024 .f32 := m ((c.tc : Thread nD τ).loc main_arg1)
abbrev A2 : FVec Ideal S3712x1024 .bf16 := m ((c.tc : Thread nD τ).loc main_arg2)
abbrev A3 : FVec Ideal S1x2176 .f32 := m ((c.tc : Thread nD τ).loc main_arg3)
abbrev A4 : FVec Ideal S512x64 .f32 := m ((c.tc : Thread nD τ).loc main_arg4)
abbrev A5 : FVec Ideal S1x512 .f32 := m ((c.tc : Thread nD τ).loc main_arg5)
abbrev A6 : FVec Ideal S512x64 .f32 := m ((c.tc : Thread nD τ).loc main_arg6)
abbrev A7 : FVec Ideal S1x512 .f32 := m ((c.tc : Thread nD τ).loc main_arg7)
abbrev A8 : FVec Ideal S1x512 .f32 := m ((c.tc : Thread nD τ).loc main_arg8)
abbrev A9 : FVec Ideal S1x512 .f32 := m ((c.tc : Thread nD τ).loc main_arg9)

/-- Point `t`'s blocks. -/
abbrev B0 (t : Fin cfg0.N) : FVec Ideal S1x256x1024 .f32 := iblk m c 0 t
abbrev B1 (t : Fin cfg0.N) : FVec Ideal S1x1024 .f32 := iblk m c 1 t
abbrev B2 (t : Fin cfg0.N) : FVec Ideal S3712x1024 .bf16 := iblk m c 2 t
abbrev B3 (t : Fin cfg0.N) : FVec Ideal S1x2176 .f32 := iblk m c 3 t
abbrev B4 (t : Fin cfg0.N) : FVec Ideal S1x512 .f32 := iblk m c 4 t
abbrev B5 (t : Fin cfg0.N) : FVec Ideal S1x512 .f32 := iblk m c 5 t
abbrev B6 (t : Fin cfg0.N) : FVec Ideal S1x512 .f32 := iblk m c 6 t
abbrev B7 (t : Fin cfg0.N) : FVec Ideal S1x512 .f32 := iblk m c 7 t
abbrev B8 (t : Fin cfg0.N) : FVec Ideal S512x128 .f32 := iblk m c 8 t
abbrev B9 (t : Fin cfg0.N) : FVec Ideal S512x128 .f32 := iblk m c 9 t
abbrev B10 (t : Fin cfg0.N) : FVec Ideal S256x128 .f32 := iblk m c 10 t

/-- Row `r` of point `t`'s blocks is this token. -/
def tok (t : Fin cfg0.N) (r : Fin 256) : Fin 2048 :=
  ⟨t.val * 256 + r.val, by have := lt_of_lt_of_eq t.isLt (show cfg0.N = 8 from N_0); have := r.isLt; omega⟩

theorem idx0 : ∀ t : Fin cfg0.N, win0_0.index t 0 = 0 ∧ win0_0.index t 1 = t.val ∧ win0_0.index t 2 = 0 :=
  (by decide +kernel : ∀ t : Fin grid0.N, _)
/-- The other inputs are read whole at every point. -/
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = 0 ∧ win0_6.index t 1 = 0 := (by decide +kernel : ∀ t : Fin grid0.N, _)
theorem idx7 : ∀ t : Fin cfg0.N, win0_7.index t 0 = 0 ∧ win0_7.index t 1 = 0 := (by decide +kernel : ∀ t : Fin grid0.N, _)
theorem idx8 : ∀ t : Fin cfg0.N, win0_8.index t 0 = 0 ∧ win0_8.index t 1 = 0 := (by decide +kernel : ∀ t : Fin grid0.N, _)
theorem idx9 : ∀ t : Fin cfg0.N, win0_9.index t 0 = 0 ∧ win0_9.index t 1 = 0 := (by decide +kernel : ∀ t : Fin grid0.N, _)
theorem idx10 : ∀ t : Fin cfg0.N, win0_10.index t 0 = 0 ∧ win0_10.index t 1 = 0 := (by decide +kernel : ∀ t : Fin grid0.N, _)

theorem B0_at (t : Fin cfg0.N) (u : Fin 1) (r : Fin 256) (k : Fin 1024) :
    B0 m c t (ix3 u r k) = A0 m c (ix3 0 (tok t r) k) := by
  show iblk m c 0 t _ = _
  unfold iblk
  rw [View.read_apply]
  show V m c main_arg0 _ = _
  rw [V_main_arg0]
  refine congrArg (A0 m c) ?_
  obtain ⟨e0, e1, e2⟩ := idx0 t
  funext a; apply Fin.ext
  match a with
  | ⟨0, _⟩ => show win0_0.index t 0 * 1 + 1 * u.val = 0; rw [e0]; have := u.isLt; omega
  | ⟨1, _⟩ => show win0_0.index t 1 * 256 + 1 * r.val = t.val * 256 + r.val; rw [e1]; omega
  | ⟨2, _⟩ => show win0_0.index t 2 * 1024 + 1 * k.val = k.val; rw [e2]; omega

theorem B1_at (t : Fin cfg0.N) (u : Fin 1) (k : Fin 1024) : B1 m c t (ix2 u k) = A1 m c (ix2 u k) := by
  show iblk m c 1 t _ = _
  unfold iblk
  rw [View.read_apply]
  show V m c main_arg1 _ = _
  rw [V_main_arg1]
  refine congrArg (A1 m c) ?_
  obtain ⟨e0, e1⟩ := idx1 t
  funext a; apply Fin.ext
  match a with
  | ⟨0, _⟩ => show win0_1.index t 0 * 1 + 1 * u.val = u.val; rw [e0]; omega
  | ⟨1, _⟩ => show win0_1.index t 1 * 1024 + 1 * k.val = k.val; rw [e1]; omega

theorem B2_at (t : Fin cfg0.N) (u : Fin 3712) (k : Fin 1024) : B2 m c t (ix2 u k) = A2 m c (ix2 u k) := by
  show iblk m c 2 t _ = _
  unfold iblk
  rw [View.read_apply]
  show V m c main_arg2 _ = _
  rw [V_main_arg2]
  refine congrArg (A2 m c) ?_
  obtain ⟨e0, e1⟩ := idx2 t
  funext a; apply Fin.ext
  match a with
  | ⟨0, _⟩ => show win0_2.index t 0 * 3712 + 1 * u.val = u.val; rw [e0]; omega
  | ⟨1, _⟩ => show win0_2.index t 1 * 1024 + 1 * k.val = k.val; rw [e1]; omega

theorem B3_at (t : Fin cfg0.N) (u : Fin 1) (k : Fin 2176) : B3 m c t (ix2 u k) = A3 m c (ix2 u k) := by
  show iblk m c 3 t _ = _
  unfold iblk
  rw [View.read_apply]
  show V m c main_arg3 _ = _
  rw [V_main_arg3]
  refine congrArg (A3 m c) ?_
  obtain ⟨e0, e1⟩ := idx3 t
  funext a; apply Fin.ext
  match a with
  | ⟨0, _⟩ => show win0_3.index t 0 * 1 + 1 * u.val = u.val; rw [e0]; omega
  | ⟨1, _⟩ => show win0_3.index t 1 * 2176 + 1 * k.val = k.val; rw [e1]; omega

theorem B4_at (t : Fin cfg0.N) (u : Fin 1) (k : Fin 512) : B4 m c t (ix2 u k) = A5 m c (ix2 u k) := by
  show iblk m c 4 t _ = _
  unfold iblk
  rw [View.read_apply]
  show V m c main_arg5 _ = _
  rw [V_main_arg5]
  refine congrArg (A5 m c) ?_
  obtain ⟨e0, e1⟩ := idx4 t
  funext a; apply Fin.ext
  match a with
  | ⟨0, _⟩ => show win0_4.index t 0 * 1 + 1 * u.val = u.val; rw [e0]; omega
  | ⟨1, _⟩ => show win0_4.index t 1 * 512 + 1 * k.val = k.val; rw [e1]; omega

theorem B5_at (t : Fin cfg0.N) (u : Fin 1) (k : Fin 512) : B5 m c t (ix2 u k) = A7 m c (ix2 u k) := by
  show iblk m c 5 t _ = _
  unfold iblk
  rw [View.read_apply]
  show V m c main_arg7 _ = _
  rw [V_main_arg7]
  refine congrArg (A7 m c) ?_
  obtain ⟨e0, e1⟩ := idx5 t
  funext a; apply Fin.ext
  match a with
  | ⟨0, _⟩ => show win0_5.index t 0 * 1 + 1 * u.val = u.val; rw [e0]; omega
  | ⟨1, _⟩ => show win0_5.index t 1 * 512 + 1 * k.val = k.val; rw [e1]; omega

theorem B6_at (t : Fin cfg0.N) (u : Fin 1) (k : Fin 512) : B6 m c t (ix2 u k) = A8 m c (ix2 u k) := by
  show iblk m c 6 t _ = _
  unfold iblk
  rw [View.read_apply]
  show V m c main_arg8 _ = _
  rw [V_main_arg8]
  refine congrArg (A8 m c) ?_
  obtain ⟨e0, e1⟩ := idx6 t
  funext a; apply Fin.ext
  match a with
  | ⟨0, _⟩ => show win0_6.index t 0 * 1 + 1 * u.val = u.val; rw [e0]; omega
  | ⟨1, _⟩ => show win0_6.index t 1 * 512 + 1 * k.val = k.val; rw [e1]; omega

theorem B7_at (t : Fin cfg0.N) (u : Fin 1) (k : Fin 512) : B7 m c t (ix2 u k) = A9 m c (ix2 u k) := by
  show iblk m c 7 t _ = _
  unfold iblk
  rw [View.read_apply]
  show V m c main_arg9 _ = _
  rw [V_main_arg9]
  refine congrArg (A9 m c) ?_
  obtain ⟨e0, e1⟩ := idx7 t
  funext a; apply Fin.ext
  match a with
  | ⟨0, _⟩ => show win0_7.index t 0 * 1 + 1 * u.val = u.val; rw [e0]; omega
  | ⟨1, _⟩ => show win0_7.index t 1 * 512 + 1 * k.val = k.val; rw [e1]; omega

theorem B8_at (t : Fin cfg0.N) (u : Fin 512) (k : Fin 128) : B8 m c t (ix2 u k) = V m c main_v12 (ix2 u k) := by
  show iblk m c 8 t _ = _
  unfold iblk
  rw [View.read_apply]
  refine congrArg (V m c main_v12) ?_
  obtain ⟨e0, e1⟩ := idx8 t
  funext a; apply Fin.ext
  match a with
  | ⟨0, _⟩ => show win0_8.index t 0 * 512 + 1 * u.val = u.val; rw [e0]; omega
  | ⟨1, _⟩ => show win0_8.index t 1 * 128 + 1 * k.val = k.val; rw [e1]; omega

theorem B9_at (t : Fin cfg0.N) (u : Fin 512) (k : Fin 128) : B9 m c t (ix2 u k) = V m c main_v14 (ix2 u k) := by
  show iblk m c 9 t _ = _
  unfold iblk
  rw [View.read_apply]
  refine congrArg (V m c main_v14) ?_
  obtain ⟨e0, e1⟩ := idx9 t
  funext a; apply Fin.ext
  match a with
  | ⟨0, _⟩ => show win0_9.index t 0 * 512 + 1 * u.val = u.val; rw [e0]; omega
  | ⟨1, _⟩ => show win0_9.index t 1 * 128 + 1 * k.val = k.val; rw [e1]; omega

theorem B10_at (t : Fin cfg0.N) (u : Fin 256) (k : Fin 128) : B10 m c t (ix2 u k) = V m c main_v10 (ix2 u k) := by
  show iblk m c 10 t _ = _
  unfold iblk
  rw [View.read_apply]
  refine congrArg (V m c main_v10) ?_
  obtain ⟨e0, e1⟩ := idx10 t
  funext a; apply Fin.ext
  match a with
  | ⟨0, _⟩ => show win0_10.index t 0 * 256 + 1 * u.val = u.val; rw [e0]; omega
  | ⟨1, _⟩ => show win0_10.index t 1 * 128 + 1 * k.val = k.val; rw [e1]; omega

theorem bx_tok (t : Fin cfg0.N) (r : Fin 256) : bx (B0 m c t) r = xrow (A0 m c) (tok t r) := funext fun k => B0_at m c t 0 r k
theorem bg_tok (t : Fin cfg0.N) : bg (B1 m c t) = grow (A1 m c) := funext fun k => B1_at m c t 0 k
theorem mu_tok (t : Fin cfg0.N) : (fun j => B3 m c t (ix2 0 j)) = fun j => A3 m c (ix2 0 j) := funext fun k => B3_at m c t 0 k
theorem w0_tok (t : Fin cfg0.N) : row (B4 m c t) = fun j => A5 m c (ix2 0 j) := funext fun k => B4_at m c t 0 k
theorem a0_tok (t : Fin cfg0.N) : row (B5 m c t) = fun j => A7 m c (ix2 0 j) := funext fun k => B5_at m c t 0 k
theorem kk_tok (t : Fin cfg0.N) : row (B6 m c t) = fun j => A8 m c (ix2 0 j) := funext fun k => B6_at m c t 0 k
theorem ka_tok (t : Fin cfg0.N) : row (B7 m c t) = fun j => A9 m c (ix2 0 j) := funext fun k => B7_at m c t 0 k

theorem padR (t : Fin cfg0.N) : PadR (B8 m c t) fun j l => A4 m c (ix2 j l) where
  l j l := by rw [B8_at, V12_at]; exact dif_pos l.isLt
  r j l := by rw [B8_at, V12_at]; exact dif_neg (by show ¬ 64 + l.val < 64; omega)

theorem padL (t : Fin cfg0.N) : PadL (B9 m c t) fun j l => A6 m c (ix2 j l) where
  l j l := by rw [B9_at, V14_at]; exact dif_pos l.isLt
  r j l := by
    rw [B9_at, V14_at]
    exact (dif_neg (by show ¬ 64 + l.val < 64; omega)).trans
      (congrArg (fun l => A6 m c (ix2 j l)) (Fin.ext (by show 64 + l.val - 64 = l.val; omega)))

theorem heads (t : Fin cfg0.N) : Heads (B10 m c t) := fun i l => by rw [B10_at, V10_at]

/-- The point's projected rows are the tokens'. -/
theorem p5_tok (t : Fin cfg0.N) (r : Fin 256) (n : Fin 1536) :
    k0_pay5 (F := Ideal) (B0 m c t) (B1 m c t) (rows1 (B2 m c t)) (ix2 r n)
      = proj (A0 m c) (A1 m c) (A2 m c) (tok t r) ⟨n.val, by have := n.isLt; omega⟩ := by
  rw [pay5_at, bx_tok, bg_tok]
  exact Finset.sum_congr (M := EReal) rfl fun k _ => congrArg _ (B2_at m c t _ k)

theorem p_tok (t : Fin cfg0.N) (r : Fin 256) (j : Fin 2176) :
    pOf (B0 m c t) (B1 m c t) (B2 m c t) (ix2 r j) = prow (A0 m c) (A1 m c) (A2 m c) (tok t r) j := by
  show k0_pay6 (F := Ideal) _ _ _ _ = _
  rw [pay6_at, bx_tok, bg_tok]
  exact Finset.sum_congr (M := EReal) rfl fun k _ => congrArg _ (B2_at m c t _ k)

/-- The row before a point's first token. -/
def before (t : Fin cfg0.N) : FVec Ideal S1x2176 .f32 := fun y => pprev (A0 m c) (A1 m c) (A2 m c) (tok t 0) (y 1)

/-- The point's shifted rows are the tokens'. -/
theorem q_tok (t : Fin cfg0.N) (r : Fin 256) :
    bq (pOf (B0 m c t) (B1 m c t) (B2 m c t)) (B3 m c t) (before m c t) r
      = qrow (A0 m c) (A1 m c) (A2 m c) (A3 m c) (tok t r) := by
  unfold bq qrow
  rw [mu_tok, funext fun j => p_tok m c t r j]
  refine congrArg (fun f => shifted _ f _) (funext fun j => ?_)
  unfold bprev
  by_cases h : r.val = 0
  · obtain rfl : r = 0 := Fin.ext h
    exact if_pos rfl
  · rw [if_neg h, p_tok]
    unfold pprev
    rw [if_neg (by show ¬ t.val * 256 + r.val = 0; omega)]
    exact congrArg (fun s => prow (A0 m c) (A1 m c) (A2 m c) s j)
      (Fin.ext (by show t.val * 256 + (r.val - 1) = t.val * 256 + r.val - 1; omega))

/-- What point `t` leaves. -/
def pt (t : Fin cfg0.N) : Outs :=
  ptOf (B0 m c t) (B1 m c t) (B2 m c t) (B3 m c t) (B4 m c t) (B5 m c t) (B6 m c t) (B7 m c t) (B8 m c t) (B9 m c t)
    (B10 m c t) (before m c t)

theorem lt8 {n : ℕ} (h : n < cfg0.N) : n < 8 := lt_of_lt_of_eq h (show cfg0.N = 8 from N_0)

theorem first_row (hn : 0 < cfg0.N) : (lastRow fun _ => 0) = before m c ⟨0, hn⟩ := by
  funext y
  show (0 : EReal) = pprev (A0 m c) (A1 m c) (A2 m c) (tok ⟨0, hn⟩ 0) (y 1)
  unfold pprev
  rw [if_pos (show (tok ⟨0, hn⟩ 0).val = 0 from rfl)]

/-- The scratch that a point leaves ends with the row before the next point's first token. -/
theorem next_row (n : ℕ) (hn : n + 1 < cfg0.N) :
    lastRow (pt m c ⟨n, Nat.lt_of_succ_lt hn⟩).2.2.2.2.2.2.2.2.2 = before m c ⟨n + 1, hn⟩ := by
  funext y
  obtain ⟨u, j, rfl⟩ : ∃ (u : Fin 1) (j : Fin 2176), y = ix2 u j := ⟨y 0, y 1, eq_ix2 y⟩
  show k0_pay9 (F := Ideal) (pOf (B0 m c _) (B1 m c _) (B2 m c _)) (ix2 7 j)
    = pprev (A0 m c) (A1 m c) (A2 m c) (tok ⟨n + 1, hn⟩ 0) j
  rw [pay9_at, p_tok]
  unfold pprev
  rw [if_neg (by show ¬ (n + 1) * 256 + (0 : Fin 256).val = 0; omega)]
  exact congrArg (fun s => prow (A0 m c) (A1 m c) (A2 m c) s j)
    (Fin.ext (by show n * 256 + (248 + (7 : Fin 8).val) = (n + 1) * 256 + (0 : Fin 256).val - 1
                 show n * 256 + (248 + 7) = (n + 1) * 256 + 0 - 1; omega))

theorem outs_pt (n : ℕ) : ∀ hn : n < cfg0.N, outsAt0 m c n hn = pt m c ⟨n, hn⟩ := by
  induction n with
  | zero =>
    intro hn
    rw [outsAt0_zero, stAt0_A m c ⟨0, hn⟩ _ rfl, outs_A, first_row m c hn]
    rfl
  | succ n ih =>
    intro hn
    have h8 := lt8 hn
    rw [outsAt0_succ, ih, stAt0_B m c ⟨n + 1, hn⟩ _ (by show ¬ (n + 1) % 8 = 0; omega), outs_B, next_row]
    rfl

/-- The point that holds a token, and the token's row in it. -/
def ptAt (s : Fin 2048) : Fin cfg0.N := ⟨s.val / 256, lt_of_lt_of_eq (by have := s.isLt; omega) N_0.symm⟩
def rowAt (s : Fin 2048) : Fin 256 := ⟨s.val % 256, Nat.mod_lt _ (by decide)⟩
theorem tok_at (s : Fin 2048) : tok (ptAt s) (rowAt s) = s :=
  Fin.ext (by show s.val / 256 * 256 + s.val % 256 = s.val; omega)

theorem fold_pt (s : Fin 2048) (n : ℕ) (hn : 0 + n < cfg0.N) (h : n = s.val / 256) :
    Pipeline.accAt (fun n h => stAt0 m c n h junk0) (stAt0 m c) 0 n hn = pt m c (ptAt s) := by
  rw [fold0_congr m c n hn (ptAt s).val (by rw [Nat.zero_add]; exact (ptAt s).isLt) h, ← outsAt0_sweep m c _ (ptAt s).isLt]
  exact outs_pt m c _ _

theorem G11_at (s : Fin 2048) (j : Fin 1536) : G11 m c (ix2 s j) = (pt m c (ptAt s)).1 (ix2 (rowAt s) j) := by
  have hs := s.isLt
  have hj := j.isLt
  have hp : pt11Of (ix2 s j) = s.val / 256 := by
    show 1 * (s.val / 256 - 0) + 1 * (j.val / 1536 - 0) = _; omega
  have hl : loc11Of (ix2 s j) = ix2 (rowAt s) j := by
    funext a; apply Fin.ext
    match a with
    | ⟨0, _⟩ => rfl
    | ⟨1, _⟩ => show j.val % 1536 = j.val; omega
  unfold G11
  rw [dif_pos (by rw [hp]; exact (ptAt s).isLt), hl, fold_pt m c s _ _ hp]

theorem G12_at (s : Fin 2048) (j : Fin 2176) : G12 m c (ix2 s j) = (pt m c (ptAt s)).2.1 (ix2 (rowAt s) j) := by
  have hs := s.isLt
  have hj := j.isLt
  have hp : pt12Of (ix2 s j) = s.val / 256 := by
    show 1 * (s.val / 256 - 0) + 1 * (j.val / 2176 - 0) = _; omega
  have hl : loc12Of (ix2 s j) = ix2 (rowAt s) j := by
    funext a; apply Fin.ext
    match a with
    | ⟨0, _⟩ => rfl
    | ⟨1, _⟩ => show j.val % 2176 = j.val; omega
  unfold G12
  rw [dif_pos (by rw [hp]; exact (ptAt s).isLt), hl, fold_pt m c s _ _ hp]

/-- The seven arrays of 512 columns are read alike. -/
theorem G_at (f : Outs → FVec Ideal S256x512 .f32) (e : FVec Ideal S2048x512 .f32) (s : Fin 2048) (j : Fin 512) :
    (if h : pt13Of (ix2 s j) < cfg0.N then
      f (Pipeline.accAt (fun n h => stAt0 m c n h junk0) (stAt0 m c) 0 (pt13Of (ix2 s j)) (by omega)) (loc13Of (ix2 s j))
    else e (ix2 s j)) = f (pt m c (ptAt s)) (ix2 (rowAt s) j) := by
  have hs := s.isLt
  have hj := j.isLt
  have hp : pt13Of (ix2 s j) = s.val / 256 := by
    show 1 * (s.val / 256 - 0) + 1 * (j.val / 512 - 0) = _; omega
  have hl : loc13Of (ix2 s j) = ix2 (rowAt s) j := by
    funext a; apply Fin.ext
    match a with
    | ⟨0, _⟩ => rfl
    | ⟨1, _⟩ => show j.val % 512 = j.val; omega
  rw [dif_pos (by rw [hp]; exact (ptAt s).isLt), hl, fold_pt m c s _ _ hp]

variable (s : Fin 2048)

theorem G13_at (j : Fin 512) : G13 m c (ix2 s j) = (pt m c (ptAt s)).2.2.1 (ix2 (rowAt s) j) :=
  G_at m c (fun o => o.2.2.1) (V m c (Pipeline.arrRef spec0 13)) s j
theorem G14_at (j : Fin 512) : G14 m c (ix2 s j) = (pt m c (ptAt s)).2.2.2.1 (ix2 (rowAt s) j) :=
  G_at m c (fun o => o.2.2.2.1) (V m c (Pipeline.arrRef spec0 14)) s j
theorem G15_at (j : Fin 512) : G15 m c (ix2 s j) = (pt m c (ptAt s)).2.2.2.2.1 (ix2 (rowAt s) j) :=
  G_at m c (fun o => o.2.2.2.2.1) (V m c (Pipeline.arrRef spec0 15)) s j
theorem G16_at (j : Fin 512) : G16 m c (ix2 s j) = (pt m c (ptAt s)).2.2.2.2.2.1 (ix2 (rowAt s) j) :=
  G_at m c (fun o => o.2.2.2.2.2.1) (V m c (Pipeline.arrRef spec0 16)) s j
theorem G17_at (j : Fin 512) : G17 m c (ix2 s j) = (pt m c (ptAt s)).2.2.2.2.2.2.1 (ix2 (rowAt s) j) :=
  G_at m c (fun o => o.2.2.2.2.2.2.1) (V m c (Pipeline.arrRef spec0 17)) s j
theorem G18_at (j : Fin 512) : G18 m c (ix2 s j) = (pt m c (ptAt s)).2.2.2.2.2.2.2.1 (ix2 (rowAt s) j) :=
  G_at m c (fun o => o.2.2.2.2.2.2.2.1) (V m c (Pipeline.arrRef spec0 18)) s j
theorem G19_at (j : Fin 512) : G19 m c (ix2 s j) = (pt m c (ptAt s)).2.2.2.2.2.2.2.2.1 (ix2 (rowAt s) j) :=
  G_at m c (fun o => o.2.2.2.2.2.2.2.2.1) (V m c (Pipeline.arrRef spec0 19)) s j

/-- The kernel's arrays are the reference's. -/
theorem G11_eq : G11 m c = Cert.Reference3Ideal.Read.val_main_v76 (F := Ideal) (A0 m c) (A1 m c) (A2 m c) := by
  funext z
  obtain ⟨s, j, rfl⟩ : ∃ (s : Fin 2048) (j : Fin 1536), z = ix2 s j := ⟨z 0, z 1, eq_ix2 z⟩
  refine (G11_at m c s j).trans (Eq.trans ?_ (v76_at _ _ _ s j).symm)
  refine (p5_tok m c (ptAt s) (rowAt s) j).trans ?_
  rw [tok_at]

theorem G12_eq : G12 m c = Cert.Reference3Ideal.Read.val_main_v77 (F := Ideal) (A0 m c) (A1 m c) (A2 m c) := by
  funext z
  obtain ⟨s, j, rfl⟩ : ∃ (s : Fin 2048) (j : Fin 2176), z = ix2 s j := ⟨z 0, z 1, eq_ix2 z⟩
  refine (G12_at m c s j).trans (Eq.trans ?_ (v77_at _ _ _ s j).symm)
  refine (p_tok m c (ptAt s) (rowAt s) j).trans ?_
  rw [tok_at]

theorem G13_eq : G13 m c = Cert.Reference3Ideal.Read.val_main_v78 (F := Ideal) (A0 m c) (A1 m c) (A2 m c) (A3 m c) := by
  funext z
  obtain ⟨s, j, rfl⟩ : ∃ (s : Fin 2048) (j : Fin 512), z = ix2 s j := ⟨z 0, z 1, eq_ix2 z⟩
  refine (G13_at m c s j).trans (Eq.trans ?_ (v78_at _ _ _ _ s j).symm)
  refine (pay21_at _ _ _ _ _).trans ?_
  rw [q_tok, tok_at]

theorem G14_eq : G14 m c = Cert.Reference3Ideal.Read.val_main_v79 (F := Ideal) (A0 m c) (A1 m c) (A2 m c) (A3 m c) (A4 m c) (A5 m c) := by
  funext z
  obtain ⟨s, j, rfl⟩ : ∃ (s : Fin 2048) (j : Fin 512), z = ix2 s j := ⟨z 0, z 1, eq_ix2 z⟩
  refine (G14_at m c s j).trans (Eq.trans ?_ (v79_at _ _ _ _ _ _ s j).symm)
  refine (pay17_at _ _ _ _ (padR m c _) _ _).trans ?_
  rw [w0_tok, q_tok, tok_at]

theorem G15_eq : G15 m c = Cert.Reference3Ideal.Read.val_main_v80 (F := Ideal) (A0 m c) (A1 m c) (A2 m c) (A3 m c) (A6 m c) (A7 m c) (A9 m c) := by
  funext z
  obtain ⟨s, j, rfl⟩ : ∃ (s : Fin 2048) (j : Fin 512), z = ix2 s j := ⟨z 0, z 1, eq_ix2 z⟩
  refine (G15_at m c s j).trans (Eq.trans ?_ (v80_at _ _ _ _ _ _ _ s j).symm)
  refine (pay20_at _ _ _ _ _ (padL m c _) _ _).trans ?_
  rw [a0_tok, ka_tok, q_tok, tok_at]

theorem G16_eq : G16 m c = Cert.Reference3Ideal.Read.val_main_v81 (F := Ideal) (A0 m c) (A1 m c) (A2 m c) (A3 m c) := by
  funext z
  obtain ⟨s, j, rfl⟩ : ∃ (s : Fin 2048) (j : Fin 512), z = ix2 s j := ⟨z 0, z 1, eq_ix2 z⟩
  refine (G16_at m c s j).trans (Eq.trans ?_ (v81_at _ _ _ _ s j).symm)
  refine (pay1_at _ _ _ _ _).trans ?_
  rw [q_tok, tok_at]

theorem G17_eq : G17 m c = Cert.Reference3Ideal.Read.val_main_v83 (F := Ideal) (A0 m c) (A1 m c) (A2 m c) (A3 m c) (A8 m c) := by
  funext z
  obtain ⟨s, j, rfl⟩ : ∃ (s : Fin 2048) (j : Fin 512), z = ix2 s j := ⟨z 0, z 1, eq_ix2 z⟩
  refine (G17_at m c s j).trans (Eq.trans ?_ (v83_at _ _ _ _ _ s j).symm)
  refine (pay19_at _ _ _ _ (heads m c _) _ _).trans ?_
  rw [kk_tok, q_tok, tok_at]

theorem G18_eq : G18 m c = Cert.Reference3Ideal.Read.val_main_v84 (F := Ideal) (A0 m c) (A1 m c) (A2 m c) (A3 m c) (A6 m c) (A7 m c) := by
  funext z
  obtain ⟨s, j, rfl⟩ : ∃ (s : Fin 2048) (j : Fin 512), z = ix2 s j := ⟨z 0, z 1, eq_ix2 z⟩
  refine (G18_at m c s j).trans (Eq.trans ?_ (v84_at _ _ _ _ _ _ s j).symm)
  refine (pay18_at _ _ _ _ (padL m c _) _ _).trans ?_
  rw [a0_tok, q_tok, tok_at]

theorem G19_eq : G19 m c = Cert.Reference3Ideal.Read.val_main_v85 (F := Ideal) (A0 m c) (A1 m c) (A2 m c) (A3 m c) := by
  funext z
  obtain ⟨s, j, rfl⟩ : ∃ (s : Fin 2048) (j : Fin 512), z = ix2 s j := ⟨z 0, z 1, eq_ix2 z⟩
  refine (G19_at m c s j).trans (Eq.trans ?_ (v85_at _ _ _ _ s j).symm)
  refine (pay2_at _ _ _ _ _).trans ?_
  rw [q_tok, tok_at]

end Cert.Prep
-- ==== Proof.Adam.WIn.lean ====
module

public import proofs.«01_k».proof.Proof.Gen.Kernel4Ideal.Value
public import proofs.«01_k».proof.Proof.Gen.Reference4Ideal.Read
public import Idealize.ShloMosaic.Lib.StableHlo.RunRead
public import proofs.«01_k».proof.Proof.Adam.Math

@[expose] public section

set_option maxRecDepth 16384

/-!
The in-projection's AdamW step, two blocks of rows of the transposed weight at a time: the sum of the chips' gradients,
and the step from it.
-/

noncomputable section

namespace Cert.Adam.WIn

open Idealize.ShloMosaic Idealize.ShloMosaic.TcCoe Idealize.SL.Sem
open Cert.Kernel4Ideal Cert.Kernel4Ideal.Gen Cert.Kernel4Ideal.Value Cert.Reference4Ideal.Read
open Idealize.ShloMosaic.Pipeline (Dat)

/-! ## The reference -/

section Reference

variable (p : FVec Ideal S4x464x1024 .bf16) (w m v : FVec Ideal S1x1024x464 .f32)

/-- The gradient's sum over the chips. -/
def grad (i : Fin 464) (j : Fin 1024) : EReal := p (ix3 0 i j) + p (ix3 1 i j) + p (ix3 2 i j) + p (ix3 3 i j)

theorem ref_at (i : Fin 464) (j : Fin 1024) : val_main_v3 (F := Ideal) p (ix3 0 j i) = grad p i j := by
  pointwise [val_main_v3, val_main_v2, val_main_v1, val_main_v0, val_main_cst]
  exact Fin.sum_univ_four fun d => p (ix3 d i j)

theorem mom_at (i : Fin 464) (j : Fin 1024) : val_main_v8 (F := Ideal) p m (ix3 0 j i) = mom (grad p i j) (m (ix3 0 j i)) := by
  pointwise [val_main_v8, val_main_v7, val_main_v6, val_main_v5, val_main_v4, val_main_cst_0, val_main_cst_1, ref_at]
  rfl

theorem vel_at (i : Fin 464) (j : Fin 1024) : val_main_v14 (F := Ideal) p v (ix3 0 j i) = vel (grad p i j) (v (ix3 0 j i)) := by
  pointwise [val_main_v14, val_main_v13, val_main_v12, val_main_v11, val_main_v10, val_main_v9, val_main_cst_2,
    val_main_cst_3, ref_at]
  rfl

theorem rgrad_at (i : Fin 464) (j : Fin 1024) : val_main_v29 (F := Ideal) p (ix2 i j) = grad p i j := by
  pointwise [val_main_v29, val_main_v28, ref_at]

theorem rmom_at (i : Fin 464) (j : Fin 1024) : val_main_v33 (F := Ideal) p m (ix2 i j) = mom (grad p i j) (m (ix3 0 j i)) := by
  pointwise [val_main_v33, val_main_v32, mom_at]

theorem rvel_at (i : Fin 464) (j : Fin 1024) : val_main_v35 (F := Ideal) p v (ix2 i j) = vel (grad p i j) (v (ix3 0 j i)) := by
  pointwise [val_main_v35, val_main_v34, vel_at]

theorem rdelta_at (i : Fin 464) (j : Fin 1024) : val_main_v31 (F := Ideal) p w m v (ix2 i j)
    = delta (grad p i j) (w (ix3 0 j i)) (m (ix3 0 j i)) (v (ix3 0 j i)) := by
  pointwise [val_main_v31, val_main_v30, val_main_v27, val_main_v26, val_main_v25, val_main_v24, val_main_v23, val_main_v22,
    val_main_v21, val_main_v20, val_main_v19, val_main_v18, val_main_v17, val_main_v16, val_main_v15, val_main_cst_4,
    val_main_cst_5, val_main_cst_6, val_main_cst_7, val_main_cst_8, vel_at, mom_at]
  rfl

end Reference

/-! ## The kernel's block -/

section Block

variable (p : FVec Ideal S4x232x1024 .bf16) (w m v : FVec Ideal S232x1024 .f32)

/-- The block's sum over the chips. -/
def bgrad (i : Fin 232) (j : Fin 1024) : EReal := p (ix3 0 i j) + p (ix3 1 i j) + p (ix3 2 i j) + p (ix3 3 i j)

theorem kgrad_at (i : Fin 232) (j : Fin 1024) :
    k0_pay2 (F := Ideal) (View.ld p r0_0) (View.ld p r0_1) (View.ld p r0_2) (View.ld p r0_3) (ix2 i j) = bgrad p i j := by
  pointwise [k0_pay2, r0_0, r0_1, r0_2, r0_3]
  rfl

theorem kmom_at (i : Fin 232) (j : Fin 1024) : k0_pay6 (F := Ideal) p w m v (ix2 i j) = mom (bgrad p i j) (m (ix2 i j)) := by
  pointwise [k0_pay6, k0_pay4, kgrad_at, r0_4]
  rfl

theorem kvel_at (i : Fin 232) (j : Fin 1024) : k0_pay7 (F := Ideal) p w m v (ix2 i j) = vel (bgrad p i j) (v (ix2 i j)) := by
  pointwise [k0_pay7, k0_pay5, kgrad_at, r0_4]
  rfl

theorem kdelta_at (i : Fin 232) (j : Fin 1024) :
    k0_pay1 (F := Ideal) (k0_pay3 (View.ld w r0_4)) (k0_pay6 p w m v) (k0_pay7 p w m v) (Scalar.ofBits .f32 0x3F26BD02#32) (ix2 i j)
      = delta (bgrad p i j) (w (ix2 i j)) (m (ix2 i j)) (v (ix2 i j)) := by
  pointwise [k0_pay1, k0_pay3, kmom_at, kvel_at, r0_4]
  rfl

theorem origin : (![0, 0] : Fin 2 → ℕ) = fun _ => 0 := funext fun a => by fin_cases a <;> rfl

end Block

/-! ## The arrays after the run -/

/-- Row `i` of block `t` in the whole array. -/
def row (t : Fin cfg0.N) (i : Fin 232) : Fin 464 :=
  ⟨t.val * 232 + i.val, by have h : t.val < 2 := t.isLt; have := i.isLt; omega⟩

/-- Block `t` of the chips' gradients. -/
theorem emb0 (t : Fin cfg0.N) (d : Fin 4) (i : Fin 232) (j : Fin 1024) :
    ((cfg0.win 0).blk t).view.emb (ix3 d i j) = ix3 d (row t i) j := by
  obtain ⟨e0, e1, e2⟩ := (by decide +kernel : ∀ t : Fin grid0.N,
    win0_0.index t 0 = 0 ∧ win0_0.index t 1 = t.val ∧ win0_0.index t 2 = 0) t
  funext a; apply Fin.ext
  match a with
  | ⟨0, _⟩ => show win0_0.index t 0 * 4 + 1 * d.val = d.val; omega
  | ⟨1, _⟩ => show win0_0.index t 1 * 232 + 1 * i.val = t.val * 232 + i.val; omega
  | ⟨2, _⟩ => show win0_0.index t 2 * 1024 + 1 * j.val = j.val; omega

/-- An index of block `t` of rows is the array's index at its row. -/
theorem in_rows (t : Fin cfg0.N) (i : Fin 232) (j : Fin 1024) (e : S464x1024.Idx) (x : Fin 2 → ℕ)
    (h : x 0 = t.val ∧ x 1 = 0) (h0 : (e 0).val = x 0 * 232 + 1 * i.val) (h1 : (e 1).val = x 1 * 1024 + 1 * j.val) :
    e = ix2 (row t i) j := by
  funext a; apply Fin.ext
  match a with
  | ⟨0, _⟩ => refine h0.trans ?_; show x 0 * 232 + 1 * i.val = t.val * 232 + i.val; rw [h.1]; omega
  | ⟨1, _⟩ => refine h1.trans ?_; show x 1 * 1024 + 1 * j.val = j.val; rw [h.2]; omega

theorem emb1 (t : Fin cfg0.N) (i : Fin 232) (j : Fin 1024) : ((cfg0.win 1).blk t).view.emb (ix2 i j) = ix2 (row t i) j :=
  in_rows t i j _ (win0_1.index t) ((by decide +kernel : ∀ t : Fin grid0.N, win0_1.index t 0 = t.val ∧ win0_1.index t 1 = 0) t)
    rfl rfl

theorem emb2 (t : Fin cfg0.N) (i : Fin 232) (j : Fin 1024) : ((cfg0.win 2).blk t).view.emb (ix2 i j) = ix2 (row t i) j :=
  in_rows t i j _ (win0_2.index t) ((by decide +kernel : ∀ t : Fin grid0.N, win0_2.index t 0 = t.val ∧ win0_2.index t 1 = 0) t)
    rfl rfl

theorem emb3 (t : Fin cfg0.N) (i : Fin 232) (j : Fin 1024) : ((cfg0.win 3).blk t).view.emb (ix2 i j) = ix2 (row t i) j :=
  in_rows t i j _ (win0_3.index t) ((by decide +kernel : ∀ t : Fin grid0.N, win0_3.index t 0 = t.val ∧ win0_3.index t 1 = 0) t)
    rfl rfl

theorem emb4 (t : Fin cfg0.N) (i : Fin 232) (j : Fin 1024) : ((cfg0.win 4).blk t).view.emb (ix2 i j) = ix2 (row t i) j :=
  in_rows t i j _ (win0_4.index t) ((by decide +kernel : ∀ t : Fin grid0.N, win0_4.index t 0 = t.val ∧ win0_4.index t 1 = 0) t)
    rfl rfl

theorem emb5 (t : Fin cfg0.N) (i : Fin 232) (j : Fin 1024) : ((cfg0.win 5).blk t).view.emb (ix2 i j) = ix2 (row t i) j :=
  in_rows t i j _ (win0_5.index t) ((by decide +kernel : ∀ t : Fin grid0.N, win0_5.index t 0 = t.val ∧ win0_5.index t 1 = 0) t)
    rfl rfl

theorem emb6 (t : Fin cfg0.N) (i : Fin 232) (j : Fin 1024) : ((cfg0.win 6).blk t).view.emb (ix2 i j) = ix2 (row t i) j :=
  in_rows t i j _ (win0_6.index t) ((by decide +kernel : ∀ t : Fin grid0.N, win0_6.index t 0 = t.val ∧ win0_6.index t 1 = 0) t)
    rfl rfl

theorem emb7 (t : Fin cfg0.N) (i : Fin 232) (j : Fin 1024) : ((cfg0.win 7).blk t).view.emb (ix2 i j) = ix2 (row t i) j :=
  in_rows t i j _ (win0_7.index t) ((by decide +kernel : ∀ t : Fin grid0.N, win0_7.index t 0 = t.val ∧ win0_7.index t 1 = 0) t)
    rfl rfl

variable (m : (ℓ : Loc nD τ sig) → Buf (Elt Ideal) ℓ) (c : Dev nD)

theorem iblk0_at (t : Fin cfg0.N) (d : Fin 4) (i : Fin 232) (j : Fin 1024) : (iblk m c 0 t : FVec Ideal S4x232x1024 .bf16) (ix3 d i j)
    = (m ((c.tc : Thread nD τ).loc main_arg0) : FVec Ideal S4x464x1024 .bf16) (ix3 d (row t i) j) := by
  rw [← V_main_arg0 m c]
  show V m c main_arg0 (((cfg0.win 0).blk t).view.emb (ix3 d i j)) = _
  rw [emb0]

/-- The block's sum is the sum's block. -/
theorem bgrad_at (t : Fin cfg0.N) (i : Fin 232) (j : Fin 1024) :
    bgrad (iblk m c 0 t) i j = grad (m ((c.tc : Thread nD τ).loc main_arg0)) (row t i) j := by
  unfold bgrad grad
  rw [iblk0_at, iblk0_at, iblk0_at, iblk0_at]

/-- Argument 1 as the host turns it. -/
theorem V1_at (i : Fin 464) (j : Fin 1024) : V m c main_v1 (ix2 i j)
    = ((m ((c.tc : Thread nD τ).loc main_arg1)) : FVec Ideal S1x1024x464 .f32) (ix3 0 j i) := by
  unfold V
  simp only [hostOps0]
  after_results_simp
  pointwise
  done

theorem iblk1_at (t : Fin cfg0.N) (i : Fin 232) (j : Fin 1024) : (iblk m c 1 t : FVec Ideal S232x1024 .f32) (ix2 i j)
    = ((m ((c.tc : Thread nD τ).loc main_arg1)) : FVec Ideal S1x1024x464 .f32) (ix3 0 j (row t i)) := by
  show V m c main_v1 (((cfg0.win 1).blk t).view.emb (ix2 i j)) = _
  rw [emb1, V1_at]

/-- Argument 2 as the host turns it. -/
theorem V2_at (i : Fin 464) (j : Fin 1024) : V m c main_v3 (ix2 i j)
    = ((m ((c.tc : Thread nD τ).loc main_arg2)) : FVec Ideal S1x1024x464 .f32) (ix3 0 j i) := by
  unfold V
  simp only [hostOps0]
  after_results_simp
  pointwise
  done

theorem iblk2_at (t : Fin cfg0.N) (i : Fin 232) (j : Fin 1024) : (iblk m c 2 t : FVec Ideal S232x1024 .f32) (ix2 i j)
    = ((m ((c.tc : Thread nD τ).loc main_arg2)) : FVec Ideal S1x1024x464 .f32) (ix3 0 j (row t i)) := by
  show V m c main_v3 (((cfg0.win 2).blk t).view.emb (ix2 i j)) = _
  rw [emb2, V2_at]

/-- Argument 3 as the host turns it. -/
theorem V3_at (i : Fin 464) (j : Fin 1024) : V m c main_v5 (ix2 i j)
    = ((m ((c.tc : Thread nD τ).loc main_arg3)) : FVec Ideal S1x1024x464 .f32) (ix3 0 j i) := by
  unfold V
  simp only [hostOps0]
  after_results_simp
  pointwise
  done

theorem iblk3_at (t : Fin cfg0.N) (i : Fin 232) (j : Fin 1024) : (iblk m c 3 t : FVec Ideal S232x1024 .f32) (ix2 i j)
    = ((m ((c.tc : Thread nD τ).loc main_arg3)) : FVec Ideal S1x1024x464 .f32) (ix3 0 j (row t i)) := by
  show V m c main_v5 (((cfg0.win 3).blk t).view.emb (ix2 i j)) = _
  rw [emb3, V3_at]

/-- Every row is in a block. -/
theorem row_surj (i : Fin 464) : ∃ (t : Fin cfg0.N) (r : Fin 232), row t r = i := by
  have hi := i.isLt
  refine ⟨⟨i.val / 232, by show _ < 2; omega⟩, ⟨i.val % 232, by omega⟩, Fin.ext ?_⟩
  show i.val / 232 * 232 + i.val % 232 = i.val
  omega

/-- What point `t` writes back to result 1. -/
theorem flushed4_eq (t : Fin cfg0.N) : (dats m 0 c).flushed 4 t
    = ((cfg0.win 4).blk t).view.read (Elt Ideal) (val_main_v29 (F := Ideal) (m ((c.tc : Thread nD τ).loc main_arg0))) := by
  refine (flushed4 m c t).trans ?_
  funext z
  obtain ⟨i, j, rfl⟩ : ∃ (i : Fin 232) (j : Fin 1024), z = ix2 i j := ⟨z 0, z 1, eq_ix2 z⟩
  show out0_4 (F := Ideal) _ _ _ _ (ix2 i j) = val_main_v29 (F := Ideal) (m ((c.tc : Thread nD τ).loc main_arg0)) (((cfg0.win 4).blk t).view.emb (ix2 i j))
  rw [emb4]
  unfold out0_4
  rw [View.canon_unit_zero origin]
  refine (kgrad_at _ i j).trans ?_
  rw [rgrad_at, bgrad_at]

/-- Result 1 after the run. -/
theorem final4 : (dats m 0 c).arrAt 4 cfg0.N = val_main_v29 (F := Ideal) (m ((c.tc : Thread nD τ).loc main_arg0)) :=
  (dats m 0 c).arrAt_eq_of_cover 4 _ (fun t _ => flushed4_eq m c t) fun z => by
    obtain ⟨i, j, rfl⟩ : ∃ (i : Fin 464) (j : Fin 1024), z = ix2 i j := ⟨z 0, z 1, eq_ix2 z⟩
    obtain ⟨t, r, rfl⟩ := row_surj i
    refine ⟨t, flush0_4 t, ?_⟩
    have h := ((cfg0.win 4).blk t).view.emb_mem_set (ix2 r j)
    rwa [emb4] at h

/-- What point `t` writes back to result 2. -/
theorem flushed5_eq (t : Fin cfg0.N) : (dats m 0 c).flushed 5 t
    = ((cfg0.win 5).blk t).view.read (Elt Ideal) (val_main_v31 (F := Ideal) (m ((c.tc : Thread nD τ).loc main_arg0)) (m ((c.tc : Thread nD τ).loc main_arg1)) (m ((c.tc : Thread nD τ).loc main_arg2)) (m ((c.tc : Thread nD τ).loc main_arg3))) := by
  refine (flushed5 m c t).trans ?_
  funext z
  obtain ⟨i, j, rfl⟩ : ∃ (i : Fin 232) (j : Fin 1024), z = ix2 i j := ⟨z 0, z 1, eq_ix2 z⟩
  show out0_5 (F := Ideal) _ _ _ _ (ix2 i j) = val_main_v31 (F := Ideal) (m ((c.tc : Thread nD τ).loc main_arg0)) (m ((c.tc : Thread nD τ).loc main_arg1)) (m ((c.tc : Thread nD τ).loc main_arg2)) (m ((c.tc : Thread nD τ).loc main_arg3)) (((cfg0.win 5).blk t).view.emb (ix2 i j))
  rw [emb5]
  unfold out0_5
  rw [View.canon_unit_zero origin]
  refine (kdelta_at _ _ _ _ i j).trans ?_
  rw [rdelta_at, bgrad_at, iblk1_at, iblk2_at, iblk3_at]

/-- Result 2 after the run. -/
theorem final5 : (dats m 0 c).arrAt 5 cfg0.N = val_main_v31 (F := Ideal) (m ((c.tc : Thread nD τ).loc main_arg0)) (m ((c.tc : Thread nD τ).loc main_arg1)) (m ((c.tc : Thread nD τ).loc main_arg2)) (m ((c.tc : Thread nD τ).loc main_arg3)) :=
  (dats m 0 c).arrAt_eq_of_cover 5 _ (fun t _ => flushed5_eq m c t) fun z => by
    obtain ⟨i, j, rfl⟩ : ∃ (i : Fin 464) (j : Fin 1024), z = ix2 i j := ⟨z 0, z 1, eq_ix2 z⟩
    obtain ⟨t, r, rfl⟩ := row_surj i
    refine ⟨t, flush0_5 t, ?_⟩
    have h := ((cfg0.win 5).blk t).view.emb_mem_set (ix2 r j)
    rwa [emb5] at h

/-- What point `t` writes back to result 3. -/
theorem flushed6_eq (t : Fin cfg0.N) : (dats m 0 c).flushed 6 t
    = ((cfg0.win 6).blk t).view.read (Elt Ideal) (val_main_v33 (F := Ideal) (m ((c.tc : Thread nD τ).loc main_arg0)) (m ((c.tc : Thread nD τ).loc main_arg2))) := by
  refine (flushed6 m c t).trans ?_
  funext z
  obtain ⟨i, j, rfl⟩ : ∃ (i : Fin 232) (j : Fin 1024), z = ix2 i j := ⟨z 0, z 1, eq_ix2 z⟩
  show out0_6 (F := Ideal) _ _ _ _ (ix2 i j) = val_main_v33 (F := Ideal) (m ((c.tc : Thread nD τ).loc main_arg0)) (m ((c.tc : Thread nD τ).loc main_arg2)) (((cfg0.win 6).blk t).view.emb (ix2 i j))
  rw [emb6]
  unfold out0_6
  rw [View.canon_unit_zero origin]
  refine (kmom_at _ _ _ _ i j).trans ?_
  rw [rmom_at, bgrad_at, iblk2_at]

/-- Result 3 after the run. -/
theorem final6 : (dats m 0 c).arrAt 6 cfg0.N = val_main_v33 (F := Ideal) (m ((c.tc : Thread nD τ).loc main_arg0)) (m ((c.tc : Thread nD τ).loc main_arg2)) :=
  (dats m 0 c).arrAt_eq_of_cover 6 _ (fun t _ => flushed6_eq m c t) fun z => by
    obtain ⟨i, j, rfl⟩ : ∃ (i : Fin 464) (j : Fin 1024), z = ix2 i j := ⟨z 0, z 1, eq_ix2 z⟩
    obtain ⟨t, r, rfl⟩ := row_surj i
    refine ⟨t, flush0_6 t, ?_⟩
    have h := ((cfg0.win 6).blk t).view.emb_mem_set (ix2 r j)
    rwa [emb6] at h

/-- What point `t` writes back to result 4. -/
theorem flushed7_eq (t : Fin cfg0.N) : (dats m 0 c).flushed 7 t
    = ((cfg0.win 7).blk t).view.read (Elt Ideal) (val_main_v35 (F := Ideal) (m ((c.tc : Thread nD τ).loc main_arg0)) (m ((c.tc : Thread nD τ).loc main_arg3))) := by
  refine (flushed7 m c t).trans ?_
  funext z
  obtain ⟨i, j, rfl⟩ : ∃ (i : Fin 232) (j : Fin 1024), z = ix2 i j := ⟨z 0, z 1, eq_ix2 z⟩
  show out0_7 (F := Ideal) _ _ _ _ (ix2 i j) = val_main_v35 (F := Ideal) (m ((c.tc : Thread nD τ).loc main_arg0)) (m ((c.tc : Thread nD τ).loc main_arg3)) (((cfg0.win 7).blk t).view.emb (ix2 i j))
  rw [emb7]
  unfold out0_7
  rw [View.canon_unit_zero origin]
  refine (kvel_at _ _ _ _ i j).trans ?_
  rw [rvel_at, bgrad_at, iblk3_at]

/-- Result 4 after the run. -/
theorem final7 : (dats m 0 c).arrAt 7 cfg0.N = val_main_v35 (F := Ideal) (m ((c.tc : Thread nD τ).loc main_arg0)) (m ((c.tc : Thread nD τ).loc main_arg3)) :=
  (dats m 0 c).arrAt_eq_of_cover 7 _ (fun t _ => flushed7_eq m c t) fun z => by
    obtain ⟨i, j, rfl⟩ : ∃ (i : Fin 464) (j : Fin 1024), z = ix2 i j := ⟨z 0, z 1, eq_ix2 z⟩
    obtain ⟨t, r, rfl⟩ := row_surj i
    refine ⟨t, flush0_7 t, ?_⟩
    have h := ((cfg0.win 7).blk t).view.emb_mem_set (ix2 r j)
    rwa [emb7] at h

end Cert.Adam.WIn

end
-- ==== Proof.Adam.WOut.lean ====
module

public import proofs.«01_k».proof.Proof.Gen.Kernel5Ideal.Value
public import proofs.«01_k».proof.Proof.Gen.Reference5Ideal.Read
public import proofs.«01_k».proof.Proof.Adam.Math

@[expose] public section

set_option maxRecDepth 16384

/-!
The output projection's AdamW step: the sum of the chips' gradients, and the step from it.
-/

noncomputable section

namespace Cert.Adam.WOut

open Idealize.ShloMosaic Idealize.ShloMosaic.TcCoe Idealize.SL.Sem
open Cert.Kernel5Ideal Cert.Kernel5Ideal.Gen Cert.Kernel5Ideal.Value Cert.Reference5Ideal.Read Cert.Adam

variable (p : FVec Ideal S4x128x1024 .bf16) (w m v : FVec Ideal S1x128x1024 .f32)

/-- The gradient's sum over the chips. -/
def grad (i : Fin 128) (j : Fin 1024) : EReal := p (ix3 0 i j) + p (ix3 1 i j) + p (ix3 2 i j) + p (ix3 3 i j)

theorem pay_at (i : Fin 128) (j : Fin 1024) :
    k0_pay5 (F := Ideal) (View.ld p r0_0) (View.ld p r0_1) (View.ld p r0_2) (View.ld p r0_3) (ix2 i j) = grad p i j := by
  pointwise [k0_pay5, r0_0, r0_1, r0_2, r0_3]
  rfl

theorem ref_at (i : Fin 128) (j : Fin 1024) : val_main_v2 (F := Ideal) p (ix3 0 i j) = grad p i j := by
  pointwise [val_main_v2, val_main_v1, val_main_v0, val_main_cst]
  rw [Fin.sum_univ_four]
  rfl

theorem kmom_at (i : Fin 128) (j : Fin 1024) : k0_pay11 (F := Ideal) p w m v (ix2 i j) = mom (grad p i j) (m (ix3 0 i j)) := by
  pointwise [k0_pay11, k0_pay8, pay_at]
  rfl

theorem rmom_at (i : Fin 128) (j : Fin 1024) : val_main_v7 (F := Ideal) p m (ix3 0 i j) = mom (grad p i j) (m (ix3 0 i j)) := by
  pointwise [val_main_v7, val_main_v6, val_main_v5, val_main_v4, val_main_v3, val_main_cst_0, val_main_cst_1, ref_at]
  rfl

theorem kvel_at (i : Fin 128) (j : Fin 1024) :
    k0_pay1 (F := Ideal) (k0_pay10 p w m v) (k0_pay12 p w m v) (ix2 i j) = vel (grad p i j) (v (ix3 0 i j)) := by
  pointwise [k0_pay1, k0_pay10, k0_pay12, k0_pay9, pay_at]
  rfl

theorem rvel_at (i : Fin 128) (j : Fin 1024) : val_main_v13 (F := Ideal) p v (ix3 0 i j) = vel (grad p i j) (v (ix3 0 i j)) := by
  pointwise [val_main_v13, val_main_v12, val_main_v11, val_main_v10, val_main_v9, val_main_v8, val_main_cst_2,
    val_main_cst_3, ref_at]
  rfl

theorem kdelta_at (i : Fin 128) (j : Fin 1024) :
    k0_pay2 (F := Ideal) (k0_pay10 p w m v) (k0_pay7 w) (k0_pay11 p w m v) (k0_pay12 p w m v) (ix3 0 i j)
      = delta (grad p i j) (w (ix3 0 i j)) (m (ix3 0 i j)) (v (ix3 0 i j)) := by
  pointwise [k0_pay2, k0_pay7, kvel_at, kmom_at]
  rfl

theorem rdelta_at (i : Fin 128) (j : Fin 1024) : val_main_v26 (F := Ideal) p w m v (ix3 0 i j)
      = delta (grad p i j) (w (ix3 0 i j)) (m (ix3 0 i j)) (v (ix3 0 i j)) := by
  pointwise [val_main_v26, val_main_v25, val_main_v24, val_main_v23, val_main_v22, val_main_v21, val_main_v20,
    val_main_v19, val_main_v18, val_main_v17, val_main_v16, val_main_v15, val_main_v14, val_main_cst_4, val_main_cst_5,
    val_main_cst_6, val_main_cst_7, val_main_cst_8, rvel_at, rmom_at]
  rfl

/-- An array of one row of matrices is known at `(0, i, j)`. -/
theorem ext3 {f g : FVec Ideal S1x128x1024 .f32} (h : ∀ i j, f (ix3 0 i j) = g (ix3 0 i j)) : f = g := by
  funext z
  obtain ⟨i, j, rfl⟩ : ∃ (i : Fin 128) (j : Fin 1024), z = ix3 0 i j := by
    refine ⟨z 1, z 2, (eq_ix3 z).trans ?_⟩
    rw [Fin.fin_one_eq_zero (z 0 : Fin 1)]
  exact h i j

theorem G4_eq : G4 (F := Ideal) p w m v = val_main_v2 (F := Ideal) p := ext3 fun i j => by
  rw [ref_at]
  pointwise [G4, k0_pay6, pay_at]

theorem G5_eq : G5 (F := Ideal) p w m v = val_main_v26 (F := Ideal) p w m v := ext3 fun i j =>
  (kdelta_at p w m v i j).trans (rdelta_at p w m v i j).symm

theorem G6_eq : G6 (F := Ideal) p w m v = val_main_v7 (F := Ideal) p m := ext3 fun i j => by
  rw [rmom_at]
  pointwise [G6, k0_pay3, kmom_at]

theorem G7_eq : G7 (F := Ideal) p w m v = val_main_v13 (F := Ideal) p v := ext3 fun i j => by
  rw [rvel_at]
  pointwise [G7, k0_pay4, kvel_at]

end Cert.Adam.WOut

end
-- ==== Proof.Adam.LoraSum.lean ====
module

public import proofs.«01_k».proof.Proof.Gen.Kernel6Ideal.Value
public import proofs.«01_k».proof.Proof.Gen.Reference6Ideal.Read
public import proofs.«01_k».proof.Proof.Adam.Math

@[expose] public section

set_option maxRecDepth 16384

/-!
The sum of the devices' gradients of a low-rank weight.
-/

noncomputable section

namespace Cert.Adam.LoraSum

open Idealize.ShloMosaic Idealize.ShloMosaic.TcCoe Idealize.SL.Sem
open Cert.Kernel6Ideal Cert.Kernel6Ideal.Gen Cert.Kernel6Ideal.Value Cert.Reference6Ideal.Read

theorem G1_eq (p : FVec Ideal S8x64x64 .f32) : G1 (F := Ideal) p = val_main_v0 (F := Ideal) p := by
  funext z
  obtain ⟨i, j, rfl⟩ : ∃ (i j : Fin 64), z = ix2 i j := ⟨z 0, z 1, eq_ix2 z⟩
  pointwise [G1, k0_pay1, r0_0, r0_1, r0_2, r0_3, r0_4, r0_5, r0_6, r0_7, val_main_v0, val_main_cst]
  exact (Fin.sum_univ_eight fun d => p (ix3 d i j)).symm

end Cert.Adam.LoraSum

end
-- ==== Proof.Adam.Lora.lean ====
module

public import proofs.«01_k».proof.Proof.Gen.Kernel7Ideal.Value
public import proofs.«01_k».proof.Proof.Gen.Reference7Ideal.Read
public import Idealize.ShloMosaic.Lib.StableHlo.RunRead
public import proofs.«01_k».proof.Proof.Adam.Math

@[expose] public section

set_option maxRecDepth 16384

/-!
A low-rank weight's AdamW step, from its summed gradient, which arrives transposed.
-/

noncomputable section

namespace Cert.Adam.Lora

open Idealize.ShloMosaic Idealize.ShloMosaic.TcCoe Idealize.SL.Sem
open Cert.Kernel7Ideal Cert.Kernel7Ideal.Gen Cert.Kernel7Ideal.Value Cert.Reference7Ideal.Read
open Idealize.ShloMosaic.Pipeline (Dat)

/-! ## The reference -/

section Reference

variable (g : FVec Ideal S64x64 .f32) (w m v : FVec Ideal S1x64x64 .f32)

theorem rmom_at (i j : Fin 64) : val_main_v6 (F := Ideal) g m (ix3 0 i j) = mom (g (ix2 j i)) (m (ix3 0 i j)) := by
  pointwise [val_main_v6, val_main_v5, val_main_v4, val_main_v3, val_main_v2, val_main_v1, val_main_v0, val_main_cst,
    val_main_cst_0]
  rfl

theorem rvel_at (i j : Fin 64) : val_main_v12 (F := Ideal) g v (ix3 0 i j) = vel (g (ix2 j i)) (v (ix3 0 i j)) := by
  pointwise [val_main_v12, val_main_v11, val_main_v10, val_main_v9, val_main_v8, val_main_v7, val_main_v1, val_main_v0,
    val_main_cst_1, val_main_cst_2]
  rfl

theorem rdelta_at (i j : Fin 64) : val_main_v25 (F := Ideal) g w m v (ix3 0 i j)
    = delta (g (ix2 j i)) (w (ix3 0 i j)) (m (ix3 0 i j)) (v (ix3 0 i j)) := by
  pointwise [val_main_v25, val_main_v24, val_main_v23, val_main_v22, val_main_v21, val_main_v20, val_main_v19,
    val_main_v18, val_main_v17, val_main_v16, val_main_v15, val_main_v14, val_main_v13, val_main_cst_3, val_main_cst_4,
    val_main_cst_5, val_main_cst_6, val_main_cst_7, rvel_at, rmom_at]
  rfl

end Reference

/-! ## The kernel's block -/

section Block

variable (g w m v : FVec Ideal S1x64x64 .f32)

theorem kmom_at (i j : Fin 64) : k0_pay4 (F := Ideal) (View.ld g r0_0) (View.ld m r0_0) (ix2 i j)
    = mom (g (ix3 0 i j)) (m (ix3 0 i j)) := by
  pointwise [k0_pay4, k0_pay3, r0_0]
  rfl

theorem kvel_at (i j : Fin 64) : k0_pay5 (F := Ideal) (View.ld g r0_0) (View.ld v r0_0) (ix2 i j)
    = vel (g (ix3 0 i j)) (v (ix3 0 i j)) := by
  pointwise [k0_pay5, k0_pay3, r0_0]
  rfl

theorem kdelta_at (i j : Fin 64) :
    k0_pay6 (F := Ideal) (View.ld w r0_0) (View.ld g r0_0) (View.ld m r0_0) (View.ld v r0_0) (ix3 0 i j)
      = delta (g (ix3 0 i j)) (w (ix3 0 i j)) (m (ix3 0 i j)) (v (ix3 0 i j)) := by
  pointwise [k0_pay6, kmom_at, kvel_at, r0_0]
  rfl

theorem origin : (![0, 0, 0] : Fin 3 → ℕ) = fun _ => 0 := funext fun a => by fin_cases a <;> rfl

end Block

/-! ## The arrays after the run -/

/-- An array of one matrix is known at `(0, i, j)`. -/
theorem ext3 {f g : FVec Ideal S1x64x64 .f32} (h : ∀ i j, f (ix3 0 i j) = g (ix3 0 i j)) : f = g := by
  funext z
  obtain ⟨i, j, rfl⟩ : ∃ (i j : Fin 64), z = ix3 0 i j := by
    refine ⟨z 1, z 2, (eq_ix3 z).trans ?_⟩
    rw [Fin.fin_one_eq_zero (z 0 : Fin 1)]
  exact h i j

/-- An index of a block that is its array's first and only one is the array's index. -/
theorem in_place (e j : S1x64x64.Idx) (x : Fin 3 → ℕ) (h : ∀ a, x a = 0) (h0 : (e 0).val = x 0 * 1 + 1 * (j 0).val)
    (h1 : (e 1).val = x 1 * 64 + 1 * (j 1).val) (h2 : (e 2).val = x 2 * 64 + 1 * (j 2).val) : e = j := by
  funext a; apply Fin.ext
  match a with
  | ⟨0, _⟩ => refine h0.trans ?_; show x 0 * 1 + 1 * (j 0).val = (j 0).val; rw [h]; omega
  | ⟨1, _⟩ => refine h1.trans ?_; show x 1 * 64 + 1 * (j 1).val = (j 1).val; rw [h]; omega
  | ⟨2, _⟩ => refine h2.trans ?_; show x 2 * 64 + 1 * (j 2).val = (j 2).val; rw [h]; omega

theorem emb0 (t : Fin cfg0.N) (j : S1x64x64.Idx) : ((cfg0.win 0).blk t).view.emb j = j :=
  in_place _ j (win0_0.index t) ((by decide +kernel : ∀ (t : Fin grid0.N) a, win0_0.index t a = 0) t) rfl rfl rfl

theorem emb1 (t : Fin cfg0.N) (j : S1x64x64.Idx) : ((cfg0.win 1).blk t).view.emb j = j :=
  in_place _ j (win0_1.index t) ((by decide +kernel : ∀ (t : Fin grid0.N) a, win0_1.index t a = 0) t) rfl rfl rfl

theorem emb2 (t : Fin cfg0.N) (j : S1x64x64.Idx) : ((cfg0.win 2).blk t).view.emb j = j :=
  in_place _ j (win0_2.index t) ((by decide +kernel : ∀ (t : Fin grid0.N) a, win0_2.index t a = 0) t) rfl rfl rfl

theorem emb3 (t : Fin cfg0.N) (j : S1x64x64.Idx) : ((cfg0.win 3).blk t).view.emb j = j :=
  in_place _ j (win0_3.index t) ((by decide +kernel : ∀ (t : Fin grid0.N) a, win0_3.index t a = 0) t) rfl rfl rfl

theorem emb4 (t : Fin cfg0.N) (j : S1x64x64.Idx) : ((cfg0.win 4).blk t).view.emb j = j :=
  in_place _ j (win0_4.index t) ((by decide +kernel : ∀ (t : Fin grid0.N) a, win0_4.index t a = 0) t) rfl rfl rfl

theorem emb5 (t : Fin cfg0.N) (j : S1x64x64.Idx) : ((cfg0.win 5).blk t).view.emb j = j :=
  in_place _ j (win0_5.index t) ((by decide +kernel : ∀ (t : Fin grid0.N) a, win0_5.index t a = 0) t) rfl rfl rfl

theorem emb6 (t : Fin cfg0.N) (j : S1x64x64.Idx) : ((cfg0.win 6).blk t).view.emb j = j :=
  in_place _ j (win0_6.index t) ((by decide +kernel : ∀ (t : Fin grid0.N) a, win0_6.index t a = 0) t) rfl rfl rfl

variable (m : (ℓ : Loc nD τ sig) → Buf (Elt Ideal) ℓ) (c : Dev nD)

theorem iblk0 (t : Fin cfg0.N) : iblk m c 0 t = V m c main_v1 := by
  funext j; show V m c main_v1 (((cfg0.win 0).blk t).view.emb j) = _; rw [emb0]

theorem iblk1 (t : Fin cfg0.N) : iblk m c 1 t = V m c main_arg1 := by
  funext j; show V m c main_arg1 (((cfg0.win 1).blk t).view.emb j) = _; rw [emb1]

theorem iblk2 (t : Fin cfg0.N) : iblk m c 2 t = V m c main_arg2 := by
  funext j; show V m c main_arg2 (((cfg0.win 2).blk t).view.emb j) = _; rw [emb2]

theorem iblk3 (t : Fin cfg0.N) : iblk m c 3 t = V m c main_arg3 := by
  funext j; show V m c main_arg3 (((cfg0.win 3).blk t).view.emb j) = _; rw [emb3]

/-- The gradient as the host turns it. -/
theorem V1_at (i j : Fin 64) : V m c main_v1 (ix3 0 i j) = ((m ((c.tc : Thread nD τ).loc main_arg0)) : FVec Ideal S64x64 .f32) (ix2 j i) := by
  unfold V
  simp only [hostOps0]
  after_results_simp
  pointwise
  done

theorem whole4 (t : Fin cfg0.N) (X : FVec Ideal S1x64x64 .f32) :
    X = ((cfg0.win 4).blk t).view.read (Elt Ideal) X := by
  funext j
  show X j = X (((cfg0.win 4).blk t).view.emb j)
  rw [emb4]

theorem whole5 (t : Fin cfg0.N) (X : FVec Ideal S1x64x64 .f32) :
    X = ((cfg0.win 5).blk t).view.read (Elt Ideal) X := by
  funext j
  show X j = X (((cfg0.win 5).blk t).view.emb j)
  rw [emb5]

theorem whole6 (t : Fin cfg0.N) (X : FVec Ideal S1x64x64 .f32) :
    X = ((cfg0.win 6).blk t).view.read (Elt Ideal) X := by
  funext j
  show X j = X (((cfg0.win 6).blk t).view.emb j)
  rw [emb6]

/-- What the one grid point writes back to result 1. -/
theorem flushed4_eq (t : Fin cfg0.N) : (dats m 0 c).flushed 4 t
    = ((cfg0.win 4).blk t).view.read (Elt Ideal) (val_main_v25 (F := Ideal) (m ((c.tc : Thread nD τ).loc main_arg0)) (m ((c.tc : Thread nD τ).loc main_arg1)) (m ((c.tc : Thread nD τ).loc main_arg2)) (m ((c.tc : Thread nD τ).loc main_arg3))) := by
  refine (flushed4 m c t).trans ?_
  rw [iblk0, iblk1, iblk2, iblk3, V_main_arg1, V_main_arg2, V_main_arg3]
  refine Eq.trans ?_ (whole4 t _)
  show out0_4 (F := Ideal) _ _ _ _ = _
  refine ext3 fun i j => ?_
  unfold out0_4
  rw [View.canon_unit_zero origin]
  refine (kdelta_at _ _ _ _ i j).trans ?_
  rw [rdelta_at, V1_at]

/-- Result 1 after the run. -/
theorem final4 : (dats m 0 c).arrAt 4 cfg0.N = val_main_v25 (F := Ideal) (m ((c.tc : Thread nD τ).loc main_arg0)) (m ((c.tc : Thread nD τ).loc main_arg1)) (m ((c.tc : Thread nD τ).loc main_arg2)) (m ((c.tc : Thread nD τ).loc main_arg3)) :=
  (dats m 0 c).arrAt_eq_of_cover 4 _ (fun t _ => flushed4_eq m c t) fun i =>
    ⟨(⟨0, by decide⟩ : Fin cfg0.N), flush0_4 _, by
      have h := ((cfg0.win 4).blk (⟨0, by decide⟩ : Fin cfg0.N)).view.emb_mem_set i
      rwa [emb4] at h⟩

/-- What the one grid point writes back to result 2. -/
theorem flushed5_eq (t : Fin cfg0.N) : (dats m 0 c).flushed 5 t
    = ((cfg0.win 5).blk t).view.read (Elt Ideal) (val_main_v6 (F := Ideal) (m ((c.tc : Thread nD τ).loc main_arg0)) (m ((c.tc : Thread nD τ).loc main_arg2))) := by
  refine (flushed5 m c t).trans ?_
  rw [iblk0, iblk1, iblk2, iblk3, V_main_arg1, V_main_arg2, V_main_arg3]
  refine Eq.trans ?_ (whole5 t _)
  show out0_5 (F := Ideal) _ _ _ _ = _
  refine ext3 fun i j => ?_
  unfold out0_5
  rw [View.canon_unit_zero origin]
  rw [rmom_at, ← V1_at m c]
  pointwise [k0_pay1, kmom_at]

/-- Result 2 after the run. -/
theorem final5 : (dats m 0 c).arrAt 5 cfg0.N = val_main_v6 (F := Ideal) (m ((c.tc : Thread nD τ).loc main_arg0)) (m ((c.tc : Thread nD τ).loc main_arg2)) :=
  (dats m 0 c).arrAt_eq_of_cover 5 _ (fun t _ => flushed5_eq m c t) fun i =>
    ⟨(⟨0, by decide⟩ : Fin cfg0.N), flush0_5 _, by
      have h := ((cfg0.win 5).blk (⟨0, by decide⟩ : Fin cfg0.N)).view.emb_mem_set i
      rwa [emb5] at h⟩

/-- What the one grid point writes back to result 3. -/
theorem flushed6_eq (t : Fin cfg0.N) : (dats m 0 c).flushed 6 t
    = ((cfg0.win 6).blk t).view.read (Elt Ideal) (val_main_v12 (F := Ideal) (m ((c.tc : Thread nD τ).loc main_arg0)) (m ((c.tc : Thread nD τ).loc main_arg3))) := by
  refine (flushed6 m c t).trans ?_
  rw [iblk0, iblk1, iblk2, iblk3, V_main_arg1, V_main_arg2, V_main_arg3]
  refine Eq.trans ?_ (whole6 t _)
  show out0_6 (F := Ideal) _ _ _ _ = _
  refine ext3 fun i j => ?_
  unfold out0_6
  rw [View.canon_unit_zero origin]
  rw [rvel_at, ← V1_at m c]
  pointwise [k0_pay2, kvel_at]

/-- Result 3 after the run. -/
theorem final6 : (dats m 0 c).arrAt 6 cfg0.N = val_main_v12 (F := Ideal) (m ((c.tc : Thread nD τ).loc main_arg0)) (m ((c.tc : Thread nD τ).loc main_arg3)) :=
  (dats m 0 c).arrAt_eq_of_cover 6 _ (fun t _ => flushed6_eq m c t) fun i =>
    ⟨(⟨0, by decide⟩ : Fin cfg0.N), flush0_6 _, by
      have h := ((cfg0.win 6).blk (⟨0, by decide⟩ : Fin cfg0.N)).view.emb_mem_set i
      rwa [emb6] at h⟩

end Cert.Adam.Lora

end
-- ==== Proof.Adam.Claims.lean ====
module

public import proofs.«01_k».proof.Defs
public import proofs.«01_k».proof.Proof.Adam.WIn
public import proofs.«01_k».proof.Proof.Adam.WOut
public import proofs.«01_k».proof.Proof.Adam.LoraSum
public import proofs.«01_k».proof.Proof.Adam.Lora
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import Idealize.ShloMosaic.Adequacy

@[expose] public section

/-!
The optimiser's claims.
-/

noncomputable section

namespace Cert.Adam

open Idealize.ShloMosaic Idealize.ShloMosaic.TcCoe Idealize.SL.Sem

/-- The reference of the in-projection's step runs and leaves its arguments. -/
theorem frame_Reference4Ideal : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run m ρ)

/-- The reference of the output projection's step runs and leaves its arguments. -/
theorem frame_Reference5Ideal : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run m ρ)

/-- The reference of the low-rank weight's sum runs and leaves its arguments. -/
theorem frame_Reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- The reference of the low-rank weight's step runs and leaves its arguments. -/
theorem frame_Reference7Ideal : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run m ρ)

/-- The kernel and the reference of the in-projection's step end with the same arrays. -/
theorem w_in : Cert.algebraic_Kernel4Ideal_Reference4Ideal := by
  intro m g m' g' _ hargs
  refine ⟨fun c => Cert.Reference4Ideal.Read.val_main_v29 (F := Ideal) (m ((c.tc : Thread Cert.Kernel4Ideal.nD Cert.Kernel4Ideal.τ).loc Cert.Kernel4Ideal.main_arg0)),
    fun c => Cert.Reference4Ideal.Read.val_main_v31 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    fun c => Cert.Reference4Ideal.Read.val_main_v33 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2)),
    fun c => Cert.Reference4Ideal.Read.val_main_v35 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg3)),
    (θ_run Cert.Kernel4Ideal.defs _ _).mono (fun r h c => ?_) (Cert.Kernel4Ideal.Value.run_blocks m g),
    (θ_run Cert.Reference4Ideal.defs _ _).mono (fun r h c => ?_) (Cert.Reference4Ideal.Value.run m' g')⟩
  · obtain ⟨k0, k1, k2, k3, hk⟩ := h c
    exact ⟨k0.trans (Cert.Adam.WIn.final4 m c), k1.trans (Cert.Adam.WIn.final5 m c), k2.trans (Cert.Adam.WIn.final6 m c), k3.trans (Cert.Adam.WIn.final7 m c), hk⟩
  · obtain ⟨a0, a1, a2, a3⟩ := hargs c
    obtain ⟨k0, k1, k2, k3, hk⟩ := h c
    refine ⟨k0.trans ?_, k1.trans ?_, k2.trans ?_, k3.trans ?_, hk⟩
    · refine (Cert.Reference4Ideal.Read.val_main_v29_eq _).trans ?_
      rw [a0]
    · refine (Cert.Reference4Ideal.Read.val_main_v31_eq _ _ _ _).trans ?_
      rw [a0, a1, a2, a3]
    · refine (Cert.Reference4Ideal.Read.val_main_v33_eq _ _).trans ?_
      rw [a0, a2]
    · refine (Cert.Reference4Ideal.Read.val_main_v35_eq _ _).trans ?_
      rw [a0, a3]

/-- The kernel and the reference of the output projection's step end with the same arrays. -/
theorem w_out : Cert.algebraic_Kernel5Ideal_Reference5Ideal := by
  intro m g m' g' _ hargs
  refine ⟨fun c => Cert.Reference5Ideal.Read.val_main_v2 (F := Ideal) (m ((c.tc : Thread Cert.Kernel5Ideal.nD Cert.Kernel5Ideal.τ).loc Cert.Kernel5Ideal.main_arg0)),
    fun c => Cert.Reference5Ideal.Read.val_main_v26 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)),
    fun c => Cert.Reference5Ideal.Read.val_main_v7 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg2)),
    fun c => Cert.Reference5Ideal.Read.val_main_v13 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg3)),
    (θ_run Cert.Kernel5Ideal.defs _ _).mono (fun r h c => ?_) (Cert.Kernel5Ideal.Value.run m g),
    (θ_run Cert.Reference5Ideal.defs _ _).mono (fun r h c => ?_) (Cert.Reference5Ideal.Value.run m' g')⟩
  · obtain ⟨k0, k1, k2, k3, hk⟩ := h c
    exact ⟨k0.trans (Cert.Adam.WOut.G4_eq _ _ _ _), k1.trans (Cert.Adam.WOut.G5_eq _ _ _ _), k2.trans (Cert.Adam.WOut.G6_eq _ _ _ _), k3.trans (Cert.Adam.WOut.G7_eq _ _ _ _), hk⟩
  · obtain ⟨a0, a1, a2, a3⟩ := hargs c
    obtain ⟨k0, k1, k2, k3, hk⟩ := h c
    refine ⟨k0.trans ?_, k1.trans ?_, k2.trans ?_, k3.trans ?_, hk⟩
    · refine (Cert.Reference5Ideal.Read.val_main_v2_eq _).trans ?_
      rw [a0]
    · refine (Cert.Reference5Ideal.Read.val_main_v26_eq _ _ _ _).trans ?_
      rw [a0, a1, a2, a3]
    · refine (Cert.Reference5Ideal.Read.val_main_v7_eq _ _).trans ?_
      rw [a0, a2]
    · refine (Cert.Reference5Ideal.Read.val_main_v13_eq _ _).trans ?_
      rw [a0, a3]

/-- The kernel and the reference of the low-rank weight's sum end with the same arrays. -/
theorem lora_sum : Cert.algebraic_Kernel6Ideal_Reference6Ideal := by
  intro m g m' g' _ hargs
  refine ⟨fun c => Cert.Reference6Ideal.Read.val_main_v0 (F := Ideal) (m ((c.tc : Thread Cert.Kernel6Ideal.nD Cert.Kernel6Ideal.τ).loc Cert.Kernel6Ideal.main_arg0)),
    (θ_run Cert.Kernel6Ideal.defs _ _).mono (fun r h c => ?_) (Cert.Kernel6Ideal.Value.run m g),
    (θ_run Cert.Reference6Ideal.defs _ _).mono (fun r h c => ?_) (Cert.Reference6Ideal.Value.run m' g')⟩
  · obtain ⟨k0, hk⟩ := h c
    exact ⟨k0.trans (Cert.Adam.LoraSum.G1_eq _), hk⟩
  · obtain a0 := hargs c
    obtain ⟨k0, hk⟩ := h c
    refine ⟨k0.trans ?_, hk⟩
    · refine (Cert.Reference6Ideal.Read.val_main_v0_eq _).trans ?_
      rw [a0]

/-- The kernel and the reference of the low-rank weight's step end with the same arrays. -/
theorem lora : Cert.algebraic_Kernel7Ideal_Reference7Ideal := by
  intro m g m' g' _ hargs
  refine ⟨fun c => Cert.Reference7Ideal.Read.val_main_v25 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)),
    fun c => Cert.Reference7Ideal.Read.val_main_v6 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg2)),
    fun c => Cert.Reference7Ideal.Read.val_main_v12 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg3)),
    (θ_run Cert.Kernel7Ideal.defs _ _).mono (fun r h c => ?_) (Cert.Kernel7Ideal.Value.run_blocks m g),
    (θ_run Cert.Reference7Ideal.defs _ _).mono (fun r h c => ?_) (Cert.Reference7Ideal.Value.run m' g')⟩
  · obtain ⟨k0, k1, k2, hk⟩ := h c
    exact ⟨k0.trans (Cert.Adam.Lora.final4 m c), k1.trans (Cert.Adam.Lora.final5 m c), k2.trans (Cert.Adam.Lora.final6 m c), hk⟩
  · obtain ⟨a0, a1, a2, a3⟩ := hargs c
    obtain ⟨k0, k1, k2, hk⟩ := h c
    refine ⟨k0.trans ?_, k1.trans ?_, k2.trans ?_, hk⟩
    · refine (Cert.Reference7Ideal.Read.val_main_v25_eq _ _ _ _).trans ?_
      rw [a0, a1, a2, a3]
    · refine (Cert.Reference7Ideal.Read.val_main_v6_eq _ _).trans ?_
      rw [a0, a2]
    · refine (Cert.Reference7Ideal.Read.val_main_v12_eq _ _).trans ?_
      rw [a0, a3]

end Cert.Adam

end
-- ==== Proof.lean ====
module

public import proofs.«01_k».proof.Proof.Gen.Kernel4Ideal.Value
public import proofs.«01_k».proof.Proof.Gen.Kernel4.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Defs
public import proofs.«01_k».proof.Proof.Gen.Kernel8
public import proofs.«01_k».proof.Proof.Gen.Kernel8Ideal
public import proofs.«01_k».proof.Proof.Gen.Kernel8Ideal.Launch
public import proofs.«01_k».proof.Proof.Gen.Kernel8Ideal.Skeleton
public import proofs.«01_k».proof.Proof.Gen.Reference8Ideal
public import proofs.«01_k».proof.Proof.Vec.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3Ideal.Value
public import proofs.«01_k».proof.Proof.Gen.Kernel3.Frame
public import proofs.«01_k».proof.Proof.Gen.Reference3Ideal.Read
public import proofs.«01_k».proof.Proof.InProj.Fold
public import proofs.«01_k».proof.Proof.Ret.Frame
public import proofs.«01_k».proof.Proof.Prep.Fold
public import proofs.«01_k».proof.Proof.Adam.Claims
public import proofs.«01_k».proof.Proof.Gen.Kernel8Ideal.Points
public import proofs.«01_k».proof.Proof.Gen.Reference8Ideal.Run
public import proofs.«01_k».proof.Proof.Gen.Reference8Ideal.Read
public import Idealize.ShloMosaic.Adequacy
public import Idealize.ShloMosaic.Init

@[expose] public section

noncomputable section

namespace Cert.Proof

open Idealize.ShloMosaic Idealize.SL.Sem Cert.Kernel

/-- The reference of the in-projection's gradient runs, leaves its arguments and raises no semaphore. -/
theorem frame_ReferenceIdeal : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run m ρ)

/-- The reference of the forward call. -/
theorem frame_Reference3Ideal : Cert.quiescent_Reference3Ideal := fun m ρ _ =>
  (θ_run Cert.Reference3Ideal.defs _ _).mono
    (fun r h => ⟨fun c => (h c).2.2.2.2.2.2.2.2.2, sem_eq_zero_of_no_sems (by decide) r.2⟩)
    (Cert.Reference3Ideal.Value.run m ρ)

/-- The kernel's four arrays are the reference's. -/
theorem inproj : Cert.algebraic_KernelIdeal_ReferenceIdeal := by
  intro m g m' g' _ hargs
  refine ⟨fun c => Cert.KernelIdeal.Value.G7 m c, fun c => Cert.KernelIdeal.Value.G8 m c,
    fun c => Cert.KernelIdeal.Value.G9 m c, fun c => Cert.KernelIdeal.Value.G10 m c, Cert.KernelIdeal.Value.run m g,
    (θ_run Cert.ReferenceIdeal.defs _ _).mono (fun r h c => ?_) (Cert.ReferenceIdeal.Value.run m' g')⟩
  obtain ⟨a0, a1, a2, a3, a4, a5, a6⟩ := hargs c
  obtain ⟨h45, h29, h49, h52, hk⟩ := h c
  refine ⟨h45.trans ?_, h29.trans ?_, h49.trans ?_, h52.trans ?_, hk⟩
  · refine (Cert.ReferenceIdeal.Read.val_main_v45_eq m' c).trans ?_
    rw [a0, a1, a2, a3, a4, a5, a6]
    exact (Cert.InProj.G7_eq m c).symm
  · refine (Cert.ReferenceIdeal.Read.val_main_v29_eq _ _ _ _ _).trans ?_
    rw [a0, a2, a3, a4, a6]
    exact (Cert.InProj.G8_eq m c).symm
  · refine (Cert.ReferenceIdeal.Read.val_main_v49_eq _ _ _ _ _).trans ?_
    rw [a0, a1, a2, a3, a4]
    exact (Cert.InProj.G9_eq m c).symm
  · refine (Cert.ReferenceIdeal.Read.val_main_v52_eq _ _ _ _ _).trans ?_
    rw [a0, a1, a2, a3, a4]
    exact (Cert.InProj.G10_eq m c).symm

/-- The forward call's nine arrays are the reference's. -/
theorem prep : Cert.algebraic_Kernel3Ideal_Reference3Ideal := by
  intro m g m' g' _ hargs
  refine ⟨fun c => Cert.Kernel3Ideal.Value.G11 m c, fun c => Cert.Kernel3Ideal.Value.G12 m c, fun c => Cert.Kernel3Ideal.Value.G13 m c,
    fun c => Cert.Kernel3Ideal.Value.G14 m c, fun c => Cert.Kernel3Ideal.Value.G15 m c, fun c => Cert.Kernel3Ideal.Value.G16 m c,
    fun c => Cert.Kernel3Ideal.Value.G17 m c, fun c => Cert.Kernel3Ideal.Value.G18 m c, fun c => Cert.Kernel3Ideal.Value.G19 m c,
    Cert.Kernel3Ideal.Value.run m g,
    (θ_run Cert.Reference3Ideal.defs _ _).mono (fun r h c => ?_) (Cert.Reference3Ideal.Value.run m' g')⟩
  obtain ⟨a0, a1, a2, a3, a4, a5, a6, a7, a8, a9⟩ := hargs c
  obtain ⟨h76, h77, h78, h79, h80, h81, h83, h84, h85, hk⟩ := h c
  refine ⟨h76.trans ?_, h77.trans ?_, h78.trans ?_, h79.trans ?_, h80.trans ?_, h81.trans ?_, h83.trans ?_, h84.trans ?_, h85.trans ?_, hk⟩
  · refine (Cert.Reference3Ideal.Read.val_main_v76_eq _ _ _).trans ?_
    rw [a0, a1, a2]
    exact (Cert.Prep.G11_eq m c).symm
  · refine (Cert.Reference3Ideal.Read.val_main_v77_eq _ _ _).trans ?_
    rw [a0, a1, a2]
    exact (Cert.Prep.G12_eq m c).symm
  · refine (Cert.Reference3Ideal.Read.val_main_v78_eq _ _ _ _).trans ?_
    rw [a0, a1, a2, a3]
    exact (Cert.Prep.G13_eq m c).symm
  · refine (Cert.Reference3Ideal.Read.val_main_v79_eq m' c).trans ?_
    rw [a0, a1, a2, a3, a4, a5]
    exact (Cert.Prep.G14_eq m c).symm
  · refine (Cert.Reference3Ideal.Read.val_main_v80_eq m' c).trans ?_
    rw [a0, a1, a2, a3, a6, a7, a9]
    exact (Cert.Prep.G15_eq m c).symm
  · refine (Cert.Reference3Ideal.Read.val_main_v81_eq _ _ _ _).trans ?_
    rw [a0, a1, a2, a3]
    exact (Cert.Prep.G16_eq m c).symm
  · refine (Cert.Reference3Ideal.Read.val_main_v83_eq m' c).trans ?_
    rw [a0, a1, a2, a3, a8]
    exact (Cert.Prep.G17_eq m c).symm
  · refine (Cert.Reference3Ideal.Read.val_main_v84_eq m' c).trans ?_
    rw [a0, a1, a2, a3, a6, a7]
    exact (Cert.Prep.G18_eq m c).symm
  · refine (Cert.Reference3Ideal.Read.val_main_v85_eq _ _ _ _).trans ?_
    rw [a0, a1, a2, a3]
    exact (Cert.Prep.G19_eq m c).symm

/-- The four named constants are the retention's decays over a chunk. -/
theorem named : Cert.preserves_Kernel2_Kernel2Ideal :=
  ⟨IdealRules.named_const.statement _ _ _ _ _ rfl, IdealRules.named_const.statement _ _ _ _ _ rfl,
    IdealRules.named_const.statement _ _ _ _ _ rfl, IdealRules.named_const.statement _ _ _ _ _ rfl⟩

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  fun m ρ _ => Cert.Kernel.Gen.frame m ρ, fun m ρ _ => Cert.KernelIdeal.Gen.frame m ρ, frame_ReferenceIdeal,
  fun m ρ _ => Cert.Kernel2.Gen.frame m ρ, fun m ρ _ => Cert.Kernel2Ideal.Gen.frame m ρ, Cert.Ret.frame_reference,
  fun m ρ _ => Cert.Kernel3.Gen.frame m ρ, fun m ρ _ => Cert.Kernel3Ideal.Gen.frame m ρ, frame_Reference3Ideal,
  fun m ρ _ => Cert.Kernel4.Gen.frame m ρ, fun m ρ _ => Cert.Kernel4Ideal.Gen.frame m ρ, Cert.Adam.frame_Reference4Ideal,
  fun m ρ _ => Cert.Kernel5.Gen.frame m ρ, fun m ρ _ => Cert.Kernel5Ideal.Gen.frame m ρ, Cert.Adam.frame_Reference5Ideal,
  fun m ρ _ => Cert.Kernel6.Gen.frame m ρ, fun m ρ _ => Cert.Kernel6Ideal.Gen.frame m ρ, Cert.Adam.frame_Reference6Ideal,
  fun m ρ _ => Cert.Kernel7.Gen.frame m ρ, fun m ρ _ => Cert.Kernel7Ideal.Gen.frame m ρ, Cert.Adam.frame_Reference7Ideal,
  Cert.Vec.frame_Kernel8, Cert.Vec.frame_Kernel8Ideal, Cert.Vec.frame_Reference8Ideal,
  trivial, inproj, named, trivial, prep,
  trivial, Cert.Adam.w_in, trivial, Cert.Adam.w_out, trivial, Cert.Adam.lora_sum, trivial, Cert.Adam.lora,
  trivial, Cert.Vec.vectors⟩

end Cert.Proof

end
